-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateIdeal_finite_gate [hPre_finite_gate : Cert.Pre_finite_gate.Facts] (m : (ℓ : Loc Cert.FfnGateIdeal.nD Cert.FfnGateIdeal.τ Cert.FfnGateIdeal.sig) → Buf (Elt Ideal) ℓ) : Prop :=
  ∀ c : Dev Cert.FfnGateIdeal.nD,
    (Cert.Pre_finite_gate.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))).1 = (fun _ => 1#1)
    ∧ (Cert.Pre_finite_gate.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))).2.1 = (fun _ => 1#1)
    ∧ (Cert.Pre_finite_gate.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))).2.2 = (fun _ => 1#1)

def Pre_FfnGateRefIdeal (m : (ℓ : Loc Cert.FfnGateRefIdeal.nD Cert.FfnGateRefIdeal.τ Cert.FfnGateRefIdeal.sig) → Buf (Elt Ideal) ℓ) : Prop :=
  True

def Pre_FfnGateRefIdeal_finite_gate [hPre_finite_gate : Cert.Pre_finite_gate.Facts] (m : (ℓ : Loc Cert.FfnGateRefIdeal.nD Cert.FfnGateRefIdeal.τ Cert.FfnGateRefIdeal.sig) → Buf (Elt Ideal) ℓ) : Prop :=
  ∀ c : Dev Cert.FfnGateRefIdeal.nD,
    (Cert.Pre_finite_gate.fn (F := Ideal) (m ((c.tc : Thread Cert.FfnGateRefIdeal.nD Cert.FfnGateRefIdeal.τ).loc Cert.FfnGateRefIdeal.main_arg0)) (m ((c.tc : Thread Cert.FfnGateRefIdeal.nD Cert.FfnGateRefIdeal.τ).loc Cert.FfnGateRefIdeal.main_arg1)) (m ((c.tc : Thread Cert.FfnGateRefIdeal.nD Cert.FfnGateRefIdeal.τ).loc Cert.FfnGateRefIdeal.main_arg2)) (m ((c.tc : Thread Cert.FfnGateRefIdeal.nD Cert.FfnGateRefIdeal.τ).loc Cert.FfnGateRefIdeal.main_arg3))).1 = (fun _ => 1#1)
    ∧ (Cert.Pre_finite_gate.fn (F := Ideal) (m ((c.tc : Thread Cert.FfnGateRefIdeal.nD Cert.FfnGateRefIdeal.τ).loc Cert.FfnGateRefIdeal.main_arg0)) (m ((c.tc : Thread Cert.FfnGateRefIdeal.nD Cert.FfnGateRefIdeal.τ).loc Cert.FfnGateRefIdeal.main_arg1)) (m ((c.tc : Thread Cert.FfnGateRefIdeal.nD Cert.FfnGateRefIdeal.τ).loc Cert.FfnGateRefIdeal.main_arg2)) (m ((c.tc : Thread Cert.FfnGateRefIdeal.nD Cert.FfnGateRefIdeal.τ).loc Cert.FfnGateRefIdeal.main_arg3))).2.1 = (fun _ => 1#1)
    ∧ (Cert.Pre_finite_gate.fn (F := Ideal) (m ((c.tc : Thread Cert.FfnGateRefIdeal.nD Cert.FfnGateRefIdeal.τ).loc Cert.FfnGateRefIdeal.main_arg0)) (m ((c.tc : Thread Cert.FfnGateRefIdeal.nD Cert.FfnGateRefIdeal.τ).loc Cert.FfnGateRefIdeal.main_arg1)) (m ((c.tc : Thread Cert.FfnGateRefIdeal.nD Cert.FfnGateRefIdeal.τ).loc Cert.FfnGateRefIdeal.main_arg2)) (m ((c.tc : Thread Cert.FfnGateRefIdeal.nD Cert.FfnGateRefIdeal.τ).loc Cert.FfnGateRefIdeal.main_arg3))).2.2 = (fun _ => 1#1)

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_FfnInX (m : (ℓ : Loc Cert.FfnInX.nD Cert.FfnInX.τ Cert.FfnInX.sig) → Buf (Elt Bits) ℓ) : Prop :=
  True

def Pre_FfnInXIdeal (m : (ℓ : Loc Cert.FfnInXIdeal.nD Cert.FfnInXIdeal.τ Cert.FfnInXIdeal.sig) → Buf (Elt Ideal) ℓ) : Prop :=
  True

def Pre_FfnInXRefIdeal (m : (ℓ : Loc Cert.FfnInXRefIdeal.nD Cert.FfnInXRefIdeal.τ Cert.FfnInXRefIdeal.sig) → Buf (Elt Ideal) ℓ) : Prop :=
  True

def Pre_FfnInW (m : (ℓ : Loc Cert.FfnInW.nD Cert.FfnInW.τ Cert.FfnInW.sig) → Buf (Elt Bits) ℓ) : Prop :=
  True

def Pre_FfnInWIdeal (m : (ℓ : Loc Cert.FfnInWIdeal.nD Cert.FfnInWIdeal.τ Cert.FfnInWIdeal.sig) → Buf (Elt Ideal) ℓ) : Prop :=
  True

def Pre_FfnInWRefIdeal (m : (ℓ : Loc Cert.FfnInWRefIdeal.nD Cert.FfnInWRefIdeal.τ Cert.FfnInWRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_FfnOutW (m : (ℓ : Loc Cert.FfnOutW.nD Cert.FfnOutW.τ Cert.FfnOutW.sig) → Buf (Elt Bits) ℓ) : Prop :=
  True

def Pre_FfnOutWIdeal (m : (ℓ : Loc Cert.FfnOutWIdeal.nD Cert.FfnOutWIdeal.τ Cert.FfnOutWIdeal.sig) → Buf (Elt Ideal) ℓ) : Prop :=
  True

def Pre_FfnOutWRefIdeal (m : (ℓ : Loc Cert.FfnOutWRefIdeal.nD Cert.FfnOutWRefIdeal.τ Cert.FfnOutWRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_FfnOutLn (m : (ℓ : Loc Cert.FfnOutLn.nD Cert.FfnOutLn.τ Cert.FfnOutLn.sig) → Buf (Elt Bits) ℓ) : Prop :=
  True

def Pre_FfnOutLnIdeal (m : (ℓ : Loc Cert.FfnOutLnIdeal.nD Cert.FfnOutLnIdeal.τ Cert.FfnOutLnIdeal.sig) → Buf (Elt Ideal) ℓ) : Prop :=
  True

def Pre_FfnOutLnRefIdeal (m : (ℓ : Loc Cert.FfnOutLnRefIdeal.nD Cert.FfnOutLnRefIdeal.τ Cert.FfnOutLnRefIdeal.sig) → Buf (Elt Ideal) ℓ) : Prop :=
  True

def Pre_BranchX0 (m : (ℓ : Loc Cert.BranchX0.nD Cert.BranchX0.τ Cert.BranchX0.sig) → Buf (Elt Bits) ℓ) : Prop :=
  True

def Pre_BranchX0Ideal (m : (ℓ : Loc Cert.BranchX0Ideal.nD Cert.BranchX0Ideal.τ Cert.BranchX0Ideal.sig) → Buf (Elt Ideal) ℓ) : Prop :=
  True

def Pre_BranchX0RefIdeal (m : (ℓ : Loc Cert.BranchX0RefIdeal.nD Cert.BranchX0RefIdeal.τ Cert.BranchX0RefIdeal.sig) → Buf (Elt Ideal) ℓ) : Prop :=
  True

def Pre_BranchX1 (m : (ℓ : Loc Cert.BranchX1.nD Cert.BranchX1.τ Cert.BranchX1.sig) → Buf (Elt Bits) ℓ) : Prop :=
  True

def Pre_BranchX1Ideal (m : (ℓ : Loc Cert.BranchX1Ideal.nD Cert.BranchX1Ideal.τ Cert.BranchX1Ideal.sig) → Buf (Elt Ideal) ℓ) : Prop :=
  True

def Pre_BranchX1RefIdeal (m : (ℓ : Loc Cert.BranchX1RefIdeal.nD Cert.BranchX1RefIdeal.τ Cert.BranchX1RefIdeal.sig) → Buf (Elt Ideal) ℓ) : Prop :=
  True

def Pre_BranchX2 (m : (ℓ : Loc Cert.BranchX2.nD Cert.BranchX2.τ Cert.BranchX2.sig) → Buf (Elt Bits) ℓ) : Prop :=
  True

def Pre_BranchX2Ideal (m : (ℓ : Loc Cert.BranchX2Ideal.nD Cert.BranchX2Ideal.τ Cert.BranchX2Ideal.sig) → Buf (Elt Ideal) ℓ) : Prop :=
  True

def Pre_BranchX2RefIdeal (m : (ℓ : Loc Cert.BranchX2RefIdeal.nD Cert.BranchX2RefIdeal.τ Cert.BranchX2RefIdeal.sig) → Buf (Elt Ideal) ℓ) : Prop :=
  True

def Pre_BranchW0 (m : (ℓ : Loc Cert.BranchW0.nD Cert.BranchW0.τ Cert.BranchW0.sig) → Buf (Elt Bits) ℓ) : Prop :=
  True

def Pre_BranchW0Ideal (m : (ℓ : Loc Cert.BranchW0Ideal.nD Cert.BranchW0Ideal.τ Cert.BranchW0Ideal.sig) → Buf (Elt Ideal) ℓ) : Prop :=
  True

def Pre_BranchW0RefIdeal (m : (ℓ : Loc Cert.BranchW0RefIdeal.nD Cert.BranchW0RefIdeal.τ Cert.BranchW0RefIdeal.sig) → Buf (Elt Ideal) ℓ) : Prop :=
  True

def Pre_BranchW1 (m : (ℓ : Loc Cert.BranchW1.nD Cert.BranchW1.τ Cert.BranchW1.sig) → Buf (Elt Bits) ℓ) : Prop :=
  True

def Pre_BranchW1Ideal (m : (ℓ : Loc Cert.BranchW1Ideal.nD Cert.BranchW1Ideal.τ Cert.BranchW1Ideal.sig) → Buf (Elt Ideal) ℓ) : Prop :=
  True

def Pre_BranchW1RefIdeal (m : (ℓ : Loc Cert.BranchW1RefIdeal.nD Cert.BranchW1RefIdeal.τ Cert.BranchW1RefIdeal.sig) → Buf (Elt Ideal) ℓ) : Prop :=
  True

def Pre_BranchW2 (m : (ℓ : Loc Cert.BranchW2.nD Cert.BranchW2.τ Cert.BranchW2.sig) → Buf (Elt Bits) ℓ) : Prop :=
  True

def Pre_BranchW2Ideal (m : (ℓ : Loc Cert.BranchW2Ideal.nD Cert.BranchW2Ideal.τ Cert.BranchW2Ideal.sig) → Buf (Elt Ideal) ℓ) : Prop :=
  True

def Pre_BranchW2RefIdeal (m : (ℓ : Loc Cert.BranchW2RefIdeal.nD Cert.BranchW2RefIdeal.τ Cert.BranchW2RefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamVectors (m : (ℓ : Loc Cert.AdamVectors.nD Cert.AdamVectors.τ Cert.AdamVectors.sig) → Buf (Elt Bits) ℓ) : Prop :=
  True

def Pre_AdamVectorsIdeal (m : (ℓ : Loc Cert.AdamVectorsIdeal.nD Cert.AdamVectorsIdeal.τ Cert.AdamVectorsIdeal.sig) → Buf (Elt Ideal) ℓ) : Prop :=
  True

def Pre_AdamVectorsRefIdeal (m : (ℓ : Loc Cert.AdamVectorsRefIdeal.nD Cert.AdamVectorsRefIdeal.τ Cert.AdamVectorsRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_AdamGatesRefIdeal (m : (ℓ : Loc Cert.AdamGatesRefIdeal.nD Cert.AdamGatesRefIdeal.τ Cert.AdamGatesRefIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksRefIdeal (m : (ℓ : Loc Cert.AdamSinksRefIdeal.nD Cert.AdamSinksRefIdeal.τ Cert.AdamSinksRefIdeal.sig) → Buf (Elt Ideal) ℓ) : Prop :=
  True

def Pre_ChipSumIn (m : (ℓ : Loc Cert.ChipSumIn.nD Cert.ChipSumIn.τ Cert.ChipSumIn.sig) → Buf (Elt Bits) ℓ) : Prop :=
  True

def Pre_ChipSumInIdeal (m : (ℓ : Loc Cert.ChipSumInIdeal.nD Cert.ChipSumInIdeal.τ Cert.ChipSumInIdeal.sig) → Buf (Elt Ideal) ℓ) : Prop :=
  True

def Pre_ChipSumInRefIdeal (m : (ℓ : Loc Cert.ChipSumInRefIdeal.nD Cert.ChipSumInRefIdeal.τ Cert.ChipSumInRefIdeal.sig) → Buf (Elt Ideal) ℓ) : Prop :=
  True

def Pre_ChipSumBranch (m : (ℓ : Loc Cert.ChipSumBranch.nD Cert.ChipSumBranch.τ Cert.ChipSumBranch.sig) → Buf (Elt Bits) ℓ) : Prop :=
  True

def Pre_ChipSumBranchIdeal (m : (ℓ : Loc Cert.ChipSumBranchIdeal.nD Cert.ChipSumBranchIdeal.τ Cert.ChipSumBranchIdeal.sig) → Buf (Elt Ideal) ℓ) : Prop :=
  True

def Pre_ChipSumBranchRefIdeal (m : (ℓ : Loc Cert.ChipSumBranchRefIdeal.nD Cert.ChipSumBranchRefIdeal.τ Cert.ChipSumBranchRefIdeal.sig) → Buf (Elt Ideal) ℓ) : Prop :=
  True

def Pre_ChipSumOut (m : (ℓ : Loc Cert.ChipSumOut.nD Cert.ChipSumOut.τ Cert.ChipSumOut.sig) → Buf (Elt Bits) ℓ) : Prop :=
  True

def Pre_ChipSumOutIdeal (m : (ℓ : Loc Cert.ChipSumOutIdeal.nD Cert.ChipSumOutIdeal.τ Cert.ChipSumOutIdeal.sig) → Buf (Elt Ideal) ℓ) : Prop :=
  True

def Pre_ChipSumOutRefIdeal (m : (ℓ : Loc Cert.ChipSumOutRefIdeal.nD Cert.ChipSumOutRefIdeal.τ Cert.ChipSumOutRefIdeal.sig) → Buf (Elt Ideal) ℓ) : Prop :=
  True

def Pre_ChipSumFfnIn (m : (ℓ : Loc Cert.ChipSumFfnIn.nD Cert.ChipSumFfnIn.τ Cert.ChipSumFfnIn.sig) → Buf (Elt Bits) ℓ) : Prop :=
  True

def Pre_ChipSumFfnInIdeal (m : (ℓ : Loc Cert.ChipSumFfnInIdeal.nD Cert.ChipSumFfnInIdeal.τ Cert.ChipSumFfnInIdeal.sig) → Buf (Elt Ideal) ℓ) : Prop :=
  True

def Pre_ChipSumFfnInRefIdeal (m : (ℓ : Loc Cert.ChipSumFfnInRefIdeal.nD Cert.ChipSumFfnInRefIdeal.τ Cert.ChipSumFfnInRefIdeal.sig) → Buf (Elt Ideal) ℓ) : Prop :=
  True

def Pre_ChipSumFfnOut (m : (ℓ : Loc Cert.ChipSumFfnOut.nD Cert.ChipSumFfnOut.τ Cert.ChipSumFfnOut.sig) → Buf (Elt Bits) ℓ) : Prop :=
  True

def Pre_ChipSumFfnOutIdeal (m : (ℓ : Loc Cert.ChipSumFfnOutIdeal.nD Cert.ChipSumFfnOutIdeal.τ Cert.ChipSumFfnOutIdeal.sig) → Buf (Elt Ideal) ℓ) : Prop :=
  True

def Pre_ChipSumFfnOutRefIdeal (m : (ℓ : Loc Cert.ChipSumFfnOutRefIdeal.nD Cert.ChipSumFfnOutRefIdeal.τ Cert.ChipSumFfnOutRefIdeal.sig) → Buf (Elt Ideal) ℓ) : Prop :=
  True

def Pre_SmallPairSum (m : (ℓ : Loc Cert.SmallPairSum.nD Cert.SmallPairSum.τ Cert.SmallPairSum.sig) → Buf (Elt Bits) ℓ) : Prop :=
  True

def Pre_SmallPairSumIdeal (m : (ℓ : Loc Cert.SmallPairSumIdeal.nD Cert.SmallPairSumIdeal.τ Cert.SmallPairSumIdeal.sig) → Buf (Elt Ideal) ℓ) : Prop :=
  True

def Pre_SmallPairSumRefIdeal (m : (ℓ : Loc Cert.SmallPairSumRefIdeal.nD Cert.SmallPairSumRefIdeal.τ Cert.SmallPairSumRefIdeal.sig) → Buf (Elt Ideal) ℓ) : Prop :=
  True

def Pre_SmallChipSum (m : (ℓ : Loc Cert.SmallChipSum.nD Cert.SmallChipSum.τ Cert.SmallChipSum.sig) → Buf (Elt Bits) ℓ) : Prop :=
  True

def Pre_SmallChipSumIdeal (m : (ℓ : Loc Cert.SmallChipSumIdeal.nD Cert.SmallChipSumIdeal.τ Cert.SmallChipSumIdeal.sig) → Buf (Elt Ideal) ℓ) : Prop :=
  True

def Pre_SmallChipSumRefIdeal (m : (ℓ : Loc Cert.SmallChipSumRefIdeal.nD Cert.SmallChipSumRefIdeal.τ Cert.SmallChipSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2)
      ∧ r.2.mem ((c.tc : Thread Cert.FfnGate.nD Cert.FfnGate.τ).loc Cert.FfnGate.main_arg3) = m ((c.tc : Thread Cert.FfnGate.nD Cert.FfnGate.τ).loc Cert.FfnGate.main_arg3))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateIdeal_pre_finite_gate [hFfnGateIdeal : Cert.FfnGateIdeal.Facts] [hPre_finite_gate : Cert.Pre_finite_gate.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal_finite_gate m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3))
      ∧ r.2.sem = fun _ => 0)

def quiescent_FfnGateRefIdeal_pre_finite_gate [hFfnGateRefIdeal : Cert.FfnGateRefIdeal.Facts] [hPre_finite_gate : Cert.Pre_finite_gate.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal_finite_gate m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3))
      ∧ r.2.sem = fun _ => 0)

def quiescent_FfnInX [hFfnInX : Cert.FfnInX.Facts] : Prop :=
  ∀ (m : (ℓ : Loc Cert.FfnInX.nD Cert.FfnInX.τ Cert.FfnInX.sig) → Buf (Elt Bits) ℓ) (g : Dev Cert.FfnInX.nD → PrngReg), Pre_FfnInX m →
    θ_run (Cert.FfnInX.defs (F := Bits)) (onTc (τ := Cert.FfnInX.τ) (Cert.FfnInX.main (F := Bits))) ⟨m, fun _ => 0, g⟩ (fun r => (∀ c : Dev Cert.FfnInX.nD,
      r.2.mem ((c.tc : Thread Cert.FfnInX.nD Cert.FfnInX.τ).loc Cert.FfnInX.main_arg0) = m ((c.tc : Thread Cert.FfnInX.nD Cert.FfnInX.τ).loc Cert.FfnInX.main_arg0)
      ∧ r.2.mem ((c.tc : Thread Cert.FfnInX.nD Cert.FfnInX.τ).loc Cert.FfnInX.main_arg1) = m ((c.tc : Thread Cert.FfnInX.nD Cert.FfnInX.τ).loc Cert.FfnInX.main_arg1)
      ∧ r.2.mem ((c.tc : Thread Cert.FfnInX.nD Cert.FfnInX.τ).loc Cert.FfnInX.main_arg2) = m ((c.tc : Thread Cert.FfnInX.nD Cert.FfnInX.τ).loc Cert.FfnInX.main_arg2))
      ∧ r.2.sem = fun _ => 0)

def quiescent_FfnInXIdeal [hFfnInXIdeal : Cert.FfnInXIdeal.Facts] : Prop :=
  ∀ (m : (ℓ : Loc Cert.FfnInXIdeal.nD Cert.FfnInXIdeal.τ Cert.FfnInXIdeal.sig) → Buf (Elt Ideal) ℓ) (g : Dev Cert.FfnInXIdeal.nD → PrngReg), Pre_FfnInXIdeal m →
    θ_run (Cert.FfnInXIdeal.defs (F := Ideal)) (onTc (τ := Cert.FfnInXIdeal.τ) (Cert.FfnInXIdeal.main (F := Ideal))) ⟨m, fun _ => 0, g⟩ (fun r => (∀ c : Dev Cert.FfnInXIdeal.nD,
      r.2.mem ((c.tc : Thread Cert.FfnInXIdeal.nD Cert.FfnInXIdeal.τ).loc Cert.FfnInXIdeal.main_arg0) = m ((c.tc : Thread Cert.FfnInXIdeal.nD Cert.FfnInXIdeal.τ).loc Cert.FfnInXIdeal.main_arg0)
      ∧ r.2.mem ((c.tc : Thread Cert.FfnInXIdeal.nD Cert.FfnInXIdeal.τ).loc Cert.FfnInXIdeal.main_arg1) = m ((c.tc : Thread Cert.FfnInXIdeal.nD Cert.FfnInXIdeal.τ).loc Cert.FfnInXIdeal.main_arg1)
      ∧ r.2.mem ((c.tc : Thread Cert.FfnInXIdeal.nD Cert.FfnInXIdeal.τ).loc Cert.FfnInXIdeal.main_arg2) = m ((c.tc : Thread Cert.FfnInXIdeal.nD Cert.FfnInXIdeal.τ).loc Cert.FfnInXIdeal.main_arg2))
      ∧ r.2.sem = fun _ => 0)

def quiescent_FfnInXRefIdeal [hFfnInXRefIdeal : Cert.FfnInXRefIdeal.Facts] : Prop :=
  ∀ (m : (ℓ : Loc Cert.FfnInXRefIdeal.nD Cert.FfnInXRefIdeal.τ Cert.FfnInXRefIdeal.sig) → Buf (Elt Ideal) ℓ) (g : Dev Cert.FfnInXRefIdeal.nD → PrngReg), Pre_FfnInXRefIdeal m →
    θ_run (Cert.FfnInXRefIdeal.defs (F := Ideal)) (onTc (τ := Cert.FfnInXRefIdeal.τ) (Cert.FfnInXRefIdeal.main (F := Ideal))) ⟨m, fun _ => 0, g⟩ (fun r => (∀ c : Dev Cert.FfnInXRefIdeal.nD,
      r.2.mem ((c.tc : Thread Cert.FfnInXRefIdeal.nD Cert.FfnInXRefIdeal.τ).loc Cert.FfnInXRefIdeal.main_arg0) = m ((c.tc : Thread Cert.FfnInXRefIdeal.nD Cert.FfnInXRefIdeal.τ).loc Cert.FfnInXRefIdeal.main_arg0)
      ∧ r.2.mem ((c.tc : Thread Cert.FfnInXRefIdeal.nD Cert.FfnInXRefIdeal.τ).loc Cert.FfnInXRefIdeal.main_arg1) = m ((c.tc : Thread Cert.FfnInXRefIdeal.nD Cert.FfnInXRefIdeal.τ).loc Cert.FfnInXRefIdeal.main_arg1)
      ∧ r.2.mem ((c.tc : Thread Cert.FfnInXRefIdeal.nD Cert.FfnInXRefIdeal.τ).loc Cert.FfnInXRefIdeal.main_arg2) = m ((c.tc : Thread Cert.FfnInXRefIdeal.nD Cert.FfnInXRefIdeal.τ).loc Cert.FfnInXRefIdeal.main_arg2))
      ∧ r.2.sem = fun _ => 0)

def quiescent_FfnInW [hFfnInW : Cert.FfnInW.Facts] : Prop :=
  ∀ (m : (ℓ : Loc Cert.FfnInW.nD Cert.FfnInW.τ Cert.FfnInW.sig) → Buf (Elt Bits) ℓ) (g : Dev Cert.FfnInW.nD → PrngReg), Pre_FfnInW m →
    θ_run (Cert.FfnInW.defs (F := Bits)) (onTc (τ := Cert.FfnInW.τ) (Cert.FfnInW.main (F := Bits))) ⟨m, fun _ => 0, g⟩ (fun r => (∀ c : Dev Cert.FfnInW.nD,
      r.2.mem ((c.tc : Thread Cert.FfnInW.nD Cert.FfnInW.τ).loc Cert.FfnInW.main_arg0) = m ((c.tc : Thread Cert.FfnInW.nD Cert.FfnInW.τ).loc Cert.FfnInW.main_arg0)
      ∧ r.2.mem ((c.tc : Thread Cert.FfnInW.nD Cert.FfnInW.τ).loc Cert.FfnInW.main_arg1) = m ((c.tc : Thread Cert.FfnInW.nD Cert.FfnInW.τ).loc Cert.FfnInW.main_arg1))
      ∧ r.2.sem = fun _ => 0)

def quiescent_FfnInWIdeal [hFfnInWIdeal : Cert.FfnInWIdeal.Facts] : Prop :=
  ∀ (m : (ℓ : Loc Cert.FfnInWIdeal.nD Cert.FfnInWIdeal.τ Cert.FfnInWIdeal.sig) → Buf (Elt Ideal) ℓ) (g : Dev Cert.FfnInWIdeal.nD → PrngReg), Pre_FfnInWIdeal m →
    θ_run (Cert.FfnInWIdeal.defs (F := Ideal)) (onTc (τ := Cert.FfnInWIdeal.τ) (Cert.FfnInWIdeal.main (F := Ideal))) ⟨m, fun _ => 0, g⟩ (fun r => (∀ c : Dev Cert.FfnInWIdeal.nD,
      r.2.mem ((c.tc : Thread Cert.FfnInWIdeal.nD Cert.FfnInWIdeal.τ).loc Cert.FfnInWIdeal.main_arg0) = m ((c.tc : Thread Cert.FfnInWIdeal.nD Cert.FfnInWIdeal.τ).loc Cert.FfnInWIdeal.main_arg0)
      ∧ r.2.mem ((c.tc : Thread Cert.FfnInWIdeal.nD Cert.FfnInWIdeal.τ).loc Cert.FfnInWIdeal.main_arg1) = m ((c.tc : Thread Cert.FfnInWIdeal.nD Cert.FfnInWIdeal.τ).loc Cert.FfnInWIdeal.main_arg1))
      ∧ r.2.sem = fun _ => 0)

def quiescent_FfnInWRefIdeal [hFfnInWRefIdeal : Cert.FfnInWRefIdeal.Facts] : Prop :=
  ∀ (m : (ℓ : Loc Cert.FfnInWRefIdeal.nD Cert.FfnInWRefIdeal.τ Cert.FfnInWRefIdeal.sig) → Buf (Elt Ideal) ℓ) (g : Dev Cert.FfnInWRefIdeal.nD → PrngReg), Pre_FfnInWRefIdeal m →
    θ_run (Cert.FfnInWRefIdeal.defs (F := Ideal)) (onTc (τ := Cert.FfnInWRefIdeal.τ) (Cert.FfnInWRefIdeal.main (F := Ideal))) ⟨m, fun _ => 0, g⟩ (fun r => (∀ c : Dev Cert.FfnInWRefIdeal.nD,
      r.2.mem ((c.tc : Thread Cert.FfnInWRefIdeal.nD Cert.FfnInWRefIdeal.τ).loc Cert.FfnInWRefIdeal.main_arg0) = m ((c.tc : Thread Cert.FfnInWRefIdeal.nD Cert.FfnInWRefIdeal.τ).loc Cert.FfnInWRefIdeal.main_arg0)
      ∧ r.2.mem ((c.tc : Thread Cert.FfnInWRefIdeal.nD Cert.FfnInWRefIdeal.τ).loc Cert.FfnInWRefIdeal.main_arg1) = m ((c.tc : Thread Cert.FfnInWRefIdeal.nD Cert.FfnInWRefIdeal.τ).loc Cert.FfnInWRefIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1)
      ∧ r.2.mem ((c.tc : Thread Cert.ProjXRefIdeal.nD Cert.ProjXRefIdeal.τ).loc Cert.ProjXRefIdeal.main_arg2) = m ((c.tc : Thread Cert.ProjXRefIdeal.nD Cert.ProjXRefIdeal.τ).loc Cert.ProjXRefIdeal.main_arg2))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1))
      ∧ r.2.sem = fun _ => 0)

def quiescent_FfnOutW [hFfnOutW : Cert.FfnOutW.Facts] : Prop :=
  ∀ (m : (ℓ : Loc Cert.FfnOutW.nD Cert.FfnOutW.τ Cert.FfnOutW.sig) → Buf (Elt Bits) ℓ) (g : Dev Cert.FfnOutW.nD → PrngReg), Pre_FfnOutW m →
    θ_run (Cert.FfnOutW.defs (F := Bits)) (onTc (τ := Cert.FfnOutW.τ) (Cert.FfnOutW.main (F := Bits))) ⟨m, fun _ => 0, g⟩ (fun r => (∀ c : Dev Cert.FfnOutW.nD,
      r.2.mem ((c.tc : Thread Cert.FfnOutW.nD Cert.FfnOutW.τ).loc Cert.FfnOutW.main_arg0) = m ((c.tc : Thread Cert.FfnOutW.nD Cert.FfnOutW.τ).loc Cert.FfnOutW.main_arg0)
      ∧ r.2.mem ((c.tc : Thread Cert.FfnOutW.nD Cert.FfnOutW.τ).loc Cert.FfnOutW.main_arg1) = m ((c.tc : Thread Cert.FfnOutW.nD Cert.FfnOutW.τ).loc Cert.FfnOutW.main_arg1))
      ∧ r.2.sem = fun _ => 0)

def quiescent_FfnOutWIdeal [hFfnOutWIdeal : Cert.FfnOutWIdeal.Facts] : Prop :=
  ∀ (m : (ℓ : Loc Cert.FfnOutWIdeal.nD Cert.FfnOutWIdeal.τ Cert.FfnOutWIdeal.sig) → Buf (Elt Ideal) ℓ) (g : Dev Cert.FfnOutWIdeal.nD → PrngReg), Pre_FfnOutWIdeal m →
    θ_run (Cert.FfnOutWIdeal.defs (F := Ideal)) (onTc (τ := Cert.FfnOutWIdeal.τ) (Cert.FfnOutWIdeal.main (F := Ideal))) ⟨m, fun _ => 0, g⟩ (fun r => (∀ c : Dev Cert.FfnOutWIdeal.nD,
      r.2.mem ((c.tc : Thread Cert.FfnOutWIdeal.nD Cert.FfnOutWIdeal.τ).loc Cert.FfnOutWIdeal.main_arg0) = m ((c.tc : Thread Cert.FfnOutWIdeal.nD Cert.FfnOutWIdeal.τ).loc Cert.FfnOutWIdeal.main_arg0)
      ∧ r.2.mem ((c.tc : Thread Cert.FfnOutWIdeal.nD Cert.FfnOutWIdeal.τ).loc Cert.FfnOutWIdeal.main_arg1) = m ((c.tc : Thread Cert.FfnOutWIdeal.nD Cert.FfnOutWIdeal.τ).loc Cert.FfnOutWIdeal.main_arg1))
      ∧ r.2.sem = fun _ => 0)

def quiescent_FfnOutWRefIdeal [hFfnOutWRefIdeal : Cert.FfnOutWRefIdeal.Facts] : Prop :=
  ∀ (m : (ℓ : Loc Cert.FfnOutWRefIdeal.nD Cert.FfnOutWRefIdeal.τ Cert.FfnOutWRefIdeal.sig) → Buf (Elt Ideal) ℓ) (g : Dev Cert.FfnOutWRefIdeal.nD → PrngReg), Pre_FfnOutWRefIdeal m →
    θ_run (Cert.FfnOutWRefIdeal.defs (F := Ideal)) (onTc (τ := Cert.FfnOutWRefIdeal.τ) (Cert.FfnOutWRefIdeal.main (F := Ideal))) ⟨m, fun _ => 0, g⟩ (fun r => (∀ c : Dev Cert.FfnOutWRefIdeal.nD,
      r.2.mem ((c.tc : Thread Cert.FfnOutWRefIdeal.nD Cert.FfnOutWRefIdeal.τ).loc Cert.FfnOutWRefIdeal.main_arg0) = m ((c.tc : Thread Cert.FfnOutWRefIdeal.nD Cert.FfnOutWRefIdeal.τ).loc Cert.FfnOutWRefIdeal.main_arg0)
      ∧ r.2.mem ((c.tc : Thread Cert.FfnOutWRefIdeal.nD Cert.FfnOutWRefIdeal.τ).loc Cert.FfnOutWRefIdeal.main_arg1) = m ((c.tc : Thread Cert.FfnOutWRefIdeal.nD Cert.FfnOutWRefIdeal.τ).loc Cert.FfnOutWRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_FfnOutLn [hFfnOutLn : Cert.FfnOutLn.Facts] : Prop :=
  ∀ (m : (ℓ : Loc Cert.FfnOutLn.nD Cert.FfnOutLn.τ Cert.FfnOutLn.sig) → Buf (Elt Bits) ℓ) (g : Dev Cert.FfnOutLn.nD → PrngReg), Pre_FfnOutLn m →
    θ_run (Cert.FfnOutLn.defs (F := Bits)) (onTc (τ := Cert.FfnOutLn.τ) (Cert.FfnOutLn.main (F := Bits))) ⟨m, fun _ => 0, g⟩ (fun r => (∀ c : Dev Cert.FfnOutLn.nD,
      r.2.mem ((c.tc : Thread Cert.FfnOutLn.nD Cert.FfnOutLn.τ).loc Cert.FfnOutLn.main_arg0) = m ((c.tc : Thread Cert.FfnOutLn.nD Cert.FfnOutLn.τ).loc Cert.FfnOutLn.main_arg0)
      ∧ r.2.mem ((c.tc : Thread Cert.FfnOutLn.nD Cert.FfnOutLn.τ).loc Cert.FfnOutLn.main_arg1) = m ((c.tc : Thread Cert.FfnOutLn.nD Cert.FfnOutLn.τ).loc Cert.FfnOutLn.main_arg1)
      ∧ r.2.mem ((c.tc : Thread Cert.FfnOutLn.nD Cert.FfnOutLn.τ).loc Cert.FfnOutLn.main_arg2) = m ((c.tc : Thread Cert.FfnOutLn.nD Cert.FfnOutLn.τ).loc Cert.FfnOutLn.main_arg2)
      ∧ r.2.mem ((c.tc : Thread Cert.FfnOutLn.nD Cert.FfnOutLn.τ).loc Cert.FfnOutLn.main_arg3) = m ((c.tc : Thread Cert.FfnOutLn.nD Cert.FfnOutLn.τ).loc Cert.FfnOutLn.main_arg3)
      ∧ r.2.mem ((c.tc : Thread Cert.FfnOutLn.nD Cert.FfnOutLn.τ).loc Cert.FfnOutLn.main_arg4) = m ((c.tc : Thread Cert.FfnOutLn.nD Cert.FfnOutLn.τ).loc Cert.FfnOutLn.main_arg4))
      ∧ r.2.sem = fun _ => 0)

def quiescent_FfnOutLnIdeal [hFfnOutLnIdeal : Cert.FfnOutLnIdeal.Facts] : Prop :=
  ∀ (m : (ℓ : Loc Cert.FfnOutLnIdeal.nD Cert.FfnOutLnIdeal.τ Cert.FfnOutLnIdeal.sig) → Buf (Elt Ideal) ℓ) (g : Dev Cert.FfnOutLnIdeal.nD → PrngReg), Pre_FfnOutLnIdeal m →
    θ_run (Cert.FfnOutLnIdeal.defs (F := Ideal)) (onTc (τ := Cert.FfnOutLnIdeal.τ) (Cert.FfnOutLnIdeal.main (F := Ideal))) ⟨m, fun _ => 0, g⟩ (fun r => (∀ c : Dev Cert.FfnOutLnIdeal.nD,
      r.2.mem ((c.tc : Thread Cert.FfnOutLnIdeal.nD Cert.FfnOutLnIdeal.τ).loc Cert.FfnOutLnIdeal.main_arg0) = m ((c.tc : Thread Cert.FfnOutLnIdeal.nD Cert.FfnOutLnIdeal.τ).loc Cert.FfnOutLnIdeal.main_arg0)
      ∧ r.2.mem ((c.tc : Thread Cert.FfnOutLnIdeal.nD Cert.FfnOutLnIdeal.τ).loc Cert.FfnOutLnIdeal.main_arg1) = m ((c.tc : Thread Cert.FfnOutLnIdeal.nD Cert.FfnOutLnIdeal.τ).loc Cert.FfnOutLnIdeal.main_arg1)
      ∧ r.2.mem ((c.tc : Thread Cert.FfnOutLnIdeal.nD Cert.FfnOutLnIdeal.τ).loc Cert.FfnOutLnIdeal.main_arg2) = m ((c.tc : Thread Cert.FfnOutLnIdeal.nD Cert.FfnOutLnIdeal.τ).loc Cert.FfnOutLnIdeal.main_arg2)
      ∧ r.2.mem ((c.tc : Thread Cert.FfnOutLnIdeal.nD Cert.FfnOutLnIdeal.τ).loc Cert.FfnOutLnIdeal.main_arg3) = m ((c.tc : Thread Cert.FfnOutLnIdeal.nD Cert.FfnOutLnIdeal.τ).loc Cert.FfnOutLnIdeal.main_arg3)
      ∧ r.2.mem ((c.tc : Thread Cert.FfnOutLnIdeal.nD Cert.FfnOutLnIdeal.τ).loc Cert.FfnOutLnIdeal.main_arg4) = m ((c.tc : Thread Cert.FfnOutLnIdeal.nD Cert.FfnOutLnIdeal.τ).loc Cert.FfnOutLnIdeal.main_arg4))
      ∧ r.2.sem = fun _ => 0)

def quiescent_FfnOutLnRefIdeal [hFfnOutLnRefIdeal : Cert.FfnOutLnRefIdeal.Facts] : Prop :=
  ∀ (m : (ℓ : Loc Cert.FfnOutLnRefIdeal.nD Cert.FfnOutLnRefIdeal.τ Cert.FfnOutLnRefIdeal.sig) → Buf (Elt Ideal) ℓ) (g : Dev Cert.FfnOutLnRefIdeal.nD → PrngReg), Pre_FfnOutLnRefIdeal m →
    θ_run (Cert.FfnOutLnRefIdeal.defs (F := Ideal)) (onTc (τ := Cert.FfnOutLnRefIdeal.τ) (Cert.FfnOutLnRefIdeal.main (F := Ideal))) ⟨m, fun _ => 0, g⟩ (fun r => (∀ c : Dev Cert.FfnOutLnRefIdeal.nD,
      r.2.mem ((c.tc : Thread Cert.FfnOutLnRefIdeal.nD Cert.FfnOutLnRefIdeal.τ).loc Cert.FfnOutLnRefIdeal.main_arg0) = m ((c.tc : Thread Cert.FfnOutLnRefIdeal.nD Cert.FfnOutLnRefIdeal.τ).loc Cert.FfnOutLnRefIdeal.main_arg0)
      ∧ r.2.mem ((c.tc : Thread Cert.FfnOutLnRefIdeal.nD Cert.FfnOutLnRefIdeal.τ).loc Cert.FfnOutLnRefIdeal.main_arg1) = m ((c.tc : Thread Cert.FfnOutLnRefIdeal.nD Cert.FfnOutLnRefIdeal.τ).loc Cert.FfnOutLnRefIdeal.main_arg1)
      ∧ r.2.mem ((c.tc : Thread Cert.FfnOutLnRefIdeal.nD Cert.FfnOutLnRefIdeal.τ).loc Cert.FfnOutLnRefIdeal.main_arg2) = m ((c.tc : Thread Cert.FfnOutLnRefIdeal.nD Cert.FfnOutLnRefIdeal.τ).loc Cert.FfnOutLnRefIdeal.main_arg2)
      ∧ r.2.mem ((c.tc : Thread Cert.FfnOutLnRefIdeal.nD Cert.FfnOutLnRefIdeal.τ).loc Cert.FfnOutLnRefIdeal.main_arg3) = m ((c.tc : Thread Cert.FfnOutLnRefIdeal.nD Cert.FfnOutLnRefIdeal.τ).loc Cert.FfnOutLnRefIdeal.main_arg3)
      ∧ r.2.mem ((c.tc : Thread Cert.FfnOutLnRefIdeal.nD Cert.FfnOutLnRefIdeal.τ).loc Cert.FfnOutLnRefIdeal.main_arg4) = m ((c.tc : Thread Cert.FfnOutLnRefIdeal.nD Cert.FfnOutLnRefIdeal.τ).loc Cert.FfnOutLnRefIdeal.main_arg4))
      ∧ r.2.sem = fun _ => 0)

def quiescent_BranchX0 [hBranchX0 : Cert.BranchX0.Facts] : Prop :=
  ∀ (m : (ℓ : Loc Cert.BranchX0.nD Cert.BranchX0.τ Cert.BranchX0.sig) → Buf (Elt Bits) ℓ) (g : Dev Cert.BranchX0.nD → PrngReg), Pre_BranchX0 m →
    θ_run (Cert.BranchX0.defs (F := Bits)) (onTc (τ := Cert.BranchX0.τ) (Cert.BranchX0.main (F := Bits))) ⟨m, fun _ => 0, g⟩ (fun r => (∀ c : Dev Cert.BranchX0.nD,
      r.2.mem ((c.tc : Thread Cert.BranchX0.nD Cert.BranchX0.τ).loc Cert.BranchX0.main_arg0) = m ((c.tc : Thread Cert.BranchX0.nD Cert.BranchX0.τ).loc Cert.BranchX0.main_arg0)
      ∧ r.2.mem ((c.tc : Thread Cert.BranchX0.nD Cert.BranchX0.τ).loc Cert.BranchX0.main_arg1) = m ((c.tc : Thread Cert.BranchX0.nD Cert.BranchX0.τ).loc Cert.BranchX0.main_arg1))
      ∧ r.2.sem = fun _ => 0)

def quiescent_BranchX0Ideal [hBranchX0Ideal : Cert.BranchX0Ideal.Facts] : Prop :=
  ∀ (m : (ℓ : Loc Cert.BranchX0Ideal.nD Cert.BranchX0Ideal.τ Cert.BranchX0Ideal.sig) → Buf (Elt Ideal) ℓ) (g : Dev Cert.BranchX0Ideal.nD → PrngReg), Pre_BranchX0Ideal m →
    θ_run (Cert.BranchX0Ideal.defs (F := Ideal)) (onTc (τ := Cert.BranchX0Ideal.τ) (Cert.BranchX0Ideal.main (F := Ideal))) ⟨m, fun _ => 0, g⟩ (fun r => (∀ c : Dev Cert.BranchX0Ideal.nD,
      r.2.mem ((c.tc : Thread Cert.BranchX0Ideal.nD Cert.BranchX0Ideal.τ).loc Cert.BranchX0Ideal.main_arg0) = m ((c.tc : Thread Cert.BranchX0Ideal.nD Cert.BranchX0Ideal.τ).loc Cert.BranchX0Ideal.main_arg0)
      ∧ r.2.mem ((c.tc : Thread Cert.BranchX0Ideal.nD Cert.BranchX0Ideal.τ).loc Cert.BranchX0Ideal.main_arg1) = m ((c.tc : Thread Cert.BranchX0Ideal.nD Cert.BranchX0Ideal.τ).loc Cert.BranchX0Ideal.main_arg1))
      ∧ r.2.sem = fun _ => 0)

def quiescent_BranchX0RefIdeal [hBranchX0RefIdeal : Cert.BranchX0RefIdeal.Facts] : Prop :=
  ∀ (m : (ℓ : Loc Cert.BranchX0RefIdeal.nD Cert.BranchX0RefIdeal.τ Cert.BranchX0RefIdeal.sig) → Buf (Elt Ideal) ℓ) (g : Dev Cert.BranchX0RefIdeal.nD → PrngReg), Pre_BranchX0RefIdeal m →
    θ_run (Cert.BranchX0RefIdeal.defs (F := Ideal)) (onTc (τ := Cert.BranchX0RefIdeal.τ) (Cert.BranchX0RefIdeal.main (F := Ideal))) ⟨m, fun _ => 0, g⟩ (fun r => (∀ c : Dev Cert.BranchX0RefIdeal.nD,
      r.2.mem ((c.tc : Thread Cert.BranchX0RefIdeal.nD Cert.BranchX0RefIdeal.τ).loc Cert.BranchX0RefIdeal.main_arg0) = m ((c.tc : Thread Cert.BranchX0RefIdeal.nD Cert.BranchX0RefIdeal.τ).loc Cert.BranchX0RefIdeal.main_arg0)
      ∧ r.2.mem ((c.tc : Thread Cert.BranchX0RefIdeal.nD Cert.BranchX0RefIdeal.τ).loc Cert.BranchX0RefIdeal.main_arg1) = m ((c.tc : Thread Cert.BranchX0RefIdeal.nD Cert.BranchX0RefIdeal.τ).loc Cert.BranchX0RefIdeal.main_arg1))
      ∧ r.2.sem = fun _ => 0)

def quiescent_BranchX1 [hBranchX1 : Cert.BranchX1.Facts] : Prop :=
  ∀ (m : (ℓ : Loc Cert.BranchX1.nD Cert.BranchX1.τ Cert.BranchX1.sig) → Buf (Elt Bits) ℓ) (g : Dev Cert.BranchX1.nD → PrngReg), Pre_BranchX1 m →
    θ_run (Cert.BranchX1.defs (F := Bits)) (onTc (τ := Cert.BranchX1.τ) (Cert.BranchX1.main (F := Bits))) ⟨m, fun _ => 0, g⟩ (fun r => (∀ c : Dev Cert.BranchX1.nD,
      r.2.mem ((c.tc : Thread Cert.BranchX1.nD Cert.BranchX1.τ).loc Cert.BranchX1.main_arg0) = m ((c.tc : Thread Cert.BranchX1.nD Cert.BranchX1.τ).loc Cert.BranchX1.main_arg0)
      ∧ r.2.mem ((c.tc : Thread Cert.BranchX1.nD Cert.BranchX1.τ).loc Cert.BranchX1.main_arg1) = m ((c.tc : Thread Cert.BranchX1.nD Cert.BranchX1.τ).loc Cert.BranchX1.main_arg1))
      ∧ r.2.sem = fun _ => 0)

def quiescent_BranchX1Ideal [hBranchX1Ideal : Cert.BranchX1Ideal.Facts] : Prop :=
  ∀ (m : (ℓ : Loc Cert.BranchX1Ideal.nD Cert.BranchX1Ideal.τ Cert.BranchX1Ideal.sig) → Buf (Elt Ideal) ℓ) (g : Dev Cert.BranchX1Ideal.nD → PrngReg), Pre_BranchX1Ideal m →
    θ_run (Cert.BranchX1Ideal.defs (F := Ideal)) (onTc (τ := Cert.BranchX1Ideal.τ) (Cert.BranchX1Ideal.main (F := Ideal))) ⟨m, fun _ => 0, g⟩ (fun r => (∀ c : Dev Cert.BranchX1Ideal.nD,
      r.2.mem ((c.tc : Thread Cert.BranchX1Ideal.nD Cert.BranchX1Ideal.τ).loc Cert.BranchX1Ideal.main_arg0) = m ((c.tc : Thread Cert.BranchX1Ideal.nD Cert.BranchX1Ideal.τ).loc Cert.BranchX1Ideal.main_arg0)
      ∧ r.2.mem ((c.tc : Thread Cert.BranchX1Ideal.nD Cert.BranchX1Ideal.τ).loc Cert.BranchX1Ideal.main_arg1) = m ((c.tc : Thread Cert.BranchX1Ideal.nD Cert.BranchX1Ideal.τ).loc Cert.BranchX1Ideal.main_arg1))
      ∧ r.2.sem = fun _ => 0)

def quiescent_BranchX1RefIdeal [hBranchX1RefIdeal : Cert.BranchX1RefIdeal.Facts] : Prop :=
  ∀ (m : (ℓ : Loc Cert.BranchX1RefIdeal.nD Cert.BranchX1RefIdeal.τ Cert.BranchX1RefIdeal.sig) → Buf (Elt Ideal) ℓ) (g : Dev Cert.BranchX1RefIdeal.nD → PrngReg), Pre_BranchX1RefIdeal m →
    θ_run (Cert.BranchX1RefIdeal.defs (F := Ideal)) (onTc (τ := Cert.BranchX1RefIdeal.τ) (Cert.BranchX1RefIdeal.main (F := Ideal))) ⟨m, fun _ => 0, g⟩ (fun r => (∀ c : Dev Cert.BranchX1RefIdeal.nD,
      r.2.mem ((c.tc : Thread Cert.BranchX1RefIdeal.nD Cert.BranchX1RefIdeal.τ).loc Cert.BranchX1RefIdeal.main_arg0) = m ((c.tc : Thread Cert.BranchX1RefIdeal.nD Cert.BranchX1RefIdeal.τ).loc Cert.BranchX1RefIdeal.main_arg0)
      ∧ r.2.mem ((c.tc : Thread Cert.BranchX1RefIdeal.nD Cert.BranchX1RefIdeal.τ).loc Cert.BranchX1RefIdeal.main_arg1) = m ((c.tc : Thread Cert.BranchX1RefIdeal.nD Cert.BranchX1RefIdeal.τ).loc Cert.BranchX1RefIdeal.main_arg1))
      ∧ r.2.sem = fun _ => 0)

def quiescent_BranchX2 [hBranchX2 : Cert.BranchX2.Facts] : Prop :=
  ∀ (m : (ℓ : Loc Cert.BranchX2.nD Cert.BranchX2.τ Cert.BranchX2.sig) → Buf (Elt Bits) ℓ) (g : Dev Cert.BranchX2.nD → PrngReg), Pre_BranchX2 m →
    θ_run (Cert.BranchX2.defs (F := Bits)) (onTc (τ := Cert.BranchX2.τ) (Cert.BranchX2.main (F := Bits))) ⟨m, fun _ => 0, g⟩ (fun r => (∀ c : Dev Cert.BranchX2.nD,
      r.2.mem ((c.tc : Thread Cert.BranchX2.nD Cert.BranchX2.τ).loc Cert.BranchX2.main_arg0) = m ((c.tc : Thread Cert.BranchX2.nD Cert.BranchX2.τ).loc Cert.BranchX2.main_arg0)
      ∧ r.2.mem ((c.tc : Thread Cert.BranchX2.nD Cert.BranchX2.τ).loc Cert.BranchX2.main_arg1) = m ((c.tc : Thread Cert.BranchX2.nD Cert.BranchX2.τ).loc Cert.BranchX2.main_arg1))
      ∧ r.2.sem = fun _ => 0)

def quiescent_BranchX2Ideal [hBranchX2Ideal : Cert.BranchX2Ideal.Facts] : Prop :=
  ∀ (m : (ℓ : Loc Cert.BranchX2Ideal.nD Cert.BranchX2Ideal.τ Cert.BranchX2Ideal.sig) → Buf (Elt Ideal) ℓ) (g : Dev Cert.BranchX2Ideal.nD → PrngReg), Pre_BranchX2Ideal m →
    θ_run (Cert.BranchX2Ideal.defs (F := Ideal)) (onTc (τ := Cert.BranchX2Ideal.τ) (Cert.BranchX2Ideal.main (F := Ideal))) ⟨m, fun _ => 0, g⟩ (fun r => (∀ c : Dev Cert.BranchX2Ideal.nD,
      r.2.mem ((c.tc : Thread Cert.BranchX2Ideal.nD Cert.BranchX2Ideal.τ).loc Cert.BranchX2Ideal.main_arg0) = m ((c.tc : Thread Cert.BranchX2Ideal.nD Cert.BranchX2Ideal.τ).loc Cert.BranchX2Ideal.main_arg0)
      ∧ r.2.mem ((c.tc : Thread Cert.BranchX2Ideal.nD Cert.BranchX2Ideal.τ).loc Cert.BranchX2Ideal.main_arg1) = m ((c.tc : Thread Cert.BranchX2Ideal.nD Cert.BranchX2Ideal.τ).loc Cert.BranchX2Ideal.main_arg1))
      ∧ r.2.sem = fun _ => 0)

def quiescent_BranchX2RefIdeal [hBranchX2RefIdeal : Cert.BranchX2RefIdeal.Facts] : Prop :=
  ∀ (m : (ℓ : Loc Cert.BranchX2RefIdeal.nD Cert.BranchX2RefIdeal.τ Cert.BranchX2RefIdeal.sig) → Buf (Elt Ideal) ℓ) (g : Dev Cert.BranchX2RefIdeal.nD → PrngReg), Pre_BranchX2RefIdeal m →
    θ_run (Cert.BranchX2RefIdeal.defs (F := Ideal)) (onTc (τ := Cert.BranchX2RefIdeal.τ) (Cert.BranchX2RefIdeal.main (F := Ideal))) ⟨m, fun _ => 0, g⟩ (fun r => (∀ c : Dev Cert.BranchX2RefIdeal.nD,
      r.2.mem ((c.tc : Thread Cert.BranchX2RefIdeal.nD Cert.BranchX2RefIdeal.τ).loc Cert.BranchX2RefIdeal.main_arg0) = m ((c.tc : Thread Cert.BranchX2RefIdeal.nD Cert.BranchX2RefIdeal.τ).loc Cert.BranchX2RefIdeal.main_arg0)
      ∧ r.2.mem ((c.tc : Thread Cert.BranchX2RefIdeal.nD Cert.BranchX2RefIdeal.τ).loc Cert.BranchX2RefIdeal.main_arg1) = m ((c.tc : Thread Cert.BranchX2RefIdeal.nD Cert.BranchX2RefIdeal.τ).loc Cert.BranchX2RefIdeal.main_arg1))
      ∧ r.2.sem = fun _ => 0)

def quiescent_BranchW0 [hBranchW0 : Cert.BranchW0.Facts] : Prop :=
  ∀ (m : (ℓ : Loc Cert.BranchW0.nD Cert.BranchW0.τ Cert.BranchW0.sig) → Buf (Elt Bits) ℓ) (g : Dev Cert.BranchW0.nD → PrngReg), Pre_BranchW0 m →
    θ_run (Cert.BranchW0.defs (F := Bits)) (onTc (τ := Cert.BranchW0.τ) (Cert.BranchW0.main (F := Bits))) ⟨m, fun _ => 0, g⟩ (fun r => (∀ c : Dev Cert.BranchW0.nD,
      r.2.mem ((c.tc : Thread Cert.BranchW0.nD Cert.BranchW0.τ).loc Cert.BranchW0.main_arg0) = m ((c.tc : Thread Cert.BranchW0.nD Cert.BranchW0.τ).loc Cert.BranchW0.main_arg0)
      ∧ r.2.mem ((c.tc : Thread Cert.BranchW0.nD Cert.BranchW0.τ).loc Cert.BranchW0.main_arg1) = m ((c.tc : Thread Cert.BranchW0.nD Cert.BranchW0.τ).loc Cert.BranchW0.main_arg1))
      ∧ r.2.sem = fun _ => 0)

def quiescent_BranchW0Ideal [hBranchW0Ideal : Cert.BranchW0Ideal.Facts] : Prop :=
  ∀ (m : (ℓ : Loc Cert.BranchW0Ideal.nD Cert.BranchW0Ideal.τ Cert.BranchW0Ideal.sig) → Buf (Elt Ideal) ℓ) (g : Dev Cert.BranchW0Ideal.nD → PrngReg), Pre_BranchW0Ideal m →
    θ_run (Cert.BranchW0Ideal.defs (F := Ideal)) (onTc (τ := Cert.BranchW0Ideal.τ) (Cert.BranchW0Ideal.main (F := Ideal))) ⟨m, fun _ => 0, g⟩ (fun r => (∀ c : Dev Cert.BranchW0Ideal.nD,
      r.2.mem ((c.tc : Thread Cert.BranchW0Ideal.nD Cert.BranchW0Ideal.τ).loc Cert.BranchW0Ideal.main_arg0) = m ((c.tc : Thread Cert.BranchW0Ideal.nD Cert.BranchW0Ideal.τ).loc Cert.BranchW0Ideal.main_arg0)
      ∧ r.2.mem ((c.tc : Thread Cert.BranchW0Ideal.nD Cert.BranchW0Ideal.τ).loc Cert.BranchW0Ideal.main_arg1) = m ((c.tc : Thread Cert.BranchW0Ideal.nD Cert.BranchW0Ideal.τ).loc Cert.BranchW0Ideal.main_arg1))
      ∧ r.2.sem = fun _ => 0)

def quiescent_BranchW0RefIdeal [hBranchW0RefIdeal : Cert.BranchW0RefIdeal.Facts] : Prop :=
  ∀ (m : (ℓ : Loc Cert.BranchW0RefIdeal.nD Cert.BranchW0RefIdeal.τ Cert.BranchW0RefIdeal.sig) → Buf (Elt Ideal) ℓ) (g : Dev Cert.BranchW0RefIdeal.nD → PrngReg), Pre_BranchW0RefIdeal m →
    θ_run (Cert.BranchW0RefIdeal.defs (F := Ideal)) (onTc (τ := Cert.BranchW0RefIdeal.τ) (Cert.BranchW0RefIdeal.main (F := Ideal))) ⟨m, fun _ => 0, g⟩ (fun r => (∀ c : Dev Cert.BranchW0RefIdeal.nD,
      r.2.mem ((c.tc : Thread Cert.BranchW0RefIdeal.nD Cert.BranchW0RefIdeal.τ).loc Cert.BranchW0RefIdeal.main_arg0) = m ((c.tc : Thread Cert.BranchW0RefIdeal.nD Cert.BranchW0RefIdeal.τ).loc Cert.BranchW0RefIdeal.main_arg0)
      ∧ r.2.mem ((c.tc : Thread Cert.BranchW0RefIdeal.nD Cert.BranchW0RefIdeal.τ).loc Cert.BranchW0RefIdeal.main_arg1) = m ((c.tc : Thread Cert.BranchW0RefIdeal.nD Cert.BranchW0RefIdeal.τ).loc Cert.BranchW0RefIdeal.main_arg1))
      ∧ r.2.sem = fun _ => 0)

def quiescent_BranchW1 [hBranchW1 : Cert.BranchW1.Facts] : Prop :=
  ∀ (m : (ℓ : Loc Cert.BranchW1.nD Cert.BranchW1.τ Cert.BranchW1.sig) → Buf (Elt Bits) ℓ) (g : Dev Cert.BranchW1.nD → PrngReg), Pre_BranchW1 m →
    θ_run (Cert.BranchW1.defs (F := Bits)) (onTc (τ := Cert.BranchW1.τ) (Cert.BranchW1.main (F := Bits))) ⟨m, fun _ => 0, g⟩ (fun r => (∀ c : Dev Cert.BranchW1.nD,
      r.2.mem ((c.tc : Thread Cert.BranchW1.nD Cert.BranchW1.τ).loc Cert.BranchW1.main_arg0) = m ((c.tc : Thread Cert.BranchW1.nD Cert.BranchW1.τ).loc Cert.BranchW1.main_arg0)
      ∧ r.2.mem ((c.tc : Thread Cert.BranchW1.nD Cert.BranchW1.τ).loc Cert.BranchW1.main_arg1) = m ((c.tc : Thread Cert.BranchW1.nD Cert.BranchW1.τ).loc Cert.BranchW1.main_arg1))
      ∧ r.2.sem = fun _ => 0)

def quiescent_BranchW1Ideal [hBranchW1Ideal : Cert.BranchW1Ideal.Facts] : Prop :=
  ∀ (m : (ℓ : Loc Cert.BranchW1Ideal.nD Cert.BranchW1Ideal.τ Cert.BranchW1Ideal.sig) → Buf (Elt Ideal) ℓ) (g : Dev Cert.BranchW1Ideal.nD → PrngReg), Pre_BranchW1Ideal m →
    θ_run (Cert.BranchW1Ideal.defs (F := Ideal)) (onTc (τ := Cert.BranchW1Ideal.τ) (Cert.BranchW1Ideal.main (F := Ideal))) ⟨m, fun _ => 0, g⟩ (fun r => (∀ c : Dev Cert.BranchW1Ideal.nD,
      r.2.mem ((c.tc : Thread Cert.BranchW1Ideal.nD Cert.BranchW1Ideal.τ).loc Cert.BranchW1Ideal.main_arg0) = m ((c.tc : Thread Cert.BranchW1Ideal.nD Cert.BranchW1Ideal.τ).loc Cert.BranchW1Ideal.main_arg0)
      ∧ r.2.mem ((c.tc : Thread Cert.BranchW1Ideal.nD Cert.BranchW1Ideal.τ).loc Cert.BranchW1Ideal.main_arg1) = m ((c.tc : Thread Cert.BranchW1Ideal.nD Cert.BranchW1Ideal.τ).loc Cert.BranchW1Ideal.main_arg1))
      ∧ r.2.sem = fun _ => 0)

def quiescent_BranchW1RefIdeal [hBranchW1RefIdeal : Cert.BranchW1RefIdeal.Facts] : Prop :=
  ∀ (m : (ℓ : Loc Cert.BranchW1RefIdeal.nD Cert.BranchW1RefIdeal.τ Cert.BranchW1RefIdeal.sig) → Buf (Elt Ideal) ℓ) (g : Dev Cert.BranchW1RefIdeal.nD → PrngReg), Pre_BranchW1RefIdeal m →
    θ_run (Cert.BranchW1RefIdeal.defs (F := Ideal)) (onTc (τ := Cert.BranchW1RefIdeal.τ) (Cert.BranchW1RefIdeal.main (F := Ideal))) ⟨m, fun _ => 0, g⟩ (fun r => (∀ c : Dev Cert.BranchW1RefIdeal.nD,
      r.2.mem ((c.tc : Thread Cert.BranchW1RefIdeal.nD Cert.BranchW1RefIdeal.τ).loc Cert.BranchW1RefIdeal.main_arg0) = m ((c.tc : Thread Cert.BranchW1RefIdeal.nD Cert.BranchW1RefIdeal.τ).loc Cert.BranchW1RefIdeal.main_arg0)
      ∧ r.2.mem ((c.tc : Thread Cert.BranchW1RefIdeal.nD Cert.BranchW1RefIdeal.τ).loc Cert.BranchW1RefIdeal.main_arg1) = m ((c.tc : Thread Cert.BranchW1RefIdeal.nD Cert.BranchW1RefIdeal.τ).loc Cert.BranchW1RefIdeal.main_arg1))
      ∧ r.2.sem = fun _ => 0)

def quiescent_BranchW2 [hBranchW2 : Cert.BranchW2.Facts] : Prop :=
  ∀ (m : (ℓ : Loc Cert.BranchW2.nD Cert.BranchW2.τ Cert.BranchW2.sig) → Buf (Elt Bits) ℓ) (g : Dev Cert.BranchW2.nD → PrngReg), Pre_BranchW2 m →
    θ_run (Cert.BranchW2.defs (F := Bits)) (onTc (τ := Cert.BranchW2.τ) (Cert.BranchW2.main (F := Bits))) ⟨m, fun _ => 0, g⟩ (fun r => (∀ c : Dev Cert.BranchW2.nD,
      r.2.mem ((c.tc : Thread Cert.BranchW2.nD Cert.BranchW2.τ).loc Cert.BranchW2.main_arg0) = m ((c.tc : Thread Cert.BranchW2.nD Cert.BranchW2.τ).loc Cert.BranchW2.main_arg0)
      ∧ r.2.mem ((c.tc : Thread Cert.BranchW2.nD Cert.BranchW2.τ).loc Cert.BranchW2.main_arg1) = m ((c.tc : Thread Cert.BranchW2.nD Cert.BranchW2.τ).loc Cert.BranchW2.main_arg1))
      ∧ r.2.sem = fun _ => 0)

def quiescent_BranchW2Ideal [hBranchW2Ideal : Cert.BranchW2Ideal.Facts] : Prop :=
  ∀ (m : (ℓ : Loc Cert.BranchW2Ideal.nD Cert.BranchW2Ideal.τ Cert.BranchW2Ideal.sig) → Buf (Elt Ideal) ℓ) (g : Dev Cert.BranchW2Ideal.nD → PrngReg), Pre_BranchW2Ideal m →
    θ_run (Cert.BranchW2Ideal.defs (F := Ideal)) (onTc (τ := Cert.BranchW2Ideal.τ) (Cert.BranchW2Ideal.main (F := Ideal))) ⟨m, fun _ => 0, g⟩ (fun r => (∀ c : Dev Cert.BranchW2Ideal.nD,
      r.2.mem ((c.tc : Thread Cert.BranchW2Ideal.nD Cert.BranchW2Ideal.τ).loc Cert.BranchW2Ideal.main_arg0) = m ((c.tc : Thread Cert.BranchW2Ideal.nD Cert.BranchW2Ideal.τ).loc Cert.BranchW2Ideal.main_arg0)
      ∧ r.2.mem ((c.tc : Thread Cert.BranchW2Ideal.nD Cert.BranchW2Ideal.τ).loc Cert.BranchW2Ideal.main_arg1) = m ((c.tc : Thread Cert.BranchW2Ideal.nD Cert.BranchW2Ideal.τ).loc Cert.BranchW2Ideal.main_arg1))
      ∧ r.2.sem = fun _ => 0)

def quiescent_BranchW2RefIdeal [hBranchW2RefIdeal : Cert.BranchW2RefIdeal.Facts] : Prop :=
  ∀ (m : (ℓ : Loc Cert.BranchW2RefIdeal.nD Cert.BranchW2RefIdeal.τ Cert.BranchW2RefIdeal.sig) → Buf (Elt Ideal) ℓ) (g : Dev Cert.BranchW2RefIdeal.nD → PrngReg), Pre_BranchW2RefIdeal m →
    θ_run (Cert.BranchW2RefIdeal.defs (F := Ideal)) (onTc (τ := Cert.BranchW2RefIdeal.τ) (Cert.BranchW2RefIdeal.main (F := Ideal))) ⟨m, fun _ => 0, g⟩ (fun r => (∀ c : Dev Cert.BranchW2RefIdeal.nD,
      r.2.mem ((c.tc : Thread Cert.BranchW2RefIdeal.nD Cert.BranchW2RefIdeal.τ).loc Cert.BranchW2RefIdeal.main_arg0) = m ((c.tc : Thread Cert.BranchW2RefIdeal.nD Cert.BranchW2RefIdeal.τ).loc Cert.BranchW2RefIdeal.main_arg0)
      ∧ r.2.mem ((c.tc : Thread Cert.BranchW2RefIdeal.nD Cert.BranchW2RefIdeal.τ).loc Cert.BranchW2RefIdeal.main_arg1) = m ((c.tc : Thread Cert.BranchW2RefIdeal.nD Cert.BranchW2RefIdeal.τ).loc Cert.BranchW2RefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamVectors [hAdamVectors : Cert.AdamVectors.Facts] : Prop :=
  ∀ (m : (ℓ : Loc Cert.AdamVectors.nD Cert.AdamVectors.τ Cert.AdamVectors.sig) → Buf (Elt Bits) ℓ) (g : Dev Cert.AdamVectors.nD → PrngReg), Pre_AdamVectors m →
    θ_run (Cert.AdamVectors.defs (F := Bits)) (onTc (τ := Cert.AdamVectors.τ) (Cert.AdamVectors.main (F := Bits))) ⟨m, fun _ => 0, g⟩ (fun r => (∀ c : Dev Cert.AdamVectors.nD,
      r.2.mem ((c.tc : Thread Cert.AdamVectors.nD Cert.AdamVectors.τ).loc Cert.AdamVectors.main_arg0) = m ((c.tc : Thread Cert.AdamVectors.nD Cert.AdamVectors.τ).loc Cert.AdamVectors.main_arg0)
      ∧ r.2.mem ((c.tc : Thread Cert.AdamVectors.nD Cert.AdamVectors.τ).loc Cert.AdamVectors.main_arg1) = m ((c.tc : Thread Cert.AdamVectors.nD Cert.AdamVectors.τ).loc Cert.AdamVectors.main_arg1)
      ∧ r.2.mem ((c.tc : Thread Cert.AdamVectors.nD Cert.AdamVectors.τ).loc Cert.AdamVectors.main_arg2) = m ((c.tc : Thread Cert.AdamVectors.nD Cert.AdamVectors.τ).loc Cert.AdamVectors.main_arg2)
      ∧ r.2.mem ((c.tc : Thread Cert.AdamVectors.nD Cert.AdamVectors.τ).loc Cert.AdamVectors.main_arg3) = m ((c.tc : Thread Cert.AdamVectors.nD Cert.AdamVectors.τ).loc Cert.AdamVectors.main_arg3))
      ∧ r.2.sem = fun _ => 0)

def quiescent_AdamVectorsIdeal [hAdamVectorsIdeal : Cert.AdamVectorsIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg), Pre_AdamVectorsIdeal m →
    θ_run (Cert.AdamVectorsIdeal.defs (F := Ideal)) (onTc (τ := Cert.AdamVectorsIdeal.τ) (Cert.AdamVectorsIdeal.main (F := Ideal))) ⟨m, fun _ => 0, g⟩ (fun r => (∀ c : Dev Cert.AdamVectorsIdeal.nD,
      r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
      ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
      ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
      ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ r.2.sem = fun _ => 0)

def quiescent_AdamVectorsRefIdeal [hAdamVectorsRefIdeal : Cert.AdamVectorsRefIdeal.Facts] : Prop :=
  ∀ (m : (ℓ : Loc Cert.AdamVectorsRefIdeal.nD Cert.AdamVectorsRefIdeal.τ Cert.AdamVectorsRefIdeal.sig) → Buf (Elt Ideal) ℓ) (g : Dev Cert.AdamVectorsRefIdeal.nD → PrngReg), Pre_AdamVectorsRefIdeal m →
    θ_run (Cert.AdamVectorsRefIdeal.defs (F := Ideal)) (onTc (τ := Cert.AdamVectorsRefIdeal.τ) (Cert.AdamVectorsRefIdeal.main (F := Ideal))) ⟨m, fun _ => 0, g⟩ (fun r => (∀ c : Dev Cert.AdamVectorsRefIdeal.nD,
      r.2.mem ((c.tc : Thread Cert.AdamVectorsRefIdeal.nD Cert.AdamVectorsRefIdeal.τ).loc Cert.AdamVectorsRefIdeal.main_arg0) = m ((c.tc : Thread Cert.AdamVectorsRefIdeal.nD Cert.AdamVectorsRefIdeal.τ).loc Cert.AdamVectorsRefIdeal.main_arg0)
      ∧ r.2.mem ((c.tc : Thread Cert.AdamVectorsRefIdeal.nD Cert.AdamVectorsRefIdeal.τ).loc Cert.AdamVectorsRefIdeal.main_arg1) = m ((c.tc : Thread Cert.AdamVectorsRefIdeal.nD Cert.AdamVectorsRefIdeal.τ).loc Cert.AdamVectorsRefIdeal.main_arg1)
      ∧ r.2.mem ((c.tc : Thread Cert.AdamVectorsRefIdeal.nD Cert.AdamVectorsRefIdeal.τ).loc Cert.AdamVectorsRefIdeal.main_arg2) = m ((c.tc : Thread Cert.AdamVectorsRefIdeal.nD Cert.AdamVectorsRefIdeal.τ).loc Cert.AdamVectorsRefIdeal.main_arg2)
      ∧ r.2.mem ((c.tc : Thread Cert.AdamVectorsRefIdeal.nD Cert.AdamVectorsRefIdeal.τ).loc Cert.AdamVectorsRefIdeal.main_arg3) = m ((c.tc : Thread Cert.AdamVectorsRefIdeal.nD Cert.AdamVectorsRefIdeal.τ).loc Cert.AdamVectorsRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ r.2.sem = fun _ => 0)

def quiescent_AdamGatesRefIdeal [hAdamGatesRefIdeal : Cert.AdamGatesRefIdeal.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksRefIdeal [hAdamSinksRefIdeal : Cert.AdamSinksRefIdeal.Facts] : Prop :=
  ∀ (m : (ℓ : Loc Cert.AdamSinksRefIdeal.nD Cert.AdamSinksRefIdeal.τ Cert.AdamSinksRefIdeal.sig) → Buf (Elt Ideal) ℓ) (g : Dev Cert.AdamSinksRefIdeal.nD → PrngReg), Pre_AdamSinksRefIdeal m →
    θ_run (Cert.AdamSinksRefIdeal.defs (F := Ideal)) (onTc (τ := Cert.AdamSinksRefIdeal.τ) (Cert.AdamSinksRefIdeal.main (F := Ideal))) ⟨m, fun _ => 0, g⟩ (fun r => (∀ c : Dev Cert.AdamSinksRefIdeal.nD,
      r.2.mem ((c.tc : Thread Cert.AdamSinksRefIdeal.nD Cert.AdamSinksRefIdeal.τ).loc Cert.AdamSinksRefIdeal.main_arg0) = m ((c.tc : Thread Cert.AdamSinksRefIdeal.nD Cert.AdamSinksRefIdeal.τ).loc Cert.AdamSinksRefIdeal.main_arg0)
      ∧ r.2.mem ((c.tc : Thread Cert.AdamSinksRefIdeal.nD Cert.AdamSinksRefIdeal.τ).loc Cert.AdamSinksRefIdeal.main_arg1) = m ((c.tc : Thread Cert.AdamSinksRefIdeal.nD Cert.AdamSinksRefIdeal.τ).loc Cert.AdamSinksRefIdeal.main_arg1)
      ∧ r.2.mem ((c.tc : Thread Cert.AdamSinksRefIdeal.nD Cert.AdamSinksRefIdeal.τ).loc Cert.AdamSinksRefIdeal.main_arg2) = m ((c.tc : Thread Cert.AdamSinksRefIdeal.nD Cert.AdamSinksRefIdeal.τ).loc Cert.AdamSinksRefIdeal.main_arg2)
      ∧ r.2.mem ((c.tc : Thread Cert.AdamSinksRefIdeal.nD Cert.AdamSinksRefIdeal.τ).loc Cert.AdamSinksRefIdeal.main_arg3) = m ((c.tc : Thread Cert.AdamSinksRefIdeal.nD Cert.AdamSinksRefIdeal.τ).loc Cert.AdamSinksRefIdeal.main_arg3))
      ∧ r.2.sem = fun _ => 0)

def quiescent_ChipSumIn [hChipSumIn : Cert.ChipSumIn.Facts] : Prop :=
  ∀ (m : (ℓ : Loc Cert.ChipSumIn.nD Cert.ChipSumIn.τ Cert.ChipSumIn.sig) → Buf (Elt Bits) ℓ) (g : Dev Cert.ChipSumIn.nD → PrngReg), Pre_ChipSumIn m →
    θ_run (Cert.ChipSumIn.defs (F := Bits)) (onTc (τ := Cert.ChipSumIn.τ) (Cert.ChipSumIn.main (F := Bits))) ⟨m, fun _ => 0, g⟩ (fun r => (∀ c : Dev Cert.ChipSumIn.nD,
      r.2.mem ((c.tc : Thread Cert.ChipSumIn.nD Cert.ChipSumIn.τ).loc Cert.ChipSumIn.main_arg0) = m ((c.tc : Thread Cert.ChipSumIn.nD Cert.ChipSumIn.τ).loc Cert.ChipSumIn.main_arg0)
      ∧ r.2.mem ((c.tc : Thread Cert.ChipSumIn.nD Cert.ChipSumIn.τ).loc Cert.ChipSumIn.main_arg1) = m ((c.tc : Thread Cert.ChipSumIn.nD Cert.ChipSumIn.τ).loc Cert.ChipSumIn.main_arg1)
      ∧ r.2.mem ((c.tc : Thread Cert.ChipSumIn.nD Cert.ChipSumIn.τ).loc Cert.ChipSumIn.main_arg2) = m ((c.tc : Thread Cert.ChipSumIn.nD Cert.ChipSumIn.τ).loc Cert.ChipSumIn.main_arg2)
      ∧ r.2.mem ((c.tc : Thread Cert.ChipSumIn.nD Cert.ChipSumIn.τ).loc Cert.ChipSumIn.main_arg3) = m ((c.tc : Thread Cert.ChipSumIn.nD Cert.ChipSumIn.τ).loc Cert.ChipSumIn.main_arg3))
      ∧ r.2.sem = fun _ => 0)

def quiescent_ChipSumInIdeal [hChipSumInIdeal : Cert.ChipSumInIdeal.Facts] : Prop :=
  ∀ (m : (ℓ : Loc Cert.ChipSumInIdeal.nD Cert.ChipSumInIdeal.τ Cert.ChipSumInIdeal.sig) → Buf (Elt Ideal) ℓ) (g : Dev Cert.ChipSumInIdeal.nD → PrngReg), Pre_ChipSumInIdeal m →
    θ_run (Cert.ChipSumInIdeal.defs (F := Ideal)) (onTc (τ := Cert.ChipSumInIdeal.τ) (Cert.ChipSumInIdeal.main (F := Ideal))) ⟨m, fun _ => 0, g⟩ (fun r => (∀ c : Dev Cert.ChipSumInIdeal.nD,
      r.2.mem ((c.tc : Thread Cert.ChipSumInIdeal.nD Cert.ChipSumInIdeal.τ).loc Cert.ChipSumInIdeal.main_arg0) = m ((c.tc : Thread Cert.ChipSumInIdeal.nD Cert.ChipSumInIdeal.τ).loc Cert.ChipSumInIdeal.main_arg0)
      ∧ r.2.mem ((c.tc : Thread Cert.ChipSumInIdeal.nD Cert.ChipSumInIdeal.τ).loc Cert.ChipSumInIdeal.main_arg1) = m ((c.tc : Thread Cert.ChipSumInIdeal.nD Cert.ChipSumInIdeal.τ).loc Cert.ChipSumInIdeal.main_arg1)
      ∧ r.2.mem ((c.tc : Thread Cert.ChipSumInIdeal.nD Cert.ChipSumInIdeal.τ).loc Cert.ChipSumInIdeal.main_arg2) = m ((c.tc : Thread Cert.ChipSumInIdeal.nD Cert.ChipSumInIdeal.τ).loc Cert.ChipSumInIdeal.main_arg2)
      ∧ r.2.mem ((c.tc : Thread Cert.ChipSumInIdeal.nD Cert.ChipSumInIdeal.τ).loc Cert.ChipSumInIdeal.main_arg3) = m ((c.tc : Thread Cert.ChipSumInIdeal.nD Cert.ChipSumInIdeal.τ).loc Cert.ChipSumInIdeal.main_arg3))
      ∧ r.2.sem = fun _ => 0)

def quiescent_ChipSumInRefIdeal [hChipSumInRefIdeal : Cert.ChipSumInRefIdeal.Facts] : Prop :=
  ∀ (m : (ℓ : Loc Cert.ChipSumInRefIdeal.nD Cert.ChipSumInRefIdeal.τ Cert.ChipSumInRefIdeal.sig) → Buf (Elt Ideal) ℓ) (g : Dev Cert.ChipSumInRefIdeal.nD → PrngReg), Pre_ChipSumInRefIdeal m →
    θ_run (Cert.ChipSumInRefIdeal.defs (F := Ideal)) (onTc (τ := Cert.ChipSumInRefIdeal.τ) (Cert.ChipSumInRefIdeal.main (F := Ideal))) ⟨m, fun _ => 0, g⟩ (fun r => (∀ c : Dev Cert.ChipSumInRefIdeal.nD,
      r.2.mem ((c.tc : Thread Cert.ChipSumInRefIdeal.nD Cert.ChipSumInRefIdeal.τ).loc Cert.ChipSumInRefIdeal.main_arg0) = m ((c.tc : Thread Cert.ChipSumInRefIdeal.nD Cert.ChipSumInRefIdeal.τ).loc Cert.ChipSumInRefIdeal.main_arg0)
      ∧ r.2.mem ((c.tc : Thread Cert.ChipSumInRefIdeal.nD Cert.ChipSumInRefIdeal.τ).loc Cert.ChipSumInRefIdeal.main_arg1) = m ((c.tc : Thread Cert.ChipSumInRefIdeal.nD Cert.ChipSumInRefIdeal.τ).loc Cert.ChipSumInRefIdeal.main_arg1)
      ∧ r.2.mem ((c.tc : Thread Cert.ChipSumInRefIdeal.nD Cert.ChipSumInRefIdeal.τ).loc Cert.ChipSumInRefIdeal.main_arg2) = m ((c.tc : Thread Cert.ChipSumInRefIdeal.nD Cert.ChipSumInRefIdeal.τ).loc Cert.ChipSumInRefIdeal.main_arg2)
      ∧ r.2.mem ((c.tc : Thread Cert.ChipSumInRefIdeal.nD Cert.ChipSumInRefIdeal.τ).loc Cert.ChipSumInRefIdeal.main_arg3) = m ((c.tc : Thread Cert.ChipSumInRefIdeal.nD Cert.ChipSumInRefIdeal.τ).loc Cert.ChipSumInRefIdeal.main_arg3))
      ∧ r.2.sem = fun _ => 0)

def quiescent_ChipSumBranch [hChipSumBranch : Cert.ChipSumBranch.Facts] : Prop :=
  ∀ (m : (ℓ : Loc Cert.ChipSumBranch.nD Cert.ChipSumBranch.τ Cert.ChipSumBranch.sig) → Buf (Elt Bits) ℓ) (g : Dev Cert.ChipSumBranch.nD → PrngReg), Pre_ChipSumBranch m →
    θ_run (Cert.ChipSumBranch.defs (F := Bits)) (onTc (τ := Cert.ChipSumBranch.τ) (Cert.ChipSumBranch.main (F := Bits))) ⟨m, fun _ => 0, g⟩ (fun r => (∀ c : Dev Cert.ChipSumBranch.nD,
      r.2.mem ((c.tc : Thread Cert.ChipSumBranch.nD Cert.ChipSumBranch.τ).loc Cert.ChipSumBranch.main_arg0) = m ((c.tc : Thread Cert.ChipSumBranch.nD Cert.ChipSumBranch.τ).loc Cert.ChipSumBranch.main_arg0)
      ∧ r.2.mem ((c.tc : Thread Cert.ChipSumBranch.nD Cert.ChipSumBranch.τ).loc Cert.ChipSumBranch.main_arg1) = m ((c.tc : Thread Cert.ChipSumBranch.nD Cert.ChipSumBranch.τ).loc Cert.ChipSumBranch.main_arg1)
      ∧ r.2.mem ((c.tc : Thread Cert.ChipSumBranch.nD Cert.ChipSumBranch.τ).loc Cert.ChipSumBranch.main_arg2) = m ((c.tc : Thread Cert.ChipSumBranch.nD Cert.ChipSumBranch.τ).loc Cert.ChipSumBranch.main_arg2)
      ∧ r.2.mem ((c.tc : Thread Cert.ChipSumBranch.nD Cert.ChipSumBranch.τ).loc Cert.ChipSumBranch.main_arg3) = m ((c.tc : Thread Cert.ChipSumBranch.nD Cert.ChipSumBranch.τ).loc Cert.ChipSumBranch.main_arg3))
      ∧ r.2.sem = fun _ => 0)

def quiescent_ChipSumBranchIdeal [hChipSumBranchIdeal : Cert.ChipSumBranchIdeal.Facts] : Prop :=
  ∀ (m : (ℓ : Loc Cert.ChipSumBranchIdeal.nD Cert.ChipSumBranchIdeal.τ Cert.ChipSumBranchIdeal.sig) → Buf (Elt Ideal) ℓ) (g : Dev Cert.ChipSumBranchIdeal.nD → PrngReg), Pre_ChipSumBranchIdeal m →
    θ_run (Cert.ChipSumBranchIdeal.defs (F := Ideal)) (onTc (τ := Cert.ChipSumBranchIdeal.τ) (Cert.ChipSumBranchIdeal.main (F := Ideal))) ⟨m, fun _ => 0, g⟩ (fun r => (∀ c : Dev Cert.ChipSumBranchIdeal.nD,
      r.2.mem ((c.tc : Thread Cert.ChipSumBranchIdeal.nD Cert.ChipSumBranchIdeal.τ).loc Cert.ChipSumBranchIdeal.main_arg0) = m ((c.tc : Thread Cert.ChipSumBranchIdeal.nD Cert.ChipSumBranchIdeal.τ).loc Cert.ChipSumBranchIdeal.main_arg0)
      ∧ r.2.mem ((c.tc : Thread Cert.ChipSumBranchIdeal.nD Cert.ChipSumBranchIdeal.τ).loc Cert.ChipSumBranchIdeal.main_arg1) = m ((c.tc : Thread Cert.ChipSumBranchIdeal.nD Cert.ChipSumBranchIdeal.τ).loc Cert.ChipSumBranchIdeal.main_arg1)
      ∧ r.2.mem ((c.tc : Thread Cert.ChipSumBranchIdeal.nD Cert.ChipSumBranchIdeal.τ).loc Cert.ChipSumBranchIdeal.main_arg2) = m ((c.tc : Thread Cert.ChipSumBranchIdeal.nD Cert.ChipSumBranchIdeal.τ).loc Cert.ChipSumBranchIdeal.main_arg2)
      ∧ r.2.mem ((c.tc : Thread Cert.ChipSumBranchIdeal.nD Cert.ChipSumBranchIdeal.τ).loc Cert.ChipSumBranchIdeal.main_arg3) = m ((c.tc : Thread Cert.ChipSumBranchIdeal.nD Cert.ChipSumBranchIdeal.τ).loc Cert.ChipSumBranchIdeal.main_arg3))
      ∧ r.2.sem = fun _ => 0)

def quiescent_ChipSumBranchRefIdeal [hChipSumBranchRefIdeal : Cert.ChipSumBranchRefIdeal.Facts] : Prop :=
  ∀ (m : (ℓ : Loc Cert.ChipSumBranchRefIdeal.nD Cert.ChipSumBranchRefIdeal.τ Cert.ChipSumBranchRefIdeal.sig) → Buf (Elt Ideal) ℓ) (g : Dev Cert.ChipSumBranchRefIdeal.nD → PrngReg), Pre_ChipSumBranchRefIdeal m →
    θ_run (Cert.ChipSumBranchRefIdeal.defs (F := Ideal)) (onTc (τ := Cert.ChipSumBranchRefIdeal.τ) (Cert.ChipSumBranchRefIdeal.main (F := Ideal))) ⟨m, fun _ => 0, g⟩ (fun r => (∀ c : Dev Cert.ChipSumBranchRefIdeal.nD,
      r.2.mem ((c.tc : Thread Cert.ChipSumBranchRefIdeal.nD Cert.ChipSumBranchRefIdeal.τ).loc Cert.ChipSumBranchRefIdeal.main_arg0) = m ((c.tc : Thread Cert.ChipSumBranchRefIdeal.nD Cert.ChipSumBranchRefIdeal.τ).loc Cert.ChipSumBranchRefIdeal.main_arg0)
      ∧ r.2.mem ((c.tc : Thread Cert.ChipSumBranchRefIdeal.nD Cert.ChipSumBranchRefIdeal.τ).loc Cert.ChipSumBranchRefIdeal.main_arg1) = m ((c.tc : Thread Cert.ChipSumBranchRefIdeal.nD Cert.ChipSumBranchRefIdeal.τ).loc Cert.ChipSumBranchRefIdeal.main_arg1)
      ∧ r.2.mem ((c.tc : Thread Cert.ChipSumBranchRefIdeal.nD Cert.ChipSumBranchRefIdeal.τ).loc Cert.ChipSumBranchRefIdeal.main_arg2) = m ((c.tc : Thread Cert.ChipSumBranchRefIdeal.nD Cert.ChipSumBranchRefIdeal.τ).loc Cert.ChipSumBranchRefIdeal.main_arg2)
      ∧ r.2.mem ((c.tc : Thread Cert.ChipSumBranchRefIdeal.nD Cert.ChipSumBranchRefIdeal.τ).loc Cert.ChipSumBranchRefIdeal.main_arg3) = m ((c.tc : Thread Cert.ChipSumBranchRefIdeal.nD Cert.ChipSumBranchRefIdeal.τ).loc Cert.ChipSumBranchRefIdeal.main_arg3))
      ∧ r.2.sem = fun _ => 0)

def quiescent_ChipSumOut [hChipSumOut : Cert.ChipSumOut.Facts] : Prop :=
  ∀ (m : (ℓ : Loc Cert.ChipSumOut.nD Cert.ChipSumOut.τ Cert.ChipSumOut.sig) → Buf (Elt Bits) ℓ) (g : Dev Cert.ChipSumOut.nD → PrngReg), Pre_ChipSumOut m →
    θ_run (Cert.ChipSumOut.defs (F := Bits)) (onTc (τ := Cert.ChipSumOut.τ) (Cert.ChipSumOut.main (F := Bits))) ⟨m, fun _ => 0, g⟩ (fun r => (∀ c : Dev Cert.ChipSumOut.nD,
      r.2.mem ((c.tc : Thread Cert.ChipSumOut.nD Cert.ChipSumOut.τ).loc Cert.ChipSumOut.main_arg0) = m ((c.tc : Thread Cert.ChipSumOut.nD Cert.ChipSumOut.τ).loc Cert.ChipSumOut.main_arg0)
      ∧ r.2.mem ((c.tc : Thread Cert.ChipSumOut.nD Cert.ChipSumOut.τ).loc Cert.ChipSumOut.main_arg1) = m ((c.tc : Thread Cert.ChipSumOut.nD Cert.ChipSumOut.τ).loc Cert.ChipSumOut.main_arg1)
      ∧ r.2.mem ((c.tc : Thread Cert.ChipSumOut.nD Cert.ChipSumOut.τ).loc Cert.ChipSumOut.main_arg2) = m ((c.tc : Thread Cert.ChipSumOut.nD Cert.ChipSumOut.τ).loc Cert.ChipSumOut.main_arg2)
      ∧ r.2.mem ((c.tc : Thread Cert.ChipSumOut.nD Cert.ChipSumOut.τ).loc Cert.ChipSumOut.main_arg3) = m ((c.tc : Thread Cert.ChipSumOut.nD Cert.ChipSumOut.τ).loc Cert.ChipSumOut.main_arg3))
      ∧ r.2.sem = fun _ => 0)

def quiescent_ChipSumOutIdeal [hChipSumOutIdeal : Cert.ChipSumOutIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg), Pre_ChipSumOutIdeal m →
    θ_run (Cert.ChipSumOutIdeal.defs (F := Ideal)) (onTc (τ := Cert.ChipSumOutIdeal.τ) (Cert.ChipSumOutIdeal.main (F := Ideal))) ⟨m, fun _ => 0, g⟩ (fun r => (∀ c : Dev Cert.ChipSumOutIdeal.nD,
      r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0)
      ∧ r.2.mem ((c.tc : Thread Cert.ChipSumOutIdeal.nD Cert.ChipSumOutIdeal.τ).loc Cert.ChipSumOutIdeal.main_arg1) = m ((c.tc : Thread Cert.ChipSumOutIdeal.nD Cert.ChipSumOutIdeal.τ).loc Cert.ChipSumOutIdeal.main_arg1)
      ∧ r.2.mem ((c.tc : Thread Cert.ChipSumOutIdeal.nD Cert.ChipSumOutIdeal.τ).loc Cert.ChipSumOutIdeal.main_arg2) = m ((c.tc : Thread Cert.ChipSumOutIdeal.nD Cert.ChipSumOutIdeal.τ).loc Cert.ChipSumOutIdeal.main_arg2)
      ∧ r.2.mem ((c.tc : Thread Cert.ChipSumOutIdeal.nD Cert.ChipSumOutIdeal.τ).loc Cert.ChipSumOutIdeal.main_arg3) = m ((c.tc : Thread Cert.ChipSumOutIdeal.nD Cert.ChipSumOutIdeal.τ).loc Cert.ChipSumOutIdeal.main_arg3))
      ∧ r.2.sem = fun _ => 0)

def quiescent_ChipSumOutRefIdeal [hChipSumOutRefIdeal : Cert.ChipSumOutRefIdeal.Facts] : Prop :=
  ∀ (m : (ℓ : Loc Cert.ChipSumOutRefIdeal.nD Cert.ChipSumOutRefIdeal.τ Cert.ChipSumOutRefIdeal.sig) → Buf (Elt Ideal) ℓ) (g : Dev Cert.ChipSumOutRefIdeal.nD → PrngReg), Pre_ChipSumOutRefIdeal m →
    θ_run (Cert.ChipSumOutRefIdeal.defs (F := Ideal)) (onTc (τ := Cert.ChipSumOutRefIdeal.τ) (Cert.ChipSumOutRefIdeal.main (F := Ideal))) ⟨m, fun _ => 0, g⟩ (fun r => (∀ c : Dev Cert.ChipSumOutRefIdeal.nD,
      r.2.mem ((c.tc : Thread Cert.ChipSumOutRefIdeal.nD Cert.ChipSumOutRefIdeal.τ).loc Cert.ChipSumOutRefIdeal.main_arg0) = m ((c.tc : Thread Cert.ChipSumOutRefIdeal.nD Cert.ChipSumOutRefIdeal.τ).loc Cert.ChipSumOutRefIdeal.main_arg0)
      ∧ r.2.mem ((c.tc : Thread Cert.ChipSumOutRefIdeal.nD Cert.ChipSumOutRefIdeal.τ).loc Cert.ChipSumOutRefIdeal.main_arg1) = m ((c.tc : Thread Cert.ChipSumOutRefIdeal.nD Cert.ChipSumOutRefIdeal.τ).loc Cert.ChipSumOutRefIdeal.main_arg1)
      ∧ r.2.mem ((c.tc : Thread Cert.ChipSumOutRefIdeal.nD Cert.ChipSumOutRefIdeal.τ).loc Cert.ChipSumOutRefIdeal.main_arg2) = m ((c.tc : Thread Cert.ChipSumOutRefIdeal.nD Cert.ChipSumOutRefIdeal.τ).loc Cert.ChipSumOutRefIdeal.main_arg2)
      ∧ r.2.mem ((c.tc : Thread Cert.ChipSumOutRefIdeal.nD Cert.ChipSumOutRefIdeal.τ).loc Cert.ChipSumOutRefIdeal.main_arg3) = m ((c.tc : Thread Cert.ChipSumOutRefIdeal.nD Cert.ChipSumOutRefIdeal.τ).loc Cert.ChipSumOutRefIdeal.main_arg3))
      ∧ r.2.sem = fun _ => 0)

def quiescent_ChipSumFfnIn [hChipSumFfnIn : Cert.ChipSumFfnIn.Facts] : Prop :=
  ∀ (m : (ℓ : Loc Cert.ChipSumFfnIn.nD Cert.ChipSumFfnIn.τ Cert.ChipSumFfnIn.sig) → Buf (Elt Bits) ℓ) (g : Dev Cert.ChipSumFfnIn.nD → PrngReg), Pre_ChipSumFfnIn m →
    θ_run (Cert.ChipSumFfnIn.defs (F := Bits)) (onTc (τ := Cert.ChipSumFfnIn.τ) (Cert.ChipSumFfnIn.main (F := Bits))) ⟨m, fun _ => 0, g⟩ (fun r => (∀ c : Dev Cert.ChipSumFfnIn.nD,
      r.2.mem ((c.tc : Thread Cert.ChipSumFfnIn.nD Cert.ChipSumFfnIn.τ).loc Cert.ChipSumFfnIn.main_arg0) = m ((c.tc : Thread Cert.ChipSumFfnIn.nD Cert.ChipSumFfnIn.τ).loc Cert.ChipSumFfnIn.main_arg0)
      ∧ r.2.mem ((c.tc : Thread Cert.ChipSumFfnIn.nD Cert.ChipSumFfnIn.τ).loc Cert.ChipSumFfnIn.main_arg1) = m ((c.tc : Thread Cert.ChipSumFfnIn.nD Cert.ChipSumFfnIn.τ).loc Cert.ChipSumFfnIn.main_arg1)
      ∧ r.2.mem ((c.tc : Thread Cert.ChipSumFfnIn.nD Cert.ChipSumFfnIn.τ).loc Cert.ChipSumFfnIn.main_arg2) = m ((c.tc : Thread Cert.ChipSumFfnIn.nD Cert.ChipSumFfnIn.τ).loc Cert.ChipSumFfnIn.main_arg2)
      ∧ r.2.mem ((c.tc : Thread Cert.ChipSumFfnIn.nD Cert.ChipSumFfnIn.τ).loc Cert.ChipSumFfnIn.main_arg3) = m ((c.tc : Thread Cert.ChipSumFfnIn.nD Cert.ChipSumFfnIn.τ).loc Cert.ChipSumFfnIn.main_arg3))
      ∧ r.2.sem = fun _ => 0)

def quiescent_ChipSumFfnInIdeal [hChipSumFfnInIdeal : Cert.ChipSumFfnInIdeal.Facts] : Prop :=
  ∀ (m : (ℓ : Loc Cert.ChipSumFfnInIdeal.nD Cert.ChipSumFfnInIdeal.τ Cert.ChipSumFfnInIdeal.sig) → Buf (Elt Ideal) ℓ) (g : Dev Cert.ChipSumFfnInIdeal.nD → PrngReg), Pre_ChipSumFfnInIdeal m →
    θ_run (Cert.ChipSumFfnInIdeal.defs (F := Ideal)) (onTc (τ := Cert.ChipSumFfnInIdeal.τ) (Cert.ChipSumFfnInIdeal.main (F := Ideal))) ⟨m, fun _ => 0, g⟩ (fun r => (∀ c : Dev Cert.ChipSumFfnInIdeal.nD,
      r.2.mem ((c.tc : Thread Cert.ChipSumFfnInIdeal.nD Cert.ChipSumFfnInIdeal.τ).loc Cert.ChipSumFfnInIdeal.main_arg0) = m ((c.tc : Thread Cert.ChipSumFfnInIdeal.nD Cert.ChipSumFfnInIdeal.τ).loc Cert.ChipSumFfnInIdeal.main_arg0)
      ∧ r.2.mem ((c.tc : Thread Cert.ChipSumFfnInIdeal.nD Cert.ChipSumFfnInIdeal.τ).loc Cert.ChipSumFfnInIdeal.main_arg1) = m ((c.tc : Thread Cert.ChipSumFfnInIdeal.nD Cert.ChipSumFfnInIdeal.τ).loc Cert.ChipSumFfnInIdeal.main_arg1)
      ∧ r.2.mem ((c.tc : Thread Cert.ChipSumFfnInIdeal.nD Cert.ChipSumFfnInIdeal.τ).loc Cert.ChipSumFfnInIdeal.main_arg2) = m ((c.tc : Thread Cert.ChipSumFfnInIdeal.nD Cert.ChipSumFfnInIdeal.τ).loc Cert.ChipSumFfnInIdeal.main_arg2)
      ∧ r.2.mem ((c.tc : Thread Cert.ChipSumFfnInIdeal.nD Cert.ChipSumFfnInIdeal.τ).loc Cert.ChipSumFfnInIdeal.main_arg3) = m ((c.tc : Thread Cert.ChipSumFfnInIdeal.nD Cert.ChipSumFfnInIdeal.τ).loc Cert.ChipSumFfnInIdeal.main_arg3))
      ∧ r.2.sem = fun _ => 0)

def quiescent_ChipSumFfnInRefIdeal [hChipSumFfnInRefIdeal : Cert.ChipSumFfnInRefIdeal.Facts] : Prop :=
  ∀ (m : (ℓ : Loc Cert.ChipSumFfnInRefIdeal.nD Cert.ChipSumFfnInRefIdeal.τ Cert.ChipSumFfnInRefIdeal.sig) → Buf (Elt Ideal) ℓ) (g : Dev Cert.ChipSumFfnInRefIdeal.nD → PrngReg), Pre_ChipSumFfnInRefIdeal m →
    θ_run (Cert.ChipSumFfnInRefIdeal.defs (F := Ideal)) (onTc (τ := Cert.ChipSumFfnInRefIdeal.τ) (Cert.ChipSumFfnInRefIdeal.main (F := Ideal))) ⟨m, fun _ => 0, g⟩ (fun r => (∀ c : Dev Cert.ChipSumFfnInRefIdeal.nD,
      r.2.mem ((c.tc : Thread Cert.ChipSumFfnInRefIdeal.nD Cert.ChipSumFfnInRefIdeal.τ).loc Cert.ChipSumFfnInRefIdeal.main_arg0) = m ((c.tc : Thread Cert.ChipSumFfnInRefIdeal.nD Cert.ChipSumFfnInRefIdeal.τ).loc Cert.ChipSumFfnInRefIdeal.main_arg0)
      ∧ r.2.mem ((c.tc : Thread Cert.ChipSumFfnInRefIdeal.nD Cert.ChipSumFfnInRefIdeal.τ).loc Cert.ChipSumFfnInRefIdeal.main_arg1) = m ((c.tc : Thread Cert.ChipSumFfnInRefIdeal.nD Cert.ChipSumFfnInRefIdeal.τ).loc Cert.ChipSumFfnInRefIdeal.main_arg1)
      ∧ r.2.mem ((c.tc : Thread Cert.ChipSumFfnInRefIdeal.nD Cert.ChipSumFfnInRefIdeal.τ).loc Cert.ChipSumFfnInRefIdeal.main_arg2) = m ((c.tc : Thread Cert.ChipSumFfnInRefIdeal.nD Cert.ChipSumFfnInRefIdeal.τ).loc Cert.ChipSumFfnInRefIdeal.main_arg2)
      ∧ r.2.mem ((c.tc : Thread Cert.ChipSumFfnInRefIdeal.nD Cert.ChipSumFfnInRefIdeal.τ).loc Cert.ChipSumFfnInRefIdeal.main_arg3) = m ((c.tc : Thread Cert.ChipSumFfnInRefIdeal.nD Cert.ChipSumFfnInRefIdeal.τ).loc Cert.ChipSumFfnInRefIdeal.main_arg3))
      ∧ r.2.sem = fun _ => 0)

def quiescent_ChipSumFfnOut [hChipSumFfnOut : Cert.ChipSumFfnOut.Facts] : Prop :=
  ∀ (m : (ℓ : Loc Cert.ChipSumFfnOut.nD Cert.ChipSumFfnOut.τ Cert.ChipSumFfnOut.sig) → Buf (Elt Bits) ℓ) (g : Dev Cert.ChipSumFfnOut.nD → PrngReg), Pre_ChipSumFfnOut m →
    θ_run (Cert.ChipSumFfnOut.defs (F := Bits)) (onTc (τ := Cert.ChipSumFfnOut.τ) (Cert.ChipSumFfnOut.main (F := Bits))) ⟨m, fun _ => 0, g⟩ (fun r => (∀ c : Dev Cert.ChipSumFfnOut.nD,
      r.2.mem ((c.tc : Thread Cert.ChipSumFfnOut.nD Cert.ChipSumFfnOut.τ).loc Cert.ChipSumFfnOut.main_arg0) = m ((c.tc : Thread Cert.ChipSumFfnOut.nD Cert.ChipSumFfnOut.τ).loc Cert.ChipSumFfnOut.main_arg0)
      ∧ r.2.mem ((c.tc : Thread Cert.ChipSumFfnOut.nD Cert.ChipSumFfnOut.τ).loc Cert.ChipSumFfnOut.main_arg1) = m ((c.tc : Thread Cert.ChipSumFfnOut.nD Cert.ChipSumFfnOut.τ).loc Cert.ChipSumFfnOut.main_arg1)
      ∧ r.2.mem ((c.tc : Thread Cert.ChipSumFfnOut.nD Cert.ChipSumFfnOut.τ).loc Cert.ChipSumFfnOut.main_arg2) = m ((c.tc : Thread Cert.ChipSumFfnOut.nD Cert.ChipSumFfnOut.τ).loc Cert.ChipSumFfnOut.main_arg2)
      ∧ r.2.mem ((c.tc : Thread Cert.ChipSumFfnOut.nD Cert.ChipSumFfnOut.τ).loc Cert.ChipSumFfnOut.main_arg3) = m ((c.tc : Thread Cert.ChipSumFfnOut.nD Cert.ChipSumFfnOut.τ).loc Cert.ChipSumFfnOut.main_arg3))
      ∧ r.2.sem = fun _ => 0)

def quiescent_ChipSumFfnOutIdeal [hChipSumFfnOutIdeal : Cert.ChipSumFfnOutIdeal.Facts] : Prop :=
  ∀ (m : (ℓ : Loc Cert.ChipSumFfnOutIdeal.nD Cert.ChipSumFfnOutIdeal.τ Cert.ChipSumFfnOutIdeal.sig) → Buf (Elt Ideal) ℓ) (g : Dev Cert.ChipSumFfnOutIdeal.nD → PrngReg), Pre_ChipSumFfnOutIdeal m →
    θ_run (Cert.ChipSumFfnOutIdeal.defs (F := Ideal)) (onTc (τ := Cert.ChipSumFfnOutIdeal.τ) (Cert.ChipSumFfnOutIdeal.main (F := Ideal))) ⟨m, fun _ => 0, g⟩ (fun r => (∀ c : Dev Cert.ChipSumFfnOutIdeal.nD,
      r.2.mem ((c.tc : Thread Cert.ChipSumFfnOutIdeal.nD Cert.ChipSumFfnOutIdeal.τ).loc Cert.ChipSumFfnOutIdeal.main_arg0) = m ((c.tc : Thread Cert.ChipSumFfnOutIdeal.nD Cert.ChipSumFfnOutIdeal.τ).loc Cert.ChipSumFfnOutIdeal.main_arg0)
      ∧ r.2.mem ((c.tc : Thread Cert.ChipSumFfnOutIdeal.nD Cert.ChipSumFfnOutIdeal.τ).loc Cert.ChipSumFfnOutIdeal.main_arg1) = m ((c.tc : Thread Cert.ChipSumFfnOutIdeal.nD Cert.ChipSumFfnOutIdeal.τ).loc Cert.ChipSumFfnOutIdeal.main_arg1)
      ∧ r.2.mem ((c.tc : Thread Cert.ChipSumFfnOutIdeal.nD Cert.ChipSumFfnOutIdeal.τ).loc Cert.ChipSumFfnOutIdeal.main_arg2) = m ((c.tc : Thread Cert.ChipSumFfnOutIdeal.nD Cert.ChipSumFfnOutIdeal.τ).loc Cert.ChipSumFfnOutIdeal.main_arg2)
      ∧ r.2.mem ((c.tc : Thread Cert.ChipSumFfnOutIdeal.nD Cert.ChipSumFfnOutIdeal.τ).loc Cert.ChipSumFfnOutIdeal.main_arg3) = m ((c.tc : Thread Cert.ChipSumFfnOutIdeal.nD Cert.ChipSumFfnOutIdeal.τ).loc Cert.ChipSumFfnOutIdeal.main_arg3))
      ∧ r.2.sem = fun _ => 0)

def quiescent_ChipSumFfnOutRefIdeal [hChipSumFfnOutRefIdeal : Cert.ChipSumFfnOutRefIdeal.Facts] : Prop :=
  ∀ (m : (ℓ : Loc Cert.ChipSumFfnOutRefIdeal.nD Cert.ChipSumFfnOutRefIdeal.τ Cert.ChipSumFfnOutRefIdeal.sig) → Buf (Elt Ideal) ℓ) (g : Dev Cert.ChipSumFfnOutRefIdeal.nD → PrngReg), Pre_ChipSumFfnOutRefIdeal m →
    θ_run (Cert.ChipSumFfnOutRefIdeal.defs (F := Ideal)) (onTc (τ := Cert.ChipSumFfnOutRefIdeal.τ) (Cert.ChipSumFfnOutRefIdeal.main (F := Ideal))) ⟨m, fun _ => 0, g⟩ (fun r => (∀ c : Dev Cert.ChipSumFfnOutRefIdeal.nD,
      r.2.mem ((c.tc : Thread Cert.ChipSumFfnOutRefIdeal.nD Cert.ChipSumFfnOutRefIdeal.τ).loc Cert.ChipSumFfnOutRefIdeal.main_arg0) = m ((c.tc : Thread Cert.ChipSumFfnOutRefIdeal.nD Cert.ChipSumFfnOutRefIdeal.τ).loc Cert.ChipSumFfnOutRefIdeal.main_arg0)
      ∧ r.2.mem ((c.tc : Thread Cert.ChipSumFfnOutRefIdeal.nD Cert.ChipSumFfnOutRefIdeal.τ).loc Cert.ChipSumFfnOutRefIdeal.main_arg1) = m ((c.tc : Thread Cert.ChipSumFfnOutRefIdeal.nD Cert.ChipSumFfnOutRefIdeal.τ).loc Cert.ChipSumFfnOutRefIdeal.main_arg1)
      ∧ r.2.mem ((c.tc : Thread Cert.ChipSumFfnOutRefIdeal.nD Cert.ChipSumFfnOutRefIdeal.τ).loc Cert.ChipSumFfnOutRefIdeal.main_arg2) = m ((c.tc : Thread Cert.ChipSumFfnOutRefIdeal.nD Cert.ChipSumFfnOutRefIdeal.τ).loc Cert.ChipSumFfnOutRefIdeal.main_arg2)
      ∧ r.2.mem ((c.tc : Thread Cert.ChipSumFfnOutRefIdeal.nD Cert.ChipSumFfnOutRefIdeal.τ).loc Cert.ChipSumFfnOutRefIdeal.main_arg3) = m ((c.tc : Thread Cert.ChipSumFfnOutRefIdeal.nD Cert.ChipSumFfnOutRefIdeal.τ).loc Cert.ChipSumFfnOutRefIdeal.main_arg3))
      ∧ r.2.sem = fun _ => 0)

def quiescent_SmallPairSum [hSmallPairSum : Cert.SmallPairSum.Facts] : Prop :=
  ∀ (m : (ℓ : Loc Cert.SmallPairSum.nD Cert.SmallPairSum.τ Cert.SmallPairSum.sig) → Buf (Elt Bits) ℓ) (g : Dev Cert.SmallPairSum.nD → PrngReg), Pre_SmallPairSum m →
    θ_run (Cert.SmallPairSum.defs (F := Bits)) (onTc (τ := Cert.SmallPairSum.τ) (Cert.SmallPairSum.main (F := Bits))) ⟨m, fun _ => 0, g⟩ (fun r => (∀ c : Dev Cert.SmallPairSum.nD,
      r.2.mem ((c.tc : Thread Cert.SmallPairSum.nD Cert.SmallPairSum.τ).loc Cert.SmallPairSum.main_arg0) = m ((c.tc : Thread Cert.SmallPairSum.nD Cert.SmallPairSum.τ).loc Cert.SmallPairSum.main_arg0)
      ∧ r.2.mem ((c.tc : Thread Cert.SmallPairSum.nD Cert.SmallPairSum.τ).loc Cert.SmallPairSum.main_arg1) = m ((c.tc : Thread Cert.SmallPairSum.nD Cert.SmallPairSum.τ).loc Cert.SmallPairSum.main_arg1))
      ∧ r.2.sem = fun _ => 0)

def quiescent_SmallPairSumIdeal [hSmallPairSumIdeal : Cert.SmallPairSumIdeal.Facts] : Prop :=
  ∀ (m : (ℓ : Loc Cert.SmallPairSumIdeal.nD Cert.SmallPairSumIdeal.τ Cert.SmallPairSumIdeal.sig) → Buf (Elt Ideal) ℓ) (g : Dev Cert.SmallPairSumIdeal.nD → PrngReg), Pre_SmallPairSumIdeal m →
    θ_run (Cert.SmallPairSumIdeal.defs (F := Ideal)) (onTc (τ := Cert.SmallPairSumIdeal.τ) (Cert.SmallPairSumIdeal.main (F := Ideal))) ⟨m, fun _ => 0, g⟩ (fun r => (∀ c : Dev Cert.SmallPairSumIdeal.nD,
      r.2.mem ((c.tc : Thread Cert.SmallPairSumIdeal.nD Cert.SmallPairSumIdeal.τ).loc Cert.SmallPairSumIdeal.main_arg0) = m ((c.tc : Thread Cert.SmallPairSumIdeal.nD Cert.SmallPairSumIdeal.τ).loc Cert.SmallPairSumIdeal.main_arg0)
      ∧ r.2.mem ((c.tc : Thread Cert.SmallPairSumIdeal.nD Cert.SmallPairSumIdeal.τ).loc Cert.SmallPairSumIdeal.main_arg1) = m ((c.tc : Thread Cert.SmallPairSumIdeal.nD Cert.SmallPairSumIdeal.τ).loc Cert.SmallPairSumIdeal.main_arg1))
      ∧ r.2.sem = fun _ => 0)

def quiescent_SmallPairSumRefIdeal [hSmallPairSumRefIdeal : Cert.SmallPairSumRefIdeal.Facts] : Prop :=
  ∀ (m : (ℓ : Loc Cert.SmallPairSumRefIdeal.nD Cert.SmallPairSumRefIdeal.τ Cert.SmallPairSumRefIdeal.sig) → Buf (Elt Ideal) ℓ) (g : Dev Cert.SmallPairSumRefIdeal.nD → PrngReg), Pre_SmallPairSumRefIdeal m →
    θ_run (Cert.SmallPairSumRefIdeal.defs (F := Ideal)) (onTc (τ := Cert.SmallPairSumRefIdeal.τ) (Cert.SmallPairSumRefIdeal.main (F := Ideal))) ⟨m, fun _ => 0, g⟩ (fun r => (∀ c : Dev Cert.SmallPairSumRefIdeal.nD,
      r.2.mem ((c.tc : Thread Cert.SmallPairSumRefIdeal.nD Cert.SmallPairSumRefIdeal.τ).loc Cert.SmallPairSumRefIdeal.main_arg0) = m ((c.tc : Thread Cert.SmallPairSumRefIdeal.nD Cert.SmallPairSumRefIdeal.τ).loc Cert.SmallPairSumRefIdeal.main_arg0)
      ∧ r.2.mem ((c.tc : Thread Cert.SmallPairSumRefIdeal.nD Cert.SmallPairSumRefIdeal.τ).loc Cert.SmallPairSumRefIdeal.main_arg1) = m ((c.tc : Thread Cert.SmallPairSumRefIdeal.nD Cert.SmallPairSumRefIdeal.τ).loc Cert.SmallPairSumRefIdeal.main_arg1))
      ∧ r.2.sem = fun _ => 0)

def quiescent_SmallChipSum [hSmallChipSum : Cert.SmallChipSum.Facts] : Prop :=
  ∀ (m : (ℓ : Loc Cert.SmallChipSum.nD Cert.SmallChipSum.τ Cert.SmallChipSum.sig) → Buf (Elt Bits) ℓ) (g : Dev Cert.SmallChipSum.nD → PrngReg), Pre_SmallChipSum m →
    θ_run (Cert.SmallChipSum.defs (F := Bits)) (onTc (τ := Cert.SmallChipSum.τ) (Cert.SmallChipSum.main (F := Bits))) ⟨m, fun _ => 0, g⟩ (fun r => (∀ c : Dev Cert.SmallChipSum.nD,
      r.2.mem ((c.tc : Thread Cert.SmallChipSum.nD Cert.SmallChipSum.τ).loc Cert.SmallChipSum.main_arg0) = m ((c.tc : Thread Cert.SmallChipSum.nD Cert.SmallChipSum.τ).loc Cert.SmallChipSum.main_arg0)
      ∧ r.2.mem ((c.tc : Thread Cert.SmallChipSum.nD Cert.SmallChipSum.τ).loc Cert.SmallChipSum.main_arg1) = m ((c.tc : Thread Cert.SmallChipSum.nD Cert.SmallChipSum.τ).loc Cert.SmallChipSum.main_arg1)
      ∧ r.2.mem ((c.tc : Thread Cert.SmallChipSum.nD Cert.SmallChipSum.τ).loc Cert.SmallChipSum.main_arg2) = m ((c.tc : Thread Cert.SmallChipSum.nD Cert.SmallChipSum.τ).loc Cert.SmallChipSum.main_arg2)
      ∧ r.2.mem ((c.tc : Thread Cert.SmallChipSum.nD Cert.SmallChipSum.τ).loc Cert.SmallChipSum.main_arg3) = m ((c.tc : Thread Cert.SmallChipSum.nD Cert.SmallChipSum.τ).loc Cert.SmallChipSum.main_arg3))
      ∧ r.2.sem = fun _ => 0)

def quiescent_SmallChipSumIdeal [hSmallChipSumIdeal : Cert.SmallChipSumIdeal.Facts] : Prop :=
  ∀ (m : (ℓ : Loc Cert.SmallChipSumIdeal.nD Cert.SmallChipSumIdeal.τ Cert.SmallChipSumIdeal.sig) → Buf (Elt Ideal) ℓ) (g : Dev Cert.SmallChipSumIdeal.nD → PrngReg), Pre_SmallChipSumIdeal m →
    θ_run (Cert.SmallChipSumIdeal.defs (F := Ideal)) (onTc (τ := Cert.SmallChipSumIdeal.τ) (Cert.SmallChipSumIdeal.main (F := Ideal))) ⟨m, fun _ => 0, g⟩ (fun r => (∀ c : Dev Cert.SmallChipSumIdeal.nD,
      r.2.mem ((c.tc : Thread Cert.SmallChipSumIdeal.nD Cert.SmallChipSumIdeal.τ).loc Cert.SmallChipSumIdeal.main_arg0) = m ((c.tc : Thread Cert.SmallChipSumIdeal.nD Cert.SmallChipSumIdeal.τ).loc Cert.SmallChipSumIdeal.main_arg0)
      ∧ r.2.mem ((c.tc : Thread Cert.SmallChipSumIdeal.nD Cert.SmallChipSumIdeal.τ).loc Cert.SmallChipSumIdeal.main_arg1) = m ((c.tc : Thread Cert.SmallChipSumIdeal.nD Cert.SmallChipSumIdeal.τ).loc Cert.SmallChipSumIdeal.main_arg1)
      ∧ r.2.mem ((c.tc : Thread Cert.SmallChipSumIdeal.nD Cert.SmallChipSumIdeal.τ).loc Cert.SmallChipSumIdeal.main_arg2) = m ((c.tc : Thread Cert.SmallChipSumIdeal.nD Cert.SmallChipSumIdeal.τ).loc Cert.SmallChipSumIdeal.main_arg2)
      ∧ r.2.mem ((c.tc : Thread Cert.SmallChipSumIdeal.nD Cert.SmallChipSumIdeal.τ).loc Cert.SmallChipSumIdeal.main_arg3) = m ((c.tc : Thread Cert.SmallChipSumIdeal.nD Cert.SmallChipSumIdeal.τ).loc Cert.SmallChipSumIdeal.main_arg3))
      ∧ r.2.sem = fun _ => 0)

def quiescent_SmallChipSumRefIdeal [hSmallChipSumRefIdeal : Cert.SmallChipSumRefIdeal.Facts] : Prop :=
  ∀ (m : (ℓ : Loc Cert.SmallChipSumRefIdeal.nD Cert.SmallChipSumRefIdeal.τ Cert.SmallChipSumRefIdeal.sig) → Buf (Elt Ideal) ℓ) (g : Dev Cert.SmallChipSumRefIdeal.nD → PrngReg), Pre_SmallChipSumRefIdeal m →
    θ_run (Cert.SmallChipSumRefIdeal.defs (F := Ideal)) (onTc (τ := Cert.SmallChipSumRefIdeal.τ) (Cert.SmallChipSumRefIdeal.main (F := Ideal))) ⟨m, fun _ => 0, g⟩ (fun r => (∀ c : Dev Cert.SmallChipSumRefIdeal.nD,
      r.2.mem ((c.tc : Thread Cert.SmallChipSumRefIdeal.nD Cert.SmallChipSumRefIdeal.τ).loc Cert.SmallChipSumRefIdeal.main_arg0) = m ((c.tc : Thread Cert.SmallChipSumRefIdeal.nD Cert.SmallChipSumRefIdeal.τ).loc Cert.SmallChipSumRefIdeal.main_arg0)
      ∧ r.2.mem ((c.tc : Thread Cert.SmallChipSumRefIdeal.nD Cert.SmallChipSumRefIdeal.τ).loc Cert.SmallChipSumRefIdeal.main_arg1) = m ((c.tc : Thread Cert.SmallChipSumRefIdeal.nD Cert.SmallChipSumRefIdeal.τ).loc Cert.SmallChipSumRefIdeal.main_arg1)
      ∧ r.2.mem ((c.tc : Thread Cert.SmallChipSumRefIdeal.nD Cert.SmallChipSumRefIdeal.τ).loc Cert.SmallChipSumRefIdeal.main_arg2) = m ((c.tc : Thread Cert.SmallChipSumRefIdeal.nD Cert.SmallChipSumRefIdeal.τ).loc Cert.SmallChipSumRefIdeal.main_arg2)
      ∧ r.2.mem ((c.tc : Thread Cert.SmallChipSumRefIdeal.nD Cert.SmallChipSumRefIdeal.τ).loc Cert.SmallChipSumRefIdeal.main_arg3) = m ((c.tc : Thread Cert.SmallChipSumRefIdeal.nD Cert.SmallChipSumRefIdeal.τ).loc Cert.SmallChipSumRefIdeal.main_arg3))
      ∧ r.2.sem = fun _ => 0)

def preserves_Kernel_KernelIdeal : Prop :=
  IdealRules.named_const.Statement Cert.KernelIdeal.κ "mask" .f32 0xF149F2CA#32 ⊥

def preserves_FfnGate_FfnGateIdeal : Prop :=
  True

def algebraic_FfnGateIdeal_FfnGateRefIdeal_pre_finite_gate [hFfnGateIdeal : Cert.FfnGateIdeal.Facts] [hFfnGateRefIdeal : Cert.FfnGateRefIdeal.Facts] [hPre_finite_gate : Cert.Pre_finite_gate.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal_finite_gate m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)
      ∧ m' ((c.tc : Thread Cert.FfnGateRefIdeal.nD Cert.FfnGateRefIdeal.τ).loc Cert.FfnGateRefIdeal.main_arg2) = m ((c.tc : Thread Cert.FfnGateIdeal.nD Cert.FfnGateIdeal.τ).loc Cert.FfnGateIdeal.main_arg2)
      ∧ m' ((c.tc : Thread Cert.FfnGateRefIdeal.nD Cert.FfnGateRefIdeal.τ).loc Cert.FfnGateRefIdeal.main_arg3) = m ((c.tc : Thread Cert.FfnGateIdeal.nD Cert.FfnGateIdeal.τ).loc Cert.FfnGateIdeal.main_arg3)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
          ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v9) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1)
          ∧ r.2.mem ((c.tc : Thread Cert.FfnGateRefIdeal.nD Cert.FfnGateRefIdeal.τ).loc Cert.FfnGateRefIdeal.main_arg2) = m' ((c.tc : Thread Cert.FfnGateRefIdeal.nD Cert.FfnGateRefIdeal.τ).loc Cert.FfnGateRefIdeal.main_arg2)
          ∧ r.2.mem ((c.tc : Thread Cert.FfnGateRefIdeal.nD Cert.FfnGateRefIdeal.τ).loc Cert.FfnGateRefIdeal.main_arg3) = m' ((c.tc : Thread Cert.FfnGateRefIdeal.nD Cert.FfnGateRefIdeal.τ).loc Cert.FfnGateRefIdeal.main_arg3))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)) (v3 : (c : Dev Cert.BranchIdeal.nD) → Buf (Elt Ideal) ((c.tc : Thread Cert.BranchIdeal.nD Cert.BranchIdeal.τ).loc Cert.BranchIdeal.main_v0_3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_v0_3) = v3 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v24) = v0 c
          ∧ r.2.mem ((c.tc : Thread Cert.BranchRefIdeal.nD Cert.BranchRefIdeal.τ).loc Cert.BranchRefIdeal.main_v25) = v1 c
          ∧ r.2.mem ((c.tc : Thread Cert.BranchRefIdeal.nD Cert.BranchRefIdeal.τ).loc Cert.BranchRefIdeal.main_v26) = v2 c
          ∧ r.2.mem ((c.tc : Thread Cert.BranchRefIdeal.nD Cert.BranchRefIdeal.τ).loc Cert.BranchRefIdeal.main_v27) = v3 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3))

def preserves_FfnInX_FfnInXIdeal : Prop :=
  True

def algebraic_FfnInXIdeal_FfnInXRefIdeal [hFfnInXIdeal : Cert.FfnInXIdeal.Facts] [hFfnInXRefIdeal : Cert.FfnInXRefIdeal.Facts] : Prop :=
  ∀ (m : (ℓ : Loc Cert.FfnInXIdeal.nD Cert.FfnInXIdeal.τ Cert.FfnInXIdeal.sig) → Buf (Elt Ideal) ℓ) (g : Dev Cert.FfnInXIdeal.nD → PrngReg)
    (m' : (ℓ : Loc Cert.FfnInXRefIdeal.nD Cert.FfnInXRefIdeal.τ Cert.FfnInXRefIdeal.sig) → Buf (Elt Ideal) ℓ) (g' : Dev Cert.FfnInXRefIdeal.nD → PrngReg), Pre_FfnInXIdeal m →
    (∀ c : Dev Cert.FfnInXIdeal.nD,
      m' ((c.tc : Thread Cert.FfnInXRefIdeal.nD Cert.FfnInXRefIdeal.τ).loc Cert.FfnInXRefIdeal.main_arg0) = m ((c.tc : Thread Cert.FfnInXIdeal.nD Cert.FfnInXIdeal.τ).loc Cert.FfnInXIdeal.main_arg0)
      ∧ m' ((c.tc : Thread Cert.FfnInXRefIdeal.nD Cert.FfnInXRefIdeal.τ).loc Cert.FfnInXRefIdeal.main_arg1) = m ((c.tc : Thread Cert.FfnInXIdeal.nD Cert.FfnInXIdeal.τ).loc Cert.FfnInXIdeal.main_arg1)
      ∧ m' ((c.tc : Thread Cert.FfnInXRefIdeal.nD Cert.FfnInXRefIdeal.τ).loc Cert.FfnInXRefIdeal.main_arg2) = m ((c.tc : Thread Cert.FfnInXIdeal.nD Cert.FfnInXIdeal.τ).loc Cert.FfnInXIdeal.main_arg2)) →
    ∃ (v0 : (c : Dev Cert.FfnInXIdeal.nD) → Buf (Elt Ideal) ((c.tc : Thread Cert.FfnInXIdeal.nD Cert.FfnInXIdeal.τ).loc Cert.FfnInXIdeal.main_v0)),
      θ_run (Cert.FfnInXIdeal.defs (F := Ideal)) (onTc (τ := Cert.FfnInXIdeal.τ) (Cert.FfnInXIdeal.main (F := Ideal))) ⟨m, fun _ => 0, g⟩ (fun r => ∀ c : Dev Cert.FfnInXIdeal.nD,
          r.2.mem ((c.tc : Thread Cert.FfnInXIdeal.nD Cert.FfnInXIdeal.τ).loc Cert.FfnInXIdeal.main_v0) = v0 c
          ∧ r.2.mem ((c.tc : Thread Cert.FfnInXIdeal.nD Cert.FfnInXIdeal.τ).loc Cert.FfnInXIdeal.main_arg0) = m ((c.tc : Thread Cert.FfnInXIdeal.nD Cert.FfnInXIdeal.τ).loc Cert.FfnInXIdeal.main_arg0)
          ∧ r.2.mem ((c.tc : Thread Cert.FfnInXIdeal.nD Cert.FfnInXIdeal.τ).loc Cert.FfnInXIdeal.main_arg1) = m ((c.tc : Thread Cert.FfnInXIdeal.nD Cert.FfnInXIdeal.τ).loc Cert.FfnInXIdeal.main_arg1)
          ∧ r.2.mem ((c.tc : Thread Cert.FfnInXIdeal.nD Cert.FfnInXIdeal.τ).loc Cert.FfnInXIdeal.main_arg2) = m ((c.tc : Thread Cert.FfnInXIdeal.nD Cert.FfnInXIdeal.τ).loc Cert.FfnInXIdeal.main_arg2))
      ∧ θ_run (Cert.FfnInXRefIdeal.defs (F := Ideal)) (onTc (τ := Cert.FfnInXRefIdeal.τ) (Cert.FfnInXRefIdeal.main (F := Ideal))) ⟨m', fun _ => 0, g'⟩ (fun r => ∀ c : Dev Cert.FfnInXRefIdeal.nD,
          r.2.mem ((c.tc : Thread Cert.FfnInXRefIdeal.nD Cert.FfnInXRefIdeal.τ).loc Cert.FfnInXRefIdeal.main_v11) = v0 c
          ∧ r.2.mem ((c.tc : Thread Cert.FfnInXRefIdeal.nD Cert.FfnInXRefIdeal.τ).loc Cert.FfnInXRefIdeal.main_arg0) = m' ((c.tc : Thread Cert.FfnInXRefIdeal.nD Cert.FfnInXRefIdeal.τ).loc Cert.FfnInXRefIdeal.main_arg0)
          ∧ r.2.mem ((c.tc : Thread Cert.FfnInXRefIdeal.nD Cert.FfnInXRefIdeal.τ).loc Cert.FfnInXRefIdeal.main_arg1) = m' ((c.tc : Thread Cert.FfnInXRefIdeal.nD Cert.FfnInXRefIdeal.τ).loc Cert.FfnInXRefIdeal.main_arg1)
          ∧ r.2.mem ((c.tc : Thread Cert.FfnInXRefIdeal.nD Cert.FfnInXRefIdeal.τ).loc Cert.FfnInXRefIdeal.main_arg2) = m' ((c.tc : Thread Cert.FfnInXRefIdeal.nD Cert.FfnInXRefIdeal.τ).loc Cert.FfnInXRefIdeal.main_arg2))

def preserves_FfnInW_FfnInWIdeal : Prop :=
  True

def algebraic_FfnInWIdeal_FfnInWRefIdeal [hFfnInWIdeal : Cert.FfnInWIdeal.Facts] [hFfnInWRefIdeal : Cert.FfnInWRefIdeal.Facts] : Prop :=
  ∀ (m : (ℓ : Loc Cert.FfnInWIdeal.nD Cert.FfnInWIdeal.τ Cert.FfnInWIdeal.sig) → Buf (Elt Ideal) ℓ) (g : Dev Cert.FfnInWIdeal.nD → PrngReg)
    (m' : (ℓ : Loc Cert.FfnInWRefIdeal.nD Cert.FfnInWRefIdeal.τ Cert.FfnInWRefIdeal.sig) → Buf (Elt Ideal) ℓ) (g' : Dev Cert.FfnInWRefIdeal.nD → PrngReg), Pre_FfnInWIdeal m →
    (∀ c : Dev Cert.FfnInWIdeal.nD,
      m' ((c.tc : Thread Cert.FfnInWRefIdeal.nD Cert.FfnInWRefIdeal.τ).loc Cert.FfnInWRefIdeal.main_arg0) = m ((c.tc : Thread Cert.FfnInWIdeal.nD Cert.FfnInWIdeal.τ).loc Cert.FfnInWIdeal.main_arg0)
      ∧ m' ((c.tc : Thread Cert.FfnInWRefIdeal.nD Cert.FfnInWRefIdeal.τ).loc Cert.FfnInWRefIdeal.main_arg1) = m ((c.tc : Thread Cert.FfnInWIdeal.nD Cert.FfnInWIdeal.τ).loc Cert.FfnInWIdeal.main_arg1)) →
    ∃ (v0 : (c : Dev Cert.FfnInWIdeal.nD) → Buf (Elt Ideal) ((c.tc : Thread Cert.FfnInWIdeal.nD Cert.FfnInWIdeal.τ).loc Cert.FfnInWIdeal.main_v0)),
      θ_run (Cert.FfnInWIdeal.defs (F := Ideal)) (onTc (τ := Cert.FfnInWIdeal.τ) (Cert.FfnInWIdeal.main (F := Ideal))) ⟨m, fun _ => 0, g⟩ (fun r => ∀ c : Dev Cert.FfnInWIdeal.nD,
          r.2.mem ((c.tc : Thread Cert.FfnInWIdeal.nD Cert.FfnInWIdeal.τ).loc Cert.FfnInWIdeal.main_v0) = v0 c
          ∧ r.2.mem ((c.tc : Thread Cert.FfnInWIdeal.nD Cert.FfnInWIdeal.τ).loc Cert.FfnInWIdeal.main_arg0) = m ((c.tc : Thread Cert.FfnInWIdeal.nD Cert.FfnInWIdeal.τ).loc Cert.FfnInWIdeal.main_arg0)
          ∧ r.2.mem ((c.tc : Thread Cert.FfnInWIdeal.nD Cert.FfnInWIdeal.τ).loc Cert.FfnInWIdeal.main_arg1) = m ((c.tc : Thread Cert.FfnInWIdeal.nD Cert.FfnInWIdeal.τ).loc Cert.FfnInWIdeal.main_arg1))
      ∧ θ_run (Cert.FfnInWRefIdeal.defs (F := Ideal)) (onTc (τ := Cert.FfnInWRefIdeal.τ) (Cert.FfnInWRefIdeal.main (F := Ideal))) ⟨m', fun _ => 0, g'⟩ (fun r => ∀ c : Dev Cert.FfnInWRefIdeal.nD,
          r.2.mem ((c.tc : Thread Cert.FfnInWRefIdeal.nD Cert.FfnInWRefIdeal.τ).loc Cert.FfnInWRefIdeal.main_v6) = v0 c
          ∧ r.2.mem ((c.tc : Thread Cert.FfnInWRefIdeal.nD Cert.FfnInWRefIdeal.τ).loc Cert.FfnInWRefIdeal.main_arg0) = m' ((c.tc : Thread Cert.FfnInWRefIdeal.nD Cert.FfnInWRefIdeal.τ).loc Cert.FfnInWRefIdeal.main_arg0)
          ∧ r.2.mem ((c.tc : Thread Cert.FfnInWRefIdeal.nD Cert.FfnInWRefIdeal.τ).loc Cert.FfnInWRefIdeal.main_arg1) = m' ((c.tc : Thread Cert.FfnInWRefIdeal.nD Cert.FfnInWRefIdeal.τ).loc Cert.FfnInWRefIdeal.main_arg1))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)
      ∧ m' ((c.tc : Thread Cert.ProjXRefIdeal.nD Cert.ProjXRefIdeal.τ).loc Cert.ProjXRefIdeal.main_arg2) = m ((c.tc : Thread Cert.ProjXIdeal.nD Cert.ProjXIdeal.τ).loc Cert.ProjXIdeal.main_arg2)) →
    ∃ (v0 : (c : Dev Cert.ProjXIdeal.nD) → Buf (Elt Ideal) ((c.tc : Thread Cert.ProjXIdeal.nD Cert.ProjXIdeal.τ).loc Cert.ProjXIdeal.main_v0)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v0) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v11) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1)
          ∧ r.2.mem ((c.tc : Thread Cert.ProjXRefIdeal.nD Cert.ProjXRefIdeal.τ).loc Cert.ProjXRefIdeal.main_arg2) = m' ((c.tc : Thread Cert.ProjXRefIdeal.nD Cert.ProjXRefIdeal.τ).loc Cert.ProjXRefIdeal.main_arg2))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v0)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v0) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v6) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1))

def preserves_FfnOutW_FfnOutWIdeal : Prop :=
  True

def algebraic_FfnOutWIdeal_FfnOutWRefIdeal [hFfnOutWIdeal : Cert.FfnOutWIdeal.Facts] [hFfnOutWRefIdeal : Cert.FfnOutWRefIdeal.Facts] : Prop :=
  ∀ (m : (ℓ : Loc Cert.FfnOutWIdeal.nD Cert.FfnOutWIdeal.τ Cert.FfnOutWIdeal.sig) → Buf (Elt Ideal) ℓ) (g : Dev Cert.FfnOutWIdeal.nD → PrngReg)
    (m' : (ℓ : Loc Cert.FfnOutWRefIdeal.nD Cert.FfnOutWRefIdeal.τ Cert.FfnOutWRefIdeal.sig) → Buf (Elt Ideal) ℓ) (g' : Dev Cert.FfnOutWRefIdeal.nD → PrngReg), Pre_FfnOutWIdeal m →
    (∀ c : Dev Cert.FfnOutWIdeal.nD,
      m' ((c.tc : Thread Cert.FfnOutWRefIdeal.nD Cert.FfnOutWRefIdeal.τ).loc Cert.FfnOutWRefIdeal.main_arg0) = m ((c.tc : Thread Cert.FfnOutWIdeal.nD Cert.FfnOutWIdeal.τ).loc Cert.FfnOutWIdeal.main_arg0)
      ∧ m' ((c.tc : Thread Cert.FfnOutWRefIdeal.nD Cert.FfnOutWRefIdeal.τ).loc Cert.FfnOutWRefIdeal.main_arg1) = m ((c.tc : Thread Cert.FfnOutWIdeal.nD Cert.FfnOutWIdeal.τ).loc Cert.FfnOutWIdeal.main_arg1)) →
    ∃ (v0 : (c : Dev Cert.FfnOutWIdeal.nD) → Buf (Elt Ideal) ((c.tc : Thread Cert.FfnOutWIdeal.nD Cert.FfnOutWIdeal.τ).loc Cert.FfnOutWIdeal.main_v0)),
      θ_run (Cert.FfnOutWIdeal.defs (F := Ideal)) (onTc (τ := Cert.FfnOutWIdeal.τ) (Cert.FfnOutWIdeal.main (F := Ideal))) ⟨m, fun _ => 0, g⟩ (fun r => ∀ c : Dev Cert.FfnOutWIdeal.nD,
          r.2.mem ((c.tc : Thread Cert.FfnOutWIdeal.nD Cert.FfnOutWIdeal.τ).loc Cert.FfnOutWIdeal.main_v0) = v0 c
          ∧ r.2.mem ((c.tc : Thread Cert.FfnOutWIdeal.nD Cert.FfnOutWIdeal.τ).loc Cert.FfnOutWIdeal.main_arg0) = m ((c.tc : Thread Cert.FfnOutWIdeal.nD Cert.FfnOutWIdeal.τ).loc Cert.FfnOutWIdeal.main_arg0)
          ∧ r.2.mem ((c.tc : Thread Cert.FfnOutWIdeal.nD Cert.FfnOutWIdeal.τ).loc Cert.FfnOutWIdeal.main_arg1) = m ((c.tc : Thread Cert.FfnOutWIdeal.nD Cert.FfnOutWIdeal.τ).loc Cert.FfnOutWIdeal.main_arg1))
      ∧ θ_run (Cert.FfnOutWRefIdeal.defs (F := Ideal)) (onTc (τ := Cert.FfnOutWRefIdeal.τ) (Cert.FfnOutWRefIdeal.main (F := Ideal))) ⟨m', fun _ => 0, g'⟩ (fun r => ∀ c : Dev Cert.FfnOutWRefIdeal.nD,
          r.2.mem ((c.tc : Thread Cert.FfnOutWRefIdeal.nD Cert.FfnOutWRefIdeal.τ).loc Cert.FfnOutWRefIdeal.main_v4) = v0 c
          ∧ r.2.mem ((c.tc : Thread Cert.FfnOutWRefIdeal.nD Cert.FfnOutWRefIdeal.τ).loc Cert.FfnOutWRefIdeal.main_arg0) = m' ((c.tc : Thread Cert.FfnOutWRefIdeal.nD Cert.FfnOutWRefIdeal.τ).loc Cert.FfnOutWRefIdeal.main_arg0)
          ∧ r.2.mem ((c.tc : Thread Cert.FfnOutWRefIdeal.nD Cert.FfnOutWRefIdeal.τ).loc Cert.FfnOutWRefIdeal.main_arg1) = m' ((c.tc : Thread Cert.FfnOutWRefIdeal.nD Cert.FfnOutWRefIdeal.τ).loc Cert.FfnOutWRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v4) = v0 c
          ∧ r.2.mem ((c.tc : Thread Cert.FfnInRefIdeal.nD Cert.FfnInRefIdeal.τ).loc Cert.FfnInRefIdeal.main_v5) = v1 c
          ∧ r.2.mem ((c.tc : Thread Cert.FfnInRefIdeal.nD Cert.FfnInRefIdeal.τ).loc Cert.FfnInRefIdeal.main_v8) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v18) = v0 c
          ∧ r.2.mem ((c.tc : Thread Cert.MixRefIdeal.nD Cert.MixRefIdeal.τ).loc Cert.MixRefIdeal.main_v19) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v2_0)) (v1 : (c : Dev Cert.OutLnIdeal.nD) → Buf (Elt Ideal) ((c.tc : Thread Cert.OutLnIdeal.nD Cert.OutLnIdeal.τ).loc Cert.OutLnIdeal.main_v2_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v2_0) = v0 c
          ∧ r.2.mem ((c.tc : Thread Cert.OutLnIdeal.nD Cert.OutLnIdeal.τ).loc Cert.OutLnIdeal.main_v2_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v5) = v0 c
          ∧ r.2.mem ((c.tc : Thread Cert.OutLnRefIdeal.nD Cert.OutLnRefIdeal.τ).loc Cert.OutLnRefIdeal.main_v29) = v1 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_FfnOutLn_FfnOutLnIdeal : Prop :=
  True

def algebraic_FfnOutLnIdeal_FfnOutLnRefIdeal [hFfnOutLnIdeal : Cert.FfnOutLnIdeal.Facts] [hFfnOutLnRefIdeal : Cert.FfnOutLnRefIdeal.Facts] : Prop :=
  ∀ (m : (ℓ : Loc Cert.FfnOutLnIdeal.nD Cert.FfnOutLnIdeal.τ Cert.FfnOutLnIdeal.sig) → Buf (Elt Ideal) ℓ) (g : Dev Cert.FfnOutLnIdeal.nD → PrngReg)
    (m' : (ℓ : Loc Cert.FfnOutLnRefIdeal.nD Cert.FfnOutLnRefIdeal.τ Cert.FfnOutLnRefIdeal.sig) → Buf (Elt Ideal) ℓ) (g' : Dev Cert.FfnOutLnRefIdeal.nD → PrngReg), Pre_FfnOutLnIdeal m →
    (∀ c : Dev Cert.FfnOutLnIdeal.nD,
      m' ((c.tc : Thread Cert.FfnOutLnRefIdeal.nD Cert.FfnOutLnRefIdeal.τ).loc Cert.FfnOutLnRefIdeal.main_arg0) = m ((c.tc : Thread Cert.FfnOutLnIdeal.nD Cert.FfnOutLnIdeal.τ).loc Cert.FfnOutLnIdeal.main_arg0)
      ∧ m' ((c.tc : Thread Cert.FfnOutLnRefIdeal.nD Cert.FfnOutLnRefIdeal.τ).loc Cert.FfnOutLnRefIdeal.main_arg1) = m ((c.tc : Thread Cert.FfnOutLnIdeal.nD Cert.FfnOutLnIdeal.τ).loc Cert.FfnOutLnIdeal.main_arg1)
      ∧ m' ((c.tc : Thread Cert.FfnOutLnRefIdeal.nD Cert.FfnOutLnRefIdeal.τ).loc Cert.FfnOutLnRefIdeal.main_arg2) = m ((c.tc : Thread Cert.FfnOutLnIdeal.nD Cert.FfnOutLnIdeal.τ).loc Cert.FfnOutLnIdeal.main_arg2)
      ∧ m' ((c.tc : Thread Cert.FfnOutLnRefIdeal.nD Cert.FfnOutLnRefIdeal.τ).loc Cert.FfnOutLnRefIdeal.main_arg3) = m ((c.tc : Thread Cert.FfnOutLnIdeal.nD Cert.FfnOutLnIdeal.τ).loc Cert.FfnOutLnIdeal.main_arg3)
      ∧ m' ((c.tc : Thread Cert.FfnOutLnRefIdeal.nD Cert.FfnOutLnRefIdeal.τ).loc Cert.FfnOutLnRefIdeal.main_arg4) = m ((c.tc : Thread Cert.FfnOutLnIdeal.nD Cert.FfnOutLnIdeal.τ).loc Cert.FfnOutLnIdeal.main_arg4)) →
    ∃ (v0 : (c : Dev Cert.FfnOutLnIdeal.nD) → Buf (Elt Ideal) ((c.tc : Thread Cert.FfnOutLnIdeal.nD Cert.FfnOutLnIdeal.τ).loc Cert.FfnOutLnIdeal.main_v2_0)) (v1 : (c : Dev Cert.FfnOutLnIdeal.nD) → Buf (Elt Ideal) ((c.tc : Thread Cert.FfnOutLnIdeal.nD Cert.FfnOutLnIdeal.τ).loc Cert.FfnOutLnIdeal.main_v2_1)),
      θ_run (Cert.FfnOutLnIdeal.defs (F := Ideal)) (onTc (τ := Cert.FfnOutLnIdeal.τ) (Cert.FfnOutLnIdeal.main (F := Ideal))) ⟨m, fun _ => 0, g⟩ (fun r => ∀ c : Dev Cert.FfnOutLnIdeal.nD,
          r.2.mem ((c.tc : Thread Cert.FfnOutLnIdeal.nD Cert.FfnOutLnIdeal.τ).loc Cert.FfnOutLnIdeal.main_v2_0) = v0 c
          ∧ r.2.mem ((c.tc : Thread Cert.FfnOutLnIdeal.nD Cert.FfnOutLnIdeal.τ).loc Cert.FfnOutLnIdeal.main_v2_1) = v1 c
          ∧ r.2.mem ((c.tc : Thread Cert.FfnOutLnIdeal.nD Cert.FfnOutLnIdeal.τ).loc Cert.FfnOutLnIdeal.main_arg0) = m ((c.tc : Thread Cert.FfnOutLnIdeal.nD Cert.FfnOutLnIdeal.τ).loc Cert.FfnOutLnIdeal.main_arg0)
          ∧ r.2.mem ((c.tc : Thread Cert.FfnOutLnIdeal.nD Cert.FfnOutLnIdeal.τ).loc Cert.FfnOutLnIdeal.main_arg1) = m ((c.tc : Thread Cert.FfnOutLnIdeal.nD Cert.FfnOutLnIdeal.τ).loc Cert.FfnOutLnIdeal.main_arg1)
          ∧ r.2.mem ((c.tc : Thread Cert.FfnOutLnIdeal.nD Cert.FfnOutLnIdeal.τ).loc Cert.FfnOutLnIdeal.main_arg2) = m ((c.tc : Thread Cert.FfnOutLnIdeal.nD Cert.FfnOutLnIdeal.τ).loc Cert.FfnOutLnIdeal.main_arg2)
          ∧ r.2.mem ((c.tc : Thread Cert.FfnOutLnIdeal.nD Cert.FfnOutLnIdeal.τ).loc Cert.FfnOutLnIdeal.main_arg3) = m ((c.tc : Thread Cert.FfnOutLnIdeal.nD Cert.FfnOutLnIdeal.τ).loc Cert.FfnOutLnIdeal.main_arg3)
          ∧ r.2.mem ((c.tc : Thread Cert.FfnOutLnIdeal.nD Cert.FfnOutLnIdeal.τ).loc Cert.FfnOutLnIdeal.main_arg4) = m ((c.tc : Thread Cert.FfnOutLnIdeal.nD Cert.FfnOutLnIdeal.τ).loc Cert.FfnOutLnIdeal.main_arg4))
      ∧ θ_run (Cert.FfnOutLnRefIdeal.defs (F := Ideal)) (onTc (τ := Cert.FfnOutLnRefIdeal.τ) (Cert.FfnOutLnRefIdeal.main (F := Ideal))) ⟨m', fun _ => 0, g'⟩ (fun r => ∀ c : Dev Cert.FfnOutLnRefIdeal.nD,
          r.2.mem ((c.tc : Thread Cert.FfnOutLnRefIdeal.nD Cert.FfnOutLnRefIdeal.τ).loc Cert.FfnOutLnRefIdeal.main_v5) = v0 c
          ∧ r.2.mem ((c.tc : Thread Cert.FfnOutLnRefIdeal.nD Cert.FfnOutLnRefIdeal.τ).loc Cert.FfnOutLnRefIdeal.main_v29) = v1 c
          ∧ r.2.mem ((c.tc : Thread Cert.FfnOutLnRefIdeal.nD Cert.FfnOutLnRefIdeal.τ).loc Cert.FfnOutLnRefIdeal.main_arg0) = m' ((c.tc : Thread Cert.FfnOutLnRefIdeal.nD Cert.FfnOutLnRefIdeal.τ).loc Cert.FfnOutLnRefIdeal.main_arg0)
          ∧ r.2.mem ((c.tc : Thread Cert.FfnOutLnRefIdeal.nD Cert.FfnOutLnRefIdeal.τ).loc Cert.FfnOutLnRefIdeal.main_arg1) = m' ((c.tc : Thread Cert.FfnOutLnRefIdeal.nD Cert.FfnOutLnRefIdeal.τ).loc Cert.FfnOutLnRefIdeal.main_arg1)
          ∧ r.2.mem ((c.tc : Thread Cert.FfnOutLnRefIdeal.nD Cert.FfnOutLnRefIdeal.τ).loc Cert.FfnOutLnRefIdeal.main_arg2) = m' ((c.tc : Thread Cert.FfnOutLnRefIdeal.nD Cert.FfnOutLnRefIdeal.τ).loc Cert.FfnOutLnRefIdeal.main_arg2)
          ∧ r.2.mem ((c.tc : Thread Cert.FfnOutLnRefIdeal.nD Cert.FfnOutLnRefIdeal.τ).loc Cert.FfnOutLnRefIdeal.main_arg3) = m' ((c.tc : Thread Cert.FfnOutLnRefIdeal.nD Cert.FfnOutLnRefIdeal.τ).loc Cert.FfnOutLnRefIdeal.main_arg3)
          ∧ r.2.mem ((c.tc : Thread Cert.FfnOutLnRefIdeal.nD Cert.FfnOutLnRefIdeal.τ).loc Cert.FfnOutLnRefIdeal.main_arg4) = m' ((c.tc : Thread Cert.FfnOutLnRefIdeal.nD Cert.FfnOutLnRefIdeal.τ).loc Cert.FfnOutLnRefIdeal.main_arg4))

def preserves_BranchX0_BranchX0Ideal : Prop :=
  True

def algebraic_BranchX0Ideal_BranchX0RefIdeal [hBranchX0Ideal : Cert.BranchX0Ideal.Facts] [hBranchX0RefIdeal : Cert.BranchX0RefIdeal.Facts] : Prop :=
  ∀ (m : (ℓ : Loc Cert.BranchX0Ideal.nD Cert.BranchX0Ideal.τ Cert.BranchX0Ideal.sig) → Buf (Elt Ideal) ℓ) (g : Dev Cert.BranchX0Ideal.nD → PrngReg)
    (m' : (ℓ : Loc Cert.BranchX0RefIdeal.nD Cert.BranchX0RefIdeal.τ Cert.BranchX0RefIdeal.sig) → Buf (Elt Ideal) ℓ) (g' : Dev Cert.BranchX0RefIdeal.nD → PrngReg), Pre_BranchX0Ideal m →
    (∀ c : Dev Cert.BranchX0Ideal.nD,
      m' ((c.tc : Thread Cert.BranchX0RefIdeal.nD Cert.BranchX0RefIdeal.τ).loc Cert.BranchX0RefIdeal.main_arg0) = m ((c.tc : Thread Cert.BranchX0Ideal.nD Cert.BranchX0Ideal.τ).loc Cert.BranchX0Ideal.main_arg0)
      ∧ m' ((c.tc : Thread Cert.BranchX0RefIdeal.nD Cert.BranchX0RefIdeal.τ).loc Cert.BranchX0RefIdeal.main_arg1) = m ((c.tc : Thread Cert.BranchX0Ideal.nD Cert.BranchX0Ideal.τ).loc Cert.BranchX0Ideal.main_arg1)) →
    ∃ (v0 : (c : Dev Cert.BranchX0Ideal.nD) → Buf (Elt Ideal) ((c.tc : Thread Cert.BranchX0Ideal.nD Cert.BranchX0Ideal.τ).loc Cert.BranchX0Ideal.main_v2)),
      θ_run (Cert.BranchX0Ideal.defs (F := Ideal)) (onTc (τ := Cert.BranchX0Ideal.τ) (Cert.BranchX0Ideal.main (F := Ideal))) ⟨m, fun _ => 0, g⟩ (fun r => ∀ c : Dev Cert.BranchX0Ideal.nD,
          r.2.mem ((c.tc : Thread Cert.BranchX0Ideal.nD Cert.BranchX0Ideal.τ).loc Cert.BranchX0Ideal.main_v2) = v0 c
          ∧ r.2.mem ((c.tc : Thread Cert.BranchX0Ideal.nD Cert.BranchX0Ideal.τ).loc Cert.BranchX0Ideal.main_arg0) = m ((c.tc : Thread Cert.BranchX0Ideal.nD Cert.BranchX0Ideal.τ).loc Cert.BranchX0Ideal.main_arg0)
          ∧ r.2.mem ((c.tc : Thread Cert.BranchX0Ideal.nD Cert.BranchX0Ideal.τ).loc Cert.BranchX0Ideal.main_arg1) = m ((c.tc : Thread Cert.BranchX0Ideal.nD Cert.BranchX0Ideal.τ).loc Cert.BranchX0Ideal.main_arg1))
      ∧ θ_run (Cert.BranchX0RefIdeal.defs (F := Ideal)) (onTc (τ := Cert.BranchX0RefIdeal.τ) (Cert.BranchX0RefIdeal.main (F := Ideal))) ⟨m', fun _ => 0, g'⟩ (fun r => ∀ c : Dev Cert.BranchX0RefIdeal.nD,
          r.2.mem ((c.tc : Thread Cert.BranchX0RefIdeal.nD Cert.BranchX0RefIdeal.τ).loc Cert.BranchX0RefIdeal.main_v8) = v0 c
          ∧ r.2.mem ((c.tc : Thread Cert.BranchX0RefIdeal.nD Cert.BranchX0RefIdeal.τ).loc Cert.BranchX0RefIdeal.main_arg0) = m' ((c.tc : Thread Cert.BranchX0RefIdeal.nD Cert.BranchX0RefIdeal.τ).loc Cert.BranchX0RefIdeal.main_arg0)
          ∧ r.2.mem ((c.tc : Thread Cert.BranchX0RefIdeal.nD Cert.BranchX0RefIdeal.τ).loc Cert.BranchX0RefIdeal.main_arg1) = m' ((c.tc : Thread Cert.BranchX0RefIdeal.nD Cert.BranchX0RefIdeal.τ).loc Cert.BranchX0RefIdeal.main_arg1))

def preserves_BranchX1_BranchX1Ideal : Prop :=
  True

def algebraic_BranchX1Ideal_BranchX1RefIdeal [hBranchX1Ideal : Cert.BranchX1Ideal.Facts] [hBranchX1RefIdeal : Cert.BranchX1RefIdeal.Facts] : Prop :=
  ∀ (m : (ℓ : Loc Cert.BranchX1Ideal.nD Cert.BranchX1Ideal.τ Cert.BranchX1Ideal.sig) → Buf (Elt Ideal) ℓ) (g : Dev Cert.BranchX1Ideal.nD → PrngReg)
    (m' : (ℓ : Loc Cert.BranchX1RefIdeal.nD Cert.BranchX1RefIdeal.τ Cert.BranchX1RefIdeal.sig) → Buf (Elt Ideal) ℓ) (g' : Dev Cert.BranchX1RefIdeal.nD → PrngReg), Pre_BranchX1Ideal m →
    (∀ c : Dev Cert.BranchX1Ideal.nD,
      m' ((c.tc : Thread Cert.BranchX1RefIdeal.nD Cert.BranchX1RefIdeal.τ).loc Cert.BranchX1RefIdeal.main_arg0) = m ((c.tc : Thread Cert.BranchX1Ideal.nD Cert.BranchX1Ideal.τ).loc Cert.BranchX1Ideal.main_arg0)
      ∧ m' ((c.tc : Thread Cert.BranchX1RefIdeal.nD Cert.BranchX1RefIdeal.τ).loc Cert.BranchX1RefIdeal.main_arg1) = m ((c.tc : Thread Cert.BranchX1Ideal.nD Cert.BranchX1Ideal.τ).loc Cert.BranchX1Ideal.main_arg1)) →
    ∃ (v0 : (c : Dev Cert.BranchX1Ideal.nD) → Buf (Elt Ideal) ((c.tc : Thread Cert.BranchX1Ideal.nD Cert.BranchX1Ideal.τ).loc Cert.BranchX1Ideal.main_v2)),
      θ_run (Cert.BranchX1Ideal.defs (F := Ideal)) (onTc (τ := Cert.BranchX1Ideal.τ) (Cert.BranchX1Ideal.main (F := Ideal))) ⟨m, fun _ => 0, g⟩ (fun r => ∀ c : Dev Cert.BranchX1Ideal.nD,
          r.2.mem ((c.tc : Thread Cert.BranchX1Ideal.nD Cert.BranchX1Ideal.τ).loc Cert.BranchX1Ideal.main_v2) = v0 c
          ∧ r.2.mem ((c.tc : Thread Cert.BranchX1Ideal.nD Cert.BranchX1Ideal.τ).loc Cert.BranchX1Ideal.main_arg0) = m ((c.tc : Thread Cert.BranchX1Ideal.nD Cert.BranchX1Ideal.τ).loc Cert.BranchX1Ideal.main_arg0)
          ∧ r.2.mem ((c.tc : Thread Cert.BranchX1Ideal.nD Cert.BranchX1Ideal.τ).loc Cert.BranchX1Ideal.main_arg1) = m ((c.tc : Thread Cert.BranchX1Ideal.nD Cert.BranchX1Ideal.τ).loc Cert.BranchX1Ideal.main_arg1))
      ∧ θ_run (Cert.BranchX1RefIdeal.defs (F := Ideal)) (onTc (τ := Cert.BranchX1RefIdeal.τ) (Cert.BranchX1RefIdeal.main (F := Ideal))) ⟨m', fun _ => 0, g'⟩ (fun r => ∀ c : Dev Cert.BranchX1RefIdeal.nD,
          r.2.mem ((c.tc : Thread Cert.BranchX1RefIdeal.nD Cert.BranchX1RefIdeal.τ).loc Cert.BranchX1RefIdeal.main_v8) = v0 c
          ∧ r.2.mem ((c.tc : Thread Cert.BranchX1RefIdeal.nD Cert.BranchX1RefIdeal.τ).loc Cert.BranchX1RefIdeal.main_arg0) = m' ((c.tc : Thread Cert.BranchX1RefIdeal.nD Cert.BranchX1RefIdeal.τ).loc Cert.BranchX1RefIdeal.main_arg0)
          ∧ r.2.mem ((c.tc : Thread Cert.BranchX1RefIdeal.nD Cert.BranchX1RefIdeal.τ).loc Cert.BranchX1RefIdeal.main_arg1) = m' ((c.tc : Thread Cert.BranchX1RefIdeal.nD Cert.BranchX1RefIdeal.τ).loc Cert.BranchX1RefIdeal.main_arg1))

def preserves_BranchX2_BranchX2Ideal : Prop :=
  True

def algebraic_BranchX2Ideal_BranchX2RefIdeal [hBranchX2Ideal : Cert.BranchX2Ideal.Facts] [hBranchX2RefIdeal : Cert.BranchX2RefIdeal.Facts] : Prop :=
  ∀ (m : (ℓ : Loc Cert.BranchX2Ideal.nD Cert.BranchX2Ideal.τ Cert.BranchX2Ideal.sig) → Buf (Elt Ideal) ℓ) (g : Dev Cert.BranchX2Ideal.nD → PrngReg)
    (m' : (ℓ : Loc Cert.BranchX2RefIdeal.nD Cert.BranchX2RefIdeal.τ Cert.BranchX2RefIdeal.sig) → Buf (Elt Ideal) ℓ) (g' : Dev Cert.BranchX2RefIdeal.nD → PrngReg), Pre_BranchX2Ideal m →
    (∀ c : Dev Cert.BranchX2Ideal.nD,
      m' ((c.tc : Thread Cert.BranchX2RefIdeal.nD Cert.BranchX2RefIdeal.τ).loc Cert.BranchX2RefIdeal.main_arg0) = m ((c.tc : Thread Cert.BranchX2Ideal.nD Cert.BranchX2Ideal.τ).loc Cert.BranchX2Ideal.main_arg0)
      ∧ m' ((c.tc : Thread Cert.BranchX2RefIdeal.nD Cert.BranchX2RefIdeal.τ).loc Cert.BranchX2RefIdeal.main_arg1) = m ((c.tc : Thread Cert.BranchX2Ideal.nD Cert.BranchX2Ideal.τ).loc Cert.BranchX2Ideal.main_arg1)) →
    ∃ (v0 : (c : Dev Cert.BranchX2Ideal.nD) → Buf (Elt Ideal) ((c.tc : Thread Cert.BranchX2Ideal.nD Cert.BranchX2Ideal.τ).loc Cert.BranchX2Ideal.main_v2)),
      θ_run (Cert.BranchX2Ideal.defs (F := Ideal)) (onTc (τ := Cert.BranchX2Ideal.τ) (Cert.BranchX2Ideal.main (F := Ideal))) ⟨m, fun _ => 0, g⟩ (fun r => ∀ c : Dev Cert.BranchX2Ideal.nD,
          r.2.mem ((c.tc : Thread Cert.BranchX2Ideal.nD Cert.BranchX2Ideal.τ).loc Cert.BranchX2Ideal.main_v2) = v0 c
          ∧ r.2.mem ((c.tc : Thread Cert.BranchX2Ideal.nD Cert.BranchX2Ideal.τ).loc Cert.BranchX2Ideal.main_arg0) = m ((c.tc : Thread Cert.BranchX2Ideal.nD Cert.BranchX2Ideal.τ).loc Cert.BranchX2Ideal.main_arg0)
          ∧ r.2.mem ((c.tc : Thread Cert.BranchX2Ideal.nD Cert.BranchX2Ideal.τ).loc Cert.BranchX2Ideal.main_arg1) = m ((c.tc : Thread Cert.BranchX2Ideal.nD Cert.BranchX2Ideal.τ).loc Cert.BranchX2Ideal.main_arg1))
      ∧ θ_run (Cert.BranchX2RefIdeal.defs (F := Ideal)) (onTc (τ := Cert.BranchX2RefIdeal.τ) (Cert.BranchX2RefIdeal.main (F := Ideal))) ⟨m', fun _ => 0, g'⟩ (fun r => ∀ c : Dev Cert.BranchX2RefIdeal.nD,
          r.2.mem ((c.tc : Thread Cert.BranchX2RefIdeal.nD Cert.BranchX2RefIdeal.τ).loc Cert.BranchX2RefIdeal.main_v8) = v0 c
          ∧ r.2.mem ((c.tc : Thread Cert.BranchX2RefIdeal.nD Cert.BranchX2RefIdeal.τ).loc Cert.BranchX2RefIdeal.main_arg0) = m' ((c.tc : Thread Cert.BranchX2RefIdeal.nD Cert.BranchX2RefIdeal.τ).loc Cert.BranchX2RefIdeal.main_arg0)
          ∧ r.2.mem ((c.tc : Thread Cert.BranchX2RefIdeal.nD Cert.BranchX2RefIdeal.τ).loc Cert.BranchX2RefIdeal.main_arg1) = m' ((c.tc : Thread Cert.BranchX2RefIdeal.nD Cert.BranchX2RefIdeal.τ).loc Cert.BranchX2RefIdeal.main_arg1))

def preserves_BranchW0_BranchW0Ideal : Prop :=
  True

def algebraic_BranchW0Ideal_BranchW0RefIdeal [hBranchW0Ideal : Cert.BranchW0Ideal.Facts] [hBranchW0RefIdeal : Cert.BranchW0RefIdeal.Facts] : Prop :=
  ∀ (m : (ℓ : Loc Cert.BranchW0Ideal.nD Cert.BranchW0Ideal.τ Cert.BranchW0Ideal.sig) → Buf (Elt Ideal) ℓ) (g : Dev Cert.BranchW0Ideal.nD → PrngReg)
    (m' : (ℓ : Loc Cert.BranchW0RefIdeal.nD Cert.BranchW0RefIdeal.τ Cert.BranchW0RefIdeal.sig) → Buf (Elt Ideal) ℓ) (g' : Dev Cert.BranchW0RefIdeal.nD → PrngReg), Pre_BranchW0Ideal m →
    (∀ c : Dev Cert.BranchW0Ideal.nD,
      m' ((c.tc : Thread Cert.BranchW0RefIdeal.nD Cert.BranchW0RefIdeal.τ).loc Cert.BranchW0RefIdeal.main_arg0) = m ((c.tc : Thread Cert.BranchW0Ideal.nD Cert.BranchW0Ideal.τ).loc Cert.BranchW0Ideal.main_arg0)
      ∧ m' ((c.tc : Thread Cert.BranchW0RefIdeal.nD Cert.BranchW0RefIdeal.τ).loc Cert.BranchW0RefIdeal.main_arg1) = m ((c.tc : Thread Cert.BranchW0Ideal.nD Cert.BranchW0Ideal.τ).loc Cert.BranchW0Ideal.main_arg1)) →
    ∃ (v0 : (c : Dev Cert.BranchW0Ideal.nD) → Buf (Elt Ideal) ((c.tc : Thread Cert.BranchW0Ideal.nD Cert.BranchW0Ideal.τ).loc Cert.BranchW0Ideal.main_v0)),
      θ_run (Cert.BranchW0Ideal.defs (F := Ideal)) (onTc (τ := Cert.BranchW0Ideal.τ) (Cert.BranchW0Ideal.main (F := Ideal))) ⟨m, fun _ => 0, g⟩ (fun r => ∀ c : Dev Cert.BranchW0Ideal.nD,
          r.2.mem ((c.tc : Thread Cert.BranchW0Ideal.nD Cert.BranchW0Ideal.τ).loc Cert.BranchW0Ideal.main_v0) = v0 c
          ∧ r.2.mem ((c.tc : Thread Cert.BranchW0Ideal.nD Cert.BranchW0Ideal.τ).loc Cert.BranchW0Ideal.main_arg0) = m ((c.tc : Thread Cert.BranchW0Ideal.nD Cert.BranchW0Ideal.τ).loc Cert.BranchW0Ideal.main_arg0)
          ∧ r.2.mem ((c.tc : Thread Cert.BranchW0Ideal.nD Cert.BranchW0Ideal.τ).loc Cert.BranchW0Ideal.main_arg1) = m ((c.tc : Thread Cert.BranchW0Ideal.nD Cert.BranchW0Ideal.τ).loc Cert.BranchW0Ideal.main_arg1))
      ∧ θ_run (Cert.BranchW0RefIdeal.defs (F := Ideal)) (onTc (τ := Cert.BranchW0RefIdeal.τ) (Cert.BranchW0RefIdeal.main (F := Ideal))) ⟨m', fun _ => 0, g'⟩ (fun r => ∀ c : Dev Cert.BranchW0RefIdeal.nD,
          r.2.mem ((c.tc : Thread Cert.BranchW0RefIdeal.nD Cert.BranchW0RefIdeal.τ).loc Cert.BranchW0RefIdeal.main_v7) = v0 c
          ∧ r.2.mem ((c.tc : Thread Cert.BranchW0RefIdeal.nD Cert.BranchW0RefIdeal.τ).loc Cert.BranchW0RefIdeal.main_arg0) = m' ((c.tc : Thread Cert.BranchW0RefIdeal.nD Cert.BranchW0RefIdeal.τ).loc Cert.BranchW0RefIdeal.main_arg0)
          ∧ r.2.mem ((c.tc : Thread Cert.BranchW0RefIdeal.nD Cert.BranchW0RefIdeal.τ).loc Cert.BranchW0RefIdeal.main_arg1) = m' ((c.tc : Thread Cert.BranchW0RefIdeal.nD Cert.BranchW0RefIdeal.τ).loc Cert.BranchW0RefIdeal.main_arg1))

def preserves_BranchW1_BranchW1Ideal : Prop :=
  True

def algebraic_BranchW1Ideal_BranchW1RefIdeal [hBranchW1Ideal : Cert.BranchW1Ideal.Facts] [hBranchW1RefIdeal : Cert.BranchW1RefIdeal.Facts] : Prop :=
  ∀ (m : (ℓ : Loc Cert.BranchW1Ideal.nD Cert.BranchW1Ideal.τ Cert.BranchW1Ideal.sig) → Buf (Elt Ideal) ℓ) (g : Dev Cert.BranchW1Ideal.nD → PrngReg)
    (m' : (ℓ : Loc Cert.BranchW1RefIdeal.nD Cert.BranchW1RefIdeal.τ Cert.BranchW1RefIdeal.sig) → Buf (Elt Ideal) ℓ) (g' : Dev Cert.BranchW1RefIdeal.nD → PrngReg), Pre_BranchW1Ideal m →
    (∀ c : Dev Cert.BranchW1Ideal.nD,
      m' ((c.tc : Thread Cert.BranchW1RefIdeal.nD Cert.BranchW1RefIdeal.τ).loc Cert.BranchW1RefIdeal.main_arg0) = m ((c.tc : Thread Cert.BranchW1Ideal.nD Cert.BranchW1Ideal.τ).loc Cert.BranchW1Ideal.main_arg0)
      ∧ m' ((c.tc : Thread Cert.BranchW1RefIdeal.nD Cert.BranchW1RefIdeal.τ).loc Cert.BranchW1RefIdeal.main_arg1) = m ((c.tc : Thread Cert.BranchW1Ideal.nD Cert.BranchW1Ideal.τ).loc Cert.BranchW1Ideal.main_arg1)) →
    ∃ (v0 : (c : Dev Cert.BranchW1Ideal.nD) → Buf (Elt Ideal) ((c.tc : Thread Cert.BranchW1Ideal.nD Cert.BranchW1Ideal.τ).loc Cert.BranchW1Ideal.main_v0)),
      θ_run (Cert.BranchW1Ideal.defs (F := Ideal)) (onTc (τ := Cert.BranchW1Ideal.τ) (Cert.BranchW1Ideal.main (F := Ideal))) ⟨m, fun _ => 0, g⟩ (fun r => ∀ c : Dev Cert.BranchW1Ideal.nD,
          r.2.mem ((c.tc : Thread Cert.BranchW1Ideal.nD Cert.BranchW1Ideal.τ).loc Cert.BranchW1Ideal.main_v0) = v0 c
          ∧ r.2.mem ((c.tc : Thread Cert.BranchW1Ideal.nD Cert.BranchW1Ideal.τ).loc Cert.BranchW1Ideal.main_arg0) = m ((c.tc : Thread Cert.BranchW1Ideal.nD Cert.BranchW1Ideal.τ).loc Cert.BranchW1Ideal.main_arg0)
          ∧ r.2.mem ((c.tc : Thread Cert.BranchW1Ideal.nD Cert.BranchW1Ideal.τ).loc Cert.BranchW1Ideal.main_arg1) = m ((c.tc : Thread Cert.BranchW1Ideal.nD Cert.BranchW1Ideal.τ).loc Cert.BranchW1Ideal.main_arg1))
      ∧ θ_run (Cert.BranchW1RefIdeal.defs (F := Ideal)) (onTc (τ := Cert.BranchW1RefIdeal.τ) (Cert.BranchW1RefIdeal.main (F := Ideal))) ⟨m', fun _ => 0, g'⟩ (fun r => ∀ c : Dev Cert.BranchW1RefIdeal.nD,
          r.2.mem ((c.tc : Thread Cert.BranchW1RefIdeal.nD Cert.BranchW1RefIdeal.τ).loc Cert.BranchW1RefIdeal.main_v6) = v0 c
          ∧ r.2.mem ((c.tc : Thread Cert.BranchW1RefIdeal.nD Cert.BranchW1RefIdeal.τ).loc Cert.BranchW1RefIdeal.main_arg0) = m' ((c.tc : Thread Cert.BranchW1RefIdeal.nD Cert.BranchW1RefIdeal.τ).loc Cert.BranchW1RefIdeal.main_arg0)
          ∧ r.2.mem ((c.tc : Thread Cert.BranchW1RefIdeal.nD Cert.BranchW1RefIdeal.τ).loc Cert.BranchW1RefIdeal.main_arg1) = m' ((c.tc : Thread Cert.BranchW1RefIdeal.nD Cert.BranchW1RefIdeal.τ).loc Cert.BranchW1RefIdeal.main_arg1))

def preserves_BranchW2_BranchW2Ideal : Prop :=
  True

def algebraic_BranchW2Ideal_BranchW2RefIdeal [hBranchW2Ideal : Cert.BranchW2Ideal.Facts] [hBranchW2RefIdeal : Cert.BranchW2RefIdeal.Facts] : Prop :=
  ∀ (m : (ℓ : Loc Cert.BranchW2Ideal.nD Cert.BranchW2Ideal.τ Cert.BranchW2Ideal.sig) → Buf (Elt Ideal) ℓ) (g : Dev Cert.BranchW2Ideal.nD → PrngReg)
    (m' : (ℓ : Loc Cert.BranchW2RefIdeal.nD Cert.BranchW2RefIdeal.τ Cert.BranchW2RefIdeal.sig) → Buf (Elt Ideal) ℓ) (g' : Dev Cert.BranchW2RefIdeal.nD → PrngReg), Pre_BranchW2Ideal m →
    (∀ c : Dev Cert.BranchW2Ideal.nD,
      m' ((c.tc : Thread Cert.BranchW2RefIdeal.nD Cert.BranchW2RefIdeal.τ).loc Cert.BranchW2RefIdeal.main_arg0) = m ((c.tc : Thread Cert.BranchW2Ideal.nD Cert.BranchW2Ideal.τ).loc Cert.BranchW2Ideal.main_arg0)
      ∧ m' ((c.tc : Thread Cert.BranchW2RefIdeal.nD Cert.BranchW2RefIdeal.τ).loc Cert.BranchW2RefIdeal.main_arg1) = m ((c.tc : Thread Cert.BranchW2Ideal.nD Cert.BranchW2Ideal.τ).loc Cert.BranchW2Ideal.main_arg1)) →
    ∃ (v0 : (c : Dev Cert.BranchW2Ideal.nD) → Buf (Elt Ideal) ((c.tc : Thread Cert.BranchW2Ideal.nD Cert.BranchW2Ideal.τ).loc Cert.BranchW2Ideal.main_v0)),
      θ_run (Cert.BranchW2Ideal.defs (F := Ideal)) (onTc (τ := Cert.BranchW2Ideal.τ) (Cert.BranchW2Ideal.main (F := Ideal))) ⟨m, fun _ => 0, g⟩ (fun r => ∀ c : Dev Cert.BranchW2Ideal.nD,
          r.2.mem ((c.tc : Thread Cert.BranchW2Ideal.nD Cert.BranchW2Ideal.τ).loc Cert.BranchW2Ideal.main_v0) = v0 c
          ∧ r.2.mem ((c.tc : Thread Cert.BranchW2Ideal.nD Cert.BranchW2Ideal.τ).loc Cert.BranchW2Ideal.main_arg0) = m ((c.tc : Thread Cert.BranchW2Ideal.nD Cert.BranchW2Ideal.τ).loc Cert.BranchW2Ideal.main_arg0)
          ∧ r.2.mem ((c.tc : Thread Cert.BranchW2Ideal.nD Cert.BranchW2Ideal.τ).loc Cert.BranchW2Ideal.main_arg1) = m ((c.tc : Thread Cert.BranchW2Ideal.nD Cert.BranchW2Ideal.τ).loc Cert.BranchW2Ideal.main_arg1))
      ∧ θ_run (Cert.BranchW2RefIdeal.defs (F := Ideal)) (onTc (τ := Cert.BranchW2RefIdeal.τ) (Cert.BranchW2RefIdeal.main (F := Ideal))) ⟨m', fun _ => 0, g'⟩ (fun r => ∀ c : Dev Cert.BranchW2RefIdeal.nD,
          r.2.mem ((c.tc : Thread Cert.BranchW2RefIdeal.nD Cert.BranchW2RefIdeal.τ).loc Cert.BranchW2RefIdeal.main_v6) = v0 c
          ∧ r.2.mem ((c.tc : Thread Cert.BranchW2RefIdeal.nD Cert.BranchW2RefIdeal.τ).loc Cert.BranchW2RefIdeal.main_arg0) = m' ((c.tc : Thread Cert.BranchW2RefIdeal.nD Cert.BranchW2RefIdeal.τ).loc Cert.BranchW2RefIdeal.main_arg0)
          ∧ r.2.mem ((c.tc : Thread Cert.BranchW2RefIdeal.nD Cert.BranchW2RefIdeal.τ).loc Cert.BranchW2RefIdeal.main_arg1) = m' ((c.tc : Thread Cert.BranchW2RefIdeal.nD Cert.BranchW2RefIdeal.τ).loc Cert.BranchW2RefIdeal.main_arg1))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v63) = v0 c
          ∧ r.2.mem ((c.tc : Thread Cert.LnBwdRefIdeal.nD Cert.LnBwdRefIdeal.τ).loc Cert.LnBwdRefIdeal.main_v64) = v1 c
          ∧ r.2.mem ((c.tc : Thread Cert.LnBwdRefIdeal.nD Cert.LnBwdRefIdeal.τ).loc Cert.LnBwdRefIdeal.main_v65) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v24) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v23) = v0 c
          ∧ r.2.mem ((c.tc : Thread Cert.AdamFfnInRefIdeal.nD Cert.AdamFfnInRefIdeal.τ).loc Cert.AdamFfnInRefIdeal.main_v4) = v1 c
          ∧ r.2.mem ((c.tc : Thread Cert.AdamFfnInRefIdeal.nD Cert.AdamFfnInRefIdeal.τ).loc Cert.AdamFfnInRefIdeal.main_v10) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v23) = v0 c
          ∧ r.2.mem ((c.tc : Thread Cert.AdamFfnOutRefIdeal.nD Cert.AdamFfnOutRefIdeal.τ).loc Cert.AdamFfnOutRefIdeal.main_v4) = v1 c
          ∧ r.2.mem ((c.tc : Thread Cert.AdamFfnOutRefIdeal.nD Cert.AdamFfnOutRefIdeal.τ).loc Cert.AdamFfnOutRefIdeal.main_v10) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamVectors_AdamVectorsIdeal : Prop :=
  True

def algebraic_AdamVectorsIdeal_AdamVectorsRefIdeal [hAdamVectorsIdeal : Cert.AdamVectorsIdeal.Facts] [hAdamVectorsRefIdeal : Cert.AdamVectorsRefIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg)
    (m' : (ℓ : Loc Cert.AdamVectorsRefIdeal.nD Cert.AdamVectorsRefIdeal.τ Cert.AdamVectorsRefIdeal.sig) → Buf (Elt Ideal) ℓ) (g' : Dev Cert.AdamVectorsRefIdeal.nD → PrngReg), Pre_AdamVectorsIdeal m →
    (∀ c : Dev Cert.AdamVectorsIdeal.nD,
      m' ((c.tc : Thread Cert.AdamVectorsRefIdeal.nD Cert.AdamVectorsRefIdeal.τ).loc Cert.AdamVectorsRefIdeal.main_arg0) = m ((c.tc : Thread Cert.AdamVectorsIdeal.nD Cert.AdamVectorsIdeal.τ).loc Cert.AdamVectorsIdeal.main_arg0)
      ∧ m' ((c.tc : Thread Cert.AdamVectorsRefIdeal.nD Cert.AdamVectorsRefIdeal.τ).loc Cert.AdamVectorsRefIdeal.main_arg1) = m ((c.tc : Thread Cert.AdamVectorsIdeal.nD Cert.AdamVectorsIdeal.τ).loc Cert.AdamVectorsIdeal.main_arg1)
      ∧ m' ((c.tc : Thread Cert.AdamVectorsRefIdeal.nD Cert.AdamVectorsRefIdeal.τ).loc Cert.AdamVectorsRefIdeal.main_arg2) = m ((c.tc : Thread Cert.AdamVectorsIdeal.nD Cert.AdamVectorsIdeal.τ).loc Cert.AdamVectorsIdeal.main_arg2)
      ∧ m' ((c.tc : Thread Cert.AdamVectorsRefIdeal.nD Cert.AdamVectorsRefIdeal.τ).loc Cert.AdamVectorsRefIdeal.main_arg3) = m ((c.tc : Thread Cert.AdamVectorsIdeal.nD Cert.AdamVectorsIdeal.τ).loc Cert.AdamVectorsIdeal.main_arg3)) →
    ∃ (v0 : (c : Dev Cert.AdamVectorsIdeal.nD) → Buf (Elt Ideal) ((c.tc : Thread Cert.AdamVectorsIdeal.nD Cert.AdamVectorsIdeal.τ).loc Cert.AdamVectorsIdeal.main_v0_0)) (v1 : (c : Dev Cert.AdamVectorsIdeal.nD) → Buf (Elt Ideal) ((c.tc : Thread Cert.AdamVectorsIdeal.nD Cert.AdamVectorsIdeal.τ).loc Cert.AdamVectorsIdeal.main_v0_1)) (v2 : (c : Dev Cert.AdamVectorsIdeal.nD) → Buf (Elt Ideal) ((c.tc : Thread Cert.AdamVectorsIdeal.nD Cert.AdamVectorsIdeal.τ).loc Cert.AdamVectorsIdeal.main_v0_2)),
      θ_run (Cert.AdamVectorsIdeal.defs (F := Ideal)) (onTc (τ := Cert.AdamVectorsIdeal.τ) (Cert.AdamVectorsIdeal.main (F := Ideal))) ⟨m, fun _ => 0, g⟩ (fun r => ∀ c : Dev Cert.AdamVectorsIdeal.nD,
          r.2.mem ((c.tc : Thread Cert.AdamVectorsIdeal.nD Cert.AdamVectorsIdeal.τ).loc Cert.AdamVectorsIdeal.main_v0_0) = v0 c
          ∧ r.2.mem ((c.tc : Thread Cert.AdamVectorsIdeal.nD Cert.AdamVectorsIdeal.τ).loc Cert.AdamVectorsIdeal.main_v0_1) = v1 c
          ∧ r.2.mem ((c.tc : Thread Cert.AdamVectorsIdeal.nD Cert.AdamVectorsIdeal.τ).loc Cert.AdamVectorsIdeal.main_v0_2) = v2 c
          ∧ r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
          ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
          ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
          ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ θ_run (Cert.AdamVectorsRefIdeal.defs (F := Ideal)) (onTc (τ := Cert.AdamVectorsRefIdeal.τ) (Cert.AdamVectorsRefIdeal.main (F := Ideal))) ⟨m', fun _ => 0, g'⟩ (fun r => ∀ c : Dev Cert.AdamVectorsRefIdeal.nD,
          r.2.mem ((c.tc : Thread Cert.AdamVectorsRefIdeal.nD Cert.AdamVectorsRefIdeal.τ).loc Cert.AdamVectorsRefIdeal.main_v23) = v0 c
          ∧ r.2.mem ((c.tc : Thread Cert.AdamVectorsRefIdeal.nD Cert.AdamVectorsRefIdeal.τ).loc Cert.AdamVectorsRefIdeal.main_v4) = v1 c
          ∧ r.2.mem ((c.tc : Thread Cert.AdamVectorsRefIdeal.nD Cert.AdamVectorsRefIdeal.τ).loc Cert.AdamVectorsRefIdeal.main_v10) = v2 c
          ∧ r.2.mem ((c.tc : Thread Cert.AdamVectorsRefIdeal.nD Cert.AdamVectorsRefIdeal.τ).loc Cert.AdamVectorsRefIdeal.main_arg0) = m' ((c.tc : Thread Cert.AdamVectorsRefIdeal.nD Cert.AdamVectorsRefIdeal.τ).loc Cert.AdamVectorsRefIdeal.main_arg0)
          ∧ r.2.mem ((c.tc : Thread Cert.AdamVectorsRefIdeal.nD Cert.AdamVectorsRefIdeal.τ).loc Cert.AdamVectorsRefIdeal.main_arg1) = m' ((c.tc : Thread Cert.AdamVectorsRefIdeal.nD Cert.AdamVectorsRefIdeal.τ).loc Cert.AdamVectorsRefIdeal.main_arg1)
          ∧ r.2.mem ((c.tc : Thread Cert.AdamVectorsRefIdeal.nD Cert.AdamVectorsRefIdeal.τ).loc Cert.AdamVectorsRefIdeal.main_arg2) = m' ((c.tc : Thread Cert.AdamVectorsRefIdeal.nD Cert.AdamVectorsRefIdeal.τ).loc Cert.AdamVectorsRefIdeal.main_arg2)
          ∧ r.2.mem ((c.tc : Thread Cert.AdamVectorsRefIdeal.nD Cert.AdamVectorsRefIdeal.τ).loc Cert.AdamVectorsRefIdeal.main_arg3) = m' ((c.tc : Thread Cert.AdamVectorsRefIdeal.nD Cert.AdamVectorsRefIdeal.τ).loc Cert.AdamVectorsRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamGates_AdamGatesIdeal : Prop :=
  True

def algebraic_AdamGatesIdeal_AdamGatesRefIdeal [hAdamGatesIdeal : Cert.AdamGatesIdeal.Facts] [hAdamGatesRefIdeal : Cert.AdamGatesRefIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.AdamGatesRefIdeal.nD Cert.AdamGatesRefIdeal.τ Cert.AdamGatesRefIdeal.sig) → Buf (Elt Ideal) ℓ) (g' : Dev Cert.AdamGatesRefIdeal.nD → PrngReg), Pre_AdamGatesIdeal m →
    (∀ c : Dev Cert.AdamGatesIdeal.nD,
      m' ((c.tc : Thread Cert.AdamGatesRefIdeal.nD Cert.AdamGatesRefIdeal.τ).loc Cert.AdamGatesRefIdeal.main_arg0) = m ((c.tc : Thread Cert.AdamGatesIdeal.nD Cert.AdamGatesIdeal.τ).loc Cert.AdamGatesIdeal.main_arg0)
      ∧ m' ((c.tc : Thread Cert.AdamGatesRefIdeal.nD Cert.AdamGatesRefIdeal.τ).loc Cert.AdamGatesRefIdeal.main_arg1) = m ((c.tc : Thread Cert.AdamGatesIdeal.nD Cert.AdamGatesIdeal.τ).loc Cert.AdamGatesIdeal.main_arg1)
      ∧ m' ((c.tc : Thread Cert.AdamGatesRefIdeal.nD Cert.AdamGatesRefIdeal.τ).loc Cert.AdamGatesRefIdeal.main_arg2) = m ((c.tc : Thread Cert.AdamGatesIdeal.nD Cert.AdamGatesIdeal.τ).loc Cert.AdamGatesIdeal.main_arg2)
      ∧ m' ((c.tc : Thread Cert.AdamGatesRefIdeal.nD Cert.AdamGatesRefIdeal.τ).loc Cert.AdamGatesRefIdeal.main_arg3) = m ((c.tc : Thread Cert.AdamGatesIdeal.nD Cert.AdamGatesIdeal.τ).loc Cert.AdamGatesIdeal.main_arg3)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ θ_run (Cert.AdamGatesRefIdeal.defs (F := Ideal)) (onTc (τ := Cert.AdamGatesRefIdeal.τ) (Cert.AdamGatesRefIdeal.main (F := Ideal))) ⟨m', fun _ => 0, g'⟩ (fun r => ∀ c : Dev Cert.AdamGatesRefIdeal.nD,
          r.2.mem ((c.tc : Thread Cert.AdamGatesRefIdeal.nD Cert.AdamGatesRefIdeal.τ).loc Cert.AdamGatesRefIdeal.main_v23) = v0 c
          ∧ r.2.mem ((c.tc : Thread Cert.AdamGatesRefIdeal.nD Cert.AdamGatesRefIdeal.τ).loc Cert.AdamGatesRefIdeal.main_v4) = v1 c
          ∧ r.2.mem ((c.tc : Thread Cert.AdamGatesRefIdeal.nD Cert.AdamGatesRefIdeal.τ).loc Cert.AdamGatesRefIdeal.main_v10) = v2 c
          ∧ r.2.mem ((c.tc : Thread Cert.AdamGatesRefIdeal.nD Cert.AdamGatesRefIdeal.τ).loc Cert.AdamGatesRefIdeal.main_arg0) = m' ((c.tc : Thread Cert.AdamGatesRefIdeal.nD Cert.AdamGatesRefIdeal.τ).loc Cert.AdamGatesRefIdeal.main_arg0)
          ∧ r.2.mem ((c.tc : Thread Cert.AdamGatesRefIdeal.nD Cert.AdamGatesRefIdeal.τ).loc Cert.AdamGatesRefIdeal.main_arg1) = m' ((c.tc : Thread Cert.AdamGatesRefIdeal.nD Cert.AdamGatesRefIdeal.τ).loc Cert.AdamGatesRefIdeal.main_arg1)
          ∧ r.2.mem ((c.tc : Thread Cert.AdamGatesRefIdeal.nD Cert.AdamGatesRefIdeal.τ).loc Cert.AdamGatesRefIdeal.main_arg2) = m' ((c.tc : Thread Cert.AdamGatesRefIdeal.nD Cert.AdamGatesRefIdeal.τ).loc Cert.AdamGatesRefIdeal.main_arg2)
          ∧ r.2.mem ((c.tc : Thread Cert.AdamGatesRefIdeal.nD Cert.AdamGatesRefIdeal.τ).loc Cert.AdamGatesRefIdeal.main_arg3) = m' ((c.tc : Thread Cert.AdamGatesRefIdeal.nD Cert.AdamGatesRefIdeal.τ).loc Cert.AdamGatesRefIdeal.main_arg3))

def preserves_AdamSinks_AdamSinksIdeal : Prop :=
  True

def algebraic_AdamSinksIdeal_AdamSinksRefIdeal [hAdamSinksIdeal : Cert.AdamSinksIdeal.Facts] [hAdamSinksRefIdeal : Cert.AdamSinksRefIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksRefIdeal.nD Cert.AdamSinksRefIdeal.τ Cert.AdamSinksRefIdeal.sig) → Buf (Elt Ideal) ℓ) (g' : Dev Cert.AdamSinksRefIdeal.nD → PrngReg), Pre_AdamSinksIdeal m →
    (∀ c : Dev Cert.AdamSinksIdeal.nD,
      m' ((c.tc : Thread Cert.AdamSinksRefIdeal.nD Cert.AdamSinksRefIdeal.τ).loc Cert.AdamSinksRefIdeal.main_arg0) = m ((c.tc : Thread Cert.AdamSinksIdeal.nD Cert.AdamSinksIdeal.τ).loc Cert.AdamSinksIdeal.main_arg0)
      ∧ m' ((c.tc : Thread Cert.AdamSinksRefIdeal.nD Cert.AdamSinksRefIdeal.τ).loc Cert.AdamSinksRefIdeal.main_arg1) = m ((c.tc : Thread Cert.AdamSinksIdeal.nD Cert.AdamSinksIdeal.τ).loc Cert.AdamSinksIdeal.main_arg1)
      ∧ m' ((c.tc : Thread Cert.AdamSinksRefIdeal.nD Cert.AdamSinksRefIdeal.τ).loc Cert.AdamSinksRefIdeal.main_arg2) = m ((c.tc : Thread Cert.AdamSinksIdeal.nD Cert.AdamSinksIdeal.τ).loc Cert.AdamSinksIdeal.main_arg2)
      ∧ m' ((c.tc : Thread Cert.AdamSinksRefIdeal.nD Cert.AdamSinksRefIdeal.τ).loc Cert.AdamSinksRefIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksRefIdeal.defs (F := Ideal)) (onTc (τ := Cert.AdamSinksRefIdeal.τ) (Cert.AdamSinksRefIdeal.main (F := Ideal))) ⟨m', fun _ => 0, g'⟩ (fun r => ∀ c : Dev Cert.AdamSinksRefIdeal.nD,
          r.2.mem ((c.tc : Thread Cert.AdamSinksRefIdeal.nD Cert.AdamSinksRefIdeal.τ).loc Cert.AdamSinksRefIdeal.main_v23) = v0 c
          ∧ r.2.mem ((c.tc : Thread Cert.AdamSinksRefIdeal.nD Cert.AdamSinksRefIdeal.τ).loc Cert.AdamSinksRefIdeal.main_v4) = v1 c
          ∧ r.2.mem ((c.tc : Thread Cert.AdamSinksRefIdeal.nD Cert.AdamSinksRefIdeal.τ).loc Cert.AdamSinksRefIdeal.main_v10) = v2 c
          ∧ r.2.mem ((c.tc : Thread Cert.AdamSinksRefIdeal.nD Cert.AdamSinksRefIdeal.τ).loc Cert.AdamSinksRefIdeal.main_arg0) = m' ((c.tc : Thread Cert.AdamSinksRefIdeal.nD Cert.AdamSinksRefIdeal.τ).loc Cert.AdamSinksRefIdeal.main_arg0)
          ∧ r.2.mem ((c.tc : Thread Cert.AdamSinksRefIdeal.nD Cert.AdamSinksRefIdeal.τ).loc Cert.AdamSinksRefIdeal.main_arg1) = m' ((c.tc : Thread Cert.AdamSinksRefIdeal.nD Cert.AdamSinksRefIdeal.τ).loc Cert.AdamSinksRefIdeal.main_arg1)
          ∧ r.2.mem ((c.tc : Thread Cert.AdamSinksRefIdeal.nD Cert.AdamSinksRefIdeal.τ).loc Cert.AdamSinksRefIdeal.main_arg2) = m' ((c.tc : Thread Cert.AdamSinksRefIdeal.nD Cert.AdamSinksRefIdeal.τ).loc Cert.AdamSinksRefIdeal.main_arg2)
          ∧ r.2.mem ((c.tc : Thread Cert.AdamSinksRefIdeal.nD Cert.AdamSinksRefIdeal.τ).loc Cert.AdamSinksRefIdeal.main_arg3) = m' ((c.tc : Thread Cert.AdamSinksRefIdeal.nD Cert.AdamSinksRefIdeal.τ).loc Cert.AdamSinksRefIdeal.main_arg3))

def preserves_ChipSumIn_ChipSumInIdeal : Prop :=
  True

def algebraic_ChipSumInIdeal_ChipSumInRefIdeal [hChipSumInIdeal : Cert.ChipSumInIdeal.Facts] [hChipSumInRefIdeal : Cert.ChipSumInRefIdeal.Facts] : Prop :=
  ∀ (m : (ℓ : Loc Cert.ChipSumInIdeal.nD Cert.ChipSumInIdeal.τ Cert.ChipSumInIdeal.sig) → Buf (Elt Ideal) ℓ) (g : Dev Cert.ChipSumInIdeal.nD → PrngReg)
    (m' : (ℓ : Loc Cert.ChipSumInRefIdeal.nD Cert.ChipSumInRefIdeal.τ Cert.ChipSumInRefIdeal.sig) → Buf (Elt Ideal) ℓ) (g' : Dev Cert.ChipSumInRefIdeal.nD → PrngReg), Pre_ChipSumInIdeal m →
    (∀ c : Dev Cert.ChipSumInIdeal.nD,
      m' ((c.tc : Thread Cert.ChipSumInRefIdeal.nD Cert.ChipSumInRefIdeal.τ).loc Cert.ChipSumInRefIdeal.main_arg0) = m ((c.tc : Thread Cert.ChipSumInIdeal.nD Cert.ChipSumInIdeal.τ).loc Cert.ChipSumInIdeal.main_arg0)
      ∧ m' ((c.tc : Thread Cert.ChipSumInRefIdeal.nD Cert.ChipSumInRefIdeal.τ).loc Cert.ChipSumInRefIdeal.main_arg1) = m ((c.tc : Thread Cert.ChipSumInIdeal.nD Cert.ChipSumInIdeal.τ).loc Cert.ChipSumInIdeal.main_arg1)
      ∧ m' ((c.tc : Thread Cert.ChipSumInRefIdeal.nD Cert.ChipSumInRefIdeal.τ).loc Cert.ChipSumInRefIdeal.main_arg2) = m ((c.tc : Thread Cert.ChipSumInIdeal.nD Cert.ChipSumInIdeal.τ).loc Cert.ChipSumInIdeal.main_arg2)
      ∧ m' ((c.tc : Thread Cert.ChipSumInRefIdeal.nD Cert.ChipSumInRefIdeal.τ).loc Cert.ChipSumInRefIdeal.main_arg3) = m ((c.tc : Thread Cert.ChipSumInIdeal.nD Cert.ChipSumInIdeal.τ).loc Cert.ChipSumInIdeal.main_arg3)) →
    ∃ (v0 : (c : Dev Cert.ChipSumInIdeal.nD) → Buf (Elt Ideal) ((c.tc : Thread Cert.ChipSumInIdeal.nD Cert.ChipSumInIdeal.τ).loc Cert.ChipSumInIdeal.main_v0)),
      θ_run (Cert.ChipSumInIdeal.defs (F := Ideal)) (onTc (τ := Cert.ChipSumInIdeal.τ) (Cert.ChipSumInIdeal.main (F := Ideal))) ⟨m, fun _ => 0, g⟩ (fun r => ∀ c : Dev Cert.ChipSumInIdeal.nD,
          r.2.mem ((c.tc : Thread Cert.ChipSumInIdeal.nD Cert.ChipSumInIdeal.τ).loc Cert.ChipSumInIdeal.main_v0) = v0 c
          ∧ r.2.mem ((c.tc : Thread Cert.ChipSumInIdeal.nD Cert.ChipSumInIdeal.τ).loc Cert.ChipSumInIdeal.main_arg0) = m ((c.tc : Thread Cert.ChipSumInIdeal.nD Cert.ChipSumInIdeal.τ).loc Cert.ChipSumInIdeal.main_arg0)
          ∧ r.2.mem ((c.tc : Thread Cert.ChipSumInIdeal.nD Cert.ChipSumInIdeal.τ).loc Cert.ChipSumInIdeal.main_arg1) = m ((c.tc : Thread Cert.ChipSumInIdeal.nD Cert.ChipSumInIdeal.τ).loc Cert.ChipSumInIdeal.main_arg1)
          ∧ r.2.mem ((c.tc : Thread Cert.ChipSumInIdeal.nD Cert.ChipSumInIdeal.τ).loc Cert.ChipSumInIdeal.main_arg2) = m ((c.tc : Thread Cert.ChipSumInIdeal.nD Cert.ChipSumInIdeal.τ).loc Cert.ChipSumInIdeal.main_arg2)
          ∧ r.2.mem ((c.tc : Thread Cert.ChipSumInIdeal.nD Cert.ChipSumInIdeal.τ).loc Cert.ChipSumInIdeal.main_arg3) = m ((c.tc : Thread Cert.ChipSumInIdeal.nD Cert.ChipSumInIdeal.τ).loc Cert.ChipSumInIdeal.main_arg3))
      ∧ θ_run (Cert.ChipSumInRefIdeal.defs (F := Ideal)) (onTc (τ := Cert.ChipSumInRefIdeal.τ) (Cert.ChipSumInRefIdeal.main (F := Ideal))) ⟨m', fun _ => 0, g'⟩ (fun r => ∀ c : Dev Cert.ChipSumInRefIdeal.nD,
          r.2.mem ((c.tc : Thread Cert.ChipSumInRefIdeal.nD Cert.ChipSumInRefIdeal.τ).loc Cert.ChipSumInRefIdeal.main_v5) = v0 c
          ∧ r.2.mem ((c.tc : Thread Cert.ChipSumInRefIdeal.nD Cert.ChipSumInRefIdeal.τ).loc Cert.ChipSumInRefIdeal.main_arg0) = m' ((c.tc : Thread Cert.ChipSumInRefIdeal.nD Cert.ChipSumInRefIdeal.τ).loc Cert.ChipSumInRefIdeal.main_arg0)
          ∧ r.2.mem ((c.tc : Thread Cert.ChipSumInRefIdeal.nD Cert.ChipSumInRefIdeal.τ).loc Cert.ChipSumInRefIdeal.main_arg1) = m' ((c.tc : Thread Cert.ChipSumInRefIdeal.nD Cert.ChipSumInRefIdeal.τ).loc Cert.ChipSumInRefIdeal.main_arg1)
          ∧ r.2.mem ((c.tc : Thread Cert.ChipSumInRefIdeal.nD Cert.ChipSumInRefIdeal.τ).loc Cert.ChipSumInRefIdeal.main_arg2) = m' ((c.tc : Thread Cert.ChipSumInRefIdeal.nD Cert.ChipSumInRefIdeal.τ).loc Cert.ChipSumInRefIdeal.main_arg2)
          ∧ r.2.mem ((c.tc : Thread Cert.ChipSumInRefIdeal.nD Cert.ChipSumInRefIdeal.τ).loc Cert.ChipSumInRefIdeal.main_arg3) = m' ((c.tc : Thread Cert.ChipSumInRefIdeal.nD Cert.ChipSumInRefIdeal.τ).loc Cert.ChipSumInRefIdeal.main_arg3))

def preserves_ChipSumBranch_ChipSumBranchIdeal : Prop :=
  True

def algebraic_ChipSumBranchIdeal_ChipSumBranchRefIdeal [hChipSumBranchIdeal : Cert.ChipSumBranchIdeal.Facts] [hChipSumBranchRefIdeal : Cert.ChipSumBranchRefIdeal.Facts] : Prop :=
  ∀ (m : (ℓ : Loc Cert.ChipSumBranchIdeal.nD Cert.ChipSumBranchIdeal.τ Cert.ChipSumBranchIdeal.sig) → Buf (Elt Ideal) ℓ) (g : Dev Cert.ChipSumBranchIdeal.nD → PrngReg)
    (m' : (ℓ : Loc Cert.ChipSumBranchRefIdeal.nD Cert.ChipSumBranchRefIdeal.τ Cert.ChipSumBranchRefIdeal.sig) → Buf (Elt Ideal) ℓ) (g' : Dev Cert.ChipSumBranchRefIdeal.nD → PrngReg), Pre_ChipSumBranchIdeal m →
    (∀ c : Dev Cert.ChipSumBranchIdeal.nD,
      m' ((c.tc : Thread Cert.ChipSumBranchRefIdeal.nD Cert.ChipSumBranchRefIdeal.τ).loc Cert.ChipSumBranchRefIdeal.main_arg0) = m ((c.tc : Thread Cert.ChipSumBranchIdeal.nD Cert.ChipSumBranchIdeal.τ).loc Cert.ChipSumBranchIdeal.main_arg0)
      ∧ m' ((c.tc : Thread Cert.ChipSumBranchRefIdeal.nD Cert.ChipSumBranchRefIdeal.τ).loc Cert.ChipSumBranchRefIdeal.main_arg1) = m ((c.tc : Thread Cert.ChipSumBranchIdeal.nD Cert.ChipSumBranchIdeal.τ).loc Cert.ChipSumBranchIdeal.main_arg1)
      ∧ m' ((c.tc : Thread Cert.ChipSumBranchRefIdeal.nD Cert.ChipSumBranchRefIdeal.τ).loc Cert.ChipSumBranchRefIdeal.main_arg2) = m ((c.tc : Thread Cert.ChipSumBranchIdeal.nD Cert.ChipSumBranchIdeal.τ).loc Cert.ChipSumBranchIdeal.main_arg2)
      ∧ m' ((c.tc : Thread Cert.ChipSumBranchRefIdeal.nD Cert.ChipSumBranchRefIdeal.τ).loc Cert.ChipSumBranchRefIdeal.main_arg3) = m ((c.tc : Thread Cert.ChipSumBranchIdeal.nD Cert.ChipSumBranchIdeal.τ).loc Cert.ChipSumBranchIdeal.main_arg3)) →
    ∃ (v0 : (c : Dev Cert.ChipSumBranchIdeal.nD) → Buf (Elt Ideal) ((c.tc : Thread Cert.ChipSumBranchIdeal.nD Cert.ChipSumBranchIdeal.τ).loc Cert.ChipSumBranchIdeal.main_v0)),
      θ_run (Cert.ChipSumBranchIdeal.defs (F := Ideal)) (onTc (τ := Cert.ChipSumBranchIdeal.τ) (Cert.ChipSumBranchIdeal.main (F := Ideal))) ⟨m, fun _ => 0, g⟩ (fun r => ∀ c : Dev Cert.ChipSumBranchIdeal.nD,
          r.2.mem ((c.tc : Thread Cert.ChipSumBranchIdeal.nD Cert.ChipSumBranchIdeal.τ).loc Cert.ChipSumBranchIdeal.main_v0) = v0 c
          ∧ r.2.mem ((c.tc : Thread Cert.ChipSumBranchIdeal.nD Cert.ChipSumBranchIdeal.τ).loc Cert.ChipSumBranchIdeal.main_arg0) = m ((c.tc : Thread Cert.ChipSumBranchIdeal.nD Cert.ChipSumBranchIdeal.τ).loc Cert.ChipSumBranchIdeal.main_arg0)
          ∧ r.2.mem ((c.tc : Thread Cert.ChipSumBranchIdeal.nD Cert.ChipSumBranchIdeal.τ).loc Cert.ChipSumBranchIdeal.main_arg1) = m ((c.tc : Thread Cert.ChipSumBranchIdeal.nD Cert.ChipSumBranchIdeal.τ).loc Cert.ChipSumBranchIdeal.main_arg1)
          ∧ r.2.mem ((c.tc : Thread Cert.ChipSumBranchIdeal.nD Cert.ChipSumBranchIdeal.τ).loc Cert.ChipSumBranchIdeal.main_arg2) = m ((c.tc : Thread Cert.ChipSumBranchIdeal.nD Cert.ChipSumBranchIdeal.τ).loc Cert.ChipSumBranchIdeal.main_arg2)
          ∧ r.2.mem ((c.tc : Thread Cert.ChipSumBranchIdeal.nD Cert.ChipSumBranchIdeal.τ).loc Cert.ChipSumBranchIdeal.main_arg3) = m ((c.tc : Thread Cert.ChipSumBranchIdeal.nD Cert.ChipSumBranchIdeal.τ).loc Cert.ChipSumBranchIdeal.main_arg3))
      ∧ θ_run (Cert.ChipSumBranchRefIdeal.defs (F := Ideal)) (onTc (τ := Cert.ChipSumBranchRefIdeal.τ) (Cert.ChipSumBranchRefIdeal.main (F := Ideal))) ⟨m', fun _ => 0, g'⟩ (fun r => ∀ c : Dev Cert.ChipSumBranchRefIdeal.nD,
          r.2.mem ((c.tc : Thread Cert.ChipSumBranchRefIdeal.nD Cert.ChipSumBranchRefIdeal.τ).loc Cert.ChipSumBranchRefIdeal.main_v5) = v0 c
          ∧ r.2.mem ((c.tc : Thread Cert.ChipSumBranchRefIdeal.nD Cert.ChipSumBranchRefIdeal.τ).loc Cert.ChipSumBranchRefIdeal.main_arg0) = m' ((c.tc : Thread Cert.ChipSumBranchRefIdeal.nD Cert.ChipSumBranchRefIdeal.τ).loc Cert.ChipSumBranchRefIdeal.main_arg0)
          ∧ r.2.mem ((c.tc : Thread Cert.ChipSumBranchRefIdeal.nD Cert.ChipSumBranchRefIdeal.τ).loc Cert.ChipSumBranchRefIdeal.main_arg1) = m' ((c.tc : Thread Cert.ChipSumBranchRefIdeal.nD Cert.ChipSumBranchRefIdeal.τ).loc Cert.ChipSumBranchRefIdeal.main_arg1)
          ∧ r.2.mem ((c.tc : Thread Cert.ChipSumBranchRefIdeal.nD Cert.ChipSumBranchRefIdeal.τ).loc Cert.ChipSumBranchRefIdeal.main_arg2) = m' ((c.tc : Thread Cert.ChipSumBranchRefIdeal.nD Cert.ChipSumBranchRefIdeal.τ).loc Cert.ChipSumBranchRefIdeal.main_arg2)
          ∧ r.2.mem ((c.tc : Thread Cert.ChipSumBranchRefIdeal.nD Cert.ChipSumBranchRefIdeal.τ).loc Cert.ChipSumBranchRefIdeal.main_arg3) = m' ((c.tc : Thread Cert.ChipSumBranchRefIdeal.nD Cert.ChipSumBranchRefIdeal.τ).loc Cert.ChipSumBranchRefIdeal.main_arg3))

def preserves_ChipSumOut_ChipSumOutIdeal : Prop :=
  True

def algebraic_ChipSumOutIdeal_ChipSumOutRefIdeal [hChipSumOutIdeal : Cert.ChipSumOutIdeal.Facts] [hChipSumOutRefIdeal : Cert.ChipSumOutRefIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg)
    (m' : (ℓ : Loc Cert.ChipSumOutRefIdeal.nD Cert.ChipSumOutRefIdeal.τ Cert.ChipSumOutRefIdeal.sig) → Buf (Elt Ideal) ℓ) (g' : Dev Cert.ChipSumOutRefIdeal.nD → PrngReg), Pre_ChipSumOutIdeal m →
    (∀ c : Dev Cert.ChipSumOutIdeal.nD,
      m' ((c.tc : Thread Cert.ChipSumOutRefIdeal.nD Cert.ChipSumOutRefIdeal.τ).loc Cert.ChipSumOutRefIdeal.main_arg0) = m ((c.tc : Thread Cert.ChipSumOutIdeal.nD Cert.ChipSumOutIdeal.τ).loc Cert.ChipSumOutIdeal.main_arg0)
      ∧ m' ((c.tc : Thread Cert.ChipSumOutRefIdeal.nD Cert.ChipSumOutRefIdeal.τ).loc Cert.ChipSumOutRefIdeal.main_arg1) = m ((c.tc : Thread Cert.ChipSumOutIdeal.nD Cert.ChipSumOutIdeal.τ).loc Cert.ChipSumOutIdeal.main_arg1)
      ∧ m' ((c.tc : Thread Cert.ChipSumOutRefIdeal.nD Cert.ChipSumOutRefIdeal.τ).loc Cert.ChipSumOutRefIdeal.main_arg2) = m ((c.tc : Thread Cert.ChipSumOutIdeal.nD Cert.ChipSumOutIdeal.τ).loc Cert.ChipSumOutIdeal.main_arg2)
      ∧ m' ((c.tc : Thread Cert.ChipSumOutRefIdeal.nD Cert.ChipSumOutRefIdeal.τ).loc Cert.ChipSumOutRefIdeal.main_arg3) = m ((c.tc : Thread Cert.ChipSumOutIdeal.nD Cert.ChipSumOutIdeal.τ).loc Cert.ChipSumOutIdeal.main_arg3)) →
    ∃ (v0 : (c : Dev Cert.ChipSumOutIdeal.nD) → Buf (Elt Ideal) ((c.tc : Thread Cert.ChipSumOutIdeal.nD Cert.ChipSumOutIdeal.τ).loc Cert.ChipSumOutIdeal.main_v0)),
      θ_run (Cert.ChipSumOutIdeal.defs (F := Ideal)) (onTc (τ := Cert.ChipSumOutIdeal.τ) (Cert.ChipSumOutIdeal.main (F := Ideal))) ⟨m, fun _ => 0, g⟩ (fun r => ∀ c : Dev Cert.ChipSumOutIdeal.nD,
          r.2.mem ((c.tc : Thread Cert.ChipSumOutIdeal.nD Cert.ChipSumOutIdeal.τ).loc Cert.ChipSumOutIdeal.main_v0) = v0 c
          ∧ r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0)
          ∧ r.2.mem ((c.tc : Thread Cert.ChipSumOutIdeal.nD Cert.ChipSumOutIdeal.τ).loc Cert.ChipSumOutIdeal.main_arg1) = m ((c.tc : Thread Cert.ChipSumOutIdeal.nD Cert.ChipSumOutIdeal.τ).loc Cert.ChipSumOutIdeal.main_arg1)
          ∧ r.2.mem ((c.tc : Thread Cert.ChipSumOutIdeal.nD Cert.ChipSumOutIdeal.τ).loc Cert.ChipSumOutIdeal.main_arg2) = m ((c.tc : Thread Cert.ChipSumOutIdeal.nD Cert.ChipSumOutIdeal.τ).loc Cert.ChipSumOutIdeal.main_arg2)
          ∧ r.2.mem ((c.tc : Thread Cert.ChipSumOutIdeal.nD Cert.ChipSumOutIdeal.τ).loc Cert.ChipSumOutIdeal.main_arg3) = m ((c.tc : Thread Cert.ChipSumOutIdeal.nD Cert.ChipSumOutIdeal.τ).loc Cert.ChipSumOutIdeal.main_arg3))
      ∧ θ_run (Cert.ChipSumOutRefIdeal.defs (F := Ideal)) (onTc (τ := Cert.ChipSumOutRefIdeal.τ) (Cert.ChipSumOutRefIdeal.main (F := Ideal))) ⟨m', fun _ => 0, g'⟩ (fun r => ∀ c : Dev Cert.ChipSumOutRefIdeal.nD,
          r.2.mem ((c.tc : Thread Cert.ChipSumOutRefIdeal.nD Cert.ChipSumOutRefIdeal.τ).loc Cert.ChipSumOutRefIdeal.main_v5) = v0 c
          ∧ r.2.mem ((c.tc : Thread Cert.ChipSumOutRefIdeal.nD Cert.ChipSumOutRefIdeal.τ).loc Cert.ChipSumOutRefIdeal.main_arg0) = m' ((c.tc : Thread Cert.ChipSumOutRefIdeal.nD Cert.ChipSumOutRefIdeal.τ).loc Cert.ChipSumOutRefIdeal.main_arg0)
          ∧ r.2.mem ((c.tc : Thread Cert.ChipSumOutRefIdeal.nD Cert.ChipSumOutRefIdeal.τ).loc Cert.ChipSumOutRefIdeal.main_arg1) = m' ((c.tc : Thread Cert.ChipSumOutRefIdeal.nD Cert.ChipSumOutRefIdeal.τ).loc Cert.ChipSumOutRefIdeal.main_arg1)
          ∧ r.2.mem ((c.tc : Thread Cert.ChipSumOutRefIdeal.nD Cert.ChipSumOutRefIdeal.τ).loc Cert.ChipSumOutRefIdeal.main_arg2) = m' ((c.tc : Thread Cert.ChipSumOutRefIdeal.nD Cert.ChipSumOutRefIdeal.τ).loc Cert.ChipSumOutRefIdeal.main_arg2)
          ∧ r.2.mem ((c.tc : Thread Cert.ChipSumOutRefIdeal.nD Cert.ChipSumOutRefIdeal.τ).loc Cert.ChipSumOutRefIdeal.main_arg3) = m' ((c.tc : Thread Cert.ChipSumOutRefIdeal.nD Cert.ChipSumOutRefIdeal.τ).loc Cert.ChipSumOutRefIdeal.main_arg3))

def preserves_ChipSumFfnIn_ChipSumFfnInIdeal : Prop :=
  True

def algebraic_ChipSumFfnInIdeal_ChipSumFfnInRefIdeal [hChipSumFfnInIdeal : Cert.ChipSumFfnInIdeal.Facts] [hChipSumFfnInRefIdeal : Cert.ChipSumFfnInRefIdeal.Facts] : Prop :=
  ∀ (m : (ℓ : Loc Cert.ChipSumFfnInIdeal.nD Cert.ChipSumFfnInIdeal.τ Cert.ChipSumFfnInIdeal.sig) → Buf (Elt Ideal) ℓ) (g : Dev Cert.ChipSumFfnInIdeal.nD → PrngReg)
    (m' : (ℓ : Loc Cert.ChipSumFfnInRefIdeal.nD Cert.ChipSumFfnInRefIdeal.τ Cert.ChipSumFfnInRefIdeal.sig) → Buf (Elt Ideal) ℓ) (g' : Dev Cert.ChipSumFfnInRefIdeal.nD → PrngReg), Pre_ChipSumFfnInIdeal m →
    (∀ c : Dev Cert.ChipSumFfnInIdeal.nD,
      m' ((c.tc : Thread Cert.ChipSumFfnInRefIdeal.nD Cert.ChipSumFfnInRefIdeal.τ).loc Cert.ChipSumFfnInRefIdeal.main_arg0) = m ((c.tc : Thread Cert.ChipSumFfnInIdeal.nD Cert.ChipSumFfnInIdeal.τ).loc Cert.ChipSumFfnInIdeal.main_arg0)
      ∧ m' ((c.tc : Thread Cert.ChipSumFfnInRefIdeal.nD Cert.ChipSumFfnInRefIdeal.τ).loc Cert.ChipSumFfnInRefIdeal.main_arg1) = m ((c.tc : Thread Cert.ChipSumFfnInIdeal.nD Cert.ChipSumFfnInIdeal.τ).loc Cert.ChipSumFfnInIdeal.main_arg1)
      ∧ m' ((c.tc : Thread Cert.ChipSumFfnInRefIdeal.nD Cert.ChipSumFfnInRefIdeal.τ).loc Cert.ChipSumFfnInRefIdeal.main_arg2) = m ((c.tc : Thread Cert.ChipSumFfnInIdeal.nD Cert.ChipSumFfnInIdeal.τ).loc Cert.ChipSumFfnInIdeal.main_arg2)
      ∧ m' ((c.tc : Thread Cert.ChipSumFfnInRefIdeal.nD Cert.ChipSumFfnInRefIdeal.τ).loc Cert.ChipSumFfnInRefIdeal.main_arg3) = m ((c.tc : Thread Cert.ChipSumFfnInIdeal.nD Cert.ChipSumFfnInIdeal.τ).loc Cert.ChipSumFfnInIdeal.main_arg3)) →
    ∃ (v0 : (c : Dev Cert.ChipSumFfnInIdeal.nD) → Buf (Elt Ideal) ((c.tc : Thread Cert.ChipSumFfnInIdeal.nD Cert.ChipSumFfnInIdeal.τ).loc Cert.ChipSumFfnInIdeal.main_v0)),
      θ_run (Cert.ChipSumFfnInIdeal.defs (F := Ideal)) (onTc (τ := Cert.ChipSumFfnInIdeal.τ) (Cert.ChipSumFfnInIdeal.main (F := Ideal))) ⟨m, fun _ => 0, g⟩ (fun r => ∀ c : Dev Cert.ChipSumFfnInIdeal.nD,
          r.2.mem ((c.tc : Thread Cert.ChipSumFfnInIdeal.nD Cert.ChipSumFfnInIdeal.τ).loc Cert.ChipSumFfnInIdeal.main_v0) = v0 c
          ∧ r.2.mem ((c.tc : Thread Cert.ChipSumFfnInIdeal.nD Cert.ChipSumFfnInIdeal.τ).loc Cert.ChipSumFfnInIdeal.main_arg0) = m ((c.tc : Thread Cert.ChipSumFfnInIdeal.nD Cert.ChipSumFfnInIdeal.τ).loc Cert.ChipSumFfnInIdeal.main_arg0)
          ∧ r.2.mem ((c.tc : Thread Cert.ChipSumFfnInIdeal.nD Cert.ChipSumFfnInIdeal.τ).loc Cert.ChipSumFfnInIdeal.main_arg1) = m ((c.tc : Thread Cert.ChipSumFfnInIdeal.nD Cert.ChipSumFfnInIdeal.τ).loc Cert.ChipSumFfnInIdeal.main_arg1)
          ∧ r.2.mem ((c.tc : Thread Cert.ChipSumFfnInIdeal.nD Cert.ChipSumFfnInIdeal.τ).loc Cert.ChipSumFfnInIdeal.main_arg2) = m ((c.tc : Thread Cert.ChipSumFfnInIdeal.nD Cert.ChipSumFfnInIdeal.τ).loc Cert.ChipSumFfnInIdeal.main_arg2)
          ∧ r.2.mem ((c.tc : Thread Cert.ChipSumFfnInIdeal.nD Cert.ChipSumFfnInIdeal.τ).loc Cert.ChipSumFfnInIdeal.main_arg3) = m ((c.tc : Thread Cert.ChipSumFfnInIdeal.nD Cert.ChipSumFfnInIdeal.τ).loc Cert.ChipSumFfnInIdeal.main_arg3))
      ∧ θ_run (Cert.ChipSumFfnInRefIdeal.defs (F := Ideal)) (onTc (τ := Cert.ChipSumFfnInRefIdeal.τ) (Cert.ChipSumFfnInRefIdeal.main (F := Ideal))) ⟨m', fun _ => 0, g'⟩ (fun r => ∀ c : Dev Cert.ChipSumFfnInRefIdeal.nD,
          r.2.mem ((c.tc : Thread Cert.ChipSumFfnInRefIdeal.nD Cert.ChipSumFfnInRefIdeal.τ).loc Cert.ChipSumFfnInRefIdeal.main_v5) = v0 c
          ∧ r.2.mem ((c.tc : Thread Cert.ChipSumFfnInRefIdeal.nD Cert.ChipSumFfnInRefIdeal.τ).loc Cert.ChipSumFfnInRefIdeal.main_arg0) = m' ((c.tc : Thread Cert.ChipSumFfnInRefIdeal.nD Cert.ChipSumFfnInRefIdeal.τ).loc Cert.ChipSumFfnInRefIdeal.main_arg0)
          ∧ r.2.mem ((c.tc : Thread Cert.ChipSumFfnInRefIdeal.nD Cert.ChipSumFfnInRefIdeal.τ).loc Cert.ChipSumFfnInRefIdeal.main_arg1) = m' ((c.tc : Thread Cert.ChipSumFfnInRefIdeal.nD Cert.ChipSumFfnInRefIdeal.τ).loc Cert.ChipSumFfnInRefIdeal.main_arg1)
          ∧ r.2.mem ((c.tc : Thread Cert.ChipSumFfnInRefIdeal.nD Cert.ChipSumFfnInRefIdeal.τ).loc Cert.ChipSumFfnInRefIdeal.main_arg2) = m' ((c.tc : Thread Cert.ChipSumFfnInRefIdeal.nD Cert.ChipSumFfnInRefIdeal.τ).loc Cert.ChipSumFfnInRefIdeal.main_arg2)
          ∧ r.2.mem ((c.tc : Thread Cert.ChipSumFfnInRefIdeal.nD Cert.ChipSumFfnInRefIdeal.τ).loc Cert.ChipSumFfnInRefIdeal.main_arg3) = m' ((c.tc : Thread Cert.ChipSumFfnInRefIdeal.nD Cert.ChipSumFfnInRefIdeal.τ).loc Cert.ChipSumFfnInRefIdeal.main_arg3))

def preserves_ChipSumFfnOut_ChipSumFfnOutIdeal : Prop :=
  True

def algebraic_ChipSumFfnOutIdeal_ChipSumFfnOutRefIdeal [hChipSumFfnOutIdeal : Cert.ChipSumFfnOutIdeal.Facts] [hChipSumFfnOutRefIdeal : Cert.ChipSumFfnOutRefIdeal.Facts] : Prop :=
  ∀ (m : (ℓ : Loc Cert.ChipSumFfnOutIdeal.nD Cert.ChipSumFfnOutIdeal.τ Cert.ChipSumFfnOutIdeal.sig) → Buf (Elt Ideal) ℓ) (g : Dev Cert.ChipSumFfnOutIdeal.nD → PrngReg)
    (m' : (ℓ : Loc Cert.ChipSumFfnOutRefIdeal.nD Cert.ChipSumFfnOutRefIdeal.τ Cert.ChipSumFfnOutRefIdeal.sig) → Buf (Elt Ideal) ℓ) (g' : Dev Cert.ChipSumFfnOutRefIdeal.nD → PrngReg), Pre_ChipSumFfnOutIdeal m →
    (∀ c : Dev Cert.ChipSumFfnOutIdeal.nD,
      m' ((c.tc : Thread Cert.ChipSumFfnOutRefIdeal.nD Cert.ChipSumFfnOutRefIdeal.τ).loc Cert.ChipSumFfnOutRefIdeal.main_arg0) = m ((c.tc : Thread Cert.ChipSumFfnOutIdeal.nD Cert.ChipSumFfnOutIdeal.τ).loc Cert.ChipSumFfnOutIdeal.main_arg0)
      ∧ m' ((c.tc : Thread Cert.ChipSumFfnOutRefIdeal.nD Cert.ChipSumFfnOutRefIdeal.τ).loc Cert.ChipSumFfnOutRefIdeal.main_arg1) = m ((c.tc : Thread Cert.ChipSumFfnOutIdeal.nD Cert.ChipSumFfnOutIdeal.τ).loc Cert.ChipSumFfnOutIdeal.main_arg1)
      ∧ m' ((c.tc : Thread Cert.ChipSumFfnOutRefIdeal.nD Cert.ChipSumFfnOutRefIdeal.τ).loc Cert.ChipSumFfnOutRefIdeal.main_arg2) = m ((c.tc : Thread Cert.ChipSumFfnOutIdeal.nD Cert.ChipSumFfnOutIdeal.τ).loc Cert.ChipSumFfnOutIdeal.main_arg2)
      ∧ m' ((c.tc : Thread Cert.ChipSumFfnOutRefIdeal.nD Cert.ChipSumFfnOutRefIdeal.τ).loc Cert.ChipSumFfnOutRefIdeal.main_arg3) = m ((c.tc : Thread Cert.ChipSumFfnOutIdeal.nD Cert.ChipSumFfnOutIdeal.τ).loc Cert.ChipSumFfnOutIdeal.main_arg3)) →
    ∃ (v0 : (c : Dev Cert.ChipSumFfnOutIdeal.nD) → Buf (Elt Ideal) ((c.tc : Thread Cert.ChipSumFfnOutIdeal.nD Cert.ChipSumFfnOutIdeal.τ).loc Cert.ChipSumFfnOutIdeal.main_v0)),
      θ_run (Cert.ChipSumFfnOutIdeal.defs (F := Ideal)) (onTc (τ := Cert.ChipSumFfnOutIdeal.τ) (Cert.ChipSumFfnOutIdeal.main (F := Ideal))) ⟨m, fun _ => 0, g⟩ (fun r => ∀ c : Dev Cert.ChipSumFfnOutIdeal.nD,
          r.2.mem ((c.tc : Thread Cert.ChipSumFfnOutIdeal.nD Cert.ChipSumFfnOutIdeal.τ).loc Cert.ChipSumFfnOutIdeal.main_v0) = v0 c
          ∧ r.2.mem ((c.tc : Thread Cert.ChipSumFfnOutIdeal.nD Cert.ChipSumFfnOutIdeal.τ).loc Cert.ChipSumFfnOutIdeal.main_arg0) = m ((c.tc : Thread Cert.ChipSumFfnOutIdeal.nD Cert.ChipSumFfnOutIdeal.τ).loc Cert.ChipSumFfnOutIdeal.main_arg0)
          ∧ r.2.mem ((c.tc : Thread Cert.ChipSumFfnOutIdeal.nD Cert.ChipSumFfnOutIdeal.τ).loc Cert.ChipSumFfnOutIdeal.main_arg1) = m ((c.tc : Thread Cert.ChipSumFfnOutIdeal.nD Cert.ChipSumFfnOutIdeal.τ).loc Cert.ChipSumFfnOutIdeal.main_arg1)
          ∧ r.2.mem ((c.tc : Thread Cert.ChipSumFfnOutIdeal.nD Cert.ChipSumFfnOutIdeal.τ).loc Cert.ChipSumFfnOutIdeal.main_arg2) = m ((c.tc : Thread Cert.ChipSumFfnOutIdeal.nD Cert.ChipSumFfnOutIdeal.τ).loc Cert.ChipSumFfnOutIdeal.main_arg2)
          ∧ r.2.mem ((c.tc : Thread Cert.ChipSumFfnOutIdeal.nD Cert.ChipSumFfnOutIdeal.τ).loc Cert.ChipSumFfnOutIdeal.main_arg3) = m ((c.tc : Thread Cert.ChipSumFfnOutIdeal.nD Cert.ChipSumFfnOutIdeal.τ).loc Cert.ChipSumFfnOutIdeal.main_arg3))
      ∧ θ_run (Cert.ChipSumFfnOutRefIdeal.defs (F := Ideal)) (onTc (τ := Cert.ChipSumFfnOutRefIdeal.τ) (Cert.ChipSumFfnOutRefIdeal.main (F := Ideal))) ⟨m', fun _ => 0, g'⟩ (fun r => ∀ c : Dev Cert.ChipSumFfnOutRefIdeal.nD,
          r.2.mem ((c.tc : Thread Cert.ChipSumFfnOutRefIdeal.nD Cert.ChipSumFfnOutRefIdeal.τ).loc Cert.ChipSumFfnOutRefIdeal.main_v5) = v0 c
          ∧ r.2.mem ((c.tc : Thread Cert.ChipSumFfnOutRefIdeal.nD Cert.ChipSumFfnOutRefIdeal.τ).loc Cert.ChipSumFfnOutRefIdeal.main_arg0) = m' ((c.tc : Thread Cert.ChipSumFfnOutRefIdeal.nD Cert.ChipSumFfnOutRefIdeal.τ).loc Cert.ChipSumFfnOutRefIdeal.main_arg0)
          ∧ r.2.mem ((c.tc : Thread Cert.ChipSumFfnOutRefIdeal.nD Cert.ChipSumFfnOutRefIdeal.τ).loc Cert.ChipSumFfnOutRefIdeal.main_arg1) = m' ((c.tc : Thread Cert.ChipSumFfnOutRefIdeal.nD Cert.ChipSumFfnOutRefIdeal.τ).loc Cert.ChipSumFfnOutRefIdeal.main_arg1)
          ∧ r.2.mem ((c.tc : Thread Cert.ChipSumFfnOutRefIdeal.nD Cert.ChipSumFfnOutRefIdeal.τ).loc Cert.ChipSumFfnOutRefIdeal.main_arg2) = m' ((c.tc : Thread Cert.ChipSumFfnOutRefIdeal.nD Cert.ChipSumFfnOutRefIdeal.τ).loc Cert.ChipSumFfnOutRefIdeal.main_arg2)
          ∧ r.2.mem ((c.tc : Thread Cert.ChipSumFfnOutRefIdeal.nD Cert.ChipSumFfnOutRefIdeal.τ).loc Cert.ChipSumFfnOutRefIdeal.main_arg3) = m' ((c.tc : Thread Cert.ChipSumFfnOutRefIdeal.nD Cert.ChipSumFfnOutRefIdeal.τ).loc Cert.ChipSumFfnOutRefIdeal.main_arg3))

def preserves_SmallPairSum_SmallPairSumIdeal : Prop :=
  True

def algebraic_SmallPairSumIdeal_SmallPairSumRefIdeal [hSmallPairSumIdeal : Cert.SmallPairSumIdeal.Facts] [hSmallPairSumRefIdeal : Cert.SmallPairSumRefIdeal.Facts] : Prop :=
  ∀ (m : (ℓ : Loc Cert.SmallPairSumIdeal.nD Cert.SmallPairSumIdeal.τ Cert.SmallPairSumIdeal.sig) → Buf (Elt Ideal) ℓ) (g : Dev Cert.SmallPairSumIdeal.nD → PrngReg)
    (m' : (ℓ : Loc Cert.SmallPairSumRefIdeal.nD Cert.SmallPairSumRefIdeal.τ Cert.SmallPairSumRefIdeal.sig) → Buf (Elt Ideal) ℓ) (g' : Dev Cert.SmallPairSumRefIdeal.nD → PrngReg), Pre_SmallPairSumIdeal m →
    (∀ c : Dev Cert.SmallPairSumIdeal.nD,
      m' ((c.tc : Thread Cert.SmallPairSumRefIdeal.nD Cert.SmallPairSumRefIdeal.τ).loc Cert.SmallPairSumRefIdeal.main_arg0) = m ((c.tc : Thread Cert.SmallPairSumIdeal.nD Cert.SmallPairSumIdeal.τ).loc Cert.SmallPairSumIdeal.main_arg0)
      ∧ m' ((c.tc : Thread Cert.SmallPairSumRefIdeal.nD Cert.SmallPairSumRefIdeal.τ).loc Cert.SmallPairSumRefIdeal.main_arg1) = m ((c.tc : Thread Cert.SmallPairSumIdeal.nD Cert.SmallPairSumIdeal.τ).loc Cert.SmallPairSumIdeal.main_arg1)) →
    ∃ (v0 : (c : Dev Cert.SmallPairSumIdeal.nD) → Buf (Elt Ideal) ((c.tc : Thread Cert.SmallPairSumIdeal.nD Cert.SmallPairSumIdeal.τ).loc Cert.SmallPairSumIdeal.main_v0)),
      θ_run (Cert.SmallPairSumIdeal.defs (F := Ideal)) (onTc (τ := Cert.SmallPairSumIdeal.τ) (Cert.SmallPairSumIdeal.main (F := Ideal))) ⟨m, fun _ => 0, g⟩ (fun r => ∀ c : Dev Cert.SmallPairSumIdeal.nD,
          r.2.mem ((c.tc : Thread Cert.SmallPairSumIdeal.nD Cert.SmallPairSumIdeal.τ).loc Cert.SmallPairSumIdeal.main_v0) = v0 c
          ∧ r.2.mem ((c.tc : Thread Cert.SmallPairSumIdeal.nD Cert.SmallPairSumIdeal.τ).loc Cert.SmallPairSumIdeal.main_arg0) = m ((c.tc : Thread Cert.SmallPairSumIdeal.nD Cert.SmallPairSumIdeal.τ).loc Cert.SmallPairSumIdeal.main_arg0)
          ∧ r.2.mem ((c.tc : Thread Cert.SmallPairSumIdeal.nD Cert.SmallPairSumIdeal.τ).loc Cert.SmallPairSumIdeal.main_arg1) = m ((c.tc : Thread Cert.SmallPairSumIdeal.nD Cert.SmallPairSumIdeal.τ).loc Cert.SmallPairSumIdeal.main_arg1))
      ∧ θ_run (Cert.SmallPairSumRefIdeal.defs (F := Ideal)) (onTc (τ := Cert.SmallPairSumRefIdeal.τ) (Cert.SmallPairSumRefIdeal.main (F := Ideal))) ⟨m', fun _ => 0, g'⟩ (fun r => ∀ c : Dev Cert.SmallPairSumRefIdeal.nD,
          r.2.mem ((c.tc : Thread Cert.SmallPairSumRefIdeal.nD Cert.SmallPairSumRefIdeal.τ).loc Cert.SmallPairSumRefIdeal.main_v0) = v0 c
          ∧ r.2.mem ((c.tc : Thread Cert.SmallPairSumRefIdeal.nD Cert.SmallPairSumRefIdeal.τ).loc Cert.SmallPairSumRefIdeal.main_arg0) = m' ((c.tc : Thread Cert.SmallPairSumRefIdeal.nD Cert.SmallPairSumRefIdeal.τ).loc Cert.SmallPairSumRefIdeal.main_arg0)
          ∧ r.2.mem ((c.tc : Thread Cert.SmallPairSumRefIdeal.nD Cert.SmallPairSumRefIdeal.τ).loc Cert.SmallPairSumRefIdeal.main_arg1) = m' ((c.tc : Thread Cert.SmallPairSumRefIdeal.nD Cert.SmallPairSumRefIdeal.τ).loc Cert.SmallPairSumRefIdeal.main_arg1))

def preserves_SmallChipSum_SmallChipSumIdeal : Prop :=
  True

def algebraic_SmallChipSumIdeal_SmallChipSumRefIdeal [hSmallChipSumIdeal : Cert.SmallChipSumIdeal.Facts] [hSmallChipSumRefIdeal : Cert.SmallChipSumRefIdeal.Facts] : Prop :=
  ∀ (m : (ℓ : Loc Cert.SmallChipSumIdeal.nD Cert.SmallChipSumIdeal.τ Cert.SmallChipSumIdeal.sig) → Buf (Elt Ideal) ℓ) (g : Dev Cert.SmallChipSumIdeal.nD → PrngReg)
    (m' : (ℓ : Loc Cert.SmallChipSumRefIdeal.nD Cert.SmallChipSumRefIdeal.τ Cert.SmallChipSumRefIdeal.sig) → Buf (Elt Ideal) ℓ) (g' : Dev Cert.SmallChipSumRefIdeal.nD → PrngReg), Pre_SmallChipSumIdeal m →
    (∀ c : Dev Cert.SmallChipSumIdeal.nD,
      m' ((c.tc : Thread Cert.SmallChipSumRefIdeal.nD Cert.SmallChipSumRefIdeal.τ).loc Cert.SmallChipSumRefIdeal.main_arg0) = m ((c.tc : Thread Cert.SmallChipSumIdeal.nD Cert.SmallChipSumIdeal.τ).loc Cert.SmallChipSumIdeal.main_arg0)
      ∧ m' ((c.tc : Thread Cert.SmallChipSumRefIdeal.nD Cert.SmallChipSumRefIdeal.τ).loc Cert.SmallChipSumRefIdeal.main_arg1) = m ((c.tc : Thread Cert.SmallChipSumIdeal.nD Cert.SmallChipSumIdeal.τ).loc Cert.SmallChipSumIdeal.main_arg1)
      ∧ m' ((c.tc : Thread Cert.SmallChipSumRefIdeal.nD Cert.SmallChipSumRefIdeal.τ).loc Cert.SmallChipSumRefIdeal.main_arg2) = m ((c.tc : Thread Cert.SmallChipSumIdeal.nD Cert.SmallChipSumIdeal.τ).loc Cert.SmallChipSumIdeal.main_arg2)
      ∧ m' ((c.tc : Thread Cert.SmallChipSumRefIdeal.nD Cert.SmallChipSumRefIdeal.τ).loc Cert.SmallChipSumRefIdeal.main_arg3) = m ((c.tc : Thread Cert.SmallChipSumIdeal.nD Cert.SmallChipSumIdeal.τ).loc Cert.SmallChipSumIdeal.main_arg3)) →
    ∃ (v0 : (c : Dev Cert.SmallChipSumIdeal.nD) → Buf (Elt Ideal) ((c.tc : Thread Cert.SmallChipSumIdeal.nD Cert.SmallChipSumIdeal.τ).loc Cert.SmallChipSumIdeal.main_v0)),
      θ_run (Cert.SmallChipSumIdeal.defs (F := Ideal)) (onTc (τ := Cert.SmallChipSumIdeal.τ) (Cert.SmallChipSumIdeal.main (F := Ideal))) ⟨m, fun _ => 0, g⟩ (fun r => ∀ c : Dev Cert.SmallChipSumIdeal.nD,
          r.2.mem ((c.tc : Thread Cert.SmallChipSumIdeal.nD Cert.SmallChipSumIdeal.τ).loc Cert.SmallChipSumIdeal.main_v0) = v0 c
          ∧ r.2.mem ((c.tc : Thread Cert.SmallChipSumIdeal.nD Cert.SmallChipSumIdeal.τ).loc Cert.SmallChipSumIdeal.main_arg0) = m ((c.tc : Thread Cert.SmallChipSumIdeal.nD Cert.SmallChipSumIdeal.τ).loc Cert.SmallChipSumIdeal.main_arg0)
          ∧ r.2.mem ((c.tc : Thread Cert.SmallChipSumIdeal.nD Cert.SmallChipSumIdeal.τ).loc Cert.SmallChipSumIdeal.main_arg1) = m ((c.tc : Thread Cert.SmallChipSumIdeal.nD Cert.SmallChipSumIdeal.τ).loc Cert.SmallChipSumIdeal.main_arg1)
          ∧ r.2.mem ((c.tc : Thread Cert.SmallChipSumIdeal.nD Cert.SmallChipSumIdeal.τ).loc Cert.SmallChipSumIdeal.main_arg2) = m ((c.tc : Thread Cert.SmallChipSumIdeal.nD Cert.SmallChipSumIdeal.τ).loc Cert.SmallChipSumIdeal.main_arg2)
          ∧ r.2.mem ((c.tc : Thread Cert.SmallChipSumIdeal.nD Cert.SmallChipSumIdeal.τ).loc Cert.SmallChipSumIdeal.main_arg3) = m ((c.tc : Thread Cert.SmallChipSumIdeal.nD Cert.SmallChipSumIdeal.τ).loc Cert.SmallChipSumIdeal.main_arg3))
      ∧ θ_run (Cert.SmallChipSumRefIdeal.defs (F := Ideal)) (onTc (τ := Cert.SmallChipSumRefIdeal.τ) (Cert.SmallChipSumRefIdeal.main (F := Ideal))) ⟨m', fun _ => 0, g'⟩ (fun r => ∀ c : Dev Cert.SmallChipSumRefIdeal.nD,
          r.2.mem ((c.tc : Thread Cert.SmallChipSumRefIdeal.nD Cert.SmallChipSumRefIdeal.τ).loc Cert.SmallChipSumRefIdeal.main_v2) = v0 c
          ∧ r.2.mem ((c.tc : Thread Cert.SmallChipSumRefIdeal.nD Cert.SmallChipSumRefIdeal.τ).loc Cert.SmallChipSumRefIdeal.main_arg0) = m' ((c.tc : Thread Cert.SmallChipSumRefIdeal.nD Cert.SmallChipSumRefIdeal.τ).loc Cert.SmallChipSumRefIdeal.main_arg0)
          ∧ r.2.mem ((c.tc : Thread Cert.SmallChipSumRefIdeal.nD Cert.SmallChipSumRefIdeal.τ).loc Cert.SmallChipSumRefIdeal.main_arg1) = m' ((c.tc : Thread Cert.SmallChipSumRefIdeal.nD Cert.SmallChipSumRefIdeal.τ).loc Cert.SmallChipSumRefIdeal.main_arg1)
          ∧ r.2.mem ((c.tc : Thread Cert.SmallChipSumRefIdeal.nD Cert.SmallChipSumRefIdeal.τ).loc Cert.SmallChipSumRefIdeal.main_arg2) = m' ((c.tc : Thread Cert.SmallChipSumRefIdeal.nD Cert.SmallChipSumRefIdeal.τ).loc Cert.SmallChipSumRefIdeal.main_arg2)
          ∧ r.2.mem ((c.tc : Thread Cert.SmallChipSumRefIdeal.nD Cert.SmallChipSumRefIdeal.τ).loc Cert.SmallChipSumRefIdeal.main_arg3) = m' ((c.tc : Thread Cert.SmallChipSumRefIdeal.nD Cert.SmallChipSumRefIdeal.τ).loc Cert.SmallChipSumRefIdeal.main_arg3))

def Claim : Prop :=
  ∃ (hKernel : Cert.Kernel.Facts) (hKernelIdeal : Cert.KernelIdeal.Facts) (hReferenceIdeal : Cert.ReferenceIdeal.Facts) (hFfnGate : Cert.FfnGate.Facts) (hFfnGateIdeal : Cert.FfnGateIdeal.Facts) (hFfnGateRefIdeal : Cert.FfnGateRefIdeal.Facts) (hBranch : Cert.Branch.Facts) (hBranchIdeal : Cert.BranchIdeal.Facts) (hBranchRefIdeal : Cert.BranchRefIdeal.Facts) (hFfnInX : Cert.FfnInX.Facts) (hFfnInXIdeal : Cert.FfnInXIdeal.Facts) (hFfnInXRefIdeal : Cert.FfnInXRefIdeal.Facts) (hFfnInW : Cert.FfnInW.Facts) (hFfnInWIdeal : Cert.FfnInWIdeal.Facts) (hFfnInWRefIdeal : Cert.FfnInWRefIdeal.Facts) (hProjX : Cert.ProjX.Facts) (hProjXIdeal : Cert.ProjXIdeal.Facts) (hProjXRefIdeal : Cert.ProjXRefIdeal.Facts) (hProjW : Cert.ProjW.Facts) (hProjWIdeal : Cert.ProjWIdeal.Facts) (hProjWRefIdeal : Cert.ProjWRefIdeal.Facts) (hFfnOutW : Cert.FfnOutW.Facts) (hFfnOutWIdeal : Cert.FfnOutWIdeal.Facts) (hFfnOutWRefIdeal : Cert.FfnOutWRefIdeal.Facts) (hProj : Cert.Proj.Facts) (hProjIdeal : Cert.ProjIdeal.Facts) (hProjRefIdeal : Cert.ProjRefIdeal.Facts) (hFfnIn : Cert.FfnIn.Facts) (hFfnInIdeal : Cert.FfnInIdeal.Facts) (hFfnInRefIdeal : Cert.FfnInRefIdeal.Facts) (hMix : Cert.Mix.Facts) (hMixIdeal : Cert.MixIdeal.Facts) (hMixRefIdeal : Cert.MixRefIdeal.Facts) (hOutW : Cert.OutW.Facts) (hOutWIdeal : Cert.OutWIdeal.Facts) (hOutWRefIdeal : Cert.OutWRefIdeal.Facts) (hOutLn : Cert.OutLn.Facts) (hOutLnIdeal : Cert.OutLnIdeal.Facts) (hOutLnRefIdeal : Cert.OutLnRefIdeal.Facts) (hFfnOutLn : Cert.FfnOutLn.Facts) (hFfnOutLnIdeal : Cert.FfnOutLnIdeal.Facts) (hFfnOutLnRefIdeal : Cert.FfnOutLnRefIdeal.Facts) (hBranchX0 : Cert.BranchX0.Facts) (hBranchX0Ideal : Cert.BranchX0Ideal.Facts) (hBranchX0RefIdeal : Cert.BranchX0RefIdeal.Facts) (hBranchX1 : Cert.BranchX1.Facts) (hBranchX1Ideal : Cert.BranchX1Ideal.Facts) (hBranchX1RefIdeal : Cert.BranchX1RefIdeal.Facts) (hBranchX2 : Cert.BranchX2.Facts) (hBranchX2Ideal : Cert.BranchX2Ideal.Facts) (hBranchX2RefIdeal : Cert.BranchX2RefIdeal.Facts) (hBranchW0 : Cert.BranchW0.Facts) (hBranchW0Ideal : Cert.BranchW0Ideal.Facts) (hBranchW0RefIdeal : Cert.BranchW0RefIdeal.Facts) (hBranchW1 : Cert.BranchW1.Facts) (hBranchW1Ideal : Cert.BranchW1Ideal.Facts) (hBranchW1RefIdeal : Cert.BranchW1RefIdeal.Facts) (hBranchW2 : Cert.BranchW2.Facts) (hBranchW2Ideal : Cert.BranchW2Ideal.Facts) (hBranchW2RefIdeal : Cert.BranchW2RefIdeal.Facts) (hLnBwd : Cert.LnBwd.Facts) (hLnBwdIdeal : Cert.LnBwdIdeal.Facts) (hLnBwdRefIdeal : Cert.LnBwdRefIdeal.Facts) (hLossHead : Cert.LossHead.Facts) (hLossHeadIdeal : Cert.LossHeadIdeal.Facts) (hLossHeadRefIdeal : Cert.LossHeadRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamVectors : Cert.AdamVectors.Facts) (hAdamVectorsIdeal : Cert.AdamVectorsIdeal.Facts) (hAdamVectorsRefIdeal : Cert.AdamVectorsRefIdeal.Facts) (hAdamConv : Cert.AdamConv.Facts) (hAdamConvIdeal : Cert.AdamConvIdeal.Facts) (hAdamConvRefIdeal : Cert.AdamConvRefIdeal.Facts) (hAdamGates : Cert.AdamGates.Facts) (hAdamGatesIdeal : Cert.AdamGatesIdeal.Facts) (hAdamGatesRefIdeal : Cert.AdamGatesRefIdeal.Facts) (hAdamSinks : Cert.AdamSinks.Facts) (hAdamSinksIdeal : Cert.AdamSinksIdeal.Facts) (hAdamSinksRefIdeal : Cert.AdamSinksRefIdeal.Facts) (hChipSumIn : Cert.ChipSumIn.Facts) (hChipSumInIdeal : Cert.ChipSumInIdeal.Facts) (hChipSumInRefIdeal : Cert.ChipSumInRefIdeal.Facts) (hChipSumBranch : Cert.ChipSumBranch.Facts) (hChipSumBranchIdeal : Cert.ChipSumBranchIdeal.Facts) (hChipSumBranchRefIdeal : Cert.ChipSumBranchRefIdeal.Facts) (hChipSumOut : Cert.ChipSumOut.Facts) (hChipSumOutIdeal : Cert.ChipSumOutIdeal.Facts) (hChipSumOutRefIdeal : Cert.ChipSumOutRefIdeal.Facts) (hChipSumFfnIn : Cert.ChipSumFfnIn.Facts) (hChipSumFfnInIdeal : Cert.ChipSumFfnInIdeal.Facts) (hChipSumFfnInRefIdeal : Cert.ChipSumFfnInRefIdeal.Facts) (hChipSumFfnOut : Cert.ChipSumFfnOut.Facts) (hChipSumFfnOutIdeal : Cert.ChipSumFfnOutIdeal.Facts) (hChipSumFfnOutRefIdeal : Cert.ChipSumFfnOutRefIdeal.Facts) (hSmallPairSum : Cert.SmallPairSum.Facts) (hSmallPairSumIdeal : Cert.SmallPairSumIdeal.Facts) (hSmallPairSumRefIdeal : Cert.SmallPairSumRefIdeal.Facts) (hSmallChipSum : Cert.SmallChipSum.Facts) (hSmallChipSumIdeal : Cert.SmallChipSumIdeal.Facts) (hSmallChipSumRefIdeal : Cert.SmallChipSumRefIdeal.Facts) (hPre_finite_gate : Cert.Pre_finite_gate.Facts) (hPre_finite_ln : Cert.Pre_finite_ln.Facts),
    quiescent_Kernel (hKernel := hKernel)
    ∧ quiescent_KernelIdeal (hKernelIdeal := hKernelIdeal)
    ∧ quiescent_ReferenceIdeal (hReferenceIdeal := hReferenceIdeal)
    ∧ quiescent_FfnGate (hFfnGate := hFfnGate)
    ∧ quiescent_FfnGateIdeal (hFfnGateIdeal := hFfnGateIdeal)
    ∧ quiescent_FfnGateIdeal_pre_finite_gate (hFfnGateIdeal := hFfnGateIdeal) (hPre_finite_gate := hPre_finite_gate)
    ∧ quiescent_FfnGateRefIdeal (hFfnGateRefIdeal := hFfnGateRefIdeal)
    ∧ quiescent_FfnGateRefIdeal_pre_finite_gate (hFfnGateRefIdeal := hFfnGateRefIdeal) (hPre_finite_gate := hPre_finite_gate)
    ∧ quiescent_Branch (hBranch := hBranch)
    ∧ quiescent_BranchIdeal (hBranchIdeal := hBranchIdeal)
    ∧ quiescent_BranchRefIdeal (hBranchRefIdeal := hBranchRefIdeal)
    ∧ quiescent_FfnInX (hFfnInX := hFfnInX)
    ∧ quiescent_FfnInXIdeal (hFfnInXIdeal := hFfnInXIdeal)
    ∧ quiescent_FfnInXRefIdeal (hFfnInXRefIdeal := hFfnInXRefIdeal)
    ∧ quiescent_FfnInW (hFfnInW := hFfnInW)
    ∧ quiescent_FfnInWIdeal (hFfnInWIdeal := hFfnInWIdeal)
    ∧ quiescent_FfnInWRefIdeal (hFfnInWRefIdeal := hFfnInWRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_FfnOutW (hFfnOutW := hFfnOutW)
    ∧ quiescent_FfnOutWIdeal (hFfnOutWIdeal := hFfnOutWIdeal)
    ∧ quiescent_FfnOutWRefIdeal (hFfnOutWRefIdeal := hFfnOutWRefIdeal)
    ∧ quiescent_Proj (hProj := hProj)
    ∧ quiescent_ProjIdeal (hProjIdeal := hProjIdeal)
    ∧ quiescent_ProjRefIdeal (hProjRefIdeal := hProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Mix (hMix := hMix)
    ∧ quiescent_MixIdeal (hMixIdeal := hMixIdeal)
    ∧ quiescent_MixRefIdeal (hMixRefIdeal := hMixRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_FfnOutLn (hFfnOutLn := hFfnOutLn)
    ∧ quiescent_FfnOutLnIdeal (hFfnOutLnIdeal := hFfnOutLnIdeal)
    ∧ quiescent_FfnOutLnRefIdeal (hFfnOutLnRefIdeal := hFfnOutLnRefIdeal)
    ∧ quiescent_BranchX0 (hBranchX0 := hBranchX0)
    ∧ quiescent_BranchX0Ideal (hBranchX0Ideal := hBranchX0Ideal)
    ∧ quiescent_BranchX0RefIdeal (hBranchX0RefIdeal := hBranchX0RefIdeal)
    ∧ quiescent_BranchX1 (hBranchX1 := hBranchX1)
    ∧ quiescent_BranchX1Ideal (hBranchX1Ideal := hBranchX1Ideal)
    ∧ quiescent_BranchX1RefIdeal (hBranchX1RefIdeal := hBranchX1RefIdeal)
    ∧ quiescent_BranchX2 (hBranchX2 := hBranchX2)
    ∧ quiescent_BranchX2Ideal (hBranchX2Ideal := hBranchX2Ideal)
    ∧ quiescent_BranchX2RefIdeal (hBranchX2RefIdeal := hBranchX2RefIdeal)
    ∧ quiescent_BranchW0 (hBranchW0 := hBranchW0)
    ∧ quiescent_BranchW0Ideal (hBranchW0Ideal := hBranchW0Ideal)
    ∧ quiescent_BranchW0RefIdeal (hBranchW0RefIdeal := hBranchW0RefIdeal)
    ∧ quiescent_BranchW1 (hBranchW1 := hBranchW1)
    ∧ quiescent_BranchW1Ideal (hBranchW1Ideal := hBranchW1Ideal)
    ∧ quiescent_BranchW1RefIdeal (hBranchW1RefIdeal := hBranchW1RefIdeal)
    ∧ quiescent_BranchW2 (hBranchW2 := hBranchW2)
    ∧ quiescent_BranchW2Ideal (hBranchW2Ideal := hBranchW2Ideal)
    ∧ quiescent_BranchW2RefIdeal (hBranchW2RefIdeal := hBranchW2RefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamVectors (hAdamVectors := hAdamVectors)
    ∧ quiescent_AdamVectorsIdeal (hAdamVectorsIdeal := hAdamVectorsIdeal)
    ∧ quiescent_AdamVectorsRefIdeal (hAdamVectorsRefIdeal := hAdamVectorsRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGates (hAdamGates := hAdamGates)
    ∧ quiescent_AdamGatesIdeal (hAdamGatesIdeal := hAdamGatesIdeal)
    ∧ quiescent_AdamGatesRefIdeal (hAdamGatesRefIdeal := hAdamGatesRefIdeal)
    ∧ quiescent_AdamSinks (hAdamSinks := hAdamSinks)
    ∧ quiescent_AdamSinksIdeal (hAdamSinksIdeal := hAdamSinksIdeal)
    ∧ quiescent_AdamSinksRefIdeal (hAdamSinksRefIdeal := hAdamSinksRefIdeal)
    ∧ quiescent_ChipSumIn (hChipSumIn := hChipSumIn)
    ∧ quiescent_ChipSumInIdeal (hChipSumInIdeal := hChipSumInIdeal)
    ∧ quiescent_ChipSumInRefIdeal (hChipSumInRefIdeal := hChipSumInRefIdeal)
    ∧ quiescent_ChipSumBranch (hChipSumBranch := hChipSumBranch)
    ∧ quiescent_ChipSumBranchIdeal (hChipSumBranchIdeal := hChipSumBranchIdeal)
    ∧ quiescent_ChipSumBranchRefIdeal (hChipSumBranchRefIdeal := hChipSumBranchRefIdeal)
    ∧ quiescent_ChipSumOut (hChipSumOut := hChipSumOut)
    ∧ quiescent_ChipSumOutIdeal (hChipSumOutIdeal := hChipSumOutIdeal)
    ∧ quiescent_ChipSumOutRefIdeal (hChipSumOutRefIdeal := hChipSumOutRefIdeal)
    ∧ quiescent_ChipSumFfnIn (hChipSumFfnIn := hChipSumFfnIn)
    ∧ quiescent_ChipSumFfnInIdeal (hChipSumFfnInIdeal := hChipSumFfnInIdeal)
    ∧ quiescent_ChipSumFfnInRefIdeal (hChipSumFfnInRefIdeal := hChipSumFfnInRefIdeal)
    ∧ quiescent_ChipSumFfnOut (hChipSumFfnOut := hChipSumFfnOut)
    ∧ quiescent_ChipSumFfnOutIdeal (hChipSumFfnOutIdeal := hChipSumFfnOutIdeal)
    ∧ quiescent_ChipSumFfnOutRefIdeal (hChipSumFfnOutRefIdeal := hChipSumFfnOutRefIdeal)
    ∧ quiescent_SmallPairSum (hSmallPairSum := hSmallPairSum)
    ∧ quiescent_SmallPairSumIdeal (hSmallPairSumIdeal := hSmallPairSumIdeal)
    ∧ quiescent_SmallPairSumRefIdeal (hSmallPairSumRefIdeal := hSmallPairSumRefIdeal)
    ∧ quiescent_SmallChipSum (hSmallChipSum := hSmallChipSum)
    ∧ quiescent_SmallChipSumIdeal (hSmallChipSumIdeal := hSmallChipSumIdeal)
    ∧ quiescent_SmallChipSumRefIdeal (hSmallChipSumRefIdeal := hSmallChipSumRefIdeal)
    ∧ preserves_Kernel_KernelIdeal
    ∧ preserves_FfnGate_FfnGateIdeal
    ∧ algebraic_FfnGateIdeal_FfnGateRefIdeal_pre_finite_gate (hFfnGateIdeal := hFfnGateIdeal) (hFfnGateRefIdeal := hFfnGateRefIdeal) (hPre_finite_gate := hPre_finite_gate)
    ∧ preserves_Branch_BranchIdeal
    ∧ algebraic_BranchIdeal_BranchRefIdeal (hBranchIdeal := hBranchIdeal) (hBranchRefIdeal := hBranchRefIdeal)
    ∧ preserves_FfnInX_FfnInXIdeal
    ∧ algebraic_FfnInXIdeal_FfnInXRefIdeal (hFfnInXIdeal := hFfnInXIdeal) (hFfnInXRefIdeal := hFfnInXRefIdeal)
    ∧ preserves_FfnInW_FfnInWIdeal
    ∧ algebraic_FfnInWIdeal_FfnInWRefIdeal (hFfnInWIdeal := hFfnInWIdeal) (hFfnInWRefIdeal := hFfnInWRefIdeal)
    ∧ preserves_ProjX_ProjXIdeal
    ∧ algebraic_ProjXIdeal_ProjXRefIdeal (hProjXIdeal := hProjXIdeal) (hProjXRefIdeal := hProjXRefIdeal)
    ∧ preserves_ProjW_ProjWIdeal
    ∧ algebraic_ProjWIdeal_ProjWRefIdeal (hProjWIdeal := hProjWIdeal) (hProjWRefIdeal := hProjWRefIdeal)
    ∧ preserves_FfnOutW_FfnOutWIdeal
    ∧ algebraic_FfnOutWIdeal_FfnOutWRefIdeal (hFfnOutWIdeal := hFfnOutWIdeal) (hFfnOutWRefIdeal := hFfnOutWRefIdeal)
    ∧ preserves_Proj_ProjIdeal
    ∧ algebraic_ProjIdeal_ProjRefIdeal (hProjIdeal := hProjIdeal) (hProjRefIdeal := hProjRefIdeal)
    ∧ preserves_FfnIn_FfnInIdeal
    ∧ algebraic_FfnInIdeal_FfnInRefIdeal (hFfnInIdeal := hFfnInIdeal) (hFfnInRefIdeal := hFfnInRefIdeal)
    ∧ preserves_Mix_MixIdeal
    ∧ algebraic_MixIdeal_MixRefIdeal (hMixIdeal := hMixIdeal) (hMixRefIdeal := hMixRefIdeal)
    ∧ preserves_OutW_OutWIdeal
    ∧ algebraic_OutWIdeal_OutWRefIdeal (hOutWIdeal := hOutWIdeal) (hOutWRefIdeal := hOutWRefIdeal)
    ∧ preserves_OutLn_OutLnIdeal
    ∧ algebraic_OutLnIdeal_OutLnRefIdeal (hOutLnIdeal := hOutLnIdeal) (hOutLnRefIdeal := hOutLnRefIdeal)
    ∧ preserves_FfnOutLn_FfnOutLnIdeal
    ∧ algebraic_FfnOutLnIdeal_FfnOutLnRefIdeal (hFfnOutLnIdeal := hFfnOutLnIdeal) (hFfnOutLnRefIdeal := hFfnOutLnRefIdeal)
    ∧ preserves_BranchX0_BranchX0Ideal
    ∧ algebraic_BranchX0Ideal_BranchX0RefIdeal (hBranchX0Ideal := hBranchX0Ideal) (hBranchX0RefIdeal := hBranchX0RefIdeal)
    ∧ preserves_BranchX1_BranchX1Ideal
    ∧ algebraic_BranchX1Ideal_BranchX1RefIdeal (hBranchX1Ideal := hBranchX1Ideal) (hBranchX1RefIdeal := hBranchX1RefIdeal)
    ∧ preserves_BranchX2_BranchX2Ideal
    ∧ algebraic_BranchX2Ideal_BranchX2RefIdeal (hBranchX2Ideal := hBranchX2Ideal) (hBranchX2RefIdeal := hBranchX2RefIdeal)
    ∧ preserves_BranchW0_BranchW0Ideal
    ∧ algebraic_BranchW0Ideal_BranchW0RefIdeal (hBranchW0Ideal := hBranchW0Ideal) (hBranchW0RefIdeal := hBranchW0RefIdeal)
    ∧ preserves_BranchW1_BranchW1Ideal
    ∧ algebraic_BranchW1Ideal_BranchW1RefIdeal (hBranchW1Ideal := hBranchW1Ideal) (hBranchW1RefIdeal := hBranchW1RefIdeal)
    ∧ preserves_BranchW2_BranchW2Ideal
    ∧ algebraic_BranchW2Ideal_BranchW2RefIdeal (hBranchW2Ideal := hBranchW2Ideal) (hBranchW2RefIdeal := hBranchW2RefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LossHead_LossHeadIdeal
    ∧ algebraic_LossHeadIdeal_LossHeadRefIdeal (hLossHeadIdeal := hLossHeadIdeal) (hLossHeadRefIdeal := hLossHeadRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamVectors_AdamVectorsIdeal
    ∧ algebraic_AdamVectorsIdeal_AdamVectorsRefIdeal (hAdamVectorsIdeal := hAdamVectorsIdeal) (hAdamVectorsRefIdeal := hAdamVectorsRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGates_AdamGatesIdeal
    ∧ algebraic_AdamGatesIdeal_AdamGatesRefIdeal (hAdamGatesIdeal := hAdamGatesIdeal) (hAdamGatesRefIdeal := hAdamGatesRefIdeal)
    ∧ preserves_AdamSinks_AdamSinksIdeal
    ∧ algebraic_AdamSinksIdeal_AdamSinksRefIdeal (hAdamSinksIdeal := hAdamSinksIdeal) (hAdamSinksRefIdeal := hAdamSinksRefIdeal)
    ∧ preserves_ChipSumIn_ChipSumInIdeal
    ∧ algebraic_ChipSumInIdeal_ChipSumInRefIdeal (hChipSumInIdeal := hChipSumInIdeal) (hChipSumInRefIdeal := hChipSumInRefIdeal)
    ∧ preserves_ChipSumBranch_ChipSumBranchIdeal
    ∧ algebraic_ChipSumBranchIdeal_ChipSumBranchRefIdeal (hChipSumBranchIdeal := hChipSumBranchIdeal) (hChipSumBranchRefIdeal := hChipSumBranchRefIdeal)
    ∧ preserves_ChipSumOut_ChipSumOutIdeal
    ∧ algebraic_ChipSumOutIdeal_ChipSumOutRefIdeal (hChipSumOutIdeal := hChipSumOutIdeal) (hChipSumOutRefIdeal := hChipSumOutRefIdeal)
    ∧ preserves_ChipSumFfnIn_ChipSumFfnInIdeal
    ∧ algebraic_ChipSumFfnInIdeal_ChipSumFfnInRefIdeal (hChipSumFfnInIdeal := hChipSumFfnInIdeal) (hChipSumFfnInRefIdeal := hChipSumFfnInRefIdeal)
    ∧ preserves_ChipSumFfnOut_ChipSumFfnOutIdeal
    ∧ algebraic_ChipSumFfnOutIdeal_ChipSumFfnOutRefIdeal (hChipSumFfnOutIdeal := hChipSumFfnOutIdeal) (hChipSumFfnOutRefIdeal := hChipSumFfnOutRefIdeal)
    ∧ preserves_SmallPairSum_SmallPairSumIdeal
    ∧ algebraic_SmallPairSumIdeal_SmallPairSumRefIdeal (hSmallPairSumIdeal := hSmallPairSumIdeal) (hSmallPairSumRefIdeal := hSmallPairSumRefIdeal)
    ∧ preserves_SmallChipSum_SmallChipSumIdeal
    ∧ algebraic_SmallChipSumIdeal_SmallChipSumRefIdeal (hSmallChipSumIdeal := hSmallChipSumIdeal) (hSmallChipSumRefIdeal := hSmallChipSumRefIdeal)
-- ==== Pre_finite_gate.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .f32) (main_arg3 : FVec F S4096x2816 .f32) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S4096x2816 .f32 := Host.absf main_arg3
  let main_cst_1 : FVec F S_ .f32 := constant S_ .f32 0x7F800000#32
  let main_v7 : FVec F S4096x2816 .f32 := broadcastInDim S4096x2816 ![] bcast_S_S4096x2816 main_cst_1
  let main_v8 : IVec S4096x2816 1 := cmpf .olt main_v6 main_v7
  (main_v2, main_v5, main_v8)
-- ==== Pre_finite_ln.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S2x2048x9728 : Shape := ⟨3, ![2, 2048, 9728]⟩
abbrev S16 : Shape := ⟨1, ![16]⟩
abbrev S2x2048x1024 : Shape := ⟨3, ![2, 2048, 1024]⟩
abbrev S2x2048x4x4x64 : Shape := ⟨5, ![2, 2048, 4, 4, 64]⟩
abbrev S2x2048x256 : Shape := ⟨3, ![2, 2048, 256]⟩
abbrev S2x2048x4x64 : Shape := ⟨4, ![2, 2048, 4, 64]⟩
abbrev S2x16x128x4x4x64 : Shape := ⟨6, ![2, 16, 128, 4, 4, 64]⟩
abbrev S2x16x128x4x64 : Shape := ⟨5, ![2, 16, 128, 4, 64]⟩
abbrev S2x1x128x4x64 : Shape := ⟨5, ![2, 1, 128, 4, 64]⟩
abbrev S_ : Shape := ⟨0, ![]⟩
abbrev S2x15x128x4x64 : Shape := ⟨5, ![2, 15, 128, 4, 64]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x4x16x128 : Shape := ⟨5, ![2, 4, 4, 16, 128]⟩
abbrev S4x4x1x1 : Shape := ⟨4, ![4, 4, 1, 1]⟩
abbrev S1x4x4x1x1 : Shape := ⟨5, ![1, 4, 4, 1, 1]⟩
abbrev S2x4x4x16x128x1 : Shape := ⟨6, ![2, 4, 4, 16, 128, 1]⟩
abbrev S2x16x4x64x4x128 : Shape := ⟨6, ![2, 16, 4, 64, 4, 128]⟩
abbrev S2x16x128x4x4 : Shape := ⟨5, ![2, 16, 128, 4, 4]⟩
abbrev S2x16x128x4x4x1 : Shape := ⟨6, ![2, 16, 128, 4, 4, 1]⟩
abbrev S2x2048x4x4 : Shape := ⟨4, ![2, 2048, 4, 4]⟩
abbrev S2x2048x2x8 : Shape := ⟨4, ![2, 2048, 2, 8]⟩
abbrev S2x2048x2x128 : Shape := ⟨4, ![2, 2048, 2, 128]⟩
abbrev S2x1x8 : Shape := ⟨3, ![2, 1, 8]⟩
abbrev S2x1x128 : Shape := ⟨3, ![2, 1, 128]⟩
abbrev S2x2x1x128 : Shape := ⟨4, ![2, 2, 1, 128]⟩
abbrev S1x2048x512 : Shape := ⟨3, ![1, 2048, 512]⟩
abbrev S1x2048x128 : Shape := ⟨3, ![1, 2048, 128]⟩
abbrev S1x1x128 : Shape := ⟨3, ![1, 1, 128]⟩
abbrev S1x1x1x128 : Shape := ⟨4, ![1, 1, 1, 128]⟩
abbrev S2048x128 : Shape := ⟨2, ![2048, 128]⟩
abbrev S128x128 : Shape := ⟨2, ![128, 128]⟩
abbrev S1x128 : Shape := ⟨2, ![1, 128]⟩
abbrev S512x256 : Shape := ⟨2, ![512, 256]⟩
abbrev S1x128x128 : Shape := ⟨3, ![1, 128, 128]⟩
abbrev S256x128 : Shape := ⟨2, ![256, 128]⟩
abbrev S512x128 : Shape := ⟨2, ![512, 128]⟩
abbrev S512x1 : Shape := ⟨2, ![512, 1]⟩
abbrev S1x1 : Shape := ⟨2, ![1, 1]⟩
abbrev S1 : Shape := ⟨1, ![1]⟩
abbrev S2x8 : Shape := ⟨2, ![2, 8]⟩

abbrev nBuf : Space → Nat
  | .hbm => 115
  | .vmem => 24
  | .smem => 0
  | _ => 0

abbrev bufTy : (tb : Table) → Fin (tcTables nBuf tb) → BufTy
  | .hbm, ⟨0, _⟩ => ⟨S2x2048x9728, .f32⟩
  | .hbm, ⟨1, _⟩ => ⟨S16, .f32⟩
  | .hbm, ⟨2, _⟩ => ⟨S2x2048x1024, .f32⟩
  | .hbm, ⟨3, _⟩ => ⟨S2x2048x1024, .f32⟩
  | .hbm, ⟨4, _⟩ => ⟨S2x2048x4x4x64, .f32⟩
  | .hbm, ⟨5, _⟩ => ⟨S2x2048x256, .f32⟩
  | .hbm, ⟨6, _⟩ => ⟨S2x2048x4x64, .f32⟩
  | .hbm, ⟨7, _⟩ => ⟨S2x2048x256, .f32⟩
  | .hbm, ⟨8, _⟩ => ⟨S2x2048x4x64, .f32⟩
  | .hbm, ⟨9, _⟩ => ⟨S2x16x128x4x4x64, .f32⟩
  | .hbm, ⟨10, _⟩ => ⟨S2x16x128x4x64, .f32⟩
  | .hbm, ⟨11, _⟩ => ⟨S2x16x128x4x64, .f32⟩
  | .hbm, ⟨12, _⟩ => ⟨S2x1x128x4x64, .f32⟩
  | .hbm, ⟨13, _⟩ => ⟨S_, .f32⟩
  | .hbm, ⟨14, _⟩ => ⟨S2x1x128x4x64, .f32⟩
  | .hbm, ⟨15, _⟩ => ⟨S2x15x128x4x64, .f32⟩
  | .hbm, ⟨16, _⟩ => ⟨S2x16x128x4x64, .f32⟩
  | .hbm, ⟨17, _⟩ => ⟨S2x16x256x4x64, .f32⟩
  | .hbm, ⟨18, _⟩ => ⟨S2x1x128x4x64, .f32⟩
  | .hbm, ⟨19, _⟩ => ⟨S_, .f32⟩
  | .hbm, ⟨20, _⟩ => ⟨S2x1x128x4x64, .f32⟩
  | .hbm, ⟨21, _⟩ => ⟨S2x15x128x4x64, .f32⟩
  | .hbm, ⟨22, _⟩ => ⟨S2x16x128x4x64, .f32⟩
  | .hbm, ⟨23, _⟩ => ⟨S2x16x256x4x64, .f32⟩
  | .hbm, ⟨24, _⟩ => ⟨S2x4x16x256x128x4, .f32⟩
  | .hbm, ⟨25, _⟩ => ⟨S2x4x4x16x128x256, .f32⟩
  | .hbm, ⟨26, _⟩ => ⟨S_, .f32⟩
  | .hbm, ⟨27, _⟩ => ⟨S2x4x4x16x128x256, .f32⟩
  | .hbm, ⟨28, _⟩ => ⟨S2x4x4x16x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S16, .i32⟩
  | .hbm, ⟨40, _⟩ => ⟨S16x1x1, .i32⟩
  | .hbm, ⟨41, _⟩ => ⟨S_, .i32⟩
  | .hbm, ⟨42, _⟩ => ⟨S16x1x1, .i32⟩
  | .hbm, ⟨43, _⟩ => ⟨S16x1x1, .i1⟩
  | .hbm, ⟨44, _⟩ => ⟨S1x1x256, .i32⟩
  | .hbm, ⟨45, _⟩ => ⟨S_, .i32⟩
  | .hbm, ⟨46, _⟩ => ⟨S1x1x256, .i32⟩
  | .hbm, ⟨47, _⟩ => ⟨S1x1x256, .i1⟩
  | .hbm, ⟨48, _⟩ => ⟨S16x1x256, .i1⟩
  | .hbm, ⟨49, _⟩ => ⟨S16x1x256, .i1⟩
  | .hbm, ⟨50, _⟩ => ⟨S16x1x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S1x128x256, .i1⟩
  | .hbm, ⟨59, _⟩ => ⟨S1x128x256, .i1⟩
  | .hbm, ⟨60, _⟩ => ⟨S16x128x256, .i1⟩
  | .hbm, ⟨61, _⟩ => ⟨S16x128x256, .i1⟩
  | .hbm, ⟨62, _⟩ => ⟨S16x128x256, .i1⟩
  | .hbm, ⟨63, _⟩ => ⟨S_, .f32⟩
  | .hbm, ⟨64, _⟩ => ⟨S_, .f32⟩
  | .hbm, ⟨65, _⟩ => ⟨S2x4x4x16x128x256, .i1⟩
  | .hbm, ⟨66, _⟩ => ⟨S2x4x4x16x128x256, .f32⟩
  | .hbm, ⟨67, _⟩ => ⟨S2x4x4x16x128x256, .f32⟩
  | .hbm, ⟨68, _⟩ => ⟨S_, .f32⟩
  | .hbm, ⟨69, _⟩ => ⟨S2x4x4x16x128, .f32⟩
  | .hbm, ⟨70, _⟩ => ⟨S4x4x1x1, .f32⟩
  | .hbm, ⟨71, _⟩ => ⟨S1x4x4x1x1, .f32⟩
  | .hbm, ⟨72, _⟩ => ⟨S2x4x4x16x128, .f32⟩
  | .hbm, ⟨73, _⟩ => ⟨S2x4x4x16x128, .f32⟩
  | .hbm, ⟨74, _⟩ => ⟨S2x4x4x16x128x1, .f32⟩
  | .hbm, ⟨75, _⟩ => ⟨S2x4x4x16x128x256, .f32⟩
  | .hbm, ⟨76, _⟩ => ⟨S2x4x4x16x128x256, .f32⟩
  | .hbm, ⟨77, _⟩ => ⟨S2x4x4x16x128x256, .f32⟩
  | .hbm, ⟨78, _⟩ => ⟨S_, .f32⟩
  | .hbm, ⟨79, _⟩ => ⟨S2x4x4x16x128, .f32⟩
  | .hbm, ⟨80, _⟩ => ⟨S1x4x4x1x1, .f32⟩
  | .hbm, ⟨81, _⟩ => ⟨S2x4x4x16x128, .f32⟩
  | .hbm, ⟨82, _⟩ => ⟨S2x4x4x16x128, .f32⟩
  | .hbm, ⟨83, _⟩ => ⟨S2x4x4x16x128, .f32⟩
  | .hbm, ⟨84, _⟩ => ⟨S2x4x4x16x128, .f32⟩
  | .hbm, ⟨85, _⟩ => ⟨S2x16x4x64x4x128, .f32⟩
  | .hbm, ⟨86, _⟩ => ⟨S2x16x128x4x4x64, .f32⟩
  | .hbm, ⟨87, _⟩ => ⟨S2x16x128x4x4, .f32⟩
  | .hbm, ⟨88, _⟩ => ⟨S2x4x4x16x128, .f32⟩
  | .hbm, ⟨89, _⟩ => ⟨S2x4x4x16x128, .f32⟩
  | .hbm, ⟨90, _⟩ => ⟨S2x16x128x4x4, .f32⟩
  | .hbm, ⟨91, _⟩ => ⟨S2x16x128x4x4x1, .f32⟩
  | .hbm, ⟨92, _⟩ => ⟨S2x16x128x4x4x64, .f32⟩
  | .hbm, ⟨93, _⟩ => ⟨S2x16x128x4x4x64, .f32⟩
  | .hbm, ⟨94, _⟩ => ⟨S2x2048x4x4x64, .f32⟩
  | .hbm, ⟨95, _⟩ => ⟨S2x2048x4x4, .f32⟩
  | .hbm, ⟨96, _⟩ => ⟨S2x2048x1024, .f32⟩
  | .hbm, ⟨97, _⟩ => ⟨S2x2048x2x8, .f32⟩
  | .hbm, ⟨98, _⟩ => ⟨S_, .i32⟩
  | .hbm, ⟨99, _⟩ => ⟨S_, .f32⟩
  | .hbm, ⟨100, _⟩ => ⟨S2x2048x2x128, .f32⟩
  | .hbm, ⟨101, _⟩ => ⟨S2x2048x256, .f32⟩
  | .hbm, ⟨102, _⟩ => ⟨S2x1x8, .f32⟩
  | .hbm, ⟨103, _⟩ => ⟨S_, .i32⟩
  | .hbm, ⟨104, _⟩ => ⟨S_, .f32⟩
  | .hbm, ⟨105, _⟩ => ⟨S2x1x128, .f32⟩
  | .hbm, ⟨106, _⟩ => ⟨S2x2048x1024, .bf16⟩
  | .hbm, ⟨107, _⟩ => ⟨S2x2048x256, .bf16⟩
  | .hbm, ⟨108, _⟩ => ⟨S2x2048x256, .bf16⟩
  | .hbm, ⟨109, _⟩ => ⟨S2x2x1x128, .f32⟩
  | .hbm, ⟨110, _⟩ => ⟨S_, .f32⟩
  | .hbm, ⟨111, _⟩ => ⟨S2x1x128, .f32⟩
  | .hbm, ⟨112, _⟩ => ⟨S2x1x8, .f32⟩
  | .hbm, ⟨113, _⟩ => ⟨S2x8, .f32⟩
  | .hbm, ⟨114, _⟩ => ⟨S16, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x512, .f32⟩
  | .local _ .vmem, ⟨11, _⟩ => ⟨S1x2048x512, .f32⟩
  | .local _ .vmem, ⟨12, _⟩ => ⟨S1x1x128, .f32⟩
  | .local _ .vmem, ⟨13, _⟩ => ⟨S1x1x128, .f32⟩
  | .local _ .vmem, ⟨14, _⟩ => ⟨S1x2048x512, .bf16⟩
  | .local _ .vmem, ⟨15, _⟩ => ⟨S1x2048x512, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x1x1x128, .f32⟩
  | .local _ .vmem, ⟨21, _⟩ => ⟨S1x1x1x128, .f32⟩
  | .local _ .vmem, ⟨22, _⟩ => ⟨S2048x128, .f32⟩
  | .local _ .vmem, ⟨23, _⟩ => ⟨S2048x128, .f32⟩
  | _, _ => ⟨S2x2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_9 : Ref sig .tc := ⟨.hbm, 98, rfl⟩
abbrev main_call1_v0 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c_10 : Ref sig .tc := ⟨.hbm, 103, rfl⟩
abbrev main_call2_v0 : Ref sig .tc := ⟨.hbm, 104, rfl⟩
abbrev main_v84 : Ref sig .tc := ⟨.hbm, 105, rfl⟩
abbrev main_v85_0 : Ref sig .tc := ⟨.hbm, 106, rfl⟩
abbrev main_v85_1 : Ref sig .tc := ⟨.hbm, 107, rfl⟩
abbrev main_v85_2 : Ref sig .tc := ⟨.hbm, 108, rfl⟩
abbrev main_v85_3 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c16_i32 : BitVec 32 := 16#32
  let v60 : BitVec 32 := Scalar.addi c0_i32 c16_i32
  let c1_i32 : BitVec 32 := 1#32
  ⟨c0_i32, v60, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  v71
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_38 : BitVec 32 := 1#32
  let v73 : BitVec 32 := Scalar.subi arg15 c1_i32_38
  let c0_i32_39 : BitVec 32 := 0#32
  let v74 : BitVec 32 := Scalar.maxsi v73 c0_i32_39
  let c128_i32_40 : BitVec 32 := 128#32
  let v75 : BitVec 32 := Scalar.muli v74 c128_i32_40
  v75
def k0_off1 (k0_t1 : Fin k0_t1_loop.trips) : Fin 3 → Nat :=
  let c0_42 : Index := 0#32
  let c0_i32 : BitVec 32 := 0#32
  let c1_i32 : BitVec 32 := 1#32
  let arg15 : BitVec 32 := Scf.iv c0_i32 c1_i32 k0_t1
  let c1_i32_38 : BitVec 32 := 1#32
  let v73 : BitVec 32 := Scalar.subi arg15 c1_i32_38
  let c0_i32_39 : BitVec 32 := 0#32
  let v74 : BitVec 32 := Scalar.maxsi v73 c0_i32_39
  let c128_i32_40 : BitVec 32 := 128#32
  let v75 : BitVec 32 := Scalar.muli v74 c128_i32_40
  let v76 : BitVec 32 := v75
  let v78 : Index := Scalar.indexCast v76
  let c0_43 : Index := 0#32
  ![0, v78.toNat, 0]
def k0_off2 (k0_t1 : Fin k0_t1_loop.trips) : Fin 3 → Nat :=
  let c0_44 : Index := 0#32
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v81 : Index := Scalar.indexCast v72
  let c0_45 : Index := 0#32
  ![0, v81.toNat, 0]
def k0_off3 (k0_t1 : Fin k0_t1_loop.trips) : Fin 3 → Nat :=
  let c0_55 : Index := 0#32
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v101 : Index := Scalar.indexCast v72
  let c0_56 : Index := 0#32
  ![0, v101.toNat, 0]
def k0_off4 (k0_t1 : Fin k0_t1_loop.trips) : Fin 3 → Nat :=
  let c0_60 : Index := 0#32
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v109 : Index := Scalar.indexCast v72
  let c128 : Index := 128#32
  ![0, v109.toNat, 128]
def k0_off5 (k0_t1 : Fin k0_t1_loop.trips) : Fin 3 → Nat :=
  let c0_123 : Index := 0#32
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v286 : Index := Scalar.indexCast v72
  let c256 : Index := 256#32
  ![0, v286.toNat, 256]
def k0_off6 (k0_t1 : Fin k0_t1_loop.trips) : Fin 3 → Nat :=
  let c0_129 : Index := 0#32
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v296 : Index := Scalar.indexCast v72
  let c384 : Index := 384#32
  ![0, v296.toNat, 384]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_38 : BitVec 32 := 1#32
  let v73 : BitVec 32 := Scalar.subi arg15 c1_i32_38
  let c0_i32_39 : BitVec 32 := 0#32
  let v74 : BitVec 32 := Scalar.maxsi v73 c0_i32_39
  let c128_i32_40 : BitVec 32 := 128#32
  let v75 : BitVec 32 := Scalar.muli v74 c128_i32_40
  let v76 : BitVec 32 := v75
  let v478 : Index := Scalar.indexCast v76
  let c0_196 : Index := 0#32
  ![v478.toNat, 0]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32_37 : BitVec 32 := 128#32
  let v71 : BitVec 32 := Scalar.muli arg15 c128_i32_37
  let v72 : BitVec 32 := v71
  let v494 : Index := Scalar.indexCast v72
  let c0_200 : Index := 0#32
  ![v494.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2048x9728 : Shape := ⟨3, ![2, 2048, 9728]⟩
abbrev S16 : Shape := ⟨1, ![16]⟩
abbrev S2x2048x1024 : Shape := ⟨3, ![2, 2048, 1024]⟩
abbrev S2x2048x4x4x64 : Shape := ⟨5, ![2, 2048, 4, 4, 64]⟩
abbrev S2x2048x256 : Shape := ⟨3, ![2, 2048, 256]⟩
abbrev S2x2048x4x64 : Shape := ⟨4, ![2, 2048, 4, 64]⟩
abbrev S2x16x128x4x4x64 : Shape := ⟨6, ![2, 16, 128, 4, 4, 64]⟩
abbrev S2x16x128x4x64 : Shape := ⟨5, ![2, 16, 128, 4, 64]⟩
abbrev S2x1x128x4x64 : Shape := ⟨5, ![2, 1, 128, 4, 64]⟩
abbrev S_ : Shape := ⟨0, ![]⟩
abbrev S2x15x128x4x64 : Shape := ⟨5, ![2, 15, 128, 4, 64]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x4x16x128 : Shape := ⟨5, ![2, 4, 4, 16, 128]⟩
abbrev S2x4x4x16x128x1 : Shape := ⟨6, ![2, 4, 4, 16, 128, 1]⟩
abbrev S4x4x1x1 : Shape := ⟨4, ![4, 4, 1, 1]⟩
abbrev S1x4x4x1x1 : Shape := ⟨5, ![1, 4, 4, 1, 1]⟩
abbrev S2x16x4x64x4x128 : Shape := ⟨6, ![2, 16, 4, 64, 4, 128]⟩
abbrev S2x16x128x4x4 : Shape := ⟨5, ![2, 16, 128, 4, 4]⟩
abbrev S2x16x128x4x4x1 : Shape := ⟨6, ![2, 16, 128, 4, 4, 1]⟩
abbrev S2x2048x4x4 : Shape := ⟨4, ![2, 2048, 4, 4]⟩
abbrev S2x16x4x4x128x256 : Shape := ⟨6, ![2, 16, 4, 4, 128, 256]⟩
abbrev S2x16x4x64x256 : Shape := ⟨5, ![2, 16, 4, 64, 256]⟩
abbrev S4x4 : Shape := ⟨2, ![4, 4]⟩
abbrev S2x4x16x128x4x64 : Shape := ⟨6, ![2, 4, 16, 128, 4, 64]⟩
abbrev S2x4x16x256x64 : Shape := ⟨5, ![2, 4, 16, 256, 64]⟩

abbrev nBuf : Space → Nat
  | .hbm => 221
  | .vmem => 0
  | .smem => 0
  | _ => 0

abbrev hbmTy0_0 (i : Nat) : BufTy := match i % 128 with
  | 0 => ⟨S2x2048x9728, .f32⟩
  | 1 => ⟨S16, .f32⟩
  | 2 => ⟨S2x2048x1024, .f32⟩
  | 3 => ⟨S2x2048x1024, .f32⟩
  | 4 => ⟨S2x2048x4x4x64, .f32⟩
  | 5 => ⟨S2x2048x256, .f32⟩
  | 6 => ⟨S2x2048x4x64, .f32⟩
  | 7 => ⟨S2x2048x256, .f32⟩
  | 8 => ⟨S2x2048x4x64, .f32⟩
  | 9 => ⟨S2x16x128x4x4x64, .f32⟩
  | 10 => ⟨S2x16x128x4x64, .f32⟩
  | 11 => ⟨S2x16x128x4x64, .f32⟩
  | 12 => ⟨S2x1x128x4x64, .f32⟩
  | 13 => ⟨S_, .f32⟩
  | 14 => ⟨S2x1x128x4x64, .f32⟩
  | 15 => ⟨S2x15x128x4x64, .f32⟩
  | 16 => ⟨S2x16x128x4x64, .f32⟩
  | 17 => ⟨S_, .f32⟩
  | 18 => ⟨S2x1x128x4x64, .f32⟩
  | 19 => ⟨S2x16x256x4x64, .f32⟩
  | 20 => ⟨S2x1x128x4x64, .f32⟩
  | 21 => ⟨S_, .f32⟩
  | 22 => ⟨S2x1x128x4x64, .f32⟩
  | 23 => ⟨S2x15x128x4x64, .f32⟩
  | 24 => ⟨S2x16x128x4x64, .f32⟩
  | 25 => ⟨S_, .f32⟩
  | 26 => ⟨S2x1x128x4x64, .f32⟩
  | 27 => ⟨S2x16x256x4x64, .f32⟩
  | 28 => ⟨S2x4x16x256x128x4, .f32⟩
  | 29 => ⟨S2x4x4x16x128x256, .f32⟩
  | 30 => ⟨S_, .f32⟩
  | 31 => ⟨S2x4x4x16x128x256, .f32⟩
  | 32 => ⟨S2x4x4x16x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S16, .i32⟩
  | 44 => ⟨S16x1x1, .i32⟩
  | 45 => ⟨S_, .i32⟩
  | 46 => ⟨S16x1x1, .i32⟩
  | 47 => ⟨S16x1x1, .i1⟩
  | 48 => ⟨S1x1x256, .i32⟩
  | 49 => ⟨S_, .i32⟩
  | 50 => ⟨S1x1x256, .i32⟩
  | 51 => ⟨S1x1x256, .i1⟩
  | 52 => ⟨S16x1x256, .i1⟩
  | 53 => ⟨S16x1x256, .i1⟩
  | 54 => ⟨S16x1x256, .i1⟩
  | 55 => ⟨S_, .i32⟩
  | 56 => ⟨S128x256, .i32⟩
  | 57 => ⟨S128x256, .i1⟩
  | 58 => ⟨S1x128x256, .i1⟩
  | 59 => ⟨S_, .i32⟩
  | 60 => ⟨S128x256, .i32⟩
  | 61 => ⟨S128x256, .i1⟩
  | 62 => ⟨S1x128x256, .i1⟩
  | 63 => ⟨S1x128x256, .i1⟩
  | 64 => ⟨S16x128x256, .i1⟩
  | 65 => ⟨S16x128x256, .i1⟩
  | 66 => ⟨S16x128x256, .i1⟩
  | 67 => ⟨S_, .f32⟩
  | 68 => ⟨S_, .f32⟩
  | 69 => ⟨S2x4x4x16x128x256, .i1⟩
  | 70 => ⟨S2x4x4x16x128x256, .f32⟩
  | 71 => ⟨S2x4x4x16x128x256, .f32⟩
  | 72 => ⟨S_, .f32⟩
  | 73 => ⟨S2x4x4x16x128x256, .f32⟩
  | 74 => ⟨S_, .f32⟩
  | 75 => ⟨S2x4x4x16x128, .f32⟩
  | 76 => ⟨S2x4x4x16x128x1, .f32⟩
  | 77 => ⟨S2x4x4x16x128x256, .f32⟩
  | 78 => ⟨S2x4x4x16x128x256, .i1⟩
  | 79 => ⟨S2x4x4x16x128x256, .f32⟩
  | 80 => ⟨S_, .f32⟩
  | 81 => ⟨S2x4x4x16x128, .f32⟩
  | 82 => ⟨S4x4x1x1, .f32⟩
  | 83 => ⟨S1x4x4x1x1, .f32⟩
  | 84 => ⟨S2x4x4x16x128, .f32⟩
  | 85 => ⟨S2x4x4x16x128, .f32⟩
  | 86 => ⟨S2x4x4x16x128, .f32⟩
  | 87 => ⟨S2x4x4x16x128, .i1⟩
  | 88 => ⟨S2x4x4x16x128, .f32⟩
  | 89 => ⟨S2x4x4x16x128, .i1⟩
  | 90 => ⟨S_, .f32⟩
  | 91 => ⟨S2x4x4x16x128, .f32⟩
  | 92 => ⟨S_, .f32⟩
  | 93 => ⟨S2x4x4x16x128, .f32⟩
  | 94 => ⟨S_, .f32⟩
  | 95 => ⟨S2x4x4x16x128, .f32⟩
  | 96 => ⟨S2x4x4x16x128, .f32⟩
  | 97 => ⟨S2x4x4x16x128, .f32⟩
  | 98 => ⟨S2x4x4x16x128, .f32⟩
  | 99 => ⟨S2x4x4x16x128, .i1⟩
  | 100 => ⟨S2x4x4x16x128, .f32⟩
  | 101 => ⟨S2x4x4x16x128, .i1⟩
  | 102 => ⟨S_, .f32⟩
  | 103 => ⟨S2x4x4x16x128, .f32⟩
  | 104 => ⟨S_, .f32⟩
  | 105 => ⟨S2x4x4x16x128, .f32⟩
  | 106 => ⟨S_, .f32⟩
  | 107 => ⟨S2x4x4x16x128, .f32⟩
  | 108 => ⟨S2x4x4x16x128, .f32⟩
  | 109 => ⟨S2x4x4x16x128, .f32⟩
  | 110 => ⟨S2x4x4x16x128x1, .f32⟩
  | 111 => ⟨S2x4x4x16x128x256, .f32⟩
  | 112 => ⟨S2x4x4x16x128x256, .f32⟩
  | 113 => ⟨S2x4x4x16x128x256, .f32⟩
  | 114 => ⟨S_, .f32⟩
  | 115 => ⟨S2x4x4x16x128, .f32⟩
  | 116 => ⟨S1x4x4x1x1, .f32⟩
  | 117 => ⟨S2x4x4x16x128, .f32⟩
  | 118 => ⟨S2x4x4x16x128, .f32⟩
  | 119 => ⟨S2x4x4x16x128, .f32⟩
  | 120 => ⟨S2x4x4x16x128, .f32⟩
  | 121 => ⟨S2x16x4x64x4x128, .f32⟩
  | 122 => ⟨S2x16x128x4x4x64, .f32⟩
  | 123 => ⟨S2x16x128x4x4, .f32⟩
  | 124 => ⟨S2x4x4x16x128, .f32⟩
  | 125 => ⟨S2x4x4x16x128, .f32⟩
  | 126 => ⟨S2x16x128x4x4, .f32⟩
  | 127 => ⟨S2x16x128x4x4x1, .f32⟩
  | _ => ⟨S2x2048x9728, .f32⟩

abbrev hbmTy0_1 (i : Nat) : BufTy := match i % 128 with
  | 0 => ⟨S2x16x128x4x4x64, .f32⟩
  | 1 => ⟨S2x16x128x4x4x64, .f32⟩
  | 2 => ⟨S2x16x128x4x4x1, .f32⟩
  | 3 => ⟨S_, .f32⟩
  | 4 => ⟨S2x16x128x4x4x1, .f32⟩
  | 5 => ⟨S2x16x128x4x4x1, .f32⟩
  | 6 => ⟨S2x2048x4x4x64, .f32⟩
  | 7 => ⟨S2x2048x4x4, .f32⟩
  | 8 => ⟨S2x2048x4x4x64, .f32⟩
  | 9 => ⟨S2x16x128x4x4x64, .f32⟩
  | 10 => ⟨S2x16x128x4x4x64, .f32⟩
  | 11 => ⟨S2x16x128x4x4x64, .f32⟩
  | 12 => ⟨S2x16x128x4x4x64, .f32⟩
  | 13 => ⟨S_, .f32⟩
  | 14 => ⟨S2x16x128x4x4, .f32⟩
  | 15 => ⟨S2x16x128x4x4x1, .f32⟩
  | 16 => ⟨S2x16x128x4x4x1, .f32⟩
  | 17 => ⟨S2x16x128x4x4x64, .f32⟩
  | 18 => ⟨S2x16x128x4x4x64, .f32⟩
  | 19 => ⟨S_, .f32⟩
  | 20 => ⟨S2x16x128x4x4, .f32⟩
  | 21 => ⟨S2x4x4x16x128, .f32⟩
  | 22 => ⟨S2x16x4x64x4x128, .f32⟩
  | 23 => ⟨S2x16x4x4x128x256, .f32⟩
  | 24 => ⟨S2x4x4x16x128x256, .f32⟩
  | 25 => ⟨S2x16x4x64x256, .f32⟩
  | 26 => ⟨S2x16x256x4x64, .f32⟩
  | 27 => ⟨S2x4x4x16x128, .f32⟩
  | 28 => ⟨S_, .f32⟩
  | 29 => ⟨S4x4, .f32⟩
  | 30 => ⟨S1x4x4x1x1, .f32⟩
  | 31 => ⟨S2x4x4x16x128, .f32⟩
  | 32 => ⟨S_, .f32⟩
  | 33 => ⟨S4x4, .f32⟩
  | 34 => ⟨S4x4x1x1, .f32⟩
  | 35 => ⟨S2x4x4x16x128x256, .f32⟩
  | 36 => ⟨S2x4x4x16x128x256, .f32⟩
  | 37 => ⟨S2x4x4x16x128x256, .f32⟩
  | 38 => ⟨S2x4x4x16x128x256, .f32⟩
  | 39 => ⟨S_, .f32⟩
  | 40 => ⟨S2x4x4x16x128, .f32⟩
  | 41 => ⟨S2x4x4x16x128x1, .f32⟩
  | 42 => ⟨S_, .f32⟩
  | 43 => ⟨S2x4x4x16x128, .f32⟩
  | 44 => ⟨S2x4x4x16x128, .f32⟩
  | 45 => ⟨S2x4x4x16x128, .f32⟩
  | 46 => ⟨S_, .f32⟩
  | 47 => ⟨S4x4, .f32⟩
  | 48 => ⟨S1x4x4x1x1, .f32⟩
  | 49 => ⟨S2x4x4x16x128, .f32⟩
  | 50 => ⟨S_, .f32⟩
  | 51 => ⟨S4x4, .f32⟩
  | 52 => ⟨S4x4x1x1, .f32⟩
  | 53 => ⟨S4x4x1x1, .f32⟩
  | 54 => ⟨S16, .f32⟩
  | 55 => ⟨S2x4x4x16x128, .f32⟩
  | 56 => ⟨S2x4x4x16x128x256, .f32⟩
  | 57 => ⟨S2x4x4x16x128x256, .f32⟩
  | 58 => ⟨S2x4x4x16x128x256, .f32⟩
  | 59 => ⟨S_, .f32⟩
  | 60 => ⟨S2x4x4x16x128x256, .f32⟩
  | 61 => ⟨S2x4x4x16x128x256, .f32⟩
  | 62 => ⟨S_, .f32⟩
  | 63 => ⟨S2x4x4x16x128x256, .f32⟩
  | 64 => ⟨S2x4x4x16x128x256, .f32⟩
  | 65 => ⟨S2x4x16x256x128x4, .f32⟩
  | 66 => ⟨S2x4x16x128x4x64, .f32⟩
  | 67 => ⟨S2x16x128x4x4x64, .f32⟩
  | 68 => ⟨S2x4x16x256x64, .f32⟩
  | 69 => ⟨S2x16x256x4x64, .f32⟩
  | 70 => ⟨S2x16x128x4x64, .f32⟩
  | 71 => ⟨S2x16x128x4x64, .f32⟩
  | 72 => ⟨S2x1x128x4x64, .f32⟩
  | 73 => ⟨S2x15x128x4x64, .f32⟩
  | 74 => ⟨S_, .f32⟩
  | 75 => ⟨S2x16x128x4x64, .f32⟩
  | 76 => ⟨S2x16x128x4x64, .f32⟩
  | 77 => ⟨S2x16x128x4x64, .f32⟩
  | 78 => ⟨S2x16x128x4x64, .f32⟩
  | 79 => ⟨S2x1x128x4x64, .f32⟩
  | 80 => ⟨S2x15x128x4x64, .f32⟩
  | 81 => ⟨S_, .f32⟩
  | 82 => ⟨S2x16x128x4x64, .f32⟩
  | 83 => ⟨S2x16x128x4x64, .f32⟩
  | 84 => ⟨S2x2048x4x64, .f32⟩
  | 85 => ⟨S2x2048x4x64, .f32⟩
  | 86 => ⟨S2x2048x4x4x64, .f32⟩
  | 87 => ⟨S2x2048x1024, .f32⟩
  | 88 => ⟨S2x2048x1024, .bf16⟩
  | 89 => ⟨S2x2048x256, .f32⟩
  | 90 => ⟨S2x2048x256, .bf16⟩
  | 91 => ⟨S2x2048x256, .f32⟩
  | 92 => ⟨S2x2048x256, .bf16⟩
  | _ => ⟨S2x2048x9728, .f32⟩

abbrev hbmTy (i : Nat) : BufTy := match i / 128 with
  | 0 => hbmTy0_0 i
  | 1 => hbmTy0_1 i
  | _ => ⟨S2x2048x9728, .f32⟩

abbrev bufTy : (tb : Table) → Fin (tcTables nBuf tb) → BufTy
  | .hbm, ⟨i, _⟩ => hbmTy i
  | _, _ => ⟨S2x2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_call0_v0 : Ref sig .tc := ⟨.hbm, 68, rfl⟩
abbrev main_v54_1 : Ref sig .tc := ⟨.hbm, 69, rfl⟩
abbrev main_call0_v2 : Ref sig .tc := ⟨.hbm, 70, rfl⟩
abbrev main_v54_0 : Ref sig .tc := ⟨.hbm, 71, rfl⟩
abbrev main_call0_cst : Ref sig .tc := ⟨.hbm, 72, rfl⟩
abbrev main_v54_2 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_19 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_21 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_22 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_23 : Ref sig .tc := ⟨.hbm, 167, rfl⟩
abbrev main_v134 : Ref sig .tc := ⟨.hbm, 168, rfl⟩
abbrev main_v135 : Ref sig .tc := ⟨.hbm, 169, rfl⟩
abbrev main_cst_24 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_25 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_26 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_call1_cst : Ref sig .tc := ⟨.hbm, 187, rfl⟩
abbrev main_call1_v0 : Ref sig .tc := ⟨.hbm, 188, rfl⟩
abbrev main_v150 : Ref sig .tc := ⟨.hbm, 189, rfl⟩
abbrev main_cst_27 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_28 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_29 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩

abbrev nD : Nat := 1
abbrev τ : Topo := Topo.v7x

variable {F : FTy → Type} [FloatOps F]

def κ : String → Option EReal := fun
  | "mask" => some ⊥
  | _ => none
-- ==== FfnGate.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnGateRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S4096x5632 : Shape := ⟨2, ![4096, 5632]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Branch.lean ====
abbrev S4096x1024 : Shape := ⟨2, ![4096, 1024]⟩
abbrev S1024x1024 : Shape := ⟨2, ![1024, 1024]⟩
abbrev S3x4096x1024 : Shape := ⟨3, ![3, 4096, 1024]⟩
abbrev S4096x9728 : Shape := ⟨2, ![4096, 9728]⟩
abbrev S512x1024 : Shape := ⟨2, ![512, 1024]⟩
abbrev S3x512x512 : Shape := ⟨3, ![3, 512, 512]⟩
abbrev S512x512 : Shape := ⟨2, ![512, 512]⟩
abbrev S1x512x512 : Shape := ⟨3, ![1, 512, 512]⟩

abbrev nBuf : Space → Nat
  | .hbm => 8
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S3x4096x1024, .f32⟩
  | .hbm, ⟨3, _⟩ => ⟨S4096x9728, .f32⟩
  | .hbm, ⟨4, _⟩ => ⟨S3x4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S3x512x512, .f32⟩
  | .local _ .vmem, ⟨5, _⟩ => ⟨S3x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3x512x512, .bf16⟩
  | .local _ .vmem, ⟨13, _⟩ => ⟨S3x512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== BranchRefIdeal.lean ====
abbrev S4096x1024 : Shape := ⟨2, ![4096, 1024]⟩
abbrev S1024x1024 : Shape := ⟨2, ![1024, 1024]⟩
abbrev S3x4096x1024 : Shape := ⟨3, ![3, 4096, 1024]⟩
abbrev S4096x9728 : Shape := ⟨2, ![4096, 9728]⟩
abbrev S4096x3072 : Shape := ⟨2, ![4096, 3072]⟩
abbrev S4096x3x1024 : Shape := ⟨3, ![4096, 3, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S3x4096x1024, .f32⟩
  | .hbm, ⟨3, _⟩ => ⟨S4096x9728, .f32⟩
  | .hbm, ⟨4, _⟩ => ⟨S1024x1024, .f32⟩
  | .hbm, ⟨5, _⟩ => ⟨S4096x3072, .f32⟩
  | .hbm, ⟨6, _⟩ => ⟨S4096x3x1024, .f32⟩
  | .hbm, ⟨7, _⟩ => ⟨S4096x3x1024, .f32⟩
  | .hbm, ⟨8, _⟩ => ⟨S4096x3x1024, .f32⟩
  | .hbm, ⟨9, _⟩ => ⟨S4096x3x1024, .f32⟩
  | .hbm, ⟨10, _⟩ => ⟨S_, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3x1024, .f32⟩
  | .hbm, ⟨26, _⟩ => ⟨S4096x3x1024, .f32⟩
  | .hbm, ⟨27, _⟩ => ⟨S4096x3x1024, .f32⟩
  | .hbm, ⟨28, _⟩ => ⟨S4096x3x1024, .f32⟩
  | .hbm, ⟨29, _⟩ => ⟨S4096x3072, .f32⟩
  | .hbm, ⟨30, _⟩ => ⟨S4096x3072, .bf16⟩
  | .hbm, ⟨31, _⟩ => ⟨S3x4096x1024, .f32⟩
  | .hbm, ⟨32, _⟩ => ⟨S3x4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== FfnInX.lean ====
abbrev S4096x5632 : Shape := ⟨2, ![4096, 5632]⟩
abbrev S4x1024x1408 : Shape := ⟨3, ![4, 1024, 1408]⟩
abbrev S4096x1024 : Shape := ⟨2, ![4096, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInXRefIdeal.lean ====
abbrev S4096x5632 : Shape := ⟨2, ![4096, 5632]⟩
abbrev S4x1024x1408 : Shape := ⟨3, ![4, 1024, 1408]⟩
abbrev S4096x1024 : Shape := ⟨2, ![4096, 1024]⟩
abbrev S1024x4x1408 : Shape := ⟨3, ![1024, 4, 1408]⟩
abbrev S1024x5632 : Shape := ⟨2, ![1024, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x5632, .f32⟩
  | .hbm, ⟨12, _⟩ => ⟨S4096x5632, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FfnInW.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInWRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S1024x4x1408, .f32⟩
  | .hbm, ⟨9, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjX.lean ====
abbrev S4096x9728 : Shape := ⟨2, ![4096, 9728]⟩
abbrev S4x1024x2432 : Shape := ⟨3, ![4, 1024, 2432]⟩
abbrev S4096x1024 : Shape := ⟨2, ![4096, 1024]⟩
abbrev S1024x2432 : Shape := ⟨2, ![1024, 2432]⟩
abbrev S1x1024x2432 : Shape := ⟨3, ![1, 1024, 2432]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x9728, .bf16⟩
  | .hbm, ⟨1, _⟩ => ⟨S4x1024x2432, .bf16⟩
  | .hbm, ⟨2, _⟩ => ⟨S4096x1024, .f32⟩
  | .hbm, ⟨3, _⟩ => ⟨S4096x1024, .f32⟩
  | .local _ .vmem, ⟨0, _⟩ => ⟨S1024x2432, .bf16⟩
  | .local _ .vmem, ⟨1, _⟩ => ⟨S1024x2432, .bf16⟩
  | .local _ .vmem, ⟨2, _⟩ => ⟨S1x1024x2432, .bf16⟩
  | .local _ .vmem, ⟨3, _⟩ => ⟨S1x1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjXRefIdeal.lean ====
abbrev S4096x9728 : Shape := ⟨2, ![4096, 9728]⟩
abbrev S4x1024x2432 : Shape := ⟨3, ![4, 1024, 2432]⟩
abbrev S4096x1024 : Shape := ⟨2, ![4096, 1024]⟩
abbrev S1024x4x2432 : Shape := ⟨3, ![1024, 4, 2432]⟩
abbrev S1024x9728 : Shape := ⟨2, ![1024, 9728]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S4x1024x2432, .bf16⟩
  | .hbm, ⟨2, _⟩ => ⟨S4096x1024, .f32⟩
  | .hbm, ⟨3, _⟩ => ⟨S4x1024x2432, .f32⟩
  | .hbm, ⟨4, _⟩ => ⟨S1024x4x2432, .f32⟩
  | .hbm, ⟨5, _⟩ => ⟨S1024x9728, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x9728, .f32⟩
  | .hbm, ⟨12, _⟩ => ⟨S4096x9728, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== ProjW.lean ====
abbrev S4096x1024 : Shape := ⟨2, ![4096, 1024]⟩
abbrev S4096x9728 : Shape := ⟨2, ![4096, 9728]⟩
abbrev S4x1024x2432 : Shape := ⟨3, ![4, 1024, 2432]⟩
abbrev S1024x512 : Shape := ⟨2, ![1024, 512]⟩
abbrev S1024x2432 : Shape := ⟨2, ![1024, 2432]⟩
abbrev S1x512x2432 : Shape := ⟨3, ![1, 512, 2432]⟩
abbrev S512x2432 : Shape := ⟨2, ![512, 2432]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x9728, .bf16⟩
  | .hbm, ⟨2, _⟩ => ⟨S4x1024x2432, .f32⟩
  | .local _ .vmem, ⟨0, _⟩ => ⟨S1024x512, .f32⟩
  | .local _ .vmem, ⟨1, _⟩ => ⟨S1024x512, .f32⟩
  | .local _ .vmem, ⟨2, _⟩ => ⟨S1024x2432, .bf16⟩
  | .local _ .vmem, ⟨3, _⟩ => ⟨S1024x2432, .bf16⟩
  | .local _ .vmem, ⟨4, _⟩ => ⟨S1x512x2432, .f32⟩
  | .local _ .vmem, ⟨5, _⟩ => ⟨S1x512x2432, .f32⟩
  | .local _ .vmem, ⟨6, _⟩ => ⟨S512x2432, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWRefIdeal.lean ====
abbrev S4096x1024 : Shape := ⟨2, ![4096, 1024]⟩
abbrev S4096x9728 : Shape := ⟨2, ![4096, 9728]⟩
abbrev S_ : Shape := ⟨0, ![]⟩
abbrev S1024x9728 : Shape := ⟨2, ![1024, 9728]⟩
abbrev S9728x1024 : Shape := ⟨2, ![9728, 1024]⟩
abbrev S1024x4x2432 : Shape := ⟨3, ![1024, 4, 2432]⟩
abbrev S4x1024x2432 : Shape := ⟨3, ![4, 1024, 2432]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9728, .bf16⟩
  | .hbm, ⟨2, _⟩ => ⟨S_, .f32⟩
  | .hbm, ⟨3, _⟩ => ⟨S1024x9728, .f32⟩
  | .hbm, ⟨4, _⟩ => ⟨S4096x9728, .f32⟩
  | .hbm, ⟨5, _⟩ => ⟨S4096x9728, .f32⟩
  | .hbm, ⟨6, _⟩ => ⟨S9728x1024, .f32⟩
  | .hbm, ⟨7, _⟩ => ⟨S1024x9728, .f32⟩
  | .hbm, ⟨8, _⟩ => ⟨S1024x4x2432, .f32⟩
  | .hbm, ⟨9, _⟩ => ⟨S4x1024x2432, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutW.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutWRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S4x1024x2432 : Shape := ⟨3, ![4, 1024, 2432]⟩
abbrev S4096x9728 : Shape := ⟨2, ![4096, 9728]⟩
abbrev S512x1024 : Shape := ⟨2, ![512, 1024]⟩
abbrev S1x1024x2432 : Shape := ⟨3, ![1, 1024, 2432]⟩
abbrev S512x2432 : Shape := ⟨2, ![512, 2432]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x1024x2432, .bf16⟩
  | .hbm, ⟨2, _⟩ => ⟨S4096x9728, .f32⟩
  | .local _ .vmem, ⟨0, _⟩ => ⟨S512x1024, .f32⟩
  | .local _ .vmem, ⟨1, _⟩ => ⟨S512x1024, .f32⟩
  | .local _ .vmem, ⟨2, _⟩ => ⟨S1x1024x2432, .bf16⟩
  | .local _ .vmem, ⟨3, _⟩ => ⟨S1x1024x2432, .bf16⟩
  | .local _ .vmem, ⟨4, _⟩ => ⟨S512x2432, .f32⟩
  | .local _ .vmem, ⟨5, _⟩ => ⟨S512x2432, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S4x1024x2432 : Shape := ⟨3, ![4, 1024, 2432]⟩
abbrev S1024x4x2432 : Shape := ⟨3, ![1024, 4, 2432]⟩
abbrev S1024x9728 : Shape := ⟨2, ![1024, 9728]⟩
abbrev S4096x9728 : Shape := ⟨2, ![4096, 9728]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x2432, .bf16⟩
  | .hbm, ⟨2, _⟩ => ⟨S4x1024x2432, .f32⟩
  | .hbm, ⟨3, _⟩ => ⟨S1024x4x2432, .f32⟩
  | .hbm, ⟨4, _⟩ => ⟨S1024x9728, .f32⟩
  | .hbm, ⟨5, _⟩ => ⟨S4096x9728, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnIn.lean ====
abbrev S4096x1024 : Shape := ⟨2, ![4096, 1024]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .bf16⟩
  | .hbm, ⟨2, _⟩ => ⟨S4096x2816, .f32⟩
  | .hbm, ⟨3, _⟩ => ⟨S4096x2816, .f32⟩
  | .hbm, ⟨4, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Mix.lean ====
abbrev S4096x1024 : Shape := ⟨2, ![4096, 1024]⟩
abbrev S3x1024x1024 : Shape := ⟨3, ![3, 1024, 1024]⟩
abbrev S4096x9728 : Shape := ⟨2, ![4096, 9728]⟩
abbrev S3x4096x1024 : Shape := ⟨3, ![3, 4096, 1024]⟩
abbrev S256x1024 : Shape := ⟨2, ![256, 1024]⟩
abbrev S3x1024x512 : Shape := ⟨3, ![3, 1024, 512]⟩
abbrev S256x512 : Shape := ⟨2, ![256, 512]⟩
abbrev S3x256x512 : Shape := ⟨3, ![3, 256, 512]⟩
abbrev S1x1024x512 : Shape := ⟨3, ![1, 1024, 512]⟩
abbrev S1024x512 : Shape := ⟨2, ![1024, 512]⟩
abbrev S1x256x512 : Shape := ⟨3, ![1, 256, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S3x1024x1024, .bf16⟩
  | .hbm, ⟨4, _⟩ => ⟨S4096x9728, .f32⟩
  | .hbm, ⟨5, _⟩ => ⟨S3x4096x1024, .f32⟩
  | .hbm, ⟨6, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S3x1024x512, .bf16⟩
  | .local _ .vmem, ⟨7, _⟩ => ⟨S3x1024x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S3x256x512, .f32⟩
  | .local _ .vmem, ⟨15, _⟩ => ⟨S3x256x512, .f32⟩
  | .local _ .vmem, ⟨16, _⟩ => ⟨S256x512, .bf16⟩
  | .local _ .vmem, ⟨17, _⟩ => ⟨S256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixRefIdeal.lean ====
abbrev S4096x1024 : Shape := ⟨2, ![4096, 1024]⟩
abbrev S3x1024x1024 : Shape := ⟨3, ![3, 1024, 1024]⟩
abbrev S4096x9728 : Shape := ⟨2, ![4096, 9728]⟩
abbrev S4096x1x1024 : Shape := ⟨3, ![4096, 1, 1024]⟩
abbrev S4096x3x1024 : Shape := ⟨3, ![4096, 3, 1024]⟩
abbrev S3x1024x4096 : Shape := ⟨3, ![3, 1024, 4096]⟩
abbrev S4096x3072 : Shape := ⟨2, ![4096, 3072]⟩
abbrev S_ : Shape := ⟨0, ![]⟩
abbrev S3x4096x1024 : Shape := ⟨3, ![3, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S3x1024x1024, .bf16⟩
  | .hbm, ⟨4, _⟩ => ⟨S4096x9728, .f32⟩
  | .hbm, ⟨5, _⟩ => ⟨S3x1024x1024, .f32⟩
  | .hbm, ⟨6, _⟩ => ⟨S4096x1024, .f32⟩
  | .hbm, ⟨7, _⟩ => ⟨S4096x1x1024, .f32⟩
  | .hbm, ⟨8, _⟩ => ⟨S4096x1x1024, .f32⟩
  | .hbm, ⟨9, _⟩ => ⟨S4096x1x1024, .f32⟩
  | .hbm, ⟨10, _⟩ => ⟨S4096x3x1024, .f32⟩
  | .hbm, ⟨11, _⟩ => ⟨S3x1024x4096, .f32⟩
  | .hbm, ⟨12, _⟩ => ⟨S4096x3x1024, .f32⟩
  | .hbm, ⟨13, _⟩ => ⟨S4096x3072, .f32⟩
  | .hbm, ⟨14, _⟩ => ⟨S4096x3x1024, .f32⟩
  | .hbm, ⟨15, _⟩ => ⟨S4096x3x1024, .f32⟩
  | .hbm, ⟨16, _⟩ => ⟨S4096x3x1024, .f32⟩
  | .hbm, ⟨17, _⟩ => ⟨S_, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S4096x3x1024, .f32⟩
  | .hbm, ⟨24, _⟩ => ⟨S_, .f32⟩
  | .hbm, ⟨25, _⟩ => ⟨S4096x1024, .f32⟩
  | .hbm, ⟨26, _⟩ => ⟨S3x4096x1024, .f32⟩
  | .hbm, ⟨27, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutLn.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutLnRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FfnOutLn.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnOutLnRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S2816x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== BranchX0.lean ====
abbrev S3x4096x1024 : Shape := ⟨3, ![3, 4096, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S1x1024x1024, .bf16⟩
  | .hbm, ⟨3, _⟩ => ⟨S1024x1024, .bf16⟩
  | .hbm, ⟨4, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchX0Ideal.lean ====
  let c0_i32_0 : BitVec 32 := 0#32
  ![c0_i32.toNat, arg0.toNat, arg2.toNat]
-- ==== BranchX0RefIdeal.lean ====
abbrev S3x4096x1024 : Shape := ⟨3, ![3, 4096, 1024]⟩
abbrev S3x1024x1024 : Shape := ⟨3, ![3, 1024, 1024]⟩
abbrev S_ : Shape := ⟨0, ![]⟩
abbrev S4096x1024 : Shape := ⟨2, ![4096, 1024]⟩
abbrev S1x1024x1024 : Shape := ⟨3, ![1, 1024, 1024]⟩
abbrev S1024x1024 : Shape := ⟨2, ![1024, 1024]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchX1.lean ====
abbrev S3x4096x1024 : Shape := ⟨3, ![3, 4096, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S1x1024x1024, .bf16⟩
  | .hbm, ⟨3, _⟩ => ⟨S1024x1024, .bf16⟩
  | .hbm, ⟨4, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchX1Ideal.lean ====
  let c1_i32 : BitVec 32 := 1#32
  ![c1_i32.toNat, arg0.toNat, arg2.toNat]
-- ==== BranchX1RefIdeal.lean ====
abbrev S3x4096x1024 : Shape := ⟨3, ![3, 4096, 1024]⟩
abbrev S3x1024x1024 : Shape := ⟨3, ![3, 1024, 1024]⟩
abbrev S_ : Shape := ⟨0, ![]⟩
abbrev S4096x1024 : Shape := ⟨2, ![4096, 1024]⟩
abbrev S1x1024x1024 : Shape := ⟨3, ![1, 1024, 1024]⟩
abbrev S1024x1024 : Shape := ⟨2, ![1024, 1024]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchX2.lean ====
abbrev S3x4096x1024 : Shape := ⟨3, ![3, 4096, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S1x1024x1024, .bf16⟩
  | .hbm, ⟨3, _⟩ => ⟨S1024x1024, .bf16⟩
  | .hbm, ⟨4, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchX2RefIdeal.lean ====
abbrev S3x4096x1024 : Shape := ⟨3, ![3, 4096, 1024]⟩
abbrev S3x1024x1024 : Shape := ⟨3, ![3, 1024, 1024]⟩
abbrev S_ : Shape := ⟨0, ![]⟩
abbrev S4096x1024 : Shape := ⟨2, ![4096, 1024]⟩
abbrev S1x1024x1024 : Shape := ⟨3, ![1, 1024, 1024]⟩
abbrev S1024x1024 : Shape := ⟨2, ![1024, 1024]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S3x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchW0.lean ====
abbrev S4096x1024 : Shape := ⟨2, ![4096, 1024]⟩
abbrev S3x4096x1024 : Shape := ⟨3, ![3, 4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW0Ideal.lean ====
abbrev S4096x1024 : Shape := ⟨2, ![4096, 1024]⟩
abbrev S3x4096x1024 : Shape := ⟨3, ![3, 4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW0RefIdeal.lean ====
abbrev S4096x1024 : Shape := ⟨2, ![4096, 1024]⟩
abbrev S3x4096x1024 : Shape := ⟨3, ![3, 4096, 1024]⟩
abbrev S_ : Shape := ⟨0, ![]⟩
abbrev S1024x1024 : Shape := ⟨2, ![1024, 1024]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S1024x1024, .f32⟩
  | .hbm, ⟨10, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BranchW1.lean ====
abbrev S4096x1024 : Shape := ⟨2, ![4096, 1024]⟩
abbrev S3x4096x1024 : Shape := ⟨3, ![3, 4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW1Ideal.lean ====
  let c1_i32 : BitVec 32 := 1#32
  ![c1_i32.toNat, arg2.toNat, arg1.toNat]
-- ==== BranchW1RefIdeal.lean ====
abbrev S4096x1024 : Shape := ⟨2, ![4096, 1024]⟩
abbrev S3x4096x1024 : Shape := ⟨3, ![3, 4096, 1024]⟩
abbrev S_ : Shape := ⟨0, ![]⟩
abbrev S1024x1024 : Shape := ⟨2, ![1024, 1024]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchW2.lean ====
abbrev S4096x1024 : Shape := ⟨2, ![4096, 1024]⟩
abbrev S3x4096x1024 : Shape := ⟨3, ![3, 4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW2RefIdeal.lean ====
abbrev S4096x1024 : Shape := ⟨2, ![4096, 1024]⟩
abbrev S3x4096x1024 : Shape := ⟨3, ![3, 4096, 1024]⟩
abbrev S_ : Shape := ⟨0, ![]⟩
abbrev S1024x1024 : Shape := ⟨2, ![1024, 1024]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LnBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_18 : BitVec 32 := 0#32
  let v49 : BitVec 1 := Scalar.cmpi .ne v48 c0_i32_18
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== LossHead.lean ====
abbrev S4096x1024 : Shape := ⟨2, ![4096, 1024]⟩
abbrev S1x128 : Shape := ⟨2, ![1, 128]⟩
abbrev S512x1024 : Shape := ⟨2, ![512, 1024]⟩
abbrev S512x128 : Shape := ⟨2, ![512, 128]⟩
abbrev S128 : Shape := ⟨1, ![128]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_7 : BitVec 32 := 0#32
  let v28 : BitVec 1 := Scalar.cmpi .ne v27 c0_i32_7
  v28

def k0_cond2 (i : grid0.Coords) : BitVec 1 :=
  let arg0 : BitVec 32 := BitVec.ofNat 32 (i 0).val
  let c0_i32 : BitVec 32 := 0#32
  let v26 : BitVec 1 := Scalar.cmpi .eq arg0 c0_i32
  let v_true : BitVec 1 := 1#1
  let v29 : BitVec 1 := Scalar.xori v26 v_true
  let v30 : BitVec 32 := Scalar.extui v29
  let c0_i32_8 : BitVec 32 := 0#32
  let v31 : BitVec 1 := Scalar.cmpi .ne v30 c0_i32_8
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S_ : Shape := ⟨0, ![]⟩
abbrev S4096 : Shape := ⟨1, ![4096]⟩
abbrev S4096x8x128 : Shape := ⟨3, ![4096, 8, 128]⟩
abbrev S4096x128 : Shape := ⟨2, ![4096, 128]⟩
abbrev S128 : Shape := ⟨1, ![128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x8x128, .f32⟩
  | .hbm, ⟨28, _⟩ => ⟨S_, .f32⟩
  | .hbm, ⟨29, _⟩ => ⟨S4096x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnIn.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S3072x1024 : Shape := ⟨2, ![3072, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S3072x1024 : Shape := ⟨2, ![3072, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S3072x1024 : Shape := ⟨2, ![3072, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S_, .f32⟩
  | .hbm, ⟨5, _⟩ => ⟨S3072x1024, .f32⟩
  | .hbm, ⟨6, _⟩ => ⟨S3072x1024, .f32⟩
  | .hbm, ⟨7, _⟩ => ⟨S_, .f32⟩
  | .hbm, ⟨8, _⟩ => ⟨S3072x1024, .f32⟩
  | .hbm, ⟨9, _⟩ => ⟨S3072x1024, .f32⟩
  | .hbm, ⟨10, _⟩ => ⟨S3072x1024, .f32⟩
  | .hbm, ⟨11, _⟩ => ⟨S_, .f32⟩
  | .hbm, ⟨12, _⟩ => ⟨S3072x1024, .f32⟩
  | .hbm, ⟨13, _⟩ => ⟨S3072x1024, .f32⟩
  | .hbm, ⟨14, _⟩ => ⟨S3072x1024, .f32⟩
  | .hbm, ⟨15, _⟩ => ⟨S_, .f32⟩
  | .hbm, ⟨16, _⟩ => ⟨S3072x1024, .f32⟩
  | .hbm, ⟨17, _⟩ => ⟨S3072x1024, .f32⟩
  | .hbm, ⟨18, _⟩ => ⟨S3072x1024, .f32⟩
  | .hbm, ⟨19, _⟩ => ⟨S_, .f32⟩
  | .hbm, ⟨20, _⟩ => ⟨S3072x1024, .f32⟩
  | .hbm, ⟨21, _⟩ => ⟨S3072x1024, .f32⟩
  | .hbm, ⟨22, _⟩ => ⟨S_, .f32⟩
  | .hbm, ⟨23, _⟩ => ⟨S3072x1024, .f32⟩
  | .hbm, ⟨24, _⟩ => ⟨S3072x1024, .f32⟩
  | .hbm, ⟨25, _⟩ => ⟨S3072x1024, .f32⟩
  | .hbm, ⟨26, _⟩ => ⟨S_, .f32⟩
  | .hbm, ⟨27, _⟩ => ⟨S3072x1024, .f32⟩
  | .hbm, ⟨28, _⟩ => ⟨S3072x1024, .f32⟩
  | .hbm, ⟨29, _⟩ => ⟨S3072x1024, .f32⟩
  | .hbm, ⟨30, _⟩ => ⟨S_, .f32⟩
  | .hbm, ⟨31, _⟩ => ⟨S3072x1024, .f32⟩
  | .hbm, ⟨32, _⟩ => ⟨S3072x1024, .f32⟩
  | .hbm, ⟨33, _⟩ => ⟨S3072x1024, .f32⟩
  | .hbm, ⟨34, _⟩ => ⟨S_, .f32⟩
  | .hbm, ⟨35, _⟩ => ⟨S3072x1024, .f32⟩
  | .hbm, ⟨36, _⟩ => ⟨S3072x1024, .f32⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVectors.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorsIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorsRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGates.lean ====
abbrev S4096x64 : Shape := ⟨2, ![4096, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGatesIdeal.lean ====
abbrev S4096x64 : Shape := ⟨2, ![4096, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGatesRefIdeal.lean ====
abbrev S4096x64 : Shape := ⟨2, ![4096, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChipSumIn.lean ====
abbrev S512x2432 : Shape := ⟨2, ![512, 2432]⟩
abbrev S256x2432 : Shape := ⟨2, ![256, 2432]⟩

abbrev nBuf : Space → Nat
  | .hbm => 5
  | .vmem => 10
  | .smem => 0
  | _ => 0

abbrev bufTy : (tb : Table) → Fin (tcTables nBuf tb) → BufTy
  | .hbm, ⟨0, _⟩ => ⟨S512x2432, .f32⟩
  | .hbm, ⟨1, _⟩ => ⟨S512x2432, .bf16⟩
  | .hbm, ⟨2, _⟩ => ⟨S512x2432, .bf16⟩
  | .hbm, ⟨3, _⟩ => ⟨S512x2432, .bf16⟩
  | .hbm, ⟨4, _⟩ => ⟨S512x2432, .f32⟩
  | .local _ .vmem, ⟨0, _⟩ => ⟨S256x2432, .f32⟩
  | .local _ .vmem, ⟨1, _⟩ => ⟨S256x2432, .f32⟩
  | .local _ .vmem, ⟨2, _⟩ => ⟨S256x2432, .bf16⟩
  | .local _ .vmem, ⟨3, _⟩ => ⟨S256x2432, .bf16⟩
  | .local _ .vmem, ⟨4, _⟩ => ⟨S256x2432, .bf16⟩
  | .local _ .vmem, ⟨5, _⟩ => ⟨S256x2432, .bf16⟩
  | .local _ .vmem, ⟨6, _⟩ => ⟨S256x2432, .bf16⟩
  | .local _ .vmem, ⟨7, _⟩ => ⟨S256x2432, .bf16⟩
  | .local _ .vmem, ⟨8, _⟩ => ⟨S256x2432, .f32⟩
  | .local _ .vmem, ⟨9, _⟩ => ⟨S256x2432, .f32⟩
  | _, _ => ⟨S512x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumInIdeal.lean ====
abbrev S512x2432 : Shape := ⟨2, ![512, 2432]⟩
abbrev S256x2432 : Shape := ⟨2, ![256, 2432]⟩

abbrev nBuf : Space → Nat
  | .hbm => 5
  | .vmem => 10
  | .smem => 0
  | _ => 0

abbrev bufTy : (tb : Table) → Fin (tcTables nBuf tb) → BufTy
  | .hbm, ⟨0, _⟩ => ⟨S512x2432, .f32⟩
  | .hbm, ⟨1, _⟩ => ⟨S512x2432, .bf16⟩
  | .hbm, ⟨2, _⟩ => ⟨S512x2432, .bf16⟩
  | .hbm, ⟨3, _⟩ => ⟨S512x2432, .bf16⟩
  | .hbm, ⟨4, _⟩ => ⟨S512x2432, .f32⟩
  | .local _ .vmem, ⟨0, _⟩ => ⟨S256x2432, .f32⟩
  | .local _ .vmem, ⟨1, _⟩ => ⟨S256x2432, .f32⟩
  | .local _ .vmem, ⟨2, _⟩ => ⟨S256x2432, .bf16⟩
  | .local _ .vmem, ⟨3, _⟩ => ⟨S256x2432, .bf16⟩
  | .local _ .vmem, ⟨4, _⟩ => ⟨S256x2432, .bf16⟩
  | .local _ .vmem, ⟨5, _⟩ => ⟨S256x2432, .bf16⟩
  | .local _ .vmem, ⟨6, _⟩ => ⟨S256x2432, .bf16⟩
  | .local _ .vmem, ⟨7, _⟩ => ⟨S256x2432, .bf16⟩
  | .local _ .vmem, ⟨8, _⟩ => ⟨S256x2432, .f32⟩
  | .local _ .vmem, ⟨9, _⟩ => ⟨S256x2432, .f32⟩
  | _, _ => ⟨S512x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumInRefIdeal.lean ====
abbrev S512x2432 : Shape := ⟨2, ![512, 2432]⟩

abbrev nBuf : Space → Nat
  | .hbm => 10
  | .vmem => 0
  | .smem => 0
  | _ => 0

abbrev bufTy : (tb : Table) → Fin (tcTables nBuf tb) → BufTy
  | .hbm, ⟨0, _⟩ => ⟨S512x2432, .f32⟩
  | .hbm, ⟨1, _⟩ => ⟨S512x2432, .bf16⟩
  | .hbm, ⟨2, _⟩ => ⟨S512x2432, .bf16⟩
  | .hbm, ⟨3, _⟩ => ⟨S512x2432, .bf16⟩
  | .hbm, ⟨4, _⟩ => ⟨S512x2432, .f32⟩
  | .hbm, ⟨5, _⟩ => ⟨S512x2432, .f32⟩
  | .hbm, ⟨6, _⟩ => ⟨S512x2432, .f32⟩
  | .hbm, ⟨7, _⟩ => ⟨S512x2432, .f32⟩
  | .hbm, ⟨8, _⟩ => ⟨S512x2432, .f32⟩
  | .hbm, ⟨9, _⟩ => ⟨S512x2432, .f32⟩
  | _, _ => ⟨S512x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ChipSumBranch.lean ====
abbrev S384x1024 : Shape := ⟨2, ![384, 1024]⟩
abbrev S192x1024 : Shape := ⟨2, ![192, 1024]⟩

abbrev nBuf : Space → Nat
  | .hbm => 5
  | .vmem => 10
  | .smem => 0
  | _ => 0

abbrev bufTy : (tb : Table) → Fin (tcTables nBuf tb) → BufTy
  | .hbm, ⟨0, _⟩ => ⟨S384x1024, .f32⟩
  | .hbm, ⟨1, _⟩ => ⟨S384x1024, .bf16⟩
  | .hbm, ⟨2, _⟩ => ⟨S384x1024, .bf16⟩
  | .hbm, ⟨3, _⟩ => ⟨S384x1024, .bf16⟩
  | .hbm, ⟨4, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .bf16⟩
  | .local _ .vmem, ⟨3, _⟩ => ⟨S192x1024, .bf16⟩
  | .local _ .vmem, ⟨4, _⟩ => ⟨S192x1024, .bf16⟩
  | .local _ .vmem, ⟨5, _⟩ => ⟨S192x1024, .bf16⟩
  | .local _ .vmem, ⟨6, _⟩ => ⟨S192x1024, .bf16⟩
  | .local _ .vmem, ⟨7, _⟩ => ⟨S192x1024, .bf16⟩
  | .local _ .vmem, ⟨8, _⟩ => ⟨S192x1024, .f32⟩
  | .local _ .vmem, ⟨9, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumBranchIdeal.lean ====
abbrev S384x1024 : Shape := ⟨2, ![384, 1024]⟩
abbrev S192x1024 : Shape := ⟨2, ![192, 1024]⟩

abbrev nBuf : Space → Nat
  | .hbm => 5
  | .vmem => 10
  | .smem => 0
  | _ => 0

abbrev bufTy : (tb : Table) → Fin (tcTables nBuf tb) → BufTy
  | .hbm, ⟨0, _⟩ => ⟨S384x1024, .f32⟩
  | .hbm, ⟨1, _⟩ => ⟨S384x1024, .bf16⟩
  | .hbm, ⟨2, _⟩ => ⟨S384x1024, .bf16⟩
  | .hbm, ⟨3, _⟩ => ⟨S384x1024, .bf16⟩
  | .hbm, ⟨4, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .bf16⟩
  | .local _ .vmem, ⟨3, _⟩ => ⟨S192x1024, .bf16⟩
  | .local _ .vmem, ⟨4, _⟩ => ⟨S192x1024, .bf16⟩
  | .local _ .vmem, ⟨5, _⟩ => ⟨S192x1024, .bf16⟩
  | .local _ .vmem, ⟨6, _⟩ => ⟨S192x1024, .bf16⟩
  | .local _ .vmem, ⟨7, _⟩ => ⟨S192x1024, .bf16⟩
  | .local _ .vmem, ⟨8, _⟩ => ⟨S192x1024, .f32⟩
  | .local _ .vmem, ⟨9, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumBranchRefIdeal.lean ====
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .bf16⟩
  | .hbm, ⟨2, _⟩ => ⟨S384x1024, .bf16⟩
  | .hbm, ⟨3, _⟩ => ⟨S384x1024, .bf16⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .hbm, ⟨9, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ChipSumOut.lean ====
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ChipSumOutIdeal.lean ====
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ChipSumOutRefIdeal.lean ====
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ChipSumFfnIn.lean ====
abbrev S512x1408 : Shape := ⟨2, ![512, 1408]⟩
abbrev S256x1408 : Shape := ⟨2, ![256, 1408]⟩

abbrev nBuf : Space → Nat
  | .hbm => 5
  | .vmem => 10
  | .smem => 0
  | _ => 0

abbrev bufTy : (tb : Table) → Fin (tcTables nBuf tb) → BufTy
  | .hbm, ⟨0, _⟩ => ⟨S512x1408, .f32⟩
  | .hbm, ⟨1, _⟩ => ⟨S512x1408, .bf16⟩
  | .hbm, ⟨2, _⟩ => ⟨S512x1408, .bf16⟩
  | .hbm, ⟨3, _⟩ => ⟨S512x1408, .bf16⟩
  | .hbm, ⟨4, _⟩ => ⟨S512x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .f32⟩
  | .local _ .vmem, ⟨9, _⟩ => ⟨S256x1408, .f32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumFfnInIdeal.lean ====
abbrev S512x1408 : Shape := ⟨2, ![512, 1408]⟩
abbrev S256x1408 : Shape := ⟨2, ![256, 1408]⟩

abbrev nBuf : Space → Nat
  | .hbm => 5
  | .vmem => 10
  | .smem => 0
  | _ => 0

abbrev bufTy : (tb : Table) → Fin (tcTables nBuf tb) → BufTy
  | .hbm, ⟨0, _⟩ => ⟨S512x1408, .f32⟩
  | .hbm, ⟨1, _⟩ => ⟨S512x1408, .bf16⟩
  | .hbm, ⟨2, _⟩ => ⟨S512x1408, .bf16⟩
  | .hbm, ⟨3, _⟩ => ⟨S512x1408, .bf16⟩
  | .hbm, ⟨4, _⟩ => ⟨S512x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .f32⟩
  | .local _ .vmem, ⟨9, _⟩ => ⟨S256x1408, .f32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumFfnInRefIdeal.lean ====
abbrev S512x1408 : Shape := ⟨2, ![512, 1408]⟩

abbrev nBuf : Space → Nat
  | .hbm => 10
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S512x1408, .bf16⟩
  | .hbm, ⟨2, _⟩ => ⟨S512x1408, .bf16⟩
  | .hbm, ⟨3, _⟩ => ⟨S512x1408, .bf16⟩
  | .hbm, ⟨4, _⟩ => ⟨S512x1408, .f32⟩
  | .hbm, ⟨5, _⟩ => ⟨S512x1408, .f32⟩
  | .hbm, ⟨6, _⟩ => ⟨S512x1408, .f32⟩
  | .hbm, ⟨7, _⟩ => ⟨S512x1408, .f32⟩
  | .hbm, ⟨8, _⟩ => ⟨S512x1408, .f32⟩
  | .hbm, ⟨9, _⟩ => ⟨S512x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ChipSumFfnOut.lean ====
abbrev S352x1024 : Shape := ⟨2, ![352, 1024]⟩
abbrev S176x1024 : Shape := ⟨2, ![176, 1024]⟩

abbrev nBuf : Space → Nat
  | .hbm => 5
  | .vmem => 10
  | .smem => 0
  | _ => 0

abbrev bufTy : (tb : Table) → Fin (tcTables nBuf tb) → BufTy
  | .hbm, ⟨0, _⟩ => ⟨S352x1024, .f32⟩
  | .hbm, ⟨1, _⟩ => ⟨S352x1024, .bf16⟩
  | .hbm, ⟨2, _⟩ => ⟨S352x1024, .bf16⟩
  | .hbm, ⟨3, _⟩ => ⟨S352x1024, .bf16⟩
  | .hbm, ⟨4, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .bf16⟩
  | .local _ .vmem, ⟨3, _⟩ => ⟨S176x1024, .bf16⟩
  | .local _ .vmem, ⟨4, _⟩ => ⟨S176x1024, .bf16⟩
  | .local _ .vmem, ⟨5, _⟩ => ⟨S176x1024, .bf16⟩
  | .local _ .vmem, ⟨6, _⟩ => ⟨S176x1024, .bf16⟩
  | .local _ .vmem, ⟨7, _⟩ => ⟨S176x1024, .bf16⟩
  | .local _ .vmem, ⟨8, _⟩ => ⟨S176x1024, .f32⟩
  | .local _ .vmem, ⟨9, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumFfnOutRefIdeal.lean ====
abbrev S352x1024 : Shape := ⟨2, ![352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .bf16⟩
  | .hbm, ⟨2, _⟩ => ⟨S352x1024, .bf16⟩
  | .hbm, ⟨3, _⟩ => ⟨S352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SmallPairSum.lean ====
abbrev S4608x128 : Shape := ⟨2, ![4608, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SmallPairSumRefIdeal.lean ====
abbrev S4608x128 : Shape := ⟨2, ![4608, 128]⟩

abbrev nBuf : Space → Nat
  | .hbm => 3
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallChipSum.lean ====
abbrev S4608x128 : Shape := ⟨2, ![4608, 128]⟩
abbrev S256x128 : Shape := ⟨2, ![256, 128]⟩

abbrev nBuf : Space → Nat
  | .hbm => 5
  | .vmem => 10
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SmallChipSumRefIdeal.lean ====
abbrev S4608x128 : Shape := ⟨2, ![4608, 128]⟩

abbrev nBuf : Space → Nat
  | .hbm => 7
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Loop.lean ====
/- One trip of the backward kernel's loop over query blocks, and the loop by its invariant: what each buffer the loop
   writes holds before a trip is a list of the pieces the earlier trips stored. -/
module

public import proofs.«01_k».proof.Proof.Gen.KernelIdeal.Loops
public import proofs.«01_k».proof.Proof.Gen.KernelIdeal.Frame

@[expose] public section

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rows of the block before block `t` (block `0` has itself). -/
theorem off1_eq : ∀ t : Fin k0_t1_loop.trips, k0_off1 t = ![0, 128 * (t.val - 1), 0] := by decide +kernel
instance (t : Fin k0_t1_loop.trips) : ClosedOff (k0_off1 t) := ⟨_, off1_eq t⟩
/-- The same rows in the two gradient scratches. -/
theorem off7_eq : ∀ t : Fin k0_t1_loop.trips, k0_off7 t = ![128 * (t.val - 1), 0] := by decide +kernel
instance (t : Fin k0_t1_loop.trips) : ClosedOff (k0_off7 t) := ⟨_, off7_eq t⟩

variable (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S1x2048x512 .f32) (harg7 : arg7.IsWhole) (arg8 : Memref sig .tc .vmem S1x1x128 .f32) (harg8 : arg8.IsWhole) (arg9 : Memref sig .tc .vmem S1x2048x512 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x1x1x128 .f32) (harg12 : arg12.IsWhole) (arg13 : Memref sig .tc .vmem S2048x128 .f32) (harg13 : arg13.IsWhole) (arg14 : Memref sig .tc .vmem S2048x128 .f32) (harg14 : arg14.IsWhole) (v2 : IVec S128x128 1) (v3 : IVec S1x128 32) (v5 : FVec F S1x128 .f32) (v23 : FVec F S512x256 .f32) (v26 : FVec F S512x256 .f32) (v36 : IVec S512x256 1) (v41 : IVec S512x256 1)

/-- What one trip touches: the six operands it reads at their contents, the four buffers it writes at some. -/
abbrev Trip (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f9 : BufTy.Contents (Elt F) arg9.view.ty) (f12 : BufTy.Contents (Elt F) arg12.view.ty) (f13 : BufTy.Contents (Elt F) arg13.view.ty) (f14 : BufTy.Contents (Elt F) arg14.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f9) ∗ (arg12.view.loc (c : Thread nD τ) ↦[arg12.view.set]{fullShare} f12)
    ∗ (arg13.view.loc (c : Thread nD τ) ↦[arg13.view.set]{fullShare} f13) ∗ (arg14.view.loc (c : Thread nD τ) ↦[arg14.view.set]{fullShare} f14))

variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

set_option maxHeartbeats 1600000 in
/-- One trip at a symbolic block `k`: the pieces it stores into the four buffers, the last three's as functions of what
    those buffers held. -/
@[irreducible] def trip (k : Fin k0_t1_loop.trips) :
    Σ' (L9 : List (View.Piece (Elt F) S1x2048x512 .bf16)) (L12 : BufTy.Contents (Elt F) arg12.view.ty → List (View.Piece (Elt F) S1x1x1x128 .f32))
      (L13 : BufTy.Contents (Elt F) arg13.view.ty → List (View.Piece (Elt F) S2048x128 .f32)),
      { L14 : BufTy.Contents (Elt F) arg14.view.ty → List (View.Piece (Elt F) S2048x128 .f32) //
        ∀ (E : Set ℕ) (f9 : BufTy.Contents (Elt F) arg9.view.ty) (f12 : BufTy.Contents (Elt F) arg12.view.ty) (f13 : BufTy.Contents (Elt F) arg13.view.ty) (f14 : BufTy.Contents (Elt F) arg14.view.ty),
          Trip (F := F) c arg2 arg3 arg4 arg5 arg6 arg7 arg9 arg12 arg13 arg14 X2 X3 X4 X5 X6 X7 f9 f12 f13 f14
          ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 k ())
              (fun _ => Trip (F := F) c arg2 arg3 arg4 arg5 arg6 arg7 arg9 arg12 arg13 arg14 X2 X3 X4 X5 X6 X7 (arg9.view.writes (Elt F) f9 L9) (arg12.view.writes (Elt F) f12 (L12 f12)) (arg13.view.writes (Elt F) f13 (L13 f13)) (arg14.view.writes (Elt F) f14 (L14 f14))) } := by
  have hk : k.val < 16 := Nat.lt_of_lt_of_le k.isLt k0_t1_abs.2.1
  refine ⟨?_, ?_, ?_, ?_, fun E f9 f12 f13 f14 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨H2, H3, H4, H5, H6, H7, H9, H12, H13, H14⟩
    sl_exec
    sl_step
    sl_close

/-- The pieces the first `n` trips store into the query gradient's block. -/
def run9 : ℕ → List (View.Piece (Elt F) S1x2048x512 .bf16)
  | 0 => []
  | n + 1 => if h : n < k0_t1_loop.trips then (trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, h⟩).1 ++ run9 n else run9 n

/-- The sink gradient's row after the first `n` trips, from `f`. -/
def con12 (f : BufTy.Contents (Elt F) arg12.view.ty) : ℕ → BufTy.Contents (Elt F) arg12.view.ty
  | 0 => f
  | n + 1 => if h : n < k0_t1_loop.trips then arg12.view.writes (Elt F) (con12 f n) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, h⟩).2.1 (con12 f n)) else con12 f n

/-- The key gradient's scratch after the first `n` trips, from `f`. -/
def con13 (f : BufTy.Contents (Elt F) arg13.view.ty) : ℕ → BufTy.Contents (Elt F) arg13.view.ty
  | 0 => f
  | n + 1 => if h : n < k0_t1_loop.trips then arg13.view.writes (Elt F) (con13 f n) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, h⟩).2.2.1 (con13 f n)) else con13 f n

/-- The value gradient's scratch after the first `n` trips, from `f`. -/
def con14 (f : BufTy.Contents (Elt F) arg14.view.ty) : ℕ → BufTy.Contents (Elt F) arg14.view.ty
  | 0 => f
  | n + 1 => if h : n < k0_t1_loop.trips then arg14.view.writes (Elt F) (con14 f n) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, h⟩).2.2.2.1 (con14 f n)) else con14 f n

theorem run9_succ (k : Fin k0_t1_loop.trips) : run9 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 (k.val + 1) = (trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).1 ++ run9 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k.val := by
  rw [run9]; exact dif_pos k.isLt
theorem con12_succ (f : BufTy.Contents (Elt F) arg12.view.ty) (k : Fin k0_t1_loop.trips) : con12 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f (k.val + 1)
    = arg12.view.writes (Elt F) (con12 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).2.1 (con12 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val)) := by
  rw [con12]; exact dif_pos k.isLt
theorem con13_succ (f : BufTy.Contents (Elt F) arg13.view.ty) (k : Fin k0_t1_loop.trips) : con13 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f (k.val + 1)
    = arg13.view.writes (Elt F) (con13 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).2.2.1 (con13 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val)) := by
  rw [con13]; exact dif_pos k.isLt
theorem con14_succ (f : BufTy.Contents (Elt F) arg14.view.ty) (k : Fin k0_t1_loop.trips) : con14 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f (k.val + 1)
    = arg14.view.writes (Elt F) (con14 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val) ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).2.2.2.1 (con14 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 f k.val)) := by
  rw [con14]; exact dif_pos k.isLt

variable (G9 : BufTy.Contents (Elt F) arg9.view.ty) (G12 : BufTy.Contents (Elt F) arg12.view.ty) (G13 : BufTy.Contents (Elt F) arg13.view.ty) (G14 : BufTy.Contents (Elt F) arg14.view.ty)

/-- Before trip `k` the four buffers hold what the trips before it left. -/
def inv (k : ℕ) (_ : Unit) : sProp 𝕄 :=
  Trip (F := F) c arg2 arg3 arg4 arg5 arg6 arg7 arg9 arg12 arg13 arg14 X2 X3 X4 X5 X6 X7
    (arg9.view.writes (Elt F) G9 (run9 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k)) (con12 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 G12 k) (con13 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 G13 k) (con14 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 G14 k)

set_option warn.classDefReducibility false in
/-- The loop by that invariant. -/
@[sl_loop] def loopInv (E : Set ℕ) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 where
  inv := inv (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 G9 G12 G13 G14
  step k acc := by
    unfold inv
    iintro HT
    iapply (wp_wand_r Idealize.ShloMosaic.frame (wpE (defs₀ (F := F)) Variants.none (c : Thread nD τ) none) E)
    isplitl [HT]
    · iapply ((trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).2.2.2.2 E _ _ _ _)
      iexact HT
    · iintro %yld HT
      simp only [run9_succ, con12_succ, con13_succ, con14_succ, View.writes_append]
      iexact HT

end Cert.Proof.Swa
-- ==== Proof.Run.lean ====
/- The backward kernel's body at a point of its grid, on any staging buffers: what each result's block holds after it,
   as a function of the seven blocks it reads. -/
module

public import proofs.«01_k».proof.Proof.Loop
public import Idealize.ShloMosaic.Lib.Pipeline.Value

@[expose] public section

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A store of a whole buffer leaves exactly what it stored. -/
theorem writes_whole {κ : Kind} {sp : Space} {S : Shape} {e : EltTy} {m : Memref sig κ sp S e} (h : m.IsWhole) (f : m.view.ty.Contents (Elt F))
    {off : Fin S.rank → ℕ} (h0 : off = fun _ => 0) (inb : ∀ a, off a + S.size a ≤ S.size a) (w : S.Idx → Elt F e) :
    m.view.writes (Elt F) f [⟨Rect.unit off S.size inb, w⟩] = h.unread w := by
  apply h.eq_unread
  rw [View.read_writes_eq_canon _ _ _ (fun y => ⟨_, List.mem_singleton_self _, View.mem_set_unit_zero h0 inb y⟩)]
  exact View.canon_unit_zero h0 inb w

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

variable (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S1x2048x512 .f32) (harg7 : arg7.IsWhole) (arg8 : Memref sig .tc .vmem S1x1x128 .f32) (harg8 : arg8.IsWhole) (arg9 : Memref sig .tc .vmem S1x2048x512 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x1x1x128 .f32) (harg12 : arg12.IsWhole) (arg13 : Memref sig .tc .vmem S2048x128 .f32) (harg13 : arg13.IsWhole) (arg14 : Memref sig .tc .vmem S2048x128 .f32) (harg14 : arg14.IsWhole)
variable (x2 : S1x2048x512.Idx → Elt F .f32) (x3 : S1x2048x128.Idx → Elt F .f32) (x4 : S1x2048x128.Idx → Elt F .f32) (x5 : S1x2048x512.Idx → Elt F .f32) (x6 : S1x2048x128.Idx → Elt F .f32) (x7 : S1x2048x512.Idx → Elt F .f32) (x8 : S1x1x128.Idx → Elt F .f32)

/-- The pieces stored into the query gradient's block, the whole loop. -/
def pcs9 : List (View.Piece (Elt F) S1x2048x512 .bf16) := run9 (F := F) c i arg2 harg2 arg3 harg3 arg4 harg4 arg5 harg5 arg6 harg6 arg7 harg7 arg8 harg8 arg9 harg9 arg10 harg10 arg11 harg11 arg12 harg12 arg13 harg13 arg14 harg14 k0_pay62 (iota .tc S1x128 32 [1] iota_S1x128_d1_w32) (k0_pay63 (View.readAt (Elt F) arg8.view (Rect.unit (s := S1x1x128) ![0, 0, 0] S1x1x128.size inb_S1x1x128_S1x1x128_0_0_0).toLoadRect (harg8.unread x8))) (k0_pay66 (F := F)) (k0_pay67 (F := F)) k0_pay69 k0_pay70 (harg2.unread x2) (harg3.unread x3) (harg4.unread x4) (harg5.unread x5) (harg6.unread x6) (harg7.unread x7) k0_t1_loop.trips
/-- The sink gradient's row after the loop. -/
def end12 : BufTy.Contents (Elt F) arg12.view.ty := con12 (F := F) c i arg2 harg2 arg3 harg3 arg4 harg4 arg5 harg5 arg6 harg6 arg7 harg7 arg8 harg8 arg9 harg9 arg10 harg10 arg11 harg11 arg12 harg12 arg13 harg13 arg14 harg14 k0_pay62 (iota .tc S1x128 32 [1] iota_S1x128_d1_w32) (k0_pay63 (View.readAt (Elt F) arg8.view (Rect.unit (s := S1x1x128) ![0, 0, 0] S1x1x128.size inb_S1x1x128_S1x1x128_0_0_0).toLoadRect (harg8.unread x8))) (k0_pay66 (F := F)) (k0_pay67 (F := F)) k0_pay69 k0_pay70 (harg2.unread x2) (harg3.unread x3) (harg4.unread x4) (harg5.unread x5) (harg6.unread x6) (harg7.unread x7) (harg12.unread (k0_pay75 (F := F))) k0_t1_loop.trips
/-- The key gradient's scratch after the loop. -/
def end13 : BufTy.Contents (Elt F) arg13.view.ty := con13 (F := F) c i arg2 harg2 arg3 harg3 arg4 harg4 arg5 harg5 arg6 harg6 arg7 harg7 arg8 harg8 arg9 harg9 arg10 harg10 arg11 harg11 arg12 harg12 arg13 harg13 arg14 harg14 k0_pay62 (iota .tc S1x128 32 [1] iota_S1x128_d1_w32) (k0_pay63 (View.readAt (Elt F) arg8.view (Rect.unit (s := S1x1x128) ![0, 0, 0] S1x1x128.size inb_S1x1x128_S1x1x128_0_0_0).toLoadRect (harg8.unread x8))) (k0_pay66 (F := F)) (k0_pay67 (F := F)) k0_pay69 k0_pay70 (harg2.unread x2) (harg3.unread x3) (harg4.unread x4) (harg5.unread x5) (harg6.unread x6) (harg7.unread x7) (harg13.unread (k0_pay73 (F := F))) k0_t1_loop.trips
/-- The value gradient's scratch after the loop. -/
def end14 : BufTy.Contents (Elt F) arg14.view.ty := con14 (F := F) c i arg2 harg2 arg3 harg3 arg4 harg4 arg5 harg5 arg6 harg6 arg7 harg7 arg8 harg8 arg9 harg9 arg10 harg10 arg11 harg11 arg12 harg12 arg13 harg13 arg14 harg14 k0_pay62 (iota .tc S1x128 32 [1] iota_S1x128_d1_w32) (k0_pay63 (View.readAt (Elt F) arg8.view (Rect.unit (s := S1x1x128) ![0, 0, 0] S1x1x128.size inb_S1x1x128_S1x1x128_0_0_0).toLoadRect (harg8.unread x8))) (k0_pay66 (F := F)) (k0_pay67 (F := F)) k0_pay69 k0_pay70 (harg2.unread x2) (harg3.unread x3) (harg4.unread x4) (harg5.unread x5) (harg6.unread x6) (harg7.unread x7) (harg14.unread (k0_pay74 (F := F))) k0_t1_loop.trips

/-- The four results' blocks after the body. -/
def out9 : S1x2048x512.Idx → Elt F .bf16 := View.canon (pcs9 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)
def out10 : S1x2048x128.Idx → Elt F .bf16 := k0_pay80 (View.readAt (Elt F) arg13.view (Rect.unit (s := S2048x128) ![0, 0] S2048x128.size inb_S2048x128_S2048x128_0_0).toLoadRect (end13 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8))
def out11 : S1x2048x128.Idx → Elt F .bf16 := k0_pay1 (k0_pay81 (View.readAt (Elt F) arg14.view (Rect.unit (s := S2048x128) ![0, 0] S2048x128.size inb_S2048x128_S2048x128_0_0).toLoadRect (end14 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)))
def out12 : S1x1x1x128.Idx → Elt F .f32 := arg12.view.read (Elt F) (end12 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)

section Cover

variable (v2 : IVec S128x128 1) (v3 : IVec S1x128 32) (v5 : FVec F S1x128 .f32) (v23 : FVec F S512x256 .f32) (v26 : FVec F S512x256 .f32) (v36 : IVec S512x256 1) (v41 : IVec S512x256 1)
variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- A trip stores its four lane groups of its rows of the query gradient. -/
theorem trip_rects (k : Fin k0_t1_loop.trips) : ∃ w6 w5 w4 w3, (trip (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 k).1
    = [⟨Rect.unit (s := S1x2048x512) (k0_off6 k) S1x128x128.size (k0_off6_inb k), w6⟩, ⟨Rect.unit (s := S1x2048x512) (k0_off5 k) S1x128x128.size (k0_off5_inb k), w5⟩,
       ⟨Rect.unit (s := S1x2048x512) (k0_off4 k) S1x128x128.size (k0_off4_inb k), w4⟩, ⟨Rect.unit (s := S1x2048x512) (k0_off3 k) S1x128x128.size (k0_off3_inb k), w3⟩] := by
  unfold trip
  exact ⟨_, _, _, _, rfl⟩

/-- Every index below the rows done is in some piece. -/
theorem run9_cover (n : ℕ) (hn : n ≤ 16) (y : S1x2048x512.Idx) (hy : (y 1 : ℕ) < 128 * n) :
    ∃ p ∈ run9 (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 n, y ∈ p.1.set := by
  induction n with
  | zero => omega
  | succ n ih =>
    have ht : n < k0_t1_loop.trips := by rw [show k0_t1_loop.trips = 16 from by decide +kernel]; omega
    have hs := run9_succ (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, ht⟩
    dsimp only at hs
    rw [hs]
    by_cases h : (y 1 : ℕ) < 128 * n
    · obtain ⟨p, hp, hm⟩ := ih (by omega) h
      exact ⟨p, List.mem_append_right _ hp, hm⟩
    · obtain ⟨w6, w5, w4, w3, he⟩ := trip_rects (F := F) c i arg2 harg2 arg3 harg3 arg4 harg4 arg5 harg5 arg6 harg6 arg7 harg7 arg8 harg8 arg9 harg9 arg10 harg10 arg11 harg11 arg12 harg12 arg13 harg13 arg14 harg14 v2 v3 v5 v23 v26 v36 v41 X2 X3 X4 X5 X6 X7 ⟨n, ht⟩
      rw [he]
      have h0 : (y 0 : ℕ) < 1 := (y 0).isLt
      have h2 : (y 2 : ℕ) < 512 := (y 2).isLt
      have key : ∀ (off : Fin 3 → ℕ) (inb) (b : ℕ) (hoff : off = ![0, 128 * n, b]) (hb : b ≤ (y 2 : ℕ) ∧ (y 2 : ℕ) < b + 128),
          y ∈ (Rect.unit (s := S1x2048x512) off S1x128x128.size inb).set := by
        intro off inb b hoff hb
        subst hoff
        rw [Rect.mem_set_unit]
        intro a
        fin_cases a
        · exact ⟨Nat.zero_le _, by show (y 0 : ℕ) < 0 + 1; omega⟩
        · exact ⟨by show 128 * n ≤ (y 1 : ℕ); omega, by show (y 1 : ℕ) < 128 * n + 128; omega⟩
        · exact ⟨hb.1, by show (y 2 : ℕ) < b + 128; omega⟩
      rcases (by omega : (y 2 : ℕ) < 128 ∨ (128 ≤ (y 2 : ℕ) ∧ (y 2 : ℕ) < 256) ∨ (256 ≤ (y 2 : ℕ) ∧ (y 2 : ℕ) < 384) ∨ 384 ≤ (y 2 : ℕ)) with h3 | h3 | h3 | h3
      · refine ⟨⟨Rect.unit (s := S1x2048x512) (k0_off3 ⟨n, ht⟩) S1x128x128.size (k0_off3_inb ⟨n, ht⟩), w3⟩, List.mem_append_left _ (List.mem_cons_of_mem _ (List.mem_cons_of_mem _ (List.mem_cons_of_mem _ List.mem_cons_self))), ?_⟩
        exact key (k0_off3 ⟨n, ht⟩) (k0_off3_inb ⟨n, ht⟩) 0 (k0_off3_eq ⟨n, ht⟩) (by omega)
      · refine ⟨⟨Rect.unit (s := S1x2048x512) (k0_off4 ⟨n, ht⟩) S1x128x128.size (k0_off4_inb ⟨n, ht⟩), w4⟩, List.mem_append_left _ (List.mem_cons_of_mem _ (List.mem_cons_of_mem _ List.mem_cons_self)), ?_⟩
        exact key (k0_off4 ⟨n, ht⟩) (k0_off4_inb ⟨n, ht⟩) 128 (k0_off4_eq ⟨n, ht⟩) (by omega)
      · refine ⟨⟨Rect.unit (s := S1x2048x512) (k0_off5 ⟨n, ht⟩) S1x128x128.size (k0_off5_inb ⟨n, ht⟩), w5⟩, List.mem_append_left _ (List.mem_cons_of_mem _ List.mem_cons_self), ?_⟩
        exact key (k0_off5 ⟨n, ht⟩) (k0_off5_inb ⟨n, ht⟩) 256 (k0_off5_eq ⟨n, ht⟩) (by omega)
      · refine ⟨⟨Rect.unit (s := S1x2048x512) (k0_off6 ⟨n, ht⟩) S1x128x128.size (k0_off6_inb ⟨n, ht⟩), w6⟩, List.mem_append_left _ (List.mem_cons_self), ?_⟩
        exact key (k0_off6 ⟨n, ht⟩) (k0_off6_inb ⟨n, ht⟩) 384 (k0_off6_eq ⟨n, ht⟩) (by omega)

end Cover

theorem pcs9_cover (y : S1x2048x512.Idx) : ∃ p ∈ pcs9 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8, y ∈ p.1.set := by
  have h : k0_t1_loop.trips = 16 := by decide +kernel
  unfold pcs9
  rw [h]
  exact run9_cover (F := F) c i arg2 harg2 arg3 harg3 arg4 harg4 arg5 harg5 arg6 harg6 arg7 harg7 arg8 harg8 arg9 harg9 arg10 harg10 arg11 harg11 arg12 harg12 arg13 harg13 arg14 harg14 k0_pay62 (iota .tc S1x128 32 [1] iota_S1x128_d1_w32) (k0_pay63 (View.readAt (Elt F) arg8.view (Rect.unit (s := S1x1x128) ![0, 0, 0] S1x1x128.size inb_S1x1x128_S1x1x128_0_0_0).toLoadRect (harg8.unread x8))) (k0_pay66 (F := F)) (k0_pay67 (F := F)) k0_pay69 k0_pay70 (harg2.unread x2) (harg3.unread x3) (harg4.unread x4) (harg5.unread x5) (harg6.unread x6) (harg7.unread x7) 16 le_rfl y (y 1).isLt

set_option maxHeartbeats 1600000 in
/-- The body from the seven blocks and any contents of the rest: the blocks it read unchanged, the four results' blocks as named. -/
theorem body_run (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (out9 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8) ∗ owns (c : Thread nD τ) arg10 fullShare (out10 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)
            ∗ owns (c : Thread nD τ) arg11 fullShare (out11 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8) ∗ owns (c : Thread nD τ) arg12 fullShare (out12 (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)
            ∗ (∃ d, owns (c : Thread nD τ) arg13 fullShare d) ∗ (∃ d, owns (c : Thread nD τ) arg14 fullShare d)) -∗ K ⟨⟩))
    ⊢ wp frame (wpE (defs₀ (F := F)) Variants.none (c : Thread nD τ) none) E (cc0_swa_bwd (F := F) i arg2 harg2 arg3 harg3 arg4 harg4 arg5 harg5 arg6 harg6 arg7 harg7 arg8 harg8 arg9 harg9 arg10 harg10 arg11 harg11 arg12 harg12 arg13 harg13 arg14 harg14) K := by
  simp only [cc0_swa_bwd_eq_skeleton]; unfold cc0_swa_bwd_skel
  simp only [k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]
  · iexists _; isplitr; swap
    · iexact H9
    ipureintro
    exact View.read_writes_eq_canon _ _ _ (pcs9_cover (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8)
  isplitl [H10]
  · iexists _; isplitr; swap
    · iexact H10
    ipureintro
    refine (congrArg (arg10.view.read (Elt F)) (writes_whole harg10 _ zero3 _ _)).trans ((harg10.read_unread _).trans ?_)
    unfold out10 end13
    rw [← writes_whole harg13 arg13.view.junk zero2 inb_S2048x128_S2048x128_0_0 (k0_pay73 (F := F))]
    rfl
  isplitl [H11]
  · iexists _; isplitr; swap
    · iexact H11
    ipureintro
    refine (congrArg (arg11.view.read (Elt F)) (writes_whole harg11 _ zero3 _ _)).trans ((harg11.read_unread _).trans ?_)
    unfold out11 end14
    rw [← writes_whole harg14 arg14.view.junk zero2 inb_S2048x128_S2048x128_0_0 (k0_pay74 (F := F))]
    rfl
  isplitl [H12]
  · iexists _; isplitr; swap
    · iexact H12
    ipureintro
    unfold out12 end12
    rw [← writes_whole harg12 arg12.view.junk zero4 inb_S1x1x1x128_S1x1x1x128_0_0_0_0 (k0_pay75 (F := F))]
    rfl
  isplitl [H13]
  · iexists _, _; isplitr; swap
    · iexact H13
    ipureintro; rfl
  iexists _, _; isplitr; swap
  · iexact H14
  ipureintro; rfl

end Cert.Proof.Swa
-- ==== Proof.Launch.lean ====
/- The backward kernel's launch: what every result's array holds after the run, and that the arguments and the
   counters end as they began. -/
module

public import proofs.«01_k».proof.Proof.Run
public import Idealize.ShloMosaic.Lib.Pipeline.FrameSuffix
public import Idealize.ShloMosaic.Lib.Claim

@[expose] public section

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The staging buffers of the windows at a point, and the two scratches. -/
abbrev ms0 (t : Fin cfg0.N) : Memref sig .tc .vmem S1x2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x1x128 .f32 := win0_10.stage (cfg0.slots t 10)
abbrev hs10 (t : Fin cfg0.N) : (ms10 t).IsWhole := hstage0_10 ((cfg0.slots t 10).cast nbuf0_10)
abbrev sc0 : Memref sig .tc .vmem S2048x128 .f32 := Memref.whole cc0_scratch0
abbrev hsc0 : sc0.IsWhole := Memref.isWhole_whole _
abbrev sc1 : Memref sig .tc .vmem S2048x128 .f32 := Memref.whole cc0_scratch1
abbrev hsc1 : sc1.IsWhole := Memref.isWhole_whole _

/-- What point `t` leaves in each result's block. -/
def pt9 (c : Dev nD) (t : Fin cfg0.N) : S1x2048x512.Idx → Elt F .bf16 := out9 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 hsc0 sc1 hsc1 (iblk m c 0 t) (iblk m c 1 t) (iblk m c 2 t) (iblk m c 3 t) (iblk m c 4 t) (iblk m c 5 t) (iblk m c 6 t)
def pt10 (c : Dev nD) (t : Fin cfg0.N) : S1x2048x128.Idx → Elt F .bf16 := out10 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 hsc0 sc1 hsc1 (iblk m c 0 t) (iblk m c 1 t) (iblk m c 2 t) (iblk m c 3 t) (iblk m c 4 t) (iblk m c 5 t) (iblk m c 6 t)
def pt11 (c : Dev nD) (t : Fin cfg0.N) : S1x2048x128.Idx → Elt F .bf16 := out11 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 hsc0 sc1 hsc1 (iblk m c 0 t) (iblk m c 1 t) (iblk m c 2 t) (iblk m c 3 t) (iblk m c 4 t) (iblk m c 5 t) (iblk m c 6 t)
def pt12 (c : Dev nD) (t : Fin cfg0.N) : S1x1x1x128.Idx → Elt F .f32 := out12 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 hsc0 sc1 hsc1 (iblk m c 0 t) (iblk m c 1 t) (iblk m c 2 t) (iblk m c 3 t) (iblk m c 4 t) (iblk m c 5 t) (iblk m c 6 t)

/-- The launch's proof data: the arrays as the launch finds them, every input's block as it was, every result's block as named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => pt9 m c t
    | ⟨8, _⟩ => pt10 m c t
    | ⟨9, _⟩ => pt11 m c t
    | ⟨10, _⟩ => pt12 m c t
    | ⟨_ + 11, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = pt9 m c t := by dsimp only [dats]
theorem after8 (c : Dev nD) (t : Fin cfg0.N) : (dats m 0 c).after 8 t = pt10 m c t := by dsimp only [dats]
theorem after9 (c : Dev nD) (t : Fin cfg0.N) : (dats m 0 c).after 9 t = pt11 m c t := by dsimp only [dats]
theorem after10 (c : Dev nD) (t : Fin cfg0.N) : (dats m 0 c).after 10 t = pt12 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem scratch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_eq (c : Dev nD) (w : Fin cfg0.W) (t : Fin cfg0.N) (h : cfg0.idle w (grid0.coords t) = false) : (dats (F := F) m 0 c).leavesExact w t
    = owns (c : Thread nD τ) ((cfg0.win w).stage (cfg0.slots t w)) fullShare ((dats m 0 c).after w t) := by
  unfold Dat.leavesExact; rw [h]

set_option maxHeartbeats 4000000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_eq]
  rw [leaves_eq m c 0 t rfl, after0, leaves_eq m c 1 t rfl, after1, leaves_eq m c 2 t rfl, after2, leaves_eq m c 3 t rfl, after3, leaves_eq m c 4 t rfl, after4, leaves_eq m c 5 t rfl, after5, leaves_eq m c 6 t rfl, after6, leaves_eq m c 7 t rfl, after7, leaves_eq m c 8 t rfl, after8, leaves_eq m c 9 t rfl, after9, leaves_eq m c 10 t rfl, after10]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 hsc0 sc1 hsc1 (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

set_option backward.isDefEq.respectTransparency.types false in
/-- The run: every array of the launch as the proof data name it, every other buffer as the lines after the launch leave it, the counters at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The frame: the arguments and the counters end as they began. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Swa
-- ==== Proof.Frames.lean ====
/- The frames of the program as it runs and of its idealized copy: the launch run over any values, read at the bits and at the reals. -/
module

public import proofs.«01_k».proof.Defs
public import proofs.«01_k».proof.Proof.Launch
public import proofs.«01_k».proof.Proof.Bits.Launch
public import Idealize.ShloMosaic.Lib.Claim

@[expose] public section

noncomputable section

namespace Cert.Proof

open Idealize.ShloMosaic Idealize.ShloMosaic.TcCoe
open Idealize.SL.Sem

instance : Cert.Kernel.Facts := Cert.Kernel.Gen.facts
instance : Cert.KernelIdeal.Facts := Cert.KernelIdeal.Gen.facts

theorem frame_kernel : Cert.quiescent_Kernel := fun m ρ _ => SwaBits.frame_any (F := Bits) m ρ

theorem frame_ideal : Cert.quiescent_KernelIdeal := fun m ρ _ => Swa.frame_any (F := Ideal) m ρ

end Cert.Proof
-- ==== Proof.Finite.lean ====
/- Extended reals that are real numbers: the reading of `|x| < ∞`, and sums of products of them. -/
module

public import Idealize.ShloMosaic.PureOps.Ideal.Laws

@[expose] public section

namespace Cert.Proof.Finite

open Idealize.ShloMosaic
open scoped BigOperators

/-- An entry below infinity in absolute value is a real number. -/
theorem of_below {x top : EReal} (ht : top = ⊤) (h : Ideal.cmp .olt (max x (-x)) top = 1#1) : ∃ r : ℝ, x = (r : EReal) := by
  subst ht
  induction x with
  | coe r => exact ⟨r, rfl⟩
  | bot => simp [Ideal.cmp] at h
  | top => simp [Ideal.cmp] at h

/-- The single-precision pattern of infinity. -/
theorem top_f32 : Ideal.ofBits .f32 0x7F800000#32 = ⊤ := by simp [Ideal.ofBits, Ideal.ieee]
/-- The half-width pattern of infinity. -/
theorem top_bf16 : Ideal.ofBits .bf16 0x7F80#16 = ⊤ := by simp [Ideal.ofBits, Ideal.ieee]

/-- A finite sum of real numbers is the sum in the reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of products of real numbers is a real number. -/
theorem sum_mul {ι : Type*} [Fintype ι] (x y : ι → EReal) (hx : ∀ i, ∃ r : ℝ, x i = (r : EReal)) (hy : ∀ i, ∃ r : ℝ, y i = (r : EReal)) :
    ∃ r : ℝ, ∑ i, x i * y i = (r : EReal) := by
  choose f hf using hx
  choose g hg using hy
  refine ⟨∑ i, f i * g i, ?_⟩
  rw [← sum_coe]
  exact Finset.sum_congr rfl fun i _ => by rw [hf, hg, EReal.coe_mul]

end Cert.Proof.Finite
-- ==== Proof.Gate.lean ====
/- The logistic function over the extended reals, as both sides spell it. -/
module

public import Idealize.ShloMosaic.PureOps.Ideal.Laws
public import Idealize.ShloMosaic.Lib.IdealHost

@[expose] public section

noncomputable section

namespace Cert.Proof.Gate

open Idealize.ShloMosaic

/-- The logistic function, as both programs spell it. -/
def gate (x : EReal) : EReal := Ideal.div (Ideal.ofBits .f32 0x3F800000#32) (Ideal.ofBits .f32 0x3F800000#32 + Ideal.exp (-x))

/-- The kernel spells the argument as a difference from zero. -/
theorem gate_spelt (x : EReal) :
    Ideal.div (Ideal.ofBits .f32 0x3F800000#32) (Ideal.ofBits .f32 0x3F800000#32 + Ideal.exp (Ideal.ofBits .f32 0x00000000#32 - x)) = gate x := by
  rw [Ideal.ofBits_zero_f32, zero_sub]; rfl

theorem gate_bot : gate ⊥ = 0 := by
  unfold gate
  rw [EReal.neg_bot, Ideal.exp_top, Ideal.ofBits_one_f32, EReal.add_top_of_ne_bot (by decide), Ideal.div, if_neg (by decide), EReal.inv_top, mul_zero]

theorem gate_top : gate ⊤ = 1 := by
  unfold gate
  rw [EReal.neg_top, Ideal.exp_bot, Ideal.ofBits_one_f32, add_zero, ← EReal.coe_one, Ideal.div_coe one_ne_zero, EReal.coe_one, one_mul, div_one, EReal.coe_one]

theorem gate_coe (r : ℝ) : gate (r : EReal) = ((1 / (1 + Real.exp (-r)) : ℝ) : EReal) := by
  have h : (1 : ℝ) + Real.exp (-r) ≠ 0 := by positivity
  unfold gate
  rw [Ideal.ofBits_one_f32, ← EReal.coe_neg, Ideal.exp_coe, ← EReal.coe_one, ← EReal.coe_add, Ideal.div_coe h, EReal.coe_one, one_mul]

end Cert.Proof.Gate
-- ==== Proof.FfnGate.lean ====
/- The gradient of the gated hidden layer: what the kernel's blocks leave is the gradient of the gate's input and of its partner. -/
module

public import proofs.«01_k».proof.Defs
public import proofs.«01_k».proof.Proof.Finite
public import proofs.«01_k».proof.Proof.Gate
public import proofs.«01_k».proof.Proof.Gen.FfnGateIdeal.Value
public import proofs.«01_k».proof.Proof.Gen.FfnGateRefIdeal.Run
public import proofs.«01_k».proof.Proof.Gen.FfnGateRefIdeal.Read
public import Idealize.ShloMosaic.Lib.ValueLayout
public import Idealize.ShloMosaic.Lib.MatmulPlain
public import Idealize.ShloMosaic.Lib.IdealHost

@[expose] public section

noncomputable section

namespace Cert.Proof.FfnGate

open Cert.Proof.Gate Cert.FfnGateIdeal Cert.FfnGateIdeal.Gen Cert.FfnGateIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

/-- The gradient of the gate's input, from the cotangent of the gated value. -/
def share (y h : EReal) : EReal := y * gate h * (Ideal.ofBits .f32 0x3F800000#32 + h * (Ideal.ofBits .f32 0x3F800000#32 - gate h))

/-- The kernel multiplies the two terms of the derivative out of one bracket; the reference adds them. -/
theorem share_spelt {y : EReal} (hy : ∃ r : ℝ, y = (r : EReal)) (h : EReal) :
    share y h = y * gate h + h * y * (gate h * (Ideal.ofBits .f32 0x3F800000#32 - gate h)) := by
  obtain ⟨r, rfl⟩ := hy
  unfold share
  rw [Ideal.ofBits_one_f32]
  induction h with
  | bot => rw [gate_bot]; simp
  | top =>
    have h : (1 : EReal) - 1 = 0 := by rw [← EReal.coe_one, ← EReal.coe_sub, sub_self, EReal.coe_zero]
    rw [gate_top, h]; simp
  | coe h => rw [gate_coe]; generalize 1 / (1 + Real.exp (-h)) = s; norm_cast; ring

variable (x0 : Vec Ideal S256x1024 .f32) (x1 : Vec Ideal S2816x1024 .bf16) (x2 x3 : Vec Ideal S256x2816 .f32)

/-- The hidden layer's cotangent at an entry of a block. -/
def hidden (a : Fin 256) (b : Fin 2816) : EReal := ∑ k : Fin 1024, (x0 (ix2 a k) : EReal) * x1 (ix2 b k)

/-- The block's product is the hidden layer's cotangent. -/
theorem product (a : Fin 256) (b : Fin 2816) : k0_pay1 (F := Ideal) x0 x1 (ix2 a b) = hidden x0 x1 a b := by
  unfold k0_pay1
  show FloatOps.matmul (DotDims.transposedRhs 256 1024 2816) none _ _ _ (ix2 a b) = _
  rw [Ideal.matmul_transposedRhs_apply, constant_apply, Ideal.ofBits_zero_f32, zero_add]
  rfl

theorem gated (x : Vec Ideal S256x2816 .f32) (i : S256x2816.Idx) : k0_pay2 (F := Ideal) x i = gate (x i) := gate_spelt _

/-- What a block holds: the gradient of the gate's input, then the gradient of its partner. -/
def value (a : Fin 256) (b : Fin 5632) : EReal :=
  if h : b.val < 2816 then share (hidden x0 x1 a ⟨b.val, h⟩ * x3 (ix2 a ⟨b.val, h⟩)) (x2 (ix2 a ⟨b.val, h⟩))
  else hidden x0 x1 a ⟨b.val - 2816, by have := b.isLt; omega⟩ * x2 (ix2 a ⟨b.val - 2816, by have := b.isLt; omega⟩)
    * gate (x2 (ix2 a ⟨b.val - 2816, by have := b.isLt; omega⟩))

theorem left (a : Fin 256) (b : Fin 2816) : r0_3.emb (ix2 a b) = ix2 a (⟨b.val, by have := b.isLt; omega⟩ : Fin 5632) := by
  refine funext fun x => Fin.ext ?_
  match x with
  | ⟨0, _⟩ => show 0 + 1 * a.val = a.val; omega
  | ⟨1, _⟩ => show 0 + 1 * b.val = b.val; omega
theorem right (a : Fin 256) (b : Fin 2816) : r0_4.emb (ix2 a b) = ix2 a (⟨b.val + 2816, by have := b.isLt; omega⟩ : Fin 5632) := by
  refine funext fun x => Fin.ext ?_
  match x with
  | ⟨0, _⟩ => show 0 + 1 * a.val = a.val; omega
  | ⟨1, _⟩ => show 2816 + 1 * b.val = b.val + 2816; omega

theorem stored_left (a : Fin 256) (b : Fin 2816) :
    k0_pay3 (F := Ideal) x0 x1 x2 x3 (ix2 a b) = value x0 x1 x2 x3 a ⟨b.val, by have := b.isLt; omega⟩ := by
  unfold value
  rw [dif_pos b.isLt]
  show k0_pay1 x0 x1 (ix2 a b) * x3 (ix2 a b) * k0_pay2 x2 (ix2 a b)
    * (Ideal.ofBits .f32 0x3F800000#32 + x2 (ix2 a b) * (Ideal.ofBits .f32 0x3F800000#32 - k0_pay2 x2 (ix2 a b))) = _
  rw [product, gated]
  rfl
theorem stored_right (a : Fin 256) (b : Fin 2816) :
    k0_pay4 (F := Ideal) x0 x1 x2 (ix2 a b) = value x0 x1 x2 x3 a ⟨b.val + 2816, by have := b.isLt; omega⟩ := by
  unfold value
  rw [dif_neg (by dsimp only; omega)]
  show k0_pay1 x0 x1 (ix2 a b) * x2 (ix2 a b) * k0_pay2 x2 (ix2 a b) = _
  rw [product, gated]
  simp only [Nat.add_sub_cancel]

/-- What a point leaves in its block. -/
theorem block (a : Fin 256) (b : Fin 5632) : out0_4 (F := Ideal) x0 x1 x2 x3 (ix2 a b) = value x0 x1 x2 x3 a b := by
  unfold out0_4
  simp only [View.ld_unit_zero (S := S256x1024) hz2, View.ld_unit_zero (S := S2816x1024) hz2, View.ld_unit_zero (S := S256x2816) hz2]
  refine (View.canon_apply_of_pieces (Val := Elt Ideal) (fun y : S256x5632.Idx => (value x0 x1 x2 x3 (y 0) (y 1) : EReal)) _ ?_ (ix2 a b) (cover0_4 _ _ _)).trans rfl
  have hr (x : S256x2816.Idx) : x = ix2 (x 0) (x 1) := eq_ix2 x
  intro pc hpc x
  rcases List.mem_cons.mp hpc with rfl | hpc
  · rw [hr x]
    exact (stored_right x0 x1 x2 x3 _ _).trans (congrArg (fun y : S256x5632.Idx => value x0 x1 x2 x3 (y 0) (y 1)) (right _ _).symm)
  rcases List.mem_cons.mp hpc with rfl | hpc
  · rw [hr x]
    exact (stored_left x0 x1 x2 x3 _ _).trans (congrArg (fun y : S256x5632.Idx => value x0 x1 x2 x3 (y 0) (y 1)) (left _ _).symm)
  nomatch hpc

/-- The layer's incoming cotangent. -/
abbrev cotangents (c : Dev nD) : S4096x1024.Idx → EReal := m ((c : Thread nD τ).loc main_arg0)
/-- The output weights. -/
abbrev weights (c : Dev nD) : S2816x1024.Idx → EReal := m ((c : Thread nD τ).loc main_arg1)
/-- The gate's input. -/
abbrev inputs (c : Dev nD) : S4096x2816.Idx → EReal := m ((c : Thread nD τ).loc main_arg2)
/-- The gate's partner. -/
abbrev partners (c : Dev nD) : S4096x2816.Idx → EReal := m ((c : Thread nD τ).loc main_arg3)

/-- The hidden layer's cotangent at an entry. -/
def layer (c : Dev nD) (a : Fin 4096) (b : Fin 2816) : EReal := ∑ k : Fin 1024, cotangents m c (ix2 a k) * weights m c (ix2 b k)

/-- The result at an entry: the gradient of the gate's input, then the gradient of its partner. -/
def entry (c : Dev nD) (a : Fin 4096) (b : Fin 5632) : EReal :=
  if h : b.val < 2816 then share (layer m c a ⟨b.val, h⟩ * partners m c (ix2 a ⟨b.val, h⟩)) (inputs m c (ix2 a ⟨b.val, h⟩))
  else layer m c a ⟨b.val - 2816, by have := b.isLt; omega⟩ * inputs m c (ix2 a ⟨b.val - 2816, by have := b.isLt; omega⟩)
    * gate (inputs m c (ix2 a ⟨b.val - 2816, by have := b.isLt; omega⟩))

/-- Which blocks a point reads, window by window. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
/-- Which block a point writes, and that every point writes it back. -/
theorem index4 : ∀ t : Fin cfg0.N, win0_4.index t (0 : Fin 2) = t.val ∧ win0_4.index t (1 : Fin 2) = 0 :=
  (by decide +kernel : ∀ t : Fin grid0.N, _)
theorem flush4 : ∀ t : Fin cfg0.N, (cfg0.win 4).flush t = true := (by decide +kernel : ∀ t : Fin grid0.N, win0_4.flush t = true)

section Blocks

variable (c : Dev nD) (t : Fin cfg0.N) (r : Fin 4096) (a : Fin 256) (hr : r.val = 256 * t.val + a.val)
include hr

theorem hidden_block (b : Fin 2816) : hidden (iblk m c 0 t) (iblk m c 1 t) a b = layer m c r b := by
  obtain ⟨e0, e1⟩ := index0 t
  obtain ⟨f0, f1⟩ := index1 t
  refine Finset.sum_congr rfl fun k _ => congrArg₂ (· * ·) ?_ ?_
  · show V m c main_arg0 (((cfg0.win 0).blk t).view.emb (ix2 a k)) = _
    rw [V_main_arg0]
    refine congrArg _ (funext fun x => Fin.ext ?_)
    match x with
    | ⟨0, _⟩ => show win0_0.index t (0 : Fin 2) * 256 + 1 * a.val = r.val; omega
    | ⟨1, _⟩ => show win0_0.index t (1 : Fin 2) * 1024 + 1 * k.val = k.val; omega
  · show V m c main_arg1 (((cfg0.win 1).blk t).view.emb (ix2 b k)) = _
    rw [V_main_arg1]
    refine congrArg _ (funext fun x => Fin.ext ?_)
    match x with
    | ⟨0, _⟩ => show win0_1.index t (0 : Fin 2) * 2816 + 1 * b.val = b.val; omega
    | ⟨1, _⟩ => show win0_1.index t (1 : Fin 2) * 1024 + 1 * k.val = k.val; omega

theorem input_block (b : Fin 2816) : (iblk m c 2 t : S256x2816.Idx → EReal) (ix2 a b) = inputs m c (ix2 r b) := by
  obtain ⟨e0, e1⟩ := index2 t
  show V m c main_arg2 (((cfg0.win 2).blk t).view.emb (ix2 a b)) = _
  rw [V_main_arg2]
  refine congrArg _ (funext fun x => Fin.ext ?_)
  match x with
  | ⟨0, _⟩ => show win0_2.index t (0 : Fin 2) * 256 + 1 * a.val = r.val; omega
  | ⟨1, _⟩ => show win0_2.index t (1 : Fin 2) * 2816 + 1 * b.val = b.val; omega

theorem partner_block (b : Fin 2816) : (iblk m c 3 t : S256x2816.Idx → EReal) (ix2 a b) = partners m c (ix2 r b) := by
  obtain ⟨e0, e1⟩ := index3 t
  show V m c main_arg3 (((cfg0.win 3).blk t).view.emb (ix2 a b)) = _
  rw [V_main_arg3]
  refine congrArg _ (funext fun x => Fin.ext ?_)
  match x with
  | ⟨0, _⟩ => show win0_3.index t (0 : Fin 2) * 256 + 1 * a.val = r.val; omega
  | ⟨1, _⟩ => show win0_3.index t (1 : Fin 2) * 2816 + 1 * b.val = b.val; omega

/-- A point's block is the result's. -/
theorem value_block (b : Fin 5632) : value (iblk m c 0 t) (iblk m c 1 t) (iblk m c 2 t) (iblk m c 3 t) a b = entry m c r b := by
  unfold value entry
  simp only [hidden_block m c t r a hr, input_block m c t r a hr, partner_block m c t r a hr]

end Blocks

set_option maxRecDepth 16384 in
/-- The result, as the kernel leaves it. -/
theorem result (c : Dev nD) (r : Fin 4096) (b : Fin 5632) :
    ((dats m 0 c).arrAt 4 cfg0.N : S4096x5632.Idx → EReal) (ix2 r b) = entry m c r b := by
  have hlt := r.isLt
  obtain ⟨t, ht⟩ : ∃ t : Fin cfg0.N, t.val = r.val / 256 := ⟨⟨r.val / 256, by rw [show cfg0.N = 16 from N_0]; omega⟩, rfl⟩
  obtain ⟨a, ha⟩ : ∃ a : Fin 256, a.val = r.val % 256 := ⟨⟨r.val % 256, by omega⟩, rfl⟩
  have hr : r.val = 256 * t.val + a.val := by omega
  have h := congrFun ((blocks4 m c t (flush4 t)).trans (flushed4 m c t)) (ix2 a b)
  obtain ⟨e0, e1⟩ := index4 t
  have hv := (block (iblk m c 0 t) (iblk m c 1 t) (iblk m c 2 t) (iblk m c 3 t) a b).trans (value_block m c t r a hr b)
  refine Eq.trans (congrArg ((dats m 0 c).arrAt 4 cfg0.N) ?_) (h.trans hv)
  refine funext fun x => Fin.ext ?_
  match x with
  | ⟨0, _⟩ => show r.val = win0_4.index t (0 : Fin 2) * 256 + 1 * a.val; omega
  | ⟨1, _⟩ => show b.val = win0_4.index t (1 : Fin 2) * 5632 + 1 * b.val; omega

instance : Cert.FfnGateIdeal.Facts := Cert.FfnGateIdeal.Gen.facts
instance : Cert.FfnGateRefIdeal.Facts := Cert.FfnGateRefIdeal.Gen.facts
instance : Cert.Pre_finite_gate.Facts := ⟨by decide, by decide, by decide⟩

/-- The precondition, entry by entry: the cotangents, the weights and the partners are real numbers. -/
theorem reals (h : Cert.Pre_FfnGateIdeal_finite_gate m) (c : Dev nD) :
    (∀ i, ∃ r : ℝ, cotangents m c i = (r : EReal)) ∧ (∀ i, ∃ r : ℝ, weights m c i = (r : EReal)) ∧ (∀ i, ∃ r : ℝ, partners m c i = (r : EReal)) := by
  obtain ⟨h0, h1, h2⟩ := h c
  exact ⟨fun i => Finite.of_below Finite.top_f32 (congrFun h0 i), fun i => Finite.of_below Finite.top_bf16 (congrFun h1 i),
    fun i => Finite.of_below Finite.top_f32 (congrFun h2 i)⟩

section Reference

open Cert.FfnGateRefIdeal.Read

variable (c : Dev nD)

theorem reference_gate (i : Cert.FfnGateRefIdeal.S4096x2816.Idx) : val_main_v1_2 (F := Ideal) (m ((c : Thread nD τ).loc main_arg2)) i = gate (inputs m c i) := by
  rw [val_main_v1_2_apply, val_main_call0_v4_apply, val_main_call0_v3_apply, val_main_call0_v2_apply, val_main_call0_v1_apply, val_main_call0_v0_apply]
  rfl

theorem reference_layer (a : Fin 4096) (b : Fin 2816) :
    val_main_v4 (F := Ideal) (m ((c : Thread nD τ).loc main_arg0)) (m ((c : Thread nD τ).loc main_arg1)) (ix2 a b) = layer m c a b := by
  rw [val_main_v4_apply]
  refine Finset.sum_congr rfl fun k _ => ?_
  rw [val_main_v0_apply]
  refine congrArg₂ (· * ·) (congrArg (m ((c : Thread nD τ).loc main_arg0)) (funext fun x => Fin.ext ?_))
    (congrArg (m ((c : Thread nD τ).loc main_arg1)) (funext fun x => Fin.ext ?_))
  · match x with
    | ⟨0, _⟩ => rfl
    | ⟨1, _⟩ => rfl
  · match x with
    | ⟨0, _⟩ => rfl
    | ⟨1, _⟩ => rfl

/-- The reference's gradient of the gate's input. -/
theorem reference_left (hp : Cert.Pre_FfnGateIdeal_finite_gate m) (a : Fin 4096) (b : Fin 2816) :
    val_main_v7 (F := Ideal) (m ((c : Thread nD τ).loc main_arg0)) (m ((c : Thread nD τ).loc main_arg1)) (m ((c : Thread nD τ).loc main_arg2)) (m ((c : Thread nD τ).loc main_arg3)) (ix2 a b)
      = share (layer m c a b * partners m c (ix2 a b)) (inputs m c (ix2 a b)) := by
  obtain ⟨f0, f1, f3⟩ := reals m hp c
  have hy : ∃ r : ℝ, layer m c a b * partners m c (ix2 a b) = (r : EReal) := by
    obtain ⟨p, hp⟩ := Finite.sum_mul (fun k : Fin 1024 => cotangents m c (ix2 a k)) (fun k => weights m c (ix2 b k)) (fun _ => f0 _) (fun _ => f1 _)
    obtain ⟨q, hq⟩ := f3 (ix2 a b)
    exact ⟨p * q, by rw [EReal.coe_mul, ← hq, ← hp]; rfl⟩
  rw [share_spelt hy, val_main_v7_apply, val_main_call1_v1_apply, val_main_call1_v2_apply, val_main_call1_v0_apply, val_main_v6_apply, val_main_v1_1_apply,
    val_main_call0_v7_apply, val_main_call0_v6_apply, reference_layer, reference_gate]
  rfl

/-- The reference's gradient of the partner. -/
theorem reference_right (a : Fin 4096) (b : Fin 2816) :
    val_main_v5 (F := Ideal) (m ((c : Thread nD τ).loc main_arg0)) (m ((c : Thread nD τ).loc main_arg1)) (m ((c : Thread nD τ).loc main_arg2)) (ix2 a b)
      = layer m c a b * inputs m c (ix2 a b) * gate (inputs m c (ix2 a b)) := by
  rw [val_main_v5_apply, val_main_v1_0_apply, reference_layer, reference_gate]
  show inputs m c (ix2 a b) * gate (inputs m c (ix2 a b)) * layer m c a b = _
  rw [mul_comm, mul_assoc]

set_option maxRecDepth 16384 in
/-- The reference's result at an entry. -/
theorem reference (hp : Cert.Pre_FfnGateIdeal_finite_gate m) (a : Fin 4096) (b : Fin 5632) :
    val_main_v9 (F := Ideal) (m ((c : Thread nD τ).loc main_arg0)) (m ((c : Thread nD τ).loc main_arg1)) (m ((c : Thread nD τ).loc main_arg2)) (m ((c : Thread nD τ).loc main_arg3)) (ix2 a b)
      = entry m c a b := by
  have hb := b.isLt
  refine Eq.trans (val_main_v9_apply _ _ _ _ _ : _ = val_main_v8 (F := Ideal) _ _ _ _ (ix2 a b)) ?_
  unfold val_main_v8 entry
  split
  · next h =>
    refine Eq.trans ?_ (reference_left m c hp a ⟨b.val, h⟩)
    exact concatenate_pair_apply_left (t := Cert.FfnGateRefIdeal.S4096x5632) (s₁ := Cert.FfnGateRefIdeal.S4096x2816) (s₂ := Cert.FfnGateRefIdeal.S4096x2816) 1 _ _ _ (ix2 a b) rfl (ix2 a (⟨b.val, h⟩ : Fin 2816)) (fun x => match x with
      | ⟨0, _⟩ => rfl
      | ⟨1, _⟩ => rfl)
  · next h =>
    refine Eq.trans ?_ (reference_right m c a ⟨b.val - 2816, by omega⟩)
    exact concatenate_pair_apply_right (t := Cert.FfnGateRefIdeal.S4096x5632) (s₁ := Cert.FfnGateRefIdeal.S4096x2816) (s₂ := Cert.FfnGateRefIdeal.S4096x2816) 1 _ _ _ (ix2 a b) rfl rfl (ix2 a (⟨b.val - 2816, by omega⟩ : Fin 2816)) (fun x => match x with
      | ⟨0, _⟩ => fun _ => rfl
      | ⟨1, _⟩ => fun hne => absurd rfl hne) (show b.val - 2816 + 2816 = b.val by omega)

end Reference

/-- The gradient of the gated hidden layer agrees with the reference's. -/
theorem algebraic : Cert.algebraic_FfnGateIdeal_FfnGateRefIdeal_pre_finite_gate := fun m g m' g' hp hm =>
  ⟨fun c => (dats m 0 c).arrAt 4 cfg0.N, Cert.FfnGateIdeal.Value.run_blocks m g,
    (θ_run Cert.FfnGateRefIdeal.defs _ _).mono (fun r h c => ⟨(h c).1.trans (by
      rw [(hm c).1, (hm c).2.1, (hm c).2.2.1, (hm c).2.2.2, Cert.FfnGateRefIdeal.Read.val_main_v9_eq]
      funext i
      rw [(eq_ix2 i : i = ix2 (i 0) (i 1))]
      exact (reference m c hp _ _).trans (result m c _ _).symm), (h c).2⟩)
      (Cert.FfnGateRefIdeal.Value.run m' g')⟩

end Cert.Proof.FfnGate
-- ==== Proof.Branch.lean ====
/- The gradient of the gated mix of the branches: what the kernel's blocks leave is the gradient of each branch and of each gate. -/
module

public import proofs.«01_k».proof.Defs
public import proofs.«01_k».proof.Proof.Gen.BranchIdeal.Value
public import proofs.«01_k».proof.Proof.Gen.BranchRefIdeal.Run
public import proofs.«01_k».proof.Proof.Gen.BranchRefIdeal.Read
public import Idealize.ShloMosaic.Lib.ValueLayout
public import Idealize.ShloMosaic.Lib.MatmulPlain
public import Idealize.ShloMosaic.Lib.IdealHost

@[expose] public section

noncomputable section

namespace Cert.Proof.Branch

open Cert.BranchIdeal Cert.BranchIdeal.Gen Cert.BranchIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

/-- The literal one. -/
def one : EReal := Ideal.ofBits .f32 0x3F800000#32

/-- The logistic gate. -/
def gate (x : EReal) : EReal := Ideal.div one (one + Ideal.exp (-x))

/-- The kernel spells the gate with a difference from zero. -/
theorem gate_spelt (x : EReal) :
    Ideal.div one (one + Ideal.exp (Ideal.ofBits .f32 0x00000000#32 - x)) = gate x := by
  rw [Ideal.ofBits_zero_f32, zero_sub]; rfl

/-- The gradient of a gate's input, from the mix's cotangent, the branch and the gate. -/
def share (d v g : EReal) : EReal := d * v * g * (one - g)

variable (x0 : Vec Ideal S512x1024 .f32) (x1 : Vec Ideal S512x1024 .bf16) (x2 : Vec Ideal S3x512x512 .f32) (x3 x4 x5 : Vec Ideal S512x512 .f32)

/-- The mix's cotangent at an entry of a block. -/
def mixed (a b : Fin 512) : EReal := ∑ k : Fin 1024, (x0 (ix2 a k) : EReal) * x1 (ix2 b k)

/-- The block's product is the mix's cotangent. -/
theorem product (a b : Fin 512) : k0_pay2 (F := Ideal) x0 x1 (ix2 a b) = mixed x0 x1 a b := by
  unfold k0_pay2
  show FloatOps.matmul (DotDims.transposedRhs 512 1024 512) none _ _ _ (ix2 a b) = _
  rw [Ideal.matmul_transposedRhs_apply, constant_apply, Ideal.ofBits_zero_f32, zero_add]
  rfl

/-- The input of gate number `g`. -/
def pick (g : Fin 3) : Vec Ideal S512x512 .f32 := match g with | 0 => x3 | 1 => x4 | 2 => x5

theorem gate0 (x : Vec Ideal S512x512 .f32) (i : S512x512.Idx) : k0_pay3 (F := Ideal) x i = gate (x i) := gate_spelt _
theorem gate1 (x : Vec Ideal S512x512 .f32) (i : S512x512.Idx) :
    k0_pay7 (F := Ideal) (k0_pay6 x) (Scalar.ofBits .f32 0x3F800000#32) i = gate (x i) := gate_spelt _
theorem gate2 (x : Vec Ideal S512x512 .f32) (i : S512x512.Idx) : k0_pay10 (F := Ideal) x i = gate (x i) := gate_spelt _

/-- A page of the three, at an entry. -/
theorem page (g : Fin 3) (inb : ∀ a, (![g.val, 0, 0] : Fin 3 → ℕ) a + S1x512x512.size a ≤ S3x512x512.size a) (z : Fin 1) (a b : Fin 512) :
    (Rect.unit (s := S3x512x512) ![g.val, 0, 0] S1x512x512.size inb).emb (ix3 z a b) = ix3 g a b := by
  have hz := z.isLt
  refine funext fun x => Fin.ext ?_
  match x with
  | ⟨0, _⟩ => show g.val + 1 * z.val = g.val; omega
  | ⟨1, _⟩ => show 0 + 1 * a.val = a.val; omega
  | ⟨2, _⟩ => show 0 + 1 * b.val = b.val; omega

theorem page0 (z : Fin 1) (a b : Fin 512) : r0_2.emb (ix3 z a b) = ix3 0 a b := page 0 _ z a b
theorem page1 (z : Fin 1) (a b : Fin 512) : r0_3.emb (ix3 z a b) = ix3 1 a b := page 1 _ z a b
theorem page2 (z : Fin 1) (a b : Fin 512) : r0_4.emb (ix3 z a b) = ix3 2 a b := page 2 _ z a b

/-- The branches' gradient at an entry of a block. -/
def branchAt (y : S3x512x512.Idx) : EReal := gate (pick x3 x4 x5 (y 0) (ix2 (y 1) (y 2))) * mixed x0 x1 (y 1) (y 2)

/-- What a page's store holds. -/
theorem stored0 (z : Fin 1) (a b : Fin 512) : k0_pay4 (F := Ideal) x0 x1 x3 (ix3 z a b) = branchAt x0 x1 x3 x4 x5 (ix3 0 a b) := by
  unfold k0_pay4
  rw [shapeCast_ab_1ab_apply]
  exact congrArg₂ (· * ·) (gate0 x3 _) (product x0 x1 a b)
theorem stored1 (z : Fin 1) (a b : Fin 512) :
    k0_pay8 (F := Ideal) (k0_pay2 x0 x1) (k0_pay6 x4) (Scalar.ofBits .f32 0x3F800000#32) (ix3 z a b) = branchAt x0 x1 x3 x4 x5 (ix3 1 a b) := by
  unfold k0_pay8
  rw [shapeCast_ab_1ab_apply]
  exact congrArg₂ (· * ·) (gate1 x4 _) (product x0 x1 a b)
theorem stored2 (z : Fin 1) (a b : Fin 512) : k0_pay11 (F := Ideal) (k0_pay2 x0 x1) x5 (ix3 z a b) = branchAt x0 x1 x3 x4 x5 (ix3 2 a b) := by
  unfold k0_pay11
  rw [shapeCast_ab_1ab_apply]
  exact congrArg₂ (· * ·) (gate2 x5 _) (product x0 x1 a b)

/-- The branches' gradient in a block. -/
theorem branches (g : Fin 3) (a b : Fin 512) :
    out0_6 (F := Ideal) x0 x1 x2 x3 x4 x5 (ix3 g a b) = gate (pick x3 x4 x5 g (ix2 a b)) * mixed x0 x1 a b := by
  unfold out0_6 k0_pay13 k0_pay14
  simp only [View.ld_unit_zero (S := S512x512) hz2, View.ld_unit_zero (S := S512x1024) hz2]
  refine (View.canon_apply_of_pieces (Val := Elt Ideal) (branchAt x0 x1 x3 x4 x5) _ ?_ (ix3 g a b) (cover0_6 _ _ _ _)).trans rfl
  have hr (x : S1x512x512.Idx) : x = ix3 (x 0) (x 1) (x 2) := eq_ix3 x
  intro pc hpc x
  rcases List.mem_cons.mp hpc with rfl | hpc
  · rw [hr x]
    exact (stored2 x0 x1 x3 x4 x5 _ _ _).trans (congrArg (branchAt x0 x1 x3 x4 x5) (page2 _ _ _).symm)
  rcases List.mem_cons.mp hpc with rfl | hpc
  · rw [hr x]
    exact (stored1 x0 x1 x3 x4 x5 _ _ _).trans (congrArg (branchAt x0 x1 x3 x4 x5) (page1 _ _ _).symm)
  rcases List.mem_cons.mp hpc with rfl | hpc
  · rw [hr x]
    exact (stored0 x0 x1 x3 x4 x5 _ _ _).trans (congrArg (branchAt x0 x1 x3 x4 x5) (page0 _ _ _).symm)
  nomatch hpc

/-- The first gate's gradient in a block. -/
theorem first (a b : Fin 512) :
    out0_7 (F := Ideal) x0 x1 x2 x3 x4 x5 (ix2 a b) = share (mixed x0 x1 a b) (x2 (ix3 0 a b)) (gate (x3 (ix2 a b))) := by
  unfold out0_7
  rw [View.canon_unit_zero hz2]
  simp only [View.ld_unit_zero (S := S512x512) hz2, View.ld_unit_zero (S := S512x1024) hz2]
  show k0_pay2 x0 x1 (ix2 a b) * shapeCast S512x512 (View.ld x2 r0_2) _ (ix2 a b) * k0_pay3 x3 (ix2 a b) * (one - k0_pay3 x3 (ix2 a b)) = _
  rw [product, gate0, shapeCast_1ab_ab_apply]
  show _ * x2 (r0_2.emb (ix3 0 a b)) * _ * _ = _
  rw [page0]
  rfl

/-- The second gate's gradient in a block. -/
theorem second (a b : Fin 512) :
    out0_8 (F := Ideal) x0 x1 x2 x3 x4 x5 (ix2 a b) = share (mixed x0 x1 a b) (x2 (ix3 1 a b)) (gate (x4 (ix2 a b))) := by
  unfold out0_8 k0_pay13 k0_pay14
  rw [View.canon_unit_zero hz2]
  simp only [View.ld_unit_zero (S := S512x512) hz2, View.ld_unit_zero (S := S512x1024) hz2]
  show k0_pay2 x0 x1 (ix2 a b) * shapeCast S512x512 (View.ld x2 r0_3) _ (ix2 a b) * k0_pay7 (k0_pay6 x4) (Scalar.ofBits .f32 0x3F800000#32) (ix2 a b)
    * (one - k0_pay7 (k0_pay6 x4) (Scalar.ofBits .f32 0x3F800000#32) (ix2 a b)) = _
  rw [product, gate1, shapeCast_1ab_ab_apply]
  show _ * x2 (r0_3.emb (ix3 0 a b)) * _ * _ = _
  rw [page1]
  rfl

/-- The third gate's gradient in a block. -/
theorem third (a b : Fin 512) :
    out0_9 (F := Ideal) x0 x1 x2 x3 x4 x5 (ix2 a b) = share (mixed x0 x1 a b) (x2 (ix3 2 a b)) (gate (x5 (ix2 a b))) := by
  unfold out0_9 k0_pay13
  rw [View.canon_unit_zero hz2]
  simp only [View.ld_unit_zero (S := S512x512) hz2, View.ld_unit_zero (S := S512x1024) hz2]
  show k0_pay2 x0 x1 (ix2 a b) * shapeCast S512x512 (View.ld x2 r0_4) _ (ix2 a b) * k0_pay10 x5 (ix2 a b) * (one - k0_pay10 x5 (ix2 a b)) = _
  rw [product, gate2, shapeCast_1ab_ab_apply]
  show _ * x2 (r0_4.emb (ix3 0 a b)) * _ * _ = _
  rw [page2]
  rfl

/-- The mix's incoming cotangent. -/
abbrev cotangents (c : Dev nD) : S4096x1024.Idx → EReal := m ((c : Thread nD τ).loc main_arg0)
/-- The output projection. -/
abbrev weights (c : Dev nD) : S1024x1024.Idx → EReal := m ((c : Thread nD τ).loc main_arg1)
/-- The branches' outputs. -/
abbrev outputs (c : Dev nD) : S3x4096x1024.Idx → EReal := m ((c : Thread nD τ).loc main_arg2)
/-- The first projection's rows, the gates' inputs among them. -/
abbrev rows (c : Dev nD) : S4096x9728.Idx → EReal := m ((c : Thread nD τ).loc main_arg3)

/-- The mix's cotangent at an entry. -/
def mix (c : Dev nD) (a : Fin 4096) (b : Fin 1024) : EReal := ∑ k : Fin 1024, cotangents m c (ix2 a k) * weights m c (ix2 b k)
/-- Gate `g` at an entry. -/
def gates (c : Dev nD) (g : Fin 3) (a : Fin 4096) (b : Fin 1024) : EReal :=
  gate (rows m c (ix2 a (⟨6656 + 1024 * g.val + b.val, by have := g.isLt; have := b.isLt; omega⟩ : Fin 9728)))
/-- The gradient of gate `g`'s input at an entry. -/
def shares (c : Dev nD) (g : Fin 3) (a : Fin 4096) (b : Fin 1024) : EReal := share (mix m c a b) (outputs m c (ix3 g a b)) (gates m c g a b)

/-- Which blocks a point reads, window by window. -/
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = 0 :=
  (by decide +kernel : ∀ t : Fin grid0.N, _)
theorem index2 : ∀ t : Fin cfg0.N, win0_2.index t (0 : Fin 3) = 0 ∧ win0_2.index t (1 : Fin 3) = t.val / 2 ∧ win0_2.index t (2 : Fin 3) = t.val % 2 :=
  (by decide +kernel : ∀ t : Fin grid0.N, _)
theorem index3 : ∀ t : Fin cfg0.N, win0_3.index t (0 : Fin 2) = t.val / 2 ∧ win0_3.index t (1 : Fin 2) = 13 + t.val % 2 :=
  (by decide +kernel : ∀ t : Fin grid0.N, _)
theorem index4 : ∀ t : Fin cfg0.N, win0_4.index t (0 : Fin 2) = t.val / 2 ∧ win0_4.index t (1 : Fin 2) = 15 + t.val % 2 :=
  (by decide +kernel : ∀ t : Fin grid0.N, _)
theorem index5 : ∀ t : Fin cfg0.N, win0_5.index t (0 : Fin 2) = t.val / 2 ∧ win0_5.index t (1 : Fin 2) = 17 + t.val % 2 :=
  (by decide +kernel : ∀ t : Fin grid0.N, _)
/-- Which blocks a point writes, and that every point writes them back. -/
theorem index6 : ∀ t : Fin cfg0.N, win0_6.index t (0 : Fin 3) = 0 ∧ win0_6.index t (1 : Fin 3) = t.val / 2 ∧ win0_6.index t (2 : Fin 3) = t.val % 2 :=
  (by decide +kernel : ∀ t : Fin grid0.N, _)
theorem index7 : ∀ t : Fin cfg0.N, win0_7.index t (0 : Fin 2) = t.val / 2 ∧ win0_7.index t (1 : Fin 2) = t.val % 2 :=
  (by decide +kernel : ∀ t : Fin grid0.N, _)
theorem index8 : ∀ t : Fin cfg0.N, win0_8.index t (0 : Fin 2) = t.val / 2 ∧ win0_8.index t (1 : Fin 2) = t.val % 2 :=
  (by decide +kernel : ∀ t : Fin grid0.N, _)
theorem index9 : ∀ t : Fin cfg0.N, win0_9.index t (0 : Fin 2) = t.val / 2 ∧ win0_9.index t (1 : Fin 2) = t.val % 2 :=
  (by decide +kernel : ∀ t : Fin grid0.N, _)
theorem flush6 : ∀ t : Fin cfg0.N, (cfg0.win 6).flush t = true := (by decide +kernel : ∀ t : Fin grid0.N, win0_6.flush t = true)
theorem flush7 : ∀ t : Fin cfg0.N, (cfg0.win 7).flush t = true := (by decide +kernel : ∀ t : Fin grid0.N, win0_7.flush t = true)
theorem flush8 : ∀ t : Fin cfg0.N, (cfg0.win 8).flush t = true := (by decide +kernel : ∀ t : Fin grid0.N, win0_8.flush t = true)
theorem flush9 : ∀ t : Fin cfg0.N, (cfg0.win 9).flush t = true := (by decide +kernel : ∀ t : Fin grid0.N, win0_9.flush t = true)

section Blocks

variable (c : Dev nD) (t : Fin cfg0.N) (r : Fin 4096) (s : Fin 1024) (a b : Fin 512)
  (hr : r.val = 512 * (t.val / 2) + a.val) (hs : s.val = 512 * (t.val % 2) + b.val)
include hr hs

/-- A block's product is the mix's cotangent at the entry it stands for. -/
theorem mixed_block : mixed (iblk m c 0 t) (iblk m c 1 t) a b = mix m c r s := by
  obtain ⟨e0, e1⟩ := index0 t
  obtain ⟨f0, f1⟩ := index1 t
  refine Finset.sum_congr rfl fun k _ => congrArg₂ (· * ·) ?_ ?_
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 1024 + 1 * k.val = k.val; omega
  · show V m c main_arg1 (((cfg0.win 1).blk t).view.emb (ix2 b k)) = _
    rw [V_main_arg1]
    refine congrArg _ (funext fun x => Fin.ext ?_)
    match x with
    | ⟨0, _⟩ => show win0_1.index t (0 : Fin 2) * 512 + 1 * b.val = s.val; omega
    | ⟨1, _⟩ => show win0_1.index t (1 : Fin 2) * 1024 + 1 * k.val = k.val; omega

/-- A branch's block. -/
theorem output_block (g : Fin 3) : (iblk m c 2 t : S3x512x512.Idx → EReal) (ix3 g a b) = outputs m c (ix3 g r s) := by
  obtain ⟨e0, e1, e2⟩ := index2 t
  show V m c main_arg2 (((cfg0.win 2).blk t).view.emb (ix3 g a b)) = _
  rw [V_main_arg2]
  refine congrArg _ (funext fun x => Fin.ext ?_)
  match x with
  | ⟨0, _⟩ => show win0_2.index t (0 : Fin 3) * 3 + 1 * g.val = g.val; omega
  | ⟨1, _⟩ => show win0_2.index t (1 : Fin 3) * 512 + 1 * a.val = r.val; omega
  | ⟨2, _⟩ => show win0_2.index t (2 : Fin 3) * 512 + 1 * b.val = s.val; omega

/-- The gates' blocks. -/
theorem gate_block (g : Fin 3) : gate (pick (iblk m c 3 t) (iblk m c 4 t) (iblk m c 5 t) g (ix2 a b)) = gates m c g r s := by
  refine congrArg gate ?_
  match g with
  | ⟨0, _⟩ =>
    obtain ⟨e0, e1⟩ := index3 t
    show V m c main_arg3 (((cfg0.win 3).blk t).view.emb (ix2 a b)) = _
    rw [V_main_arg3]
    refine congrArg _ (funext fun x => Fin.ext ?_)
    match x with
    | ⟨0, _⟩ => show win0_3.index t (0 : Fin 2) * 512 + 1 * a.val = r.val; omega
    | ⟨1, _⟩ => show win0_3.index t (1 : Fin 2) * 512 + 1 * b.val = 6656 + 1024 * 0 + s.val; omega
  | ⟨1, _⟩ =>
    obtain ⟨e0, e1⟩ := index4 t
    show V m c main_arg3 (((cfg0.win 4).blk t).view.emb (ix2 a b)) = _
    rw [V_main_arg3]
    refine congrArg _ (funext fun x => Fin.ext ?_)
    match x with
    | ⟨0, _⟩ => show win0_4.index t (0 : Fin 2) * 512 + 1 * a.val = r.val; omega
    | ⟨1, _⟩ => show win0_4.index t (1 : Fin 2) * 512 + 1 * b.val = 6656 + 1024 * 1 + s.val; omega
  | ⟨2, _⟩ =>
    obtain ⟨e0, e1⟩ := index5 t
    show V m c main_arg3 (((cfg0.win 5).blk t).view.emb (ix2 a b)) = _
    rw [V_main_arg3]
    refine congrArg _ (funext fun x => Fin.ext ?_)
    match x with
    | ⟨0, _⟩ => show win0_5.index t (0 : Fin 2) * 512 + 1 * a.val = r.val; omega
    | ⟨1, _⟩ => show win0_5.index t (1 : Fin 2) * 512 + 1 * b.val = 6656 + 1024 * 2 + s.val; omega

end Blocks

/-- The point that writes an entry. -/
def pointOf (r : Fin 4096) (s : Fin 1024) : Fin cfg0.N :=
  ⟨2 * (r.val / 512) + s.val / 512, by rw [show cfg0.N = 16 from N_0]; have := r.isLt; have := s.isLt; omega⟩
/-- An entry's place in its block. -/
def place (n : ℕ) : Fin 512 := ⟨n % 512, Nat.mod_lt _ (by norm_num)⟩

theorem pointOf_row (r : Fin 4096) (s : Fin 1024) : r.val = 512 * ((pointOf r s).val / 2) + (place r.val).val := by
  have := r.isLt; have := s.isLt
  show r.val = 512 * ((2 * (r.val / 512) + s.val / 512) / 2) + r.val % 512; omega
theorem pointOf_column (r : Fin 4096) (s : Fin 1024) : s.val = 512 * ((pointOf r s).val % 2) + (place s.val).val := by
  have := r.isLt; have := s.isLt
  show s.val = 512 * ((2 * (r.val / 512) + s.val / 512) % 2) + s.val % 512; omega

/-- The branches' gradient, as the kernel leaves it. -/
theorem result6 (c : Dev nD) (g : Fin 3) (r : Fin 4096) (s : Fin 1024) :
    ((dats m 0 c).arrAt 6 cfg0.N : S3x4096x1024.Idx → EReal) (ix3 g r s) = gates m c g r s * mix m c r s := by
  have hr := pointOf_row r s; have hs := pointOf_column r s
  generalize pointOf r s = t at hr hs
  have h := congrFun ((blocks6 m c t (flush6 t)).trans (flushed6 m c t)) (ix3 g (place r.val) (place s.val))
  obtain ⟨e0, e1, e2⟩ := index6 t
  refine Eq.trans (congrArg ((dats m 0 c).arrAt 6 cfg0.N) ?_) (h.trans ((branches _ _ _ _ _ _ g _ _).trans
    (congrArg₂ (· * ·) (gate_block m c t r s _ _ hr hs g) (mixed_block m c t r s _ _ hr hs))))
  refine funext fun x => Fin.ext ?_
  match x with
  | ⟨0, _⟩ => show g.val = win0_6.index t (0 : Fin 3) * 3 + 1 * g.val; omega
  | ⟨1, _⟩ => show r.val = win0_6.index t (1 : Fin 3) * 512 + 1 * (place r.val).val; omega
  | ⟨2, _⟩ => show s.val = win0_6.index t (2 : Fin 3) * 512 + 1 * (place s.val).val; omega

/-- The first gate's gradient, as the kernel leaves it. -/
theorem result7 (c : Dev nD) (r : Fin 4096) (s : Fin 1024) :
    ((dats m 0 c).arrAt 7 cfg0.N : S4096x1024.Idx → EReal) (ix2 r s) = shares m c 0 r s := by
  have hr := pointOf_row r s; have hs := pointOf_column r s
  generalize pointOf r s = t at hr hs
  have h := congrFun ((blocks7 m c t (flush7 t)).trans (flushed7 m c t)) (ix2 (place r.val) (place s.val))
  obtain ⟨e0, e1⟩ := index7 t
  refine Eq.trans (congrArg ((dats m 0 c).arrAt 7 cfg0.N) ?_) (h.trans ((first _ _ _ _ _ _ _ _).trans ?_))
  · refine funext fun x => Fin.ext ?_
    match x with
    | ⟨0, _⟩ => show r.val = win0_7.index t (0 : Fin 2) * 512 + 1 * (place r.val).val; omega
    | ⟨1, _⟩ => show s.val = win0_7.index t (1 : Fin 2) * 512 + 1 * (place s.val).val; omega
  · rw [mixed_block m c t r s _ _ hr hs, output_block m c t r s _ _ hr hs]
    exact congrArg (share _ _) (gate_block m c t r s _ _ hr hs 0)

/-- The second gate's gradient, as the kernel leaves it. -/
theorem result8 (c : Dev nD) (r : Fin 4096) (s : Fin 1024) :
    ((dats m 0 c).arrAt 8 cfg0.N : S4096x1024.Idx → EReal) (ix2 r s) = shares m c 1 r s := by
  have hr := pointOf_row r s; have hs := pointOf_column r s
  generalize pointOf r s = t at hr hs
  have h := congrFun ((blocks8 m c t (flush8 t)).trans (flushed8 m c t)) (ix2 (place r.val) (place s.val))
  obtain ⟨e0, e1⟩ := index8 t
  refine Eq.trans (congrArg ((dats m 0 c).arrAt 8 cfg0.N) ?_) (h.trans ((second _ _ _ _ _ _ _ _).trans ?_))
  · refine funext fun x => Fin.ext ?_
    match x with
    | ⟨0, _⟩ => show r.val = win0_8.index t (0 : Fin 2) * 512 + 1 * (place r.val).val; omega
    | ⟨1, _⟩ => show s.val = win0_8.index t (1 : Fin 2) * 512 + 1 * (place s.val).val; omega
  · rw [mixed_block m c t r s _ _ hr hs, output_block m c t r s _ _ hr hs]
    exact congrArg (share _ _) (gate_block m c t r s _ _ hr hs 1)

/-- The third gate's gradient, as the kernel leaves it. -/
theorem result9 (c : Dev nD) (r : Fin 4096) (s : Fin 1024) :
    ((dats m 0 c).arrAt 9 cfg0.N : S4096x1024.Idx → EReal) (ix2 r s) = shares m c 2 r s := by
  have hr := pointOf_row r s; have hs := pointOf_column r s
  generalize pointOf r s = t at hr hs
  have h := congrFun ((blocks9 m c t (flush9 t)).trans (flushed9 m c t)) (ix2 (place r.val) (place s.val))
  obtain ⟨e0, e1⟩ := index9 t
  refine Eq.trans (congrArg ((dats m 0 c).arrAt 9 cfg0.N) ?_) (h.trans ((third _ _ _ _ _ _ _ _).trans ?_))
  · refine funext fun x => Fin.ext ?_
    match x with
    | ⟨0, _⟩ => show r.val = win0_9.index t (0 : Fin 2) * 512 + 1 * (place r.val).val; omega
    | ⟨1, _⟩ => show s.val = win0_9.index t (1 : Fin 2) * 512 + 1 * (place s.val).val; omega
  · rw [mixed_block m c t r s _ _ hr hs, output_block m c t r s _ _ hr hs]
    exact congrArg (share _ _) (gate_block m c t r s _ _ hr hs 2)

section Reference

open Cert.BranchRefIdeal.Read

variable (c : Dev nD)

/-- The reference's gate. -/
theorem reference_gate (r : Fin 4096) (g : Fin 3) (s : Fin 1024) :
    val_main_v9 (F := Ideal) (m ((c : Thread nD τ).loc main_arg3)) (ix3 r g s) = gates m c g r s := by
  have := r.isLt; have := g.isLt; have := s.isLt
  rw [val_main_v9_apply, val_main_v8_apply, val_main_v7_apply, val_main_v6_apply, val_main_v5_apply, val_main_v4_apply, val_main_v3_apply, val_main_v1_apply]
  refine congrArg gate (congrArg (m ((c : Thread nD τ).loc main_arg3)) (funext fun x => Fin.ext ?_))
  match x with
  | ⟨0, _⟩ => show ((r.val * 3 + g.val) * 1024 + s.val) / 3072 = r.val; omega
  | ⟨1, _⟩ => show 6656 + ((r.val * 3 + g.val) * 1024 + s.val) % 3072 = 6656 + 1024 * g.val + s.val; omega

/-- The reference's cotangent of the mix. -/
theorem reference_mix (r : Fin 4096) (g : Fin 3) (s : Fin 1024) :
    val_main_v17 (F := Ideal) (m ((c : Thread nD τ).loc main_arg0)) (m ((c : Thread nD τ).loc main_arg1)) (ix3 r g s) = mix m c r s := by
  rw [val_main_v17_apply, val_main_v16_apply]
  refine Finset.sum_congr rfl fun k _ => ?_
  rw [val_main_v0_apply]
  refine congrArg₂ (· * ·) (congrArg (m ((c : Thread nD τ).loc main_arg0)) (funext fun x => Fin.ext ?_))
    (congrArg (m ((c : Thread nD τ).loc main_arg1)) (funext fun x => Fin.ext ?_))
  · match x with
    | ⟨0, _⟩ => rfl
    | ⟨1, _⟩ => rfl
  · match x with
    | ⟨0, _⟩ => rfl
    | ⟨1, _⟩ => rfl

/-- The reference's gradient of the branches. -/
theorem reference_branches (g : Fin 3) (r : Fin 4096) (s : Fin 1024) :
    val_main_v24 (F := Ideal) (m ((c : Thread nD τ).loc main_arg0)) (m ((c : Thread nD τ).loc main_arg1)) (m ((c : Thread nD τ).loc main_arg3)) (ix3 g r s)
      = gates m c g r s * mix m c r s := by
  rw [val_main_v24_apply, val_main_v23_apply, val_main_v18_apply]
  exact congrArg₂ (· * ·)
    ((congrArg _ (eq_ix3 _)).trans (reference_gate m c r g s)) ((congrArg _ (eq_ix3 _)).trans (reference_mix m c r g s))

/-- The reference's gradient of the gates' inputs. -/
theorem reference_shares (g : Fin 3) (r : Fin 4096) (s : Fin 1024) (i : Cert.BranchRefIdeal.S4096x3072.Idx) (h0 : (i 0).val = r.val) (h1 : (i 1).val = 1024 * g.val + s.val) :
    val_main_v22 (F := Ideal) (m ((c : Thread nD τ).loc main_arg0)) (m ((c : Thread nD τ).loc main_arg1)) (m ((c : Thread nD τ).loc main_arg2))
      (m ((c : Thread nD τ).loc main_arg3)) i = shares m c g r s := by
  have := r.isLt; have := g.isLt; have := s.isLt
  have e : idx_main_v21 i = ix3 r g s := funext fun x => Fin.ext (by
    match x with
    | ⟨0, _⟩ => show ((i 0).val * 3072 + (i 1).val) / 3072 = r.val; omega
    | ⟨1, _⟩ => show ((i 0).val * 3072 + (i 1).val) / 1024 % 3 = g.val; omega
    | ⟨2, _⟩ => show ((i 0).val * 3072 + (i 1).val) % 1024 = s.val; omega)
  have e2 : idx_main_v2 (ix3 r g s) = ix3 g r s := funext fun x => Fin.ext (by
    match x with
    | ⟨0, _⟩ => rfl
    | ⟨1, _⟩ => rfl
    | ⟨2, _⟩ => rfl)
  rw [val_main_v22_apply, val_main_v21_apply, e, val_main_v20_apply, val_main_v19_apply, val_main_v12_apply, val_main_v11_apply,
    reference_mix, reference_gate, val_main_v2_apply, e2]
  exact (mul_assoc _ _ _).symm

/-- The branches' gradient agrees. -/
theorem agree6 : val_main_v24 (F := Ideal) (m ((c : Thread nD τ).loc main_arg0)) (m ((c : Thread nD τ).loc main_arg1)) (m ((c : Thread nD τ).loc main_arg3))
    = ((dats m 0 c).arrAt 6 cfg0.N : S3x4096x1024.Idx → EReal) := by
  refine funext fun i => ?_
  rw [(eq_ix3 i : i = ix3 (i 0) (i 1) (i 2))]
  exact (reference_branches m c _ _ _).trans (result6 m c _ _ _).symm

/-- Gate 0's gradient agrees. -/
theorem agree7 : val_main_v25 (F := Ideal) (m ((c : Thread nD τ).loc main_arg0)) (m ((c : Thread nD τ).loc main_arg1)) (m ((c : Thread nD τ).loc main_arg2)) (m ((c : Thread nD τ).loc main_arg3))
    = ((dats m 0 c).arrAt 7 cfg0.N : S4096x1024.Idx → EReal) := by
  refine funext fun i => (val_main_v25_apply _ _ _ _ i).trans ?_
  rw [reference_shares m c 0 (i 0) (i 1) _ rfl (show (i 1).val = 1024 * 0 + (i 1).val by omega), ← result7 m c (i 0) (i 1)]
  exact congrArg _ (eq_ix2 i).symm

/-- Gate 1's gradient agrees. -/
theorem agree8 : val_main_v26 (F := Ideal) (m ((c : Thread nD τ).loc main_arg0)) (m ((c : Thread nD τ).loc main_arg1)) (m ((c : Thread nD τ).loc main_arg2)) (m ((c : Thread nD τ).loc main_arg3))
    = ((dats m 0 c).arrAt 8 cfg0.N : S4096x1024.Idx → EReal) := by
  refine funext fun i => (val_main_v26_apply _ _ _ _ i).trans ?_
  rw [reference_shares m c 1 (i 0) (i 1) _ rfl rfl, ← result8 m c (i 0) (i 1)]
  exact congrArg _ (eq_ix2 i).symm

/-- Gate 2's gradient agrees. -/
theorem agree9 : val_main_v27 (F := Ideal) (m ((c : Thread nD τ).loc main_arg0)) (m ((c : Thread nD τ).loc main_arg1)) (m ((c : Thread nD τ).loc main_arg2)) (m ((c : Thread nD τ).loc main_arg3))
    = ((dats m 0 c).arrAt 9 cfg0.N : S4096x1024.Idx → EReal) := by
  refine funext fun i => (val_main_v27_apply _ _ _ _ i).trans ?_
  rw [reference_shares m c 2 (i 0) (i 1) _ rfl rfl, ← result9 m c (i 0) (i 1)]
  exact congrArg _ (eq_ix2 i).symm

end Reference

instance : Cert.BranchIdeal.Facts := Cert.BranchIdeal.Gen.facts
instance : Cert.BranchRefIdeal.Facts := Cert.BranchRefIdeal.Gen.facts

/-- The gradients of the branches and of the gates agree with the reference's. -/
theorem algebraic : Cert.algebraic_BranchIdeal_BranchRefIdeal := fun m g m' g' _ hm =>
  ⟨fun c => (dats m 0 c).arrAt 6 cfg0.N, fun c => (dats m 0 c).arrAt 7 cfg0.N, fun c => (dats m 0 c).arrAt 8 cfg0.N, fun c => (dats m 0 c).arrAt 9 cfg0.N,
    Cert.BranchIdeal.Value.run_blocks m g,
    (θ_run Cert.BranchRefIdeal.defs _ _).mono (fun r h c => ⟨(h c).1.trans (by
      rw [(hm c).1, (hm c).2.1, (hm c).2.2.2]; exact agree6 m c), (h c).2.1.trans (by
      rw [(hm c).1, (hm c).2.1, (hm c).2.2.1, (hm c).2.2.2]; exact agree7 m c), (h c).2.2.1.trans (by
      rw [(hm c).1, (hm c).2.1, (hm c).2.2.1, (hm c).2.2.2]; exact agree8 m c), (h c).2.2.2.1.trans (by
      rw [(hm c).1, (hm c).2.1, (hm c).2.2.1, (hm c).2.2.2]; exact agree9 m c), (h c).2.2.2.2⟩)
      (Cert.BranchRefIdeal.Value.run m' g')⟩

end Cert.Proof.Branch
-- ==== Proof.Product.lean ====
/- Products cut in four along the contracted coordinate: the arithmetic every weight or input gradient shares. -/
module

public import Idealize.ShloMosaic.PureOps.Ideal.Laws
public import Idealize.ShloMosaic.Lib.ValueIdx
public import Idealize.ShloMosaic.Lib.MatmulPlain

@[expose] public section

namespace Cert.Proof.Product

open Idealize.ShloMosaic Idealize.ShloMosaic.ValueIdx
open scoped BigOperators

/-- Dimension numbers that contract the first axis of both operands: `[K, M]ᵀ × [K, N]`. -/
def firstAxes (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

/-- Such a product at `(r, c)`: the accumulator plus the sum over the shared first coordinate. -/
theorem firstAxes_apply {K M N : ℕ} {φ₁ φ₂ : FTy} (prec : Option ContractPrecision)
    (x : FVec Ideal ⟨2, ![K, M]⟩ φ₁) (y : FVec Ideal ⟨2, ![K, N]⟩ φ₂) (acc : FVec Ideal ⟨2, ![M, N]⟩ .f32) (r : Fin M) (c : Fin N) :
    FloatOps.matmul (firstAxes K M N) prec x y acc (ix2 r c) = acc (ix2 r c) + ∑ k : Fin K, x (ix2 k r) * y (ix2 k c) := by
  rw [Ideal.matmul_apply, ← Equiv.sum_comp (contrEquiv1 (firstAxes K M N) K rfl rfl).symm]
  refine congrArg (acc (ix2 r c) + ·) (Finset.sum_congr rfl fun k _ => ?_)
  have hk := contrEquiv1_symm_val (firstAxes K M N) K rfl rfl k
  have el : (firstAxes K M N).lhsIdx (ix2 r c) ((contrEquiv1 (firstAxes K M N) K rfl rfl).symm k) = ix2 k r := by
    funext a; apply Fin.ext
    match a with
    | ⟨0, _⟩ => exact hk
    | ⟨1, _⟩ => rfl
  have er : (firstAxes K M N).rhsIdx (ix2 r c) ((contrEquiv1 (firstAxes K M N) K rfl rfl).symm k) = ix2 k c := by
    funext a; apply Fin.ext
    match a with
    | ⟨0, _⟩ => exact hk
    | ⟨1, _⟩ => rfl
  rw [el, er]

/-- What the shared coordinate `k` contributes to entry `(a, b)` of the product of two arrays along their first axes. -/
noncomputable def along {K M N : ℕ} (x : (⟨2, ![K, M]⟩ : Shape).Idx → EReal) (y : (⟨2, ![K, N]⟩ : Shape).Idx → EReal) (a b k : ℕ) : EReal :=
  if h : k < K ∧ a < M ∧ b < N then x (ix2 (⟨k, h.1⟩ : Fin K) (⟨a, h.2.1⟩ : Fin M)) * y (ix2 (⟨k, h.1⟩ : Fin K) (⟨b, h.2.2⟩ : Fin N)) else 0

/-- What the shared coordinate `k` contributes to entry `(a, b)` of the product of `x` with the transpose of a matrix whose
    columns lie in shards of `n`. -/
noncomputable def across {K M N n s : ℕ} (x : (⟨2, ![M, K]⟩ : Shape).Idx → EReal) (w : (⟨3, ![s, N, n]⟩ : Shape).Idx → EReal) (a b k : ℕ) : EReal :=
  if h : a < M ∧ k < K ∧ k / n < s ∧ b < N ∧ k % n < n then
    x (ix2 (⟨a, h.1⟩ : Fin M) (⟨k, h.2.1⟩ : Fin K)) * w (ix3 (⟨k / n, h.2.2.1⟩ : Fin s) (⟨b, h.2.2.2.1⟩ : Fin N) (⟨k % n, h.2.2.2.2⟩ : Fin n))
  else 0

/-- Four consecutive parts of a sum, added from the first to the last, are the whole sum. -/
theorem four_parts {n : ℕ} (b : ℕ) (hn : n = 4 * b) (f : ℕ → EReal) :
    (((∑ r : Fin b, f (b * 0 + r.val)) + ∑ r : Fin b, f (b * 1 + r.val)) + ∑ r : Fin b, f (b * 2 + r.val))
        + ∑ r : Fin b, f (b * 3 + r.val) = ∑ k : Fin n, f k.val := by
  subst hn
  rw [← Equiv.sum_comp (finProdFinEquiv (m := 4) (n := b)), Fintype.sum_prod_type, Fin.sum_univ_four]
  simp only [finProdFinEquiv_apply_val, Nat.add_comm, Fin.val_zero, Fin.val_one, Fin.val_two]
  rfl

end Cert.Proof.Product
-- ==== Proof.FfnInX.lean ====
/- The input gradient of the feed-forward input projection: what the blocked product leaves, with the residual's share added, is the whole one. -/
module

public import proofs.«01_k».proof.Defs
public import proofs.«01_k».proof.Proof.Product
public import proofs.«01_k».proof.Proof.Gen.FfnInXIdeal.Value
public import proofs.«01_k».proof.Proof.Gen.FfnInXRefIdeal.Run
public import proofs.«01_k».proof.Proof.Gen.FfnInXRefIdeal.Read
public import Idealize.ShloMosaic.Lib.ValueLayout
public import Idealize.ShloMosaic.Lib.IdealHost

@[expose] public section

noncomputable section

namespace Cert.Proof.FfnInX

open Cert.FfnInXIdeal Cert.FfnInXIdeal.Gen Cert.FfnInXIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 a7 h7 hc0 hc1 hc2 x w z) :
    sout0_A_0 (F := Ideal) c i a3 h3 a4 h4 a5 h5 a6 h6 a7 h7 hc0 hc1 hc2 x w z = k0_pay1 x w := by
  unfold sout0_A_0
  rw [View.read_writes_eq_canon _ _ _ (scover0_A_0 c i a3 h3 a4 h4 a5 h5 a6 h6 a7 h7 hc0 hc1 hc2 x w z)]
  unfold kernelRun0_A
  dsimp only
  sl_unfold_words
  rw [View.canon_cons_unit_zero hz2]
  unfold k0_pay2
  simp only [View.readAt_eq_ld, h3.read_unread, h4.read_unread, View.ld_unit_zero (S := S1024x1408) hz2,
    View.ld_unit_zero (S := S1x1024x1408) hz3, shapeCast_self]

/-- A middle point adds its product to the accumulator. -/
theorem middle (c i a3 h3 a4 h4 a5 h5 a6 h6 a7 h7 hc0 hc1 hc2 x w z s) :
    sout0_B_0 (F := Ideal) c i a3 h3 a4 h4 a5 h5 a6 h6 a7 h7 hc0 hc1 hc2 x w z s = addf s (k0_pay1 x w) := by
  unfold sout0_B_0
  rw [View.read_writes_eq_canon _ _ _ (scover0_B_0 c i a3 h3 a4 h4 a5 h5 a6 h6 a7 h7 hc0 hc1 hc2 x w z s)]
  unfold kernelRun0_B
  dsimp only
  sl_unfold_words
  rw [View.canon_cons_unit_zero hz2]
  unfold k0_pay3
  simp only [View.readAt_eq_ld, h3.read_unread, h4.read_unread, h7.read_unread, View.ld_unit_zero (S := S1024x1408) hz2,
    View.ld_unit_zero (S := S1x1024x1408) hz3, View.ld_unit_zero (S := S1024x1024) hz2, shapeCast_self]

/-- The last point writes the accumulator plus its own product plus the scaled residual. -/
theorem last (c i a3 h3 a4 h4 a5 h5 a6 h6 a7 h7 hc0 hc1 hc2 x w z s) :
    out0_C_3 (F := Ideal) c i a3 h3 a4 h4 a5 h5 a6 h6 a7 h7 hc0 hc1 hc2 x w z s = k0_pay4 x w s z := by
  unfold out0_C_3
  rw [View.read_writes_eq_canon _ _ _ (cover0_C_3 c i a3 h3 a4 h4 a5 h5 a6 h6 a7 h7 hc0 hc1 hc2 x w z s)]
  unfold kernelRun0_C
  dsimp only
  sl_unfold_words
  rw [View.canon_cons_unit_zero hz2]
  simp only [View.readAt_eq_ld, h3.read_unread, h4.read_unread, h5.read_unread, h7.read_unread, View.ld_unit_zero (S := S1024x1408) hz2,
    View.ld_unit_zero (S := S1x1024x1408) hz3, View.ld_unit_zero (S := S1024x1024) hz2]

/-- Which block of the cotangents a point reads. -/
theorem index0 : ∀ t : Fin cfg0.N, win0_0.index t (0 : Fin 2) = t.val / 4 ∧ win0_0.index t (1 : Fin 2) = t.val % 4 :=
  (by decide +kernel : ∀ t : Fin grid0.N, _)
/-- Which shard of the weights a point reads. -/
theorem index1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
/-- Which block of the residual a point reads. -/
theorem index2 : ∀ t : Fin cfg0.N, win0_2.index t (0 : Fin 2) = t.val / 4 ∧ win0_2.index t (1 : Fin 2) = 0 :=
  (by decide +kernel : ∀ t : Fin grid0.N, _)

/-- The cotangents. -/
abbrev cotangents (c : Dev nD) : S4096x5632.Idx → EReal := m ((c : Thread nD τ).loc main_arg0)
/-- The weights, in shards of their columns. -/
abbrev weights (c : Dev nD) : S4x1024x1408.Idx → EReal := m ((c : Thread nD τ).loc main_arg1)
/-- The gradient that reaches the input past the product. -/
abbrev residual (c : Dev nD) : S4096x1024.Idx → EReal := m ((c : Thread nD τ).loc main_arg2)

/-- A point's product at an entry: the sum over the point's columns. -/
theorem part (c : Dev nD) (t : Fin cfg0.N) (a : Fin 1024) (b : Fin 1024) :
    k0_pay1 (F := Ideal) (iblk m c 0 t) (iblk m c 1 t) (ix2 a b)
      = ∑ r : Fin 1408, Product.across (cotangents m c) (weights m c) (1024 * (t.val / 4) + a.val) b.val (1408 * (t.val % 4) + r.val) := by
  have hN : t.val < 16 := lt_of_lt_of_eq t.isLt (show cfg0.N = 16 from N_0)
  unfold k0_pay1
  show FloatOps.matmul (DotDims.transposedRhs 1024 1408 1024) none _ _ _ (ix2 a b) = _
  rw [Ideal.matmul_transposedRhs_apply, constant_apply, Ideal.ofBits_zero_f32, zero_add]
  refine Finset.sum_congr rfl fun r _ => ?_
  have hr := r.isLt; have ha := a.isLt; have hb := b.isLt
  have hd : (1408 * (t.val % 4) + r.val) / 1408 = t.val % 4 := by omega
  have hm : (1408 * (t.val % 4) + r.val) % 1408 = r.val := by omega
  unfold Product.across
  rw [dif_pos ⟨by omega, by omega, by omega, by omega, by omega⟩]
  obtain ⟨e0, e1⟩ := index0 t
  obtain ⟨f0, f1, f2⟩ := index1 t
  refine congrArg₂ (· * ·) ?_ ?_
  · show V m c main_arg0 (((cfg0.win 0).blk t).view.emb (ix2 a r)) = _
    rw [V_main_arg0]
    refine congrArg _ (funext fun x => Fin.ext ?_)
    match x with
    | ⟨0, _⟩ => show win0_0.index t (0 : Fin 2) * 1024 + 1 * a.val = 1024 * (t.val / 4) + a.val; omega
    | ⟨1, _⟩ => show win0_0.index t (1 : Fin 2) * 1408 + 1 * r.val = 1408 * (t.val % 4) + r.val; omega
  · rw [shapeCast_1ab_ab_apply]
    show V m c main_arg1 (((cfg0.win 1).blk t).view.emb (ix3 (0 : Fin 1) b r)) = _
    rw [V_main_arg1]
    refine congrArg _ (funext fun x => Fin.ext ?_)
    match x with
    | ⟨0, _⟩ => show win0_1.index t (0 : Fin 3) * 1 + 1 * 0 = (1408 * (t.val % 4) + r.val) / 1408; omega
    | ⟨1, _⟩ => show win0_1.index t (1 : Fin 3) * 1024 + 1 * b.val = b.val; omega
    | ⟨2, _⟩ => show win0_1.index t (2 : Fin 3) * 1408 + 1 * r.val = (1408 * (t.val % 4) + r.val) % 1408; omega

/-- The share of the residual, as the kernel's literal scales it. -/
def skip : EReal := Ideal.ofBits .f32 0x3FC854B1#32

/-- What the last of a block's four points writes, at an entry. -/
theorem block (c : Dev nD) (t : Fin cfg0.N) (h : t.val % 4 = 3) (a : Fin 1024) (b : Fin 1024) (h' : 1024 * (t.val / 4) + a.val < 4096) :
    (outsAt0 m c t.val t.isLt).1 (ix2 a b)
      = (∑ k : Fin 5632, Product.across (cotangents m c) (weights m c) (1024 * (t.val / 4) + a.val) b.val k.val)
        + skip * residual m c (ix2 (⟨1024 * (t.val / 4) + a.val, h'⟩ : Fin 4096) b) := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, addf_apply, mulf_apply, part, part, part, part]
  dsimp only
  rw [← Product.four_parts 1408 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]
  obtain ⟨e0, e1⟩ := index2 t
  refine congrArg₂ (· + ·) rfl (congrArg₂ (· * ·) rfl ?_)
  show V m c main_arg2 (((cfg0.win 2).blk t).view.emb (ix2 a b)) = _
  rw [V_main_arg2]
  refine congrArg _ (funext fun x => Fin.ext ?_)
  match x with
  | ⟨0, _⟩ => show win0_2.index t (0 : Fin 2) * 1024 + 1 * a.val = 1024 * (t.val / 4) + a.val; omega
  | ⟨1, _⟩ => show win0_2.index t (1 : Fin 2) * 1024 + 1 * b.val = b.val; omega

/-- The result array at an entry: the whole sum, and the residual's share. -/
theorem result (c : Dev nD) (a : Fin 4096) (b : Fin 1024) :
    (G3 m c : S4096x1024.Idx → EReal) (ix2 a b)
      = (∑ k : Fin 5632, Product.across (cotangents m c) (weights m c) a.val b.val k.val) + skip * residual m c (ix2 a b) := by
  have ha := a.isLt; have hb := b.isLt
  have hp : pt3Of (ix2 a b) = 4 * (a.val / 1024) + 3 := by
    show 4 * (1 * (a.val / 1024 - 0) + 1 * (b.val / 1024 - 0)) + 3 = _
    omega
  have hlt : pt3Of (ix2 a b) < cfg0.N := by rw [hp, show cfg0.N = 16 from N_0]; omega
  have hrow : 1024 * (pt3Of (ix2 a b) / 4) + a.val % 1024 = a.val := by rw [hp]; omega
  unfold G3
  rw [dif_pos hlt, ← outsAt0_sweep m c _ hlt]
  have hl : loc3Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt3Of (ix2 a b), hlt⟩ (by dsimp only; rw [hp]; omega) _ _ (lt_of_eq_of_lt hrow ha)]
  simp only [hrow]

open Cert.FfnInXRefIdeal.Read in
/-- The reference's result at an entry: the same sum. -/
theorem reference (c : Dev nD) (a : Fin 4096) (b : Fin 1024) :
    val_main_v11 (F := Ideal) (m ((c : Thread nD τ).loc main_arg0)) (m ((c : Thread nD τ).loc main_arg1)) (m ((c : Thread nD τ).loc main_arg2)) (ix2 a b)
      = (∑ k : Fin 5632, Product.across (cotangents m c) (weights m c) a.val b.val k.val) + skip * residual m c (ix2 a b) := by
  have ha := a.isLt; have hb := b.isLt
  rw [val_main_v11_apply, val_main_v10_apply, val_main_v8_apply]
  refine congrArg₂ (· + ·) ?_ rfl
  refine Finset.sum_congr rfl fun k _ => ?_
  have hk := k.isLt
  unfold Product.across
  rw [dif_pos ⟨by omega, by omega, by omega, by omega, by omega⟩, val_main_v7_apply, val_main_v2_apply, val_main_v1_apply, val_main_v0_apply]
  refine congrArg₂ (· * ·) ?_ ?_
  · refine congrArg (m ((c : Thread nD τ).loc main_arg0)) (funext fun x => Fin.ext ?_)
    match x with
    | ⟨0, _⟩ => rfl
    | ⟨1, _⟩ => rfl
  · refine congrArg (m ((c : Thread nD τ).loc main_arg1)) (funext fun x => Fin.ext ?_)
    match x with
    | ⟨0, _⟩ => show (b.val * 5632 + k.val) / 1408 % 4 = k.val / 1408; omega
    | ⟨1, _⟩ => show (b.val * 5632 + k.val) / 5632 = b.val; omega
    | ⟨2, _⟩ => show (b.val * 5632 + k.val) % 1408 = k.val % 1408; omega

instance : Cert.FfnInXIdeal.Facts := Cert.FfnInXIdeal.Gen.facts
instance : Cert.FfnInXRefIdeal.Facts := Cert.FfnInXRefIdeal.Gen.facts

/-- The input gradient of the feed-forward input projection agrees with the reference's. -/
theorem algebraic : Cert.algebraic_FfnInXIdeal_FfnInXRefIdeal := fun m g m' g' _ hm =>
  ⟨fun c => G3 m c, Cert.FfnInXIdeal.Value.run m g,
    (θ_run Cert.FfnInXRefIdeal.defs _ _).mono (fun r h c => ⟨(h c).1.trans (by
      rw [(hm c).1, (hm c).2.1, (hm c).2.2, Cert.FfnInXRefIdeal.Read.val_main_v11_eq]
      funext i
      rw [(eq_ix2 i : i = ix2 (i 0) (i 1))]
      exact (reference m c _ _).trans (result m c _ _).symm), (h c).2⟩)
      (Cert.FfnInXRefIdeal.Value.run m' g')⟩

end Cert.Proof.FfnInX
-- ==== Proof.FfnInW.lean ====
/- The weight gradient of the feed-forward input projection: what the blocked product leaves, entry by entry, is the whole product. -/
module

public import proofs.«01_k».proof.Defs
public import proofs.«01_k».proof.Proof.Product
public import proofs.«01_k».proof.Proof.Gen.FfnInWIdeal.Value
public import proofs.«01_k».proof.Proof.Gen.FfnInWRefIdeal.Run
public import proofs.«01_k».proof.Proof.Gen.FfnInWRefIdeal.Read
public import Idealize.ShloMosaic.Lib.ValueLayout
public import Idealize.ShloMosaic.Lib.IdealHost

@[expose] public section

noncomputable section

namespace Cert.Proof.FfnInW

open Cert.FfnInWIdeal Cert.FfnInWIdeal.Gen Cert.FfnInWIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1024) hz2,
    View.ld_unit_zero (S := S1024x1408) hz2, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1024) hz2,
    View.ld_unit_zero (S := S1024x1408) hz2, View.ld_unit_zero (S := S1024x1408) hz2, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz3]
  simp only [View.readAt_eq_ld, h3.read_unread, h4.read_unread, h6.read_unread, View.ld_unit_zero (S := S1024x1024) hz2,
    View.ld_unit_zero (S := S1024x1408) hz2, View.ld_unit_zero (S := S1024x1408) hz2]

/-- Which block of the first operand a point reads. -/
theorem index0 : ∀ t : Fin cfg0.N, win0_0.index t (0 : Fin 2) = t.val % 4 ∧ win0_0.index t (1 : Fin 2) = 0 :=
  (by decide +kernel : ∀ t : Fin grid0.N, _)
/-- Which block of the second operand a point reads. -/
theorem index1 : ∀ t : Fin cfg0.N, win0_1.index t (0 : Fin 2) = t.val % 4 ∧ win0_1.index t (1 : Fin 2) = t.val / 4 :=
  (by decide +kernel : ∀ t : Fin grid0.N, _)

/-- The first operand. -/
abbrev inputs (c : Dev nD) : S4096x1024.Idx → EReal := m ((c : Thread nD τ).loc main_arg0)
/-- The second operand. -/
abbrev cotangents (c : Dev nD) : S4096x5632.Idx → EReal := m ((c : Thread nD τ).loc main_arg1)

/-- A point's product at an entry: the sum over the point's tokens. -/
theorem part (c : Dev nD) (t : Fin cfg0.N) (a : Fin 1024) (b : Fin 1408) :
    k0_pay1 (F := Ideal) (iblk m c 0 t) (iblk m c 1 t) (ix2 a b)
      = ∑ r : Fin 1024, Product.along (inputs m c) (cotangents m c) a.val (1408 * (t.val / 4) + b.val) (1024 * (t.val % 4) + r.val) := by
  have hN : t.val < 16 := lt_of_lt_of_eq t.isLt (show cfg0.N = 16 from N_0)
  unfold k0_pay1
  show FloatOps.matmul (Product.firstAxes 1024 1024 1408) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1024 + 1 * a.val = a.val; omega
  · show V m c main_arg1 (((cfg0.win 1).blk t).view.emb (ix2 r b)) = _
    rw [V_main_arg1]
    refine congrArg _ (funext fun x => Fin.ext ?_)
    match x with
    | ⟨0, _⟩ => show win0_1.index t (0 : Fin 2) * 1024 + 1 * r.val = 1024 * (t.val % 4) + r.val; omega
    | ⟨1, _⟩ => show win0_1.index t (1 : Fin 2) * 1408 + 1 * b.val = 1408 * (t.val / 4) + b.val; omega

/-- What the last of a block's four points writes, at an entry: the sum over all tokens. -/
theorem block (c : Dev nD) (t : Fin cfg0.N) (h : t.val % 4 = 3) (a : Fin 1024) (b : Fin 1408) :
    (outsAt0 m c t.val t.isLt).1 (ix3 (0 : Fin 1) a b)
      = ∑ k : Fin 4096, Product.along (inputs m c) (cotangents m c) a.val (1408 * (t.val / 4) + b.val) k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [shapeCast_ab_1ab_apply, addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (s : Fin 4) (a : Fin 1024) (b : Fin 1408) :
    (G2 m c : S4x1024x1408.Idx → EReal) (ix3 s a b) = ∑ k : Fin 4096, Product.along (inputs m c) (cotangents m c) a.val (1408 * s.val + b.val) k.val := by
  have hs := s.isLt; have ha := a.isLt; have hb := b.isLt
  have hp : pt2Of (ix3 s a b) = 4 * s.val + 3 := by
    show 4 * (1 * (s.val / 1 - 0) + 1 * (a.val / 1024 - 0) + 1 * (b.val / 1408 - 0)) + 3 = _
    omega
  have hlt : pt2Of (ix3 s a b) < cfg0.N := by rw [hp, show cfg0.N = 16 from N_0]; omega
  unfold G2
  rw [dif_pos hlt, ← outsAt0_sweep m c _ hlt]
  have hl : loc2Of (ix3 s a b) = ix3 (0 : Fin 1) a b := funext fun x => Fin.ext (by
    match x with
    | ⟨0, _⟩ => show s.val % 1 = 0; omega
    | ⟨1, _⟩ => show a.val % 1024 = a.val; omega
    | ⟨2, _⟩ => show b.val % 1408 = b.val; omega)
  rw [hl, block m c ⟨pt2Of (ix3 s a b), hlt⟩ (by dsimp only; rw [hp]; omega)]
  dsimp only
  rw [hp, show (4 * s.val + 3) / 4 = s.val by omega]

open Cert.FfnInWRefIdeal.Read in
/-- The reference's result at an entry: the same sum. -/
theorem reference (c : Dev nD) (s : Fin 4) (a : Fin 1024) (b : Fin 1408) :
    val_main_v6 (F := Ideal) (m ((c : Thread nD τ).loc main_arg0)) (m ((c : Thread nD τ).loc main_arg1)) (ix3 s a b)
      = ∑ k : Fin 4096, Product.along (inputs m c) (cotangents m c) a.val (1408 * s.val + b.val) k.val := by
  have hs := s.isLt; have ha := a.isLt; have hb := b.isLt
  rw [val_main_v6_apply, val_main_v5_apply, val_main_v4_apply, val_main_v3_apply]
  refine Finset.sum_congr rfl fun k _ => ?_
  have hk := k.isLt
  unfold Product.along
  rw [dif_pos ⟨by omega, by omega, by omega⟩, val_main_v2_apply, mul_comm]
  refine congrArg₂ (· * ·) ?_ ?_
  · refine congrArg _ (funext fun x => Fin.ext ?_)
    match x with
    | ⟨0, _⟩ => rfl
    | ⟨1, _⟩ => show ((a.val * 4 + s.val) * 1408 + b.val) / 5632 = a.val; omega
  · refine congrArg (m ((c : Thread nD τ).loc main_arg1)) (funext fun x => Fin.ext ?_)
    match x with
    | ⟨0, _⟩ => rfl
    | ⟨1, _⟩ => show ((a.val * 4 + s.val) * 1408 + b.val) % 5632 = 1408 * s.val + b.val; omega

instance : Cert.FfnInWIdeal.Facts := Cert.FfnInWIdeal.Gen.facts
instance : Cert.FfnInWRefIdeal.Facts := Cert.FfnInWRefIdeal.Gen.facts

/-- The weight gradient of the feed-forward input projection agrees with the reference's. -/
theorem algebraic : Cert.algebraic_FfnInWIdeal_FfnInWRefIdeal := fun m g m' g' _ hm =>
  ⟨fun c => G2 m c, Cert.FfnInWIdeal.Value.run m g,
    (θ_run Cert.FfnInWRefIdeal.defs _ _).mono (fun r h c => ⟨(h c).1.trans (by
      rw [(hm c).1, (hm c).2, Cert.FfnInWRefIdeal.Read.val_main_v6_eq]
      funext i
      rw [(eq_ix3 i : i = ix3 (i 0) (i 1) (i 2))]
      exact (reference m c _ _ _).trans (result m c _ _ _).symm), (h c).2⟩)
      (Cert.FfnInWRefIdeal.Value.run m' g')⟩

end Cert.Proof.FfnInW
-- ==== Proof.ProjX.lean ====
/- The input gradient of the first projection: what the blocked product leaves, with the residual's share added, is the whole one. -/
module

public import proofs.«01_k».proof.Defs
public import proofs.«01_k».proof.Proof.Product
public import proofs.«01_k».proof.Proof.Gen.ProjXIdeal.Value
public import proofs.«01_k».proof.Proof.Gen.ProjXRefIdeal.Run
public import proofs.«01_k».proof.Proof.Gen.ProjXRefIdeal.Read
public import Idealize.ShloMosaic.Lib.ValueLayout
public import Idealize.ShloMosaic.Lib.IdealHost

@[expose] public section

noncomputable section

namespace Cert.Proof.ProjX

open Cert.ProjXIdeal Cert.ProjXIdeal.Gen Cert.ProjXIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 a7 h7 hc0 hc1 hc2 x w z) :
    sout0_A_0 (F := Ideal) c i a3 h3 a4 h4 a5 h5 a6 h6 a7 h7 hc0 hc1 hc2 x w z = k0_pay1 x w := by
  unfold sout0_A_0
  rw [View.read_writes_eq_canon _ _ _ (scover0_A_0 c i a3 h3 a4 h4 a5 h5 a6 h6 a7 h7 hc0 hc1 hc2 x w z)]
  unfold kernelRun0_A
  dsimp only
  sl_unfold_words
  rw [View.canon_cons_unit_zero hz2]
  unfold k0_pay2
  simp only [View.readAt_eq_ld, h3.read_unread, h4.read_unread, View.ld_unit_zero (S := S1024x2432) hz2,
    View.ld_unit_zero (S := S1x1024x2432) hz3, shapeCast_self]

/-- A middle point adds its product to the accumulator. -/
theorem middle (c i a3 h3 a4 h4 a5 h5 a6 h6 a7 h7 hc0 hc1 hc2 x w z s) :
    sout0_B_0 (F := Ideal) c i a3 h3 a4 h4 a5 h5 a6 h6 a7 h7 hc0 hc1 hc2 x w z s = addf s (k0_pay1 x w) := by
  unfold sout0_B_0
  rw [View.read_writes_eq_canon _ _ _ (scover0_B_0 c i a3 h3 a4 h4 a5 h5 a6 h6 a7 h7 hc0 hc1 hc2 x w z s)]
  unfold kernelRun0_B
  dsimp only
  sl_unfold_words
  rw [View.canon_cons_unit_zero hz2]
  unfold k0_pay3
  simp only [View.readAt_eq_ld, h3.read_unread, h4.read_unread, h7.read_unread, View.ld_unit_zero (S := S1024x2432) hz2,
    View.ld_unit_zero (S := S1x1024x2432) hz3, View.ld_unit_zero (S := S1024x1024) hz2, shapeCast_self]

/-- The last point writes the accumulator plus its own product plus the scaled residual. -/
theorem last (c i a3 h3 a4 h4 a5 h5 a6 h6 a7 h7 hc0 hc1 hc2 x w z s) :
    out0_C_3 (F := Ideal) c i a3 h3 a4 h4 a5 h5 a6 h6 a7 h7 hc0 hc1 hc2 x w z s = k0_pay4 x w s z := by
  unfold out0_C_3
  rw [View.read_writes_eq_canon _ _ _ (cover0_C_3 c i a3 h3 a4 h4 a5 h5 a6 h6 a7 h7 hc0 hc1 hc2 x w z s)]
  unfold kernelRun0_C
  dsimp only
  sl_unfold_words
  rw [View.canon_cons_unit_zero hz2]
  simp only [View.readAt_eq_ld, h3.read_unread, h4.read_unread, h5.read_unread, h7.read_unread, View.ld_unit_zero (S := S1024x2432) hz2,
    View.ld_unit_zero (S := S1x1024x2432) hz3, View.ld_unit_zero (S := S1024x1024) hz2]

/-- Which block of the cotangents a point reads. -/
theorem index0 : ∀ t : Fin cfg0.N, win0_0.index t (0 : Fin 2) = t.val / 4 ∧ win0_0.index t (1 : Fin 2) = t.val % 4 :=
  (by decide +kernel : ∀ t : Fin grid0.N, _)
/-- Which shard of the weights a point reads. -/
theorem index1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
/-- Which block of the residual a point reads. -/
theorem index2 : ∀ t : Fin cfg0.N, win0_2.index t (0 : Fin 2) = t.val / 4 ∧ win0_2.index t (1 : Fin 2) = 0 :=
  (by decide +kernel : ∀ t : Fin grid0.N, _)

/-- The cotangents. -/
abbrev cotangents (c : Dev nD) : S4096x9728.Idx → EReal := m ((c : Thread nD τ).loc main_arg0)
/-- The weights, in shards of their columns. -/
abbrev weights (c : Dev nD) : S4x1024x2432.Idx → EReal := m ((c : Thread nD τ).loc main_arg1)
/-- The gradient that reaches the input past the product. -/
abbrev residual (c : Dev nD) : S4096x1024.Idx → EReal := m ((c : Thread nD τ).loc main_arg2)

/-- A point's product at an entry: the sum over the point's columns. -/
theorem part (c : Dev nD) (t : Fin cfg0.N) (a : Fin 1024) (b : Fin 1024) :
    k0_pay1 (F := Ideal) (iblk m c 0 t) (iblk m c 1 t) (ix2 a b)
      = ∑ r : Fin 2432, Product.across (cotangents m c) (weights m c) (1024 * (t.val / 4) + a.val) b.val (2432 * (t.val % 4) + r.val) := by
  have hN : t.val < 16 := lt_of_lt_of_eq t.isLt (show cfg0.N = 16 from N_0)
  unfold k0_pay1
  show FloatOps.matmul (DotDims.transposedRhs 1024 2432 1024) none _ _ _ (ix2 a b) = _
  rw [Ideal.matmul_transposedRhs_apply, constant_apply, Ideal.ofBits_zero_f32, zero_add]
  refine Finset.sum_congr rfl fun r _ => ?_
  have hr := r.isLt; have ha := a.isLt; have hb := b.isLt
  have hd : (2432 * (t.val % 4) + r.val) / 2432 = t.val % 4 := by omega
  have hm : (2432 * (t.val % 4) + r.val) % 2432 = r.val := by omega
  unfold Product.across
  rw [dif_pos ⟨by omega, by omega, by omega, by omega, by omega⟩]
  obtain ⟨e0, e1⟩ := index0 t
  obtain ⟨f0, f1, f2⟩ := index1 t
  refine congrArg₂ (· * ·) ?_ ?_
  · show V m c main_arg0 (((cfg0.win 0).blk t).view.emb (ix2 a r)) = _
    rw [V_main_arg0]
    refine congrArg _ (funext fun x => Fin.ext ?_)
    match x with
    | ⟨0, _⟩ => show win0_0.index t (0 : Fin 2) * 1024 + 1 * a.val = 1024 * (t.val / 4) + a.val; omega
    | ⟨1, _⟩ => show win0_0.index t (1 : Fin 2) * 2432 + 1 * r.val = 2432 * (t.val % 4) + r.val; omega
  · rw [shapeCast_1ab_ab_apply]
    show V m c main_arg1 (((cfg0.win 1).blk t).view.emb (ix3 (0 : Fin 1) b r)) = _
    rw [V_main_arg1]
    refine congrArg _ (funext fun x => Fin.ext ?_)
    match x with
    | ⟨0, _⟩ => show win0_1.index t (0 : Fin 3) * 1 + 1 * 0 = (2432 * (t.val % 4) + r.val) / 2432; omega
    | ⟨1, _⟩ => show win0_1.index t (1 : Fin 3) * 1024 + 1 * b.val = b.val; omega
    | ⟨2, _⟩ => show win0_1.index t (2 : Fin 3) * 2432 + 1 * r.val = (2432 * (t.val % 4) + r.val) % 2432; omega

/-- The share of the residual, as the kernel's literal scales it. -/
def skip : EReal := Ideal.ofBits .f32 0x3FC854B1#32

/-- What the last of a block's four points writes, at an entry. -/
theorem block (c : Dev nD) (t : Fin cfg0.N) (h : t.val % 4 = 3) (a : Fin 1024) (b : Fin 1024) (h' : 1024 * (t.val / 4) + a.val < 4096) :
    (outsAt0 m c t.val t.isLt).1 (ix2 a b)
      = (∑ k : Fin 9728, Product.across (cotangents m c) (weights m c) (1024 * (t.val / 4) + a.val) b.val k.val)
        + skip * residual m c (ix2 (⟨1024 * (t.val / 4) + a.val, h'⟩ : Fin 4096) b) := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, addf_apply, mulf_apply, part, part, part, part]
  dsimp only
  rw [← Product.four_parts 2432 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]
  obtain ⟨e0, e1⟩ := index2 t
  refine congrArg₂ (· + ·) rfl (congrArg₂ (· * ·) rfl ?_)
  show V m c main_arg2 (((cfg0.win 2).blk t).view.emb (ix2 a b)) = _
  rw [V_main_arg2]
  refine congrArg _ (funext fun x => Fin.ext ?_)
  match x with
  | ⟨0, _⟩ => show win0_2.index t (0 : Fin 2) * 1024 + 1 * a.val = 1024 * (t.val / 4) + a.val; omega
  | ⟨1, _⟩ => show win0_2.index t (1 : Fin 2) * 1024 + 1 * b.val = b.val; omega

/-- The result array at an entry: the whole sum, and the residual's share. -/
theorem result (c : Dev nD) (a : Fin 4096) (b : Fin 1024) :
    (G3 m c : S4096x1024.Idx → EReal) (ix2 a b)
      = (∑ k : Fin 9728, Product.across (cotangents m c) (weights m c) a.val b.val k.val) + skip * residual m c (ix2 a b) := by
  have ha := a.isLt; have hb := b.isLt
  have hp : pt3Of (ix2 a b) = 4 * (a.val / 1024) + 3 := by
    show 4 * (1 * (a.val / 1024 - 0) + 1 * (b.val / 1024 - 0)) + 3 = _
    omega
  have hlt : pt3Of (ix2 a b) < cfg0.N := by rw [hp, show cfg0.N = 16 from N_0]; omega
  have hrow : 1024 * (pt3Of (ix2 a b) / 4) + a.val % 1024 = a.val := by rw [hp]; omega
  unfold G3
  rw [dif_pos hlt, ← outsAt0_sweep m c _ hlt]
  have hl : loc3Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt3Of (ix2 a b), hlt⟩ (by dsimp only; rw [hp]; omega) _ _ (lt_of_eq_of_lt hrow ha)]
  simp only [hrow]

open Cert.ProjXRefIdeal.Read in
/-- The reference's result at an entry: the same sum. -/
theorem reference (c : Dev nD) (a : Fin 4096) (b : Fin 1024) :
    val_main_v11 (F := Ideal) (m ((c : Thread nD τ).loc main_arg0)) (m ((c : Thread nD τ).loc main_arg1)) (m ((c : Thread nD τ).loc main_arg2)) (ix2 a b)
      = (∑ k : Fin 9728, Product.across (cotangents m c) (weights m c) a.val b.val k.val) + skip * residual m c (ix2 a b) := by
  have ha := a.isLt; have hb := b.isLt
  rw [val_main_v11_apply, val_main_v10_apply, val_main_v8_apply]
  refine congrArg₂ (· + ·) ?_ rfl
  refine Finset.sum_congr rfl fun k _ => ?_
  have hk := k.isLt
  unfold Product.across
  rw [dif_pos ⟨by omega, by omega, by omega, by omega, by omega⟩, val_main_v7_apply, val_main_v2_apply, val_main_v1_apply, val_main_v0_apply]
  refine congrArg₂ (· * ·) ?_ ?_
  · refine congrArg (m ((c : Thread nD τ).loc main_arg0)) (funext fun x => Fin.ext ?_)
    match x with
    | ⟨0, _⟩ => rfl
    | ⟨1, _⟩ => rfl
  · refine congrArg (m ((c : Thread nD τ).loc main_arg1)) (funext fun x => Fin.ext ?_)
    match x with
    | ⟨0, _⟩ => show (b.val * 9728 + k.val) / 2432 % 4 = k.val / 2432; omega
    | ⟨1, _⟩ => show (b.val * 9728 + k.val) / 9728 = b.val; omega
    | ⟨2, _⟩ => show (b.val * 9728 + k.val) % 2432 = k.val % 2432; omega

instance : Cert.ProjXIdeal.Facts := Cert.ProjXIdeal.Gen.facts
instance : Cert.ProjXRefIdeal.Facts := Cert.ProjXRefIdeal.Gen.facts

/-- The input gradient of the first projection agrees with the reference's. -/
theorem algebraic : Cert.algebraic_ProjXIdeal_ProjXRefIdeal := fun m g m' g' _ hm =>
  ⟨fun c => G3 m c, Cert.ProjXIdeal.Value.run m g,
    (θ_run Cert.ProjXRefIdeal.defs _ _).mono (fun r h c => ⟨(h c).1.trans (by
      rw [(hm c).1, (hm c).2.1, (hm c).2.2, Cert.ProjXRefIdeal.Read.val_main_v11_eq]
      funext i
      rw [(eq_ix2 i : i = ix2 (i 0) (i 1))]
      exact (reference m c _ _).trans (result m c _ _).symm), (h c).2⟩)
      (Cert.ProjXRefIdeal.Value.run m' g')⟩

end Cert.Proof.ProjX
-- ==== Proof.ProjW.lean ====
/- The weight gradient of the first projection: what the blocked product leaves, entry by entry, is the whole product. -/
module

public import proofs.«01_k».proof.Defs
public import proofs.«01_k».proof.Proof.Product
public import proofs.«01_k».proof.Proof.Gen.ProjWIdeal.Value
public import proofs.«01_k».proof.Proof.Gen.ProjWRefIdeal.Run
public import proofs.«01_k».proof.Proof.Gen.ProjWRefIdeal.Read
public import Idealize.ShloMosaic.Lib.ValueLayout
public import Idealize.ShloMosaic.Lib.IdealHost

@[expose] public section

noncomputable section

namespace Cert.Proof.ProjW

open Cert.ProjWIdeal Cert.ProjWIdeal.Gen Cert.ProjWIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x512) hz2,
    View.ld_unit_zero (S := S1024x2432) hz2, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x512) hz2,
    View.ld_unit_zero (S := S1024x2432) hz2, View.ld_unit_zero (S := S512x2432) hz2, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz3]
  simp only [View.readAt_eq_ld, h3.read_unread, h4.read_unread, h6.read_unread, View.ld_unit_zero (S := S1024x512) hz2,
    View.ld_unit_zero (S := S1024x2432) hz2, View.ld_unit_zero (S := S512x2432) hz2]

/-- Which block of the first operand a point reads. -/
theorem index0 : ∀ t : Fin cfg0.N, win0_0.index t (0 : Fin 2) = t.val % 4 ∧ win0_0.index t (1 : Fin 2) = t.val / 16 :=
  (by decide +kernel : ∀ t : Fin grid0.N, _)
/-- Which block of the second operand a point reads. -/
theorem index1 : ∀ t : Fin cfg0.N, win0_1.index t (0 : Fin 2) = t.val % 4 ∧ win0_1.index t (1 : Fin 2) = t.val / 4 % 4 :=
  (by decide +kernel : ∀ t : Fin grid0.N, _)

/-- The first operand. -/
abbrev inputs (c : Dev nD) : S4096x1024.Idx → EReal := m ((c : Thread nD τ).loc main_arg0)
/-- The second operand. -/
abbrev cotangents (c : Dev nD) : S4096x9728.Idx → EReal := m ((c : Thread nD τ).loc main_arg1)

/-- A point's product at an entry: the sum over the point's tokens. -/
theorem part (c : Dev nD) (t : Fin cfg0.N) (a : Fin 512) (b : Fin 2432) :
    k0_pay1 (F := Ideal) (iblk m c 0 t) (iblk m c 1 t) (ix2 a b)
      = ∑ r : Fin 1024, Product.along (inputs m c) (cotangents m c) (512 * (t.val / 16) + a.val) (2432 * (t.val / 4 % 4) + b.val) (1024 * (t.val % 4) + r.val) := by
  have hN : t.val < 32 := lt_of_lt_of_eq t.isLt (show cfg0.N = 32 from N_0)
  unfold k0_pay1
  show FloatOps.matmul (Product.firstAxes 1024 512 2432) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 512 + 1 * a.val = 512 * (t.val / 16) + a.val; omega
  · show V m c main_arg1 (((cfg0.win 1).blk t).view.emb (ix2 r b)) = _
    rw [V_main_arg1]
    refine congrArg _ (funext fun x => Fin.ext ?_)
    match x with
    | ⟨0, _⟩ => show win0_1.index t (0 : Fin 2) * 1024 + 1 * r.val = 1024 * (t.val % 4) + r.val; omega
    | ⟨1, _⟩ => show win0_1.index t (1 : Fin 2) * 2432 + 1 * b.val = 2432 * (t.val / 4 % 4) + b.val; omega

/-- What the last of a block's four points writes, at an entry: the sum over all tokens. -/
theorem block (c : Dev nD) (t : Fin cfg0.N) (h : t.val % 4 = 3) (a : Fin 512) (b : Fin 2432) :
    (outsAt0 m c t.val t.isLt).1 (ix3 (0 : Fin 1) a b)
      = ∑ k : Fin 4096, Product.along (inputs m c) (cotangents m c) (512 * (t.val / 16) + a.val) (2432 * (t.val / 4 % 4) + b.val) k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [shapeCast_ab_1ab_apply, addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega,
    show (t.val - 1 - 1 - 1) / 16 = t.val / 16 by omega, show (t.val - 1 - 1) / 16 = t.val / 16 by omega, show (t.val - 1) / 16 = t.val / 16 by omega]

/-- The result array at an entry: the sum over all tokens. -/
theorem result (c : Dev nD) (s : Fin 4) (a : Fin 1024) (b : Fin 2432) :
    (G2 m c : S4x1024x2432.Idx → EReal) (ix3 s a b) = ∑ k : Fin 4096, Product.along (inputs m c) (cotangents m c) a.val (2432 * s.val + b.val) k.val := by
  have hs := s.isLt; have ha := a.isLt; have hb := b.isLt
  have hp : pt2Of (ix3 s a b) = 4 * (s.val + 4 * (a.val / 512)) + 3 := by
    show 4 * (1 * (s.val / 1 - 0) + 4 * (a.val / 512 - 0) + 8 * (b.val / 2432 - 0)) + 3 = _
    omega
  have hlt : pt2Of (ix3 s a b) < cfg0.N := by rw [hp, show cfg0.N = 32 from N_0]; omega
  unfold G2
  rw [dif_pos hlt, ← outsAt0_sweep m c _ hlt]
  have hl : loc2Of (ix3 s a b) = ix3 (0 : Fin 1) (⟨a.val % 512, by omega⟩ : Fin 512) b := funext fun x => Fin.ext (by
    match x with
    | ⟨0, _⟩ => show s.val % 1 = 0; omega
    | ⟨1, _⟩ => rfl
    | ⟨2, _⟩ => show b.val % 2432 = b.val; omega)
  rw [hl, block m c ⟨pt2Of (ix3 s a b), hlt⟩ (by dsimp only; rw [hp]; omega)]
  dsimp only
  rw [hp, show (4 * (s.val + 4 * (a.val / 512)) + 3) / 4 % 4 = s.val by omega,
    show 512 * ((4 * (s.val + 4 * (a.val / 512)) + 3) / 16) + a.val % 512 = a.val by omega]

open Cert.ProjWRefIdeal.Read in
/-- The reference's result at an entry: the same sum. -/
theorem reference (c : Dev nD) (s : Fin 4) (a : Fin 1024) (b : Fin 2432) :
    val_main_v6 (F := Ideal) (m ((c : Thread nD τ).loc main_arg0)) (m ((c : Thread nD τ).loc main_arg1)) (ix3 s a b)
      = ∑ k : Fin 4096, Product.along (inputs m c) (cotangents m c) a.val (2432 * s.val + b.val) k.val := by
  have hs := s.isLt; have ha := a.isLt; have hb := b.isLt
  rw [val_main_v6_apply, val_main_v5_apply, val_main_v4_apply, val_main_v3_apply]
  refine Finset.sum_congr rfl fun k _ => ?_
  have hk := k.isLt
  unfold Product.along
  rw [dif_pos ⟨by omega, by omega, by omega⟩, val_main_v2_apply, mul_comm]
  refine congrArg₂ (· * ·) ?_ ?_
  · refine congrArg _ (funext fun x => Fin.ext ?_)
    match x with
    | ⟨0, _⟩ => rfl
    | ⟨1, _⟩ => show ((a.val * 4 + s.val) * 2432 + b.val) / 9728 = a.val; omega
  · refine congrArg (m ((c : Thread nD τ).loc main_arg1)) (funext fun x => Fin.ext ?_)
    match x with
    | ⟨0, _⟩ => rfl
    | ⟨1, _⟩ => show ((a.val * 4 + s.val) * 2432 + b.val) % 9728 = 2432 * s.val + b.val; omega

instance : Cert.ProjWIdeal.Facts := Cert.ProjWIdeal.Gen.facts
instance : Cert.ProjWRefIdeal.Facts := Cert.ProjWRefIdeal.Gen.facts

/-- The weight gradient of the first projection agrees with the reference's. -/
theorem algebraic : Cert.algebraic_ProjWIdeal_ProjWRefIdeal := fun m g m' g' _ hm =>
  ⟨fun c => G2 m c, Cert.ProjWIdeal.Value.run m g,
    (θ_run Cert.ProjWRefIdeal.defs _ _).mono (fun r h c => ⟨(h c).1.trans (by
      rw [(hm c).1, (hm c).2, Cert.ProjWRefIdeal.Read.val_main_v6_eq]
      funext i
      rw [(eq_ix3 i : i = ix3 (i 0) (i 1) (i 2))]
      exact (reference m c _ _ _).trans (result m c _ _ _).symm), (h c).2⟩)
      (Cert.ProjWRefIdeal.Value.run m' g')⟩

end Cert.Proof.ProjW
-- ==== Proof.FfnOutW.lean ====
/- The weight gradient of the feed-forward output projection: what the blocked product leaves, entry by entry, is the whole product. -/
module

public import proofs.«01_k».proof.Defs
public import proofs.«01_k».proof.Proof.Product
public import proofs.«01_k».proof.Proof.Gen.FfnOutWIdeal.Value
public import proofs.«01_k».proof.Proof.Gen.FfnOutWRefIdeal.Run
public import proofs.«01_k».proof.Proof.Gen.FfnOutWRefIdeal.Read
public import Idealize.ShloMosaic.Lib.ValueLayout
public import Idealize.ShloMosaic.Lib.IdealHost

@[expose] public section

noncomputable section

namespace Cert.Proof.FfnOutW

open Cert.FfnOutWIdeal Cert.FfnOutWIdeal.Gen Cert.FfnOutWIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1408) hz2,
    View.ld_unit_zero (S := S1024x1024) hz2, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1408) hz2,
    View.ld_unit_zero (S := S1024x1024) hz2, View.ld_unit_zero (S := S1408x1024) hz2, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz2]
  simp only [View.readAt_eq_ld, h3.read_unread, h4.read_unread, h6.read_unread, View.ld_unit_zero (S := S1024x1408) hz2,
    View.ld_unit_zero (S := S1024x1024) hz2, View.ld_unit_zero (S := S1408x1024) hz2]

/-- Which block of the first operand a point reads. -/
theorem index0 : ∀ t : Fin cfg0.N, win0_0.index t (0 : Fin 2) = t.val % 4 ∧ win0_0.index t (1 : Fin 2) = t.val / 4 :=
  (by decide +kernel : ∀ t : Fin grid0.N, _)
/-- Which block of the second operand a point reads. -/
theorem index1 : ∀ t : Fin cfg0.N, win0_1.index t (0 : Fin 2) = t.val % 4 ∧ win0_1.index t (1 : Fin 2) = 0 :=
  (by decide +kernel : ∀ t : Fin grid0.N, _)

/-- The first operand. -/
abbrev inputs (c : Dev nD) : S4096x2816.Idx → EReal := m ((c : Thread nD τ).loc main_arg0)
/-- The second operand. -/
abbrev cotangents (c : Dev nD) : S4096x1024.Idx → EReal := m ((c : Thread nD τ).loc main_arg1)

/-- A point's product at an entry: the sum over the point's tokens. -/
theorem part (c : Dev nD) (t : Fin cfg0.N) (a : Fin 1408) (b : Fin 1024) :
    k0_pay1 (F := Ideal) (iblk m c 0 t) (iblk m c 1 t) (ix2 a b)
      = ∑ r : Fin 1024, Product.along (inputs m c) (cotangents m c) (1408 * (t.val / 4) + a.val) b.val (1024 * (t.val % 4) + r.val) := by
  have hN : t.val < 8 := lt_of_lt_of_eq t.isLt (show cfg0.N = 8 from N_0)
  unfold k0_pay1
  show FloatOps.matmul (Product.firstAxes 1024 1408 1024) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1408 + 1 * a.val = 1408 * (t.val / 4) + a.val; omega
  · show V m c main_arg1 (((cfg0.win 1).blk t).view.emb (ix2 r b)) = _
    rw [V_main_arg1]
    refine congrArg _ (funext fun x => Fin.ext ?_)
    match x with
    | ⟨0, _⟩ => show win0_1.index t (0 : Fin 2) * 1024 + 1 * r.val = 1024 * (t.val % 4) + r.val; omega
    | ⟨1, _⟩ => show win0_1.index t (1 : Fin 2) * 1024 + 1 * b.val = b.val; omega

/-- What the last of a block's four points writes, at an entry: the sum over all tokens. -/
theorem block (c : Dev nD) (t : Fin cfg0.N) (h : t.val % 4 = 3) (a : Fin 1408) (b : Fin 1024) :
    (outsAt0 m c t.val t.isLt).1 (ix2 a b)
      = ∑ k : Fin 4096, Product.along (inputs m c) (cotangents m c) (1408 * (t.val / 4) + a.val) b.val k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (a : Fin 2816) (b : Fin 1024) :
    (G2 m c : S2816x1024.Idx → EReal) (ix2 a b) = ∑ k : Fin 4096, Product.along (inputs m c) (cotangents m c) a.val b.val k.val := by
  have ha := a.isLt; have hb := b.isLt
  have hp : pt2Of (ix2 a b) = 4 * (a.val / 1408) + 3 := by
    show 4 * (1 * (a.val / 1408 - 0) + 1 * (b.val / 1024 - 0)) + 3 = _
    omega
  have hlt : pt2Of (ix2 a b) < cfg0.N := by rw [hp, show cfg0.N = 8 from N_0]; omega
  unfold G2
  rw [dif_pos hlt, ← outsAt0_sweep m c _ hlt]
  have hl : loc2Of (ix2 a b) = ix2 (⟨a.val % 1408, by omega⟩ : Fin 1408) b := funext fun x => Fin.ext (by
    match x with
    | ⟨0, _⟩ => rfl
    | ⟨1, _⟩ => show b.val % 1024 = b.val; omega)
  rw [hl, block m c ⟨pt2Of (ix2 a b), hlt⟩ (by dsimp only; rw [hp]; omega)]
  dsimp only
  rw [hp, show 1408 * ((4 * (a.val / 1408) + 3) / 4) + a.val % 1408 = a.val by omega]

open Cert.FfnOutWRefIdeal.Read in
/-- The reference's result at an entry: the same sum. -/
theorem reference (c : Dev nD) (a : Fin 2816) (b : Fin 1024) :
    val_main_v4 (F := Ideal) (m ((c : Thread nD τ).loc main_arg0)) (m ((c : Thread nD τ).loc main_arg1)) (ix2 a b)
      = ∑ k : Fin 4096, Product.along (inputs m c) (cotangents m c) a.val b.val k.val := by
  have ha := a.isLt; have hb := b.isLt
  rw [val_main_v4_apply, val_main_v3_apply]
  refine Finset.sum_congr rfl fun k _ => ?_
  have hk := k.isLt
  unfold Product.along
  rw [dif_pos ⟨by omega, by omega, by omega⟩, val_main_v1_apply, mul_comm]
  refine congrArg₂ (· * ·) ?_ ?_
  · refine congrArg (m ((c : Thread nD τ).loc main_arg0)) (funext fun x => Fin.ext ?_)
    match x with
    | ⟨0, _⟩ => rfl
    | ⟨1, _⟩ => rfl
  · refine congrArg (m ((c : Thread nD τ).loc main_arg1)) (funext fun x => Fin.ext ?_)
    match x with
    | ⟨0, _⟩ => rfl
    | ⟨1, _⟩ => rfl

instance : Cert.FfnOutWIdeal.Facts := Cert.FfnOutWIdeal.Gen.facts
instance : Cert.FfnOutWRefIdeal.Facts := Cert.FfnOutWRefIdeal.Gen.facts

/-- The weight gradient of the feed-forward output projection agrees with the reference's. -/
theorem algebraic : Cert.algebraic_FfnOutWIdeal_FfnOutWRefIdeal := fun m g m' g' _ hm =>
  ⟨fun c => G2 m c, Cert.FfnOutWIdeal.Value.run m g,
    (θ_run Cert.FfnOutWRefIdeal.defs _ _).mono (fun r h c => ⟨(h c).1.trans (by
      rw [(hm c).1, (hm c).2, Cert.FfnOutWRefIdeal.Read.val_main_v4_eq]
      funext i
      rw [(eq_ix2 i : i = ix2 (i 0) (i 1))]
      exact (reference m c _ _).trans (result m c _ _).symm), (h c).2⟩)
      (Cert.FfnOutWRefIdeal.Value.run m' g')⟩

end Cert.Proof.FfnOutW
-- ==== Proof.Proj.lean ====
/- The forward product of the mixers' inputs: each block of columns is one shard of the weight. -/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.ValueLayout
public import Idealize.ShloMosaic.Lib.MatmulPlain
public import Idealize.ShloMosaic.Lib.IdealHost

@[expose] public section

noncomputable section

namespace Cert.Proof.Proj

open Cert.ProjIdeal Cert.ProjIdeal.Gen Cert.ProjIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- A stored block is the product of the row block and the shard. -/
theorem stored (x0 : Vec Ideal S512x1024 .f32) (x1 : Vec Ideal S1x1024x2432 .bf16) (a : Fin 512) (b : Fin 2432) :
    k0_pay1 (F := Ideal) x0 x1 (ix2 a b) = ∑ k : Fin 1024, (x0 (ix2 a k) : EReal) * x1 (ix3 (0 : Fin 1) k b) := by
  unfold k0_pay1
  show FloatOps.matmul (DotDims.plain 512 1024 2432) none _ _ _ (ix2 a b) = _
  rw [Ideal.matmul_plain_apply, constant_apply, Ideal.ofBits_zero_f32, zero_add]
  exact Finset.sum_congr rfl fun k _ => congrArg₂ (· * ·) rfl (shapeCast_1ab_ab_apply x1 _ k b)

/-- What a point leaves in its block. -/
theorem block (x0 : Vec Ideal S512x1024 .f32) (x1 : Vec Ideal S1x1024x2432 .bf16) (a : Fin 512) (b : Fin 2432) :
    out0_2 (F := Ideal) x0 x1 (ix2 a b) = ∑ k : Fin 1024, (x0 (ix2 a k) : EReal) * x1 (ix3 (0 : Fin 1) k b) := by
  unfold out0_2
  simp only [View.ld_unit_zero (S := S512x1024) hz2, View.ld_unit_zero (S := S1x1024x2432) hz3]
  exact (congrFun (View.canon_cons_unit_zero (Val := Elt Ideal) (S := S512x2432) hz2 _ _ []) (ix2 a b)).trans (stored x0 x1 a b)

/-- The layer's input. -/
abbrev inputs (c : Dev nD) : S4096x1024.Idx → EReal := m ((c : Thread nD τ).loc main_arg0)
/-- The weight, in four shards of columns. -/
abbrev weights (c : Dev nD) : S4x1024x2432.Idx → EReal := m ((c : Thread nD τ).loc main_arg1)

/-- The product at an entry. -/
def entry (c : Dev nD) (a : Fin 4096) (b : Fin 9728) : EReal :=
  ∑ k : Fin 1024, inputs m c (ix2 a k) * weights m c (ix3 (⟨b.val / 2432, by have := b.isLt; omega⟩ : Fin 4) k (⟨b.val % 2432, by omega⟩ : Fin 2432))

/-- Which blocks a point reads and writes. -/
theorem index0 : ∀ t : Fin cfg0.N, win0_0.index t (0 : Fin 2) = t.val % 8 ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val % 8 ∧ win0_2.index t (1 : Fin 2) = t.val / 8 :=
  (by decide +kernel : ∀ t : Fin grid0.N, _)
theorem flush2 : ∀ t : Fin cfg0.N, (cfg0.win 2).flush t = true := (by decide +kernel : ∀ t : Fin grid0.N, win0_2.flush t = true)

set_option maxRecDepth 16384 in
/-- The result, as the kernel leaves it. -/
theorem result (c : Dev nD) (r : Fin 4096) (s : Fin 9728) :
    ((dats m 0 c).arrAt 2 cfg0.N : S4096x9728.Idx → EReal) (ix2 r s) = entry m c r s := by
  have hr := r.isLt
  have hs := s.isLt
  obtain ⟨t, ht⟩ : ∃ t : Fin cfg0.N, t.val = 8 * (s.val / 2432) + r.val / 512 :=
    ⟨⟨8 * (s.val / 2432) + r.val / 512, by rw [show cfg0.N = 32 from N_0]; omega⟩, rfl⟩
  obtain ⟨a, ha⟩ : ∃ a : Fin 512, a.val = r.val % 512 := ⟨⟨r.val % 512, by omega⟩, rfl⟩
  obtain ⟨b, hb⟩ : ∃ b : Fin 2432, b.val = s.val % 2432 := ⟨⟨s.val % 2432, by omega⟩, rfl⟩
  have h := congrFun ((blocks2 m c t (flush2 t)).trans (flushed2 m c t)) (ix2 a b)
  obtain ⟨e0, e1⟩ := index0 t
  obtain ⟨f0, f1, f2⟩ := index1 t
  obtain ⟨g0, g1⟩ := index2 t
  refine Eq.trans (congrArg ((dats m 0 c).arrAt 2 cfg0.N) ?_) (h.trans ((block (iblk m c 0 t) (iblk m c 1 t) a b).trans ?_))
  · refine funext fun x => Fin.ext ?_
    match x with
    | ⟨0, _⟩ => show r.val = win0_2.index t (0 : Fin 2) * 512 + 1 * a.val; omega
    | ⟨1, _⟩ => show s.val = win0_2.index t (1 : Fin 2) * 2432 + 1 * b.val; omega
  refine Finset.sum_congr rfl fun k _ => congrArg₂ (· * ·) ?_ ?_
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 1024 + 1 * k.val = k.val; omega
  · show V m c main_arg1 (((cfg0.win 1).blk t).view.emb (ix3 (0 : Fin 1) k b)) = _
    rw [V_main_arg1]
    refine congrArg _ (funext fun x => Fin.ext ?_)
    match x with
    | ⟨0, _⟩ => show win0_1.index t (0 : Fin 3) * 1 + 1 * 0 = s.val / 2432; omega
    | ⟨1, _⟩ => show win0_1.index t (1 : Fin 3) * 1024 + 1 * k.val = k.val; omega
    | ⟨2, _⟩ => show win0_1.index t (2 : Fin 3) * 2432 + 1 * b.val = s.val % 2432; omega

open Cert.ProjRefIdeal.Read in
/-- The reference's product at an entry. -/
theorem reference (c : Dev nD) (a : Fin 4096) (b : Fin 9728) :
    val_main_v3 (F := Ideal) (m ((c : Thread nD τ).loc main_arg0)) (m ((c : Thread nD τ).loc main_arg1)) (ix2 a b) = entry m c a b := by
  have hb := b.isLt
  rw [val_main_v3_apply]
  refine Finset.sum_congr rfl fun k _ => ?_
  have hk := k.isLt
  rw [val_main_v2_apply, val_main_v1_apply, val_main_v0_apply]
  refine congrArg₂ (· * ·) (congrArg (m ((c : Thread nD τ).loc main_arg0)) (funext fun x => Fin.ext ?_))
    (congrArg (m ((c : Thread nD τ).loc main_arg1)) (funext fun x => Fin.ext ?_))
  · match x with
    | ⟨0, _⟩ => rfl
    | ⟨1, _⟩ => rfl
  · match x with
    | ⟨0, _⟩ => show (k.val * 9728 + b.val) / 2432 % 4 = b.val / 2432; omega
    | ⟨1, _⟩ => show (k.val * 9728 + b.val) / 9728 = k.val; omega
    | ⟨2, _⟩ => show (k.val * 9728 + b.val) % 2432 = b.val % 2432; omega

instance : Cert.ProjIdeal.Facts := Cert.ProjIdeal.Gen.facts
instance : Cert.ProjRefIdeal.Facts := Cert.ProjRefIdeal.Gen.facts

/-- The forward product agrees with the reference's. -/
theorem algebraic : Cert.algebraic_ProjIdeal_ProjRefIdeal := fun m g m' g' _ hm =>
  ⟨fun c => (dats m 0 c).arrAt 2 cfg0.N, Cert.ProjIdeal.Value.run_blocks m g,
    (θ_run Cert.ProjRefIdeal.defs _ _).mono (fun r h c => ⟨(h c).1.trans (by
      rw [(hm c).1, (hm c).2, Cert.ProjRefIdeal.Read.val_main_v3_eq]
      funext i
      rw [(eq_ix2 i : i = ix2 (i 0) (i 1))]
      exact (reference m c _ _).trans (result m c _ _).symm), (h c).2⟩)
      (Cert.ProjRefIdeal.Value.run m' g')⟩

end Cert.Proof.Proj
-- ==== Proof.FfnIn.lean ====
/- The feed-forward layer's first product and its gate: each block of columns is one shard of the weight's first half and one of its second. -/
module

public import proofs.«01_k».proof.Defs
public import proofs.«01_k».proof.Proof.Gate
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.ValueLayout
public import Idealize.ShloMosaic.Lib.MatmulPlain
public import Idealize.ShloMosaic.Lib.IdealHost

@[expose] public section

noncomputable section

namespace Cert.Proof.FfnIn

open Cert.Proof.Gate Cert.FfnInIdeal Cert.FfnInIdeal.Gen Cert.FfnInIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

variable (x0 : Vec Ideal S512x1024 .f32) (x1 x2 : Vec Ideal S1x1024x1408 .bf16)

/-- The product of a row block and a shard. -/
def product (x1 : Vec Ideal S1x1024x1408 .bf16) (a : Fin 512) (b : Fin 1408) : EReal :=
  ∑ k : Fin 1024, (x0 (ix2 a k) : EReal) * x1 (ix3 (0 : Fin 1) k b)

/-- The gated value. -/
def gated (h1 h3 : EReal) : EReal := h1 * gate h1 * h3

theorem first (a : Fin 512) (b : Fin 1408) : k0_pay2 (F := Ideal) x0 x1 (ix2 a b) = product x0 x1 a b := by
  unfold k0_pay2
  show FloatOps.matmul (DotDims.plain 512 1024 1408) none _ _ _ (ix2 a b) = _
  rw [Ideal.matmul_plain_apply, constant_apply, Ideal.ofBits_zero_f32, zero_add]
  exact Finset.sum_congr rfl fun k _ => congrArg₂ (· * ·) rfl (shapeCast_1ab_ab_apply x1 _ k b)

theorem second (a : Fin 512) (b : Fin 1408) : k0_pay3 (F := Ideal) x0 x2 (ix2 a b) = product x0 x2 a b := first x0 x2 a b

theorem third (a : Fin 512) (b : Fin 1408) : k0_pay4 (F := Ideal) x0 x1 x2 (ix2 a b) = gated (product x0 x1 a b) (product x0 x2 a b) := by
  rw [← first, ← second]
  show k0_pay2 x0 x1 (ix2 a b) * Ideal.div (Ideal.ofBits .f32 0x3F800000#32)
    (Ideal.ofBits .f32 0x3F800000#32 + Ideal.exp (Ideal.ofBits .f32 0x00000000#32 - k0_pay2 x0 x1 (ix2 a b))) * k0_pay3 x0 x2 (ix2 a b) = _
  rw [gate_spelt]
  rfl

theorem block3 (a : Fin 512) (b : Fin 1408) : out0_3 (F := Ideal) x0 x1 x2 (ix2 a b) = product x0 x1 a b := by
  unfold out0_3
  simp only [View.ld_unit_zero (S := S512x1024) hz2, View.ld_unit_zero (S := S1x1024x1408) hz3]
  exact (congrFun (View.canon_cons_unit_zero (Val := Elt Ideal) (S := S512x1408) hz2 _ _ []) (ix2 a b)).trans (first x0 x1 a b)
theorem block4 (a : Fin 512) (b : Fin 1408) : out0_4 (F := Ideal) x0 x1 x2 (ix2 a b) = product x0 x2 a b := by
  unfold out0_4
  simp only [View.ld_unit_zero (S := S512x1024) hz2, View.ld_unit_zero (S := S1x1024x1408) hz3]
  exact (congrFun (View.canon_cons_unit_zero (Val := Elt Ideal) (S := S512x1408) hz2 _ _ []) (ix2 a b)).trans (second x0 x2 a b)
theorem block5 (a : Fin 512) (b : Fin 1408) : out0_5 (F := Ideal) x0 x1 x2 (ix2 a b) = gated (product x0 x1 a b) (product x0 x2 a b) := by
  unfold out0_5
  simp only [View.ld_unit_zero (S := S512x1024) hz2, View.ld_unit_zero (S := S1x1024x1408) hz3]
  exact (congrFun (View.canon_cons_unit_zero (Val := Elt Ideal) (S := S512x1408) hz2 _ _ []) (ix2 a b)).trans (third x0 x1 x2 a b)

/-- The layer's input. -/
abbrev inputs (c : Dev nD) : S4096x1024.Idx → EReal := m ((c : Thread nD τ).loc main_arg0)
/-- The weight, in four shards of columns. -/
abbrev weights (c : Dev nD) : S4x1024x1408.Idx → EReal := m ((c : Thread nD τ).loc main_arg1)

/-- The product at an entry. -/
def entry (c : Dev nD) (a : Fin 4096) (b : Fin 5632) : EReal :=
  ∑ k : Fin 1024, inputs m c (ix2 a k) * weights m c (ix3 (⟨b.val / 1408, by have := b.isLt; omega⟩ : Fin 4) k (⟨b.val % 1408, by omega⟩ : Fin 1408))

/-- The gate's input at an entry: the first half of the columns. -/
def entry1 (c : Dev nD) (a : Fin 4096) (b : Fin 2816) : EReal := entry m c a ⟨b.val, by have := b.isLt; omega⟩
/-- The gate's partner at an entry: the second half. -/
def entry3 (c : Dev nD) (a : Fin 4096) (b : Fin 2816) : EReal := entry m c a ⟨2816 + b.val, by have := b.isLt; omega⟩

/-- Which blocks a point reads and writes. -/
theorem index0 : ∀ t : Fin cfg0.N, win0_0.index t (0 : Fin 2) = t.val % 8 ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 + 2 ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val % 8 ∧ win0_3.index t (1 : Fin 2) = t.val / 8 :=
  (by decide +kernel : ∀ t : Fin grid0.N, _)
theorem index4 : ∀ t : Fin cfg0.N, win0_4.index t (0 : Fin 2) = t.val % 8 ∧ win0_4.index t (1 : Fin 2) = t.val / 8 :=
  (by decide +kernel : ∀ t : Fin grid0.N, _)
theorem index5 : ∀ t : Fin cfg0.N, win0_5.index t (0 : Fin 2) = t.val % 8 ∧ win0_5.index t (1 : Fin 2) = t.val / 8 :=
  (by decide +kernel : ∀ t : Fin grid0.N, _)
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

/-- Every entry lies in the block of one point. -/
theorem point (r : Fin 4096) (s : Fin 2816) : ∃ (t : Fin cfg0.N) (a : Fin 512) (b : Fin 1408),
    r.val = t.val % 8 * 512 + a.val ∧ s.val = t.val / 8 * 1408 + b.val := by
  have hr := r.isLt
  have hs := s.isLt
  refine ⟨⟨8 * (s.val / 1408) + r.val / 512, by rw [show cfg0.N = 16 from N_0]; omega⟩, ⟨r.val % 512, by omega⟩, ⟨s.val % 1408, by omega⟩, ?_, ?_⟩
  all_goals dsimp only; omega

section Blocks

variable (c : Dev nD) (r : Fin 4096) (s : Fin 2816) (t : Fin cfg0.N) (a : Fin 512) (b : Fin 1408)
variable (hr : r.val = t.val % 8 * 512 + a.val) (hs : s.val = t.val / 8 * 1408 + b.val)
include hr hs

theorem product1 : product (iblk m c 0 t) (iblk m c 1 t) a b = entry1 m c r s := by
  unfold product entry1 entry
  obtain ⟨e0, e1⟩ := index0 t
  obtain ⟨f0, f1, f2⟩ := index1 t
  have hb := b.isLt
  refine Finset.sum_congr rfl fun k _ => congrArg₂ (· * ·) ?_ ?_
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 1024 + 1 * k.val = k.val; omega
  · show V m c main_arg1 (((cfg0.win 1).blk t).view.emb (ix3 (0 : Fin 1) k b)) = _
    rw [V_main_arg1]
    refine congrArg _ (funext fun x => Fin.ext ?_)
    match x with
    | ⟨0, _⟩ => show win0_1.index t (0 : Fin 3) * 1 + 1 * 0 = s.val / 1408; omega
    | ⟨1, _⟩ => show win0_1.index t (1 : Fin 3) * 1024 + 1 * k.val = k.val; omega
    | ⟨2, _⟩ => show win0_1.index t (2 : Fin 3) * 1408 + 1 * b.val = s.val % 1408; omega

theorem product3 : product (iblk m c 0 t) (iblk m c 2 t) a b = entry3 m c r s := by
  unfold product entry3 entry
  obtain ⟨e0, e1⟩ := index0 t
  obtain ⟨f0, f1, f2⟩ := index2 t
  have hb := b.isLt
  refine Finset.sum_congr rfl fun k _ => congrArg₂ (· * ·) ?_ ?_
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 1024 + 1 * k.val = k.val; omega
  · show V m c main_arg1 (((cfg0.win 2).blk t).view.emb (ix3 (0 : Fin 1) k b)) = _
    rw [V_main_arg1]
    refine congrArg _ (funext fun x => Fin.ext ?_)
    match x with
    | ⟨0, _⟩ => show win0_2.index t (0 : Fin 3) * 1 + 1 * 0 = (2816 + s.val) / 1408; omega
    | ⟨1, _⟩ => show win0_2.index t (1 : Fin 3) * 1024 + 1 * k.val = k.val; omega
    | ⟨2, _⟩ => show win0_2.index t (2 : Fin 3) * 1408 + 1 * b.val = (2816 + s.val) % 1408; omega

end Blocks

set_option maxRecDepth 16384 in
/-- The gate's input, as the kernel leaves it. -/
theorem result3 (c : Dev nD) (r : Fin 4096) (s : Fin 2816) :
    ((dats m 0 c).arrAt 3 cfg0.N : S4096x2816.Idx → EReal) (ix2 r s) = entry1 m c r s := by
  obtain ⟨t, a, b, hr, hs⟩ := point r s
  have h := congrFun ((blocks3 m c t (flush3 t)).trans (flushed3 m c t)) (ix2 a b)
  obtain ⟨g0, g1⟩ := index3 t
  refine Eq.trans (congrArg ((dats m 0 c).arrAt 3 cfg0.N) ?_) (h.trans ((block3 _ (iblk m c 1 t) _ a b).trans (product1 m c r s t a b hr hs)))
  refine funext fun x => Fin.ext ?_
  match x with
  | ⟨0, _⟩ => show r.val = win0_3.index t (0 : Fin 2) * 512 + 1 * a.val; omega
  | ⟨1, _⟩ => show s.val = win0_3.index t (1 : Fin 2) * 1408 + 1 * b.val; omega

set_option maxRecDepth 16384 in
/-- The gate's partner, as the kernel leaves it. -/
theorem result4 (c : Dev nD) (r : Fin 4096) (s : Fin 2816) :
    ((dats m 0 c).arrAt 4 cfg0.N : S4096x2816.Idx → EReal) (ix2 r s) = entry3 m c r s := by
  obtain ⟨t, a, b, hr, hs⟩ := point r s
  have h := congrFun ((blocks4 m c t (flush4 t)).trans (flushed4 m c t)) (ix2 a b)
  obtain ⟨g0, g1⟩ := index4 t
  refine Eq.trans (congrArg ((dats m 0 c).arrAt 4 cfg0.N) ?_) (h.trans ((block4 _ (iblk m c 1 t) _ a b).trans (product3 m c r s t a b hr hs)))
  refine funext fun x => Fin.ext ?_
  match x with
  | ⟨0, _⟩ => show r.val = win0_4.index t (0 : Fin 2) * 512 + 1 * a.val; omega
  | ⟨1, _⟩ => show s.val = win0_4.index t (1 : Fin 2) * 1408 + 1 * b.val; omega

set_option maxRecDepth 16384 in
/-- The gated value, as the kernel leaves it. -/
theorem result5 (c : Dev nD) (r : Fin 4096) (s : Fin 2816) :
    ((dats m 0 c).arrAt 5 cfg0.N : S4096x2816.Idx → EReal) (ix2 r s) = gated (entry1 m c r s) (entry3 m c r s) := by
  obtain ⟨t, a, b, hr, hs⟩ := point r s
  have h := congrFun ((blocks5 m c t (flush5 t)).trans (flushed5 m c t)) (ix2 a b)
  obtain ⟨g0, g1⟩ := index5 t
  refine Eq.trans (congrArg ((dats m 0 c).arrAt 5 cfg0.N) ?_) (h.trans ((block5 _ (iblk m c 1 t) _ a b).trans
    (congrArg₂ gated (product1 m c r s t a b hr hs) (product3 m c r s t a b hr hs))))
  refine funext fun x => Fin.ext ?_
  match x with
  | ⟨0, _⟩ => show r.val = win0_5.index t (0 : Fin 2) * 512 + 1 * a.val; omega
  | ⟨1, _⟩ => show s.val = win0_5.index t (1 : Fin 2) * 1408 + 1 * b.val; omega

section Reference

open Cert.FfnInRefIdeal.Read

variable (c : Dev nD)

/-- The reference's product at an entry. -/
theorem reference (i : Cert.FfnInRefIdeal.S4096x5632.Idx) :
    val_main_v3 (F := Ideal) (m ((c : Thread nD τ).loc main_arg0)) (m ((c : Thread nD τ).loc main_arg1)) i = entry m c (i 0) (i 1) := by
  have hb : (i 1).val < 5632 := (i 1).isLt
  rw [val_main_v3_apply]
  refine Finset.sum_congr rfl fun k _ => ?_
  have hk := k.isLt
  rw [val_main_v2_apply, val_main_v1_apply, val_main_v0_apply]
  refine congrArg₂ (· * ·) (congrArg (m ((c : Thread nD τ).loc main_arg0)) (funext fun x => Fin.ext ?_))
    (congrArg (m ((c : Thread nD τ).loc main_arg1)) (funext fun x => Fin.ext ?_))
  · match x with
    | ⟨0, _⟩ => rfl
    | ⟨1, _⟩ => rfl
  · match x with
    | ⟨0, _⟩ => show (k.val * 5632 + (i 1).val) / 1408 % 4 = (i 1).val / 1408; omega
    | ⟨1, _⟩ => show (k.val * 5632 + (i 1).val) / 5632 = k.val; omega
    | ⟨2, _⟩ => show (k.val * 5632 + (i 1).val) % 1408 = (i 1).val % 1408; omega

theorem reference1 (i : Cert.FfnInRefIdeal.S4096x2816.Idx) :
    val_main_v4 (F := Ideal) (m ((c : Thread nD τ).loc main_arg0)) (m ((c : Thread nD τ).loc main_arg1)) i = entry1 m c (i 0) (i 1) := by
  rw [val_main_v4_apply, reference]
  rfl
theorem reference3 (i : Cert.FfnInRefIdeal.S4096x2816.Idx) :
    val_main_v5 (F := Ideal) (m ((c : Thread nD τ).loc main_arg0)) (m ((c : Thread nD τ).loc main_arg1)) i = entry3 m c (i 0) (i 1) := by
  rw [val_main_v5_apply, reference]
  rfl
theorem reference5 (i : Cert.FfnInRefIdeal.S4096x2816.Idx) :
    val_main_v8 (F := Ideal) (m ((c : Thread nD τ).loc main_arg0)) (m ((c : Thread nD τ).loc main_arg1)) i
      = gated (entry1 m c (i 0) (i 1)) (entry3 m c (i 0) (i 1)) := by
  rw [val_main_v8_apply, val_main_v7_apply, val_main_v6_apply, val_main_call0_v5_apply, val_main_call0_v4_apply, val_main_call0_v3_apply,
    val_main_call0_v2_apply, val_main_call0_v1_apply, val_main_call0_v0_apply, reference1, reference3]
  rfl

end Reference

instance : Cert.FfnInIdeal.Facts := Cert.FfnInIdeal.Gen.facts
instance : Cert.FfnInRefIdeal.Facts := Cert.FfnInRefIdeal.Gen.facts

/-- The feed-forward layer's first product and its gate agree with the reference's. -/
theorem algebraic : Cert.algebraic_FfnInIdeal_FfnInRefIdeal := fun m g m' g' _ hm =>
  ⟨fun c => (dats m 0 c).arrAt 3 cfg0.N, fun c => (dats m 0 c).arrAt 4 cfg0.N, fun c => (dats m 0 c).arrAt 5 cfg0.N, Cert.FfnInIdeal.Value.run_blocks m g,
    (θ_run Cert.FfnInRefIdeal.defs _ _).mono (fun r h c => ⟨(h c).1.trans (by
      rw [(hm c).1, (hm c).2, Cert.FfnInRefIdeal.Read.val_main_v4_eq]
      funext i
      exact (reference1 m c i).trans ((result3 m c _ _).symm.trans (congrArg ((dats m 0 c).arrAt 3 cfg0.N) (eq_ix2 i).symm))), (h c).2.1.trans (by
      rw [(hm c).1, (hm c).2, Cert.FfnInRefIdeal.Read.val_main_v5_eq]
      funext i
      exact (reference3 m c i).trans ((result4 m c _ _).symm.trans (congrArg ((dats m 0 c).arrAt 4 cfg0.N) (eq_ix2 i).symm))), (h c).2.2.1.trans (by
      rw [(hm c).1, (hm c).2, Cert.FfnInRefIdeal.Read.val_main_v8_eq]
      funext i
      exact (reference5 m c i).trans ((result5 m c _ _).symm.trans (congrArg ((dats m 0 c).arrAt 5 cfg0.N) (eq_ix2 i).symm))), (h c).2.2.2⟩)
      (Cert.FfnInRefIdeal.Value.run m' g')⟩

end Cert.Proof.FfnIn
-- ==== Proof.Mix.lean ====
/- The three branches' products and their gated sum: each page is one branch's product, the sum is over the pages. -/
module

public import proofs.«01_k».proof.Defs
public import proofs.«01_k».proof.Proof.Gate
public import proofs.«01_k».proof.Proof.Gen.MixIdeal.Value
public import proofs.«01_k».proof.Proof.Gen.MixRefIdeal.Run
public import proofs.«01_k».proof.Proof.Gen.MixRefIdeal.Read
public import Idealize.ShloMosaic.Lib.ValueLayout
public import Idealize.ShloMosaic.Lib.MatmulPlain
public import Idealize.ShloMosaic.Lib.IdealHost

@[expose] public section

noncomputable section

namespace Cert.Proof.Mix

open Cert.Proof.Gate Cert.MixIdeal Cert.MixIdeal.Gen Cert.MixIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

variable (x0 : Vec Ideal S256x1024 .bf16) (x1 x2 : Vec Ideal S256x1024 .f32) (x3 : Vec Ideal S3x1024x512 .bf16) (x4 x5 x6 : Vec Ideal S256x512 .f32)

/-- The mixer whose product page `g` holds. -/
def mixer (g : Fin 3) : S256x1024.Idx → EReal := match g with | 0 => x0 | 1 => x1 | 2 => x2
/-- The input of gate `g`. -/
def input (g : Fin 3) : S256x512.Idx → EReal := match g with | 0 => x4 | 1 => x5 | 2 => x6

/-- The product of a page, at an entry of a block. -/
def product (g : Fin 3) (a : Fin 256) (b : Fin 512) : EReal := ∑ k : Fin 1024, mixer x0 x1 x2 g (ix2 a k) * (x3 (ix3 g k b) : EReal)

/-- A page of the weights, at an entry. -/
theorem shard (g : Fin 3) (inb : ∀ a, (![g.val, 0, 0] : Fin 3 → ℕ) a + S1x1024x512.size a ≤ S3x1024x512.size a) (k : Fin 1024) (b : Fin 512) :
    (Rect.unit (s := S3x1024x512) ![g.val, 0, 0] S1x1024x512.size inb).emb (ix3 (0 : Fin 1) k b) = ix3 g k b := by
  refine funext fun x => Fin.ext ?_
  match x with
  | ⟨0, _⟩ => show g.val + 1 * 0 = g.val; omega
  | ⟨1, _⟩ => show 0 + 1 * k.val = k.val; omega
  | ⟨2, _⟩ => show 0 + 1 * b.val = b.val; omega

/-- A page of the products, at an entry. -/
theorem page (g : Fin 3) (inb : ∀ a, (![g.val, 0, 0] : Fin 3 → ℕ) a + S1x256x512.size a ≤ S3x256x512.size a) (z : Fin 1) (a : Fin 256) (b : Fin 512) :
    (Rect.unit (s := S3x256x512) ![g.val, 0, 0] S1x256x512.size inb).emb (ix3 z a b) = ix3 g a b := by
  have hz := z.isLt
  refine funext fun x => Fin.ext ?_
  match x with
  | ⟨0, _⟩ => show g.val + 1 * z.val = g.val; omega
  | ⟨1, _⟩ => show 0 + 1 * a.val = a.val; omega
  | ⟨2, _⟩ => show 0 + 1 * b.val = b.val; omega

theorem page0 (z : Fin 1) (a : Fin 256) (b : Fin 512) : r0_2.emb (ix3 z a b) = ix3 0 a b := page 0 _ z a b
theorem page1 (z : Fin 1) (a : Fin 256) (b : Fin 512) : r0_5.emb (ix3 z a b) = ix3 1 a b := page 1 _ z a b
theorem page2 (z : Fin 1) (a : Fin 256) (b : Fin 512) : r0_7.emb (ix3 z a b) = ix3 2 a b := page 2 _ z a b

/-- One product of a row block and a page. -/
theorem matmul_page (y : Vec Ideal S256x1024 .bf16) (w : Vec Ideal S1x1024x512 .bf16) (a : Fin 256) (b : Fin 512) :
    k0_pay4 (F := Ideal) y w (ix2 a b) = ∑ k : Fin 1024, (y (ix2 a k) : EReal) * w (ix3 (0 : Fin 1) k b) := by
  unfold k0_pay4
  show FloatOps.matmul (DotDims.plain 256 1024 512) none _ _ _ (ix2 a b) = _
  rw [Ideal.matmul_plain_apply, constant_apply, Ideal.ofBits_zero_f32, zero_add]
  exact Finset.sum_congr rfl fun k _ => congrArg₂ (· * ·) rfl (shapeCast_1ab_ab_apply w _ k b)

theorem product0 (a : Fin 256) (b : Fin 512) : k0_pay4 (F := Ideal) x0 (View.ld x3 r0_1) (ix2 a b) = product x0 x1 x2 x3 0 a b :=
  (matmul_page _ _ a b).trans (Finset.sum_congr rfl fun k _ => congrArg₂ (· * ·) rfl (congrArg x3 (shard 0 _ k b)))
theorem product1 (a : Fin 256) (b : Fin 512) : k0_pay7 (F := Ideal) x1 (View.ld x3 r0_4) (ix2 a b) = product x0 x1 x2 x3 1 a b :=
  (matmul_page _ _ a b).trans (Finset.sum_congr rfl fun k _ => congrArg₂ (· * ·) rfl (congrArg x3 (shard 1 _ k b)))
theorem product2 (a : Fin 256) (b : Fin 512) : k0_pay1 (F := Ideal) x2 (View.ld x3 r0_6) (ix2 a b) = product x0 x1 x2 x3 2 a b :=
  (matmul_page _ _ a b).trans (Finset.sum_congr rfl fun k _ => congrArg₂ (· * ·) rfl (congrArg x3 (shard 2 _ k b)))

/-- The gated sum at an entry. -/
def total (p h : Fin 3 → EReal) : EReal := gate (h 0) * p 0 + gate (h 1) * p 1 + gate (h 2) * p 2

/-- The gated sum in a block. -/
theorem merged (a : Fin 256) (b : Fin 512) :
    out0_8 (F := Ideal) x0 x1 x2 x3 x4 x5 x6 (ix2 a b) = total (fun g => product x0 x1 x2 x3 g a b) (fun g => input x4 x5 x6 g (ix2 a b)) := by
  unfold out0_8
  simp only [View.ld_unit_zero (S := S256x512) hz2, View.ld_unit_zero (S := S256x1024) hz2]
  refine (congrFun (View.canon_cons_unit_zero (Val := Elt Ideal) (S := S256x512) hz2 _ _ []) (ix2 a b)).trans ?_
  show Ideal.div (Ideal.ofBits .f32 0x3F800000#32) (Ideal.ofBits .f32 0x3F800000#32 + Ideal.exp (Ideal.ofBits .f32 0x00000000#32 - x4 (ix2 a b)))
      * k0_pay4 (F := Ideal) x0 (View.ld x3 r0_1) (ix2 a b)
    + Ideal.div (Ideal.ofBits .f32 0x3F800000#32) (Ideal.ofBits .f32 0x3F800000#32 + Ideal.exp (Ideal.ofBits .f32 0x00000000#32 - x5 (ix2 a b)))
      * k0_pay7 (F := Ideal) x1 (View.ld x3 r0_4) (ix2 a b)
    + Ideal.div (Ideal.ofBits .f32 0x3F800000#32) (Ideal.ofBits .f32 0x3F800000#32 + Ideal.exp (Ideal.ofBits .f32 0x00000000#32 - x6 (ix2 a b)))
      * k0_pay1 (F := Ideal) x2 (View.ld x3 r0_6) (ix2 a b) = _
  rw [gate_spelt, gate_spelt, gate_spelt, product0 x0 x1 x2, product1 x0 x1 x2, product2 x0 x1 x2]
  rfl

/-- The branches' products in a block. -/
def products (y : S3x256x512.Idx) : EReal := product x0 x1 x2 x3 (y 0) (y 1) (y 2)

theorem branches (g : Fin 3) (a : Fin 256) (b : Fin 512) : out0_7 (F := Ideal) x0 x1 x2 x3 x4 x5 x6 (ix3 g a b) = product x0 x1 x2 x3 g a b := by
  unfold out0_7
  simp only [View.ld_unit_zero (S := S256x1024) hz2]
  refine (View.canon_apply_of_pieces (Val := Elt Ideal) (products x0 x1 x2 x3) _ ?_ (ix3 g a b) (cover0_7 _ _ _ _)).trans rfl
  have hr (x : S1x256x512.Idx) : x = ix3 (x 0) (x 1) (x 2) := eq_ix3 x
  intro pc hpc x
  rcases List.mem_cons.mp hpc with rfl | hpc
  · rw [hr x]
    exact (shapeCast_ab_1ab_apply _ _ _ _ _).trans ((product2 x0 x1 x2 x3 _ _).trans (congrArg (products x0 x1 x2 x3) (page2 _ _ _).symm))
  rcases List.mem_cons.mp hpc with rfl | hpc
  · rw [hr x]
    exact (shapeCast_ab_1ab_apply _ _ _ _ _).trans ((product1 x0 x1 x2 x3 _ _).trans (congrArg (products x0 x1 x2 x3) (page1 _ _ _).symm))
  rcases List.mem_cons.mp hpc with rfl | hpc
  · rw [hr x]
    exact (shapeCast_ab_1ab_apply _ _ _ _ _).trans ((product0 x0 x1 x2 x3 _ _).trans (congrArg (products x0 x1 x2 x3) (page0 _ _ _).symm))
  nomatch hpc

/-- The three mixers' outputs. -/
def mixers (c : Dev nD) (g : Fin 3) : S4096x1024.Idx → EReal :=
  match g with
  | 0 => (m ((c : Thread nD τ).loc main_arg0) : S4096x1024.Idx → EReal)
  | 1 => (m ((c : Thread nD τ).loc main_arg1) : S4096x1024.Idx → EReal)
  | 2 => (m ((c : Thread nD τ).loc main_arg2) : S4096x1024.Idx → EReal)
/-- The branches' weights. -/
abbrev weights (c : Dev nD) : S3x1024x1024.Idx → EReal := m ((c : Thread nD τ).loc main_arg3)
/-- The first projection's rows, the gates' inputs among them. -/
abbrev rows (c : Dev nD) : S4096x9728.Idx → EReal := m ((c : Thread nD τ).loc main_arg4)

/-- A branch's product at an entry. -/
def branch (c : Dev nD) (r : Fin 4096) (s : Fin 1024) (g : Fin 3) : EReal := ∑ k : Fin 1024, mixers m c g (ix2 r k) * weights m c (ix3 g k s)
/-- A gate's input at an entry. -/
def before (c : Dev nD) (r : Fin 4096) (s : Fin 1024) (g : Fin 3) : EReal :=
  rows m c (ix2 r (⟨6656 + 1024 * g.val + s.val, by have := g.isLt; have := s.isLt; omega⟩ : Fin 9728))

/-- Which blocks a point reads, window by window. -/
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val / 2 ∧ win0_1.index t (1 : Fin 2) = 0 :=
  (by decide +kernel : ∀ t : Fin grid0.N, _)
theorem index2 : ∀ t : Fin cfg0.N, win0_2.index t (0 : Fin 2) = t.val / 2 ∧ win0_2.index t (1 : Fin 2) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = t.val % 2 :=
  (by decide +kernel : ∀ t : Fin grid0.N, _)
theorem index4 : ∀ t : Fin cfg0.N, win0_4.index t (0 : Fin 2) = t.val / 2 ∧ win0_4.index t (1 : Fin 2) = 13 + t.val % 2 :=
  (by decide +kernel : ∀ t : Fin grid0.N, _)
theorem index5 : ∀ t : Fin cfg0.N, win0_5.index t (0 : Fin 2) = t.val / 2 ∧ win0_5.index t (1 : Fin 2) = 15 + t.val % 2 :=
  (by decide +kernel : ∀ t : Fin grid0.N, _)
theorem index6 : ∀ t : Fin cfg0.N, win0_6.index t (0 : Fin 2) = t.val / 2 ∧ win0_6.index t (1 : Fin 2) = 17 + t.val % 2 :=
  (by decide +kernel : ∀ t : Fin grid0.N, _)
/-- Which blocks a point writes, and that every point writes them back. -/
theorem index7 : ∀ t : Fin cfg0.N, win0_7.index t (0 : Fin 3) = 0 ∧ win0_7.index t (1 : Fin 3) = t.val / 2 ∧ win0_7.index t (2 : Fin 3) = t.val % 2 :=
  (by decide +kernel : ∀ t : Fin grid0.N, _)
theorem index8 : ∀ t : Fin cfg0.N, win0_8.index t (0 : Fin 2) = t.val / 2 ∧ win0_8.index t (1 : Fin 2) = t.val % 2 :=
  (by decide +kernel : ∀ t : Fin grid0.N, _)
theorem flush7 : ∀ t : Fin cfg0.N, (cfg0.win 7).flush t = true := (by decide +kernel : ∀ t : Fin grid0.N, win0_7.flush t = true)
theorem flush8 : ∀ t : Fin cfg0.N, (cfg0.win 8).flush t = true := (by decide +kernel : ∀ t : Fin grid0.N, win0_8.flush t = true)

section Blocks

variable (c : Dev nD) (t : Fin cfg0.N) (r : Fin 4096) (s : Fin 1024) (a : Fin 256) (b : Fin 512)
  (hr : r.val = 256 * (t.val / 2) + a.val) (hs : s.val = 512 * (t.val % 2) + b.val)

include hr in
/-- A mixer's block. -/
theorem mixer_block (g : Fin 3) (k : Fin 1024) : mixer (iblk m c 0 t) (iblk m c 1 t) (iblk m c 2 t) g (ix2 a k) = mixers m c g (ix2 r k) := by
  match g with
  | ⟨0, _⟩ =>
    obtain ⟨e0, e1⟩ := index0 t
    show V m c main_arg0 (((cfg0.win 0).blk t).view.emb (ix2 a k)) = _
    rw [V_main_arg0]
    refine congrArg _ (funext fun x => Fin.ext ?_)
    match x with
    | ⟨0, _⟩ => show win0_0.index t (0 : Fin 2) * 256 + 1 * a.val = r.val; omega
    | ⟨1, _⟩ => show win0_0.index t (1 : Fin 2) * 1024 + 1 * k.val = k.val; omega
  | ⟨1, _⟩ =>
    obtain ⟨e0, e1⟩ := index1 t
    show V m c main_arg1 (((cfg0.win 1).blk t).view.emb (ix2 a k)) = _
    rw [V_main_arg1]
    refine congrArg _ (funext fun x => Fin.ext ?_)
    match x with
    | ⟨0, _⟩ => show win0_1.index t (0 : Fin 2) * 256 + 1 * a.val = r.val; omega
    | ⟨1, _⟩ => show win0_1.index t (1 : Fin 2) * 1024 + 1 * k.val = k.val; omega
  | ⟨2, _⟩ =>
    obtain ⟨e0, e1⟩ := index2 t
    show V m c main_arg2 (((cfg0.win 2).blk t).view.emb (ix2 a k)) = _
    rw [V_main_arg2]
    refine congrArg _ (funext fun x => Fin.ext ?_)
    match x with
    | ⟨0, _⟩ => show win0_2.index t (0 : Fin 2) * 256 + 1 * a.val = r.val; omega
    | ⟨1, _⟩ => show win0_2.index t (1 : Fin 2) * 1024 + 1 * k.val = k.val; omega

include hr hs

/-- A block's product is the branch's at the entry it stands for. -/
theorem product_block (g : Fin 3) : product (iblk m c 0 t) (iblk m c 1 t) (iblk m c 2 t) (iblk m c 3 t) g a b = branch m c r s g := by
  obtain ⟨f0, f1, f2⟩ := index3 t
  unfold product branch
  refine Finset.sum_congr rfl fun k _ => congrArg₂ (· * ·) (mixer_block m c t r a hr g k) ?_
  show V m c main_arg3 (((cfg0.win 3).blk t).view.emb (ix3 g k b)) = _
  rw [V_main_arg3]
  refine congrArg _ (funext fun x => Fin.ext ?_)
  match x with
  | ⟨0, _⟩ => show win0_3.index t (0 : Fin 3) * 3 + 1 * g.val = g.val; omega
  | ⟨1, _⟩ => show win0_3.index t (1 : Fin 3) * 1024 + 1 * k.val = k.val; omega
  | ⟨2, _⟩ => show win0_3.index t (2 : Fin 3) * 512 + 1 * b.val = s.val; omega

/-- The gates' blocks. -/
theorem input_block (g : Fin 3) : input (iblk m c 4 t) (iblk m c 5 t) (iblk m c 6 t) g (ix2 a b) = before m c r s g := by
  match g with
  | ⟨0, _⟩ =>
    obtain ⟨e0, e1⟩ := index4 t
    show V m c main_arg4 (((cfg0.win 4).blk t).view.emb (ix2 a b)) = _
    rw [V_main_arg4]
    refine congrArg _ (funext fun x => Fin.ext ?_)
    match x with
    | ⟨0, _⟩ => show win0_4.index t (0 : Fin 2) * 256 + 1 * a.val = r.val; omega
    | ⟨1, _⟩ => show win0_4.index t (1 : Fin 2) * 512 + 1 * b.val = 6656 + 1024 * 0 + s.val; omega
  | ⟨1, _⟩ =>
    obtain ⟨e0, e1⟩ := index5 t
    show V m c main_arg4 (((cfg0.win 5).blk t).view.emb (ix2 a b)) = _
    rw [V_main_arg4]
    refine congrArg _ (funext fun x => Fin.ext ?_)
    match x with
    | ⟨0, _⟩ => show win0_5.index t (0 : Fin 2) * 256 + 1 * a.val = r.val; omega
    | ⟨1, _⟩ => show win0_5.index t (1 : Fin 2) * 512 + 1 * b.val = 6656 + 1024 * 1 + s.val; omega
  | ⟨2, _⟩ =>
    obtain ⟨e0, e1⟩ := index6 t
    show V m c main_arg4 (((cfg0.win 6).blk t).view.emb (ix2 a b)) = _
    rw [V_main_arg4]
    refine congrArg _ (funext fun x => Fin.ext ?_)
    match x with
    | ⟨0, _⟩ => show win0_6.index t (0 : Fin 2) * 256 + 1 * a.val = r.val; omega
    | ⟨1, _⟩ => show win0_6.index t (1 : Fin 2) * 512 + 1 * b.val = 6656 + 1024 * 2 + s.val; omega

end Blocks

/-- Every entry lies in the block of one point. -/
theorem point (r : Fin 4096) (s : Fin 1024) : ∃ (t : Fin cfg0.N) (a : Fin 256) (b : Fin 512),
    r.val = 256 * (t.val / 2) + a.val ∧ s.val = 512 * (t.val % 2) + b.val := by
  have hr := r.isLt
  have hs := s.isLt
  refine ⟨⟨2 * (r.val / 256) + s.val / 512, by rw [show cfg0.N = 32 from N_0]; omega⟩, ⟨r.val % 256, by omega⟩, ⟨s.val % 512, by omega⟩, ?_, ?_⟩
  all_goals dsimp only; omega

set_option maxRecDepth 16384 in
/-- The branches' products, as the kernel leaves them. -/
theorem result7 (c : Dev nD) (g : Fin 3) (r : Fin 4096) (s : Fin 1024) :
    ((dats m 0 c).arrAt 7 cfg0.N : S3x4096x1024.Idx → EReal) (ix3 g r s) = branch m c r s g := by
  obtain ⟨t, a, b, hr, hs⟩ := point r s
  have h := congrFun ((blocks7 m c t (flush7 t)).trans (flushed7 m c t)) (ix3 g a b)
  obtain ⟨e0, e1, e2⟩ := index7 t
  refine Eq.trans (congrArg ((dats m 0 c).arrAt 7 cfg0.N) ?_) (h.trans ((branches _ _ _ _ (iblk m c 4 t) (iblk m c 5 t) (iblk m c 6 t) g a b).trans
    (product_block m c t r s a b hr hs g)))
  refine funext fun x => Fin.ext ?_
  match x with
  | ⟨0, _⟩ => show g.val = win0_7.index t (0 : Fin 3) * 3 + 1 * g.val; omega
  | ⟨1, _⟩ => show r.val = win0_7.index t (1 : Fin 3) * 256 + 1 * a.val; omega
  | ⟨2, _⟩ => show s.val = win0_7.index t (2 : Fin 3) * 512 + 1 * b.val; omega

set_option maxRecDepth 16384 in
/-- The gated sum, as the kernel leaves it. -/
theorem result8 (c : Dev nD) (r : Fin 4096) (s : Fin 1024) :
    ((dats m 0 c).arrAt 8 cfg0.N : S4096x1024.Idx → EReal) (ix2 r s) = total (branch m c r s) (before m c r s) := by
  obtain ⟨t, a, b, hr, hs⟩ := point r s
  have h := congrFun ((blocks8 m c t (flush8 t)).trans (flushed8 m c t)) (ix2 a b)
  obtain ⟨e0, e1⟩ := index8 t
  refine Eq.trans (congrArg ((dats m 0 c).arrAt 8 cfg0.N) ?_) (h.trans ((merged _ _ _ _ _ _ _ a b).trans
    (congrArg₂ total (funext fun g => product_block m c t r s a b hr hs g) (funext fun g => input_block m c t r s a b hr hs g))))
  refine funext fun x => Fin.ext ?_
  match x with
  | ⟨0, _⟩ => show r.val = win0_8.index t (0 : Fin 2) * 256 + 1 * a.val; omega
  | ⟨1, _⟩ => show s.val = win0_8.index t (1 : Fin 2) * 512 + 1 * b.val; omega

section Reference

open Cert.MixRefIdeal.Read

variable (c : Dev nD)

/-- The reference's stack of the mixers' outputs, at an entry. -/
theorem stacked (r : Fin 4096) (g : Fin 3) (k : Fin 1024) :
    val_main_v5 (F := Ideal) (m ((c : Thread nD τ).loc main_arg0)) (m ((c : Thread nD τ).loc main_arg1)) (m ((c : Thread nD τ).loc main_arg2)) (ix3 r g k)
      = mixers m c g (ix2 r k) := by
  unfold val_main_v5
  have off : ∀ b : Fin 3, b ≠ (1 : Fin 3) → (ix3 r (0 : Fin 1) k b).val = (ix3 r g k b).val := fun b hb => by
    match b with
    | ⟨0, _⟩ => rfl
    | ⟨1, _⟩ => exact absurd rfl hb
    | ⟨2, _⟩ => rfl
  have at0 (i : S4096x1024.Idx) (h0 : (i 0).val = r.val) (h1 : (i 1).val = k.val) : i = ix2 r k := funext fun x => Fin.ext (by
    match x with
    | ⟨0, _⟩ => exact h0
    | ⟨1, _⟩ => exact h1)
  match g with
  | ⟨0, _⟩ =>
    refine (concatenate_apply_piece (t := Cert.MixRefIdeal.S4096x3x1024) 1 _ _ _ 0 (by show 0 < 3; omega) Cert.MixRefIdeal.S4096x1x1024 _ rfl rfl 0 rfl
      (ix3 r (0 : Fin 1) k) off rfl).trans ?_
    rw [val_main_v2_apply, val_main_v1_apply]
    exact congrArg (m ((c : Thread nD τ).loc main_arg0)) (at0 _ rfl rfl)
  | ⟨1, _⟩ =>
    refine (concatenate_apply_piece (t := Cert.MixRefIdeal.S4096x3x1024) 1 _ _ _ 1 (by show 1 < 3; omega) Cert.MixRefIdeal.S4096x1x1024 _ rfl rfl 1 rfl
      (ix3 r (0 : Fin 1) k) off rfl).trans ?_
    rw [val_main_v3_apply]
    exact congrArg _ (at0 _ rfl rfl)
  | ⟨2, _⟩ =>
    refine (concatenate_apply_piece (t := Cert.MixRefIdeal.S4096x3x1024) 1 _ _ _ 2 (by show 2 < 3; omega) Cert.MixRefIdeal.S4096x1x1024 _ rfl rfl 2 rfl
      (ix3 r (0 : Fin 1) k) off rfl).trans ?_
    rw [val_main_v4_apply]
    exact congrArg _ (at0 _ rfl rfl)

/-- The reference's products. -/
theorem reference_branch (r : Fin 4096) (g : Fin 3) (s : Fin 1024) :
    val_main_v7 (F := Ideal) (m ((c : Thread nD τ).loc main_arg0)) (m ((c : Thread nD τ).loc main_arg1)) (m ((c : Thread nD τ).loc main_arg2))
      (m ((c : Thread nD τ).loc main_arg3)) (ix3 r g s) = branch m c r s g := by
  rw [val_main_v7_apply, val_main_v6_apply]
  refine Finset.sum_congr rfl fun k _ => ?_
  rw [val_main_v0_apply, mul_comm]
  refine congrArg₂ (· * ·) ((congrArg _ ?_).trans (stacked m c r g k)) (congrArg (m ((c : Thread nD τ).loc main_arg3)) ?_)
  · refine funext fun x => Fin.ext ?_
    match x with
    | ⟨0, _⟩ => rfl
    | ⟨1, _⟩ => rfl
    | ⟨2, _⟩ => rfl
  · refine funext fun x => Fin.ext ?_
    match x with
    | ⟨0, _⟩ => rfl
    | ⟨1, _⟩ => rfl
    | ⟨2, _⟩ => rfl

/-- The reference's gate. -/
theorem reference_gate (r : Fin 4096) (g : Fin 3) (s : Fin 1024) :
    val_main_v15 (F := Ideal) (m ((c : Thread nD τ).loc main_arg4)) (ix3 r g s) = gate (before m c r s g) := by
  have := r.isLt; have := g.isLt; have := s.isLt
  rw [val_main_v15_apply, val_main_v14_apply, val_main_v13_apply, val_main_v12_apply, val_main_v11_apply, val_main_v10_apply, val_main_v9_apply, val_main_v8_apply]
  refine congrArg gate (congrArg (m ((c : Thread nD τ).loc main_arg4)) (funext fun x => Fin.ext ?_))
  match x with
  | ⟨0, _⟩ => show ((r.val * 3 + g.val) * 1024 + s.val) / 3072 = r.val; omega
  | ⟨1, _⟩ => show 6656 + ((r.val * 3 + g.val) * 1024 + s.val) % 3072 = 6656 + 1024 * g.val + s.val; omega

/-- The reference's products, page by page. -/
theorem reference_pages (g : Fin 3) (r : Fin 4096) (s : Fin 1024) :
    val_main_v18 (F := Ideal) (m ((c : Thread nD τ).loc main_arg0)) (m ((c : Thread nD τ).loc main_arg1)) (m ((c : Thread nD τ).loc main_arg2))
      (m ((c : Thread nD τ).loc main_arg3)) (ix3 g r s) = branch m c r s g := by
  rw [val_main_v18_apply]
  refine (congrArg _ ?_).trans (reference_branch m c r g s)
  refine funext fun x => Fin.ext ?_
  match x with
  | ⟨0, _⟩ => rfl
  | ⟨1, _⟩ => rfl
  | ⟨2, _⟩ => rfl

/-- The reference's gated branch. -/
theorem reference_term (r : Fin 4096) (g : Fin 3) (s : Fin 1024) :
    val_main_v16 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix3 r g s) = gate (before m c r s g) * branch m c r s g := by
  rw [val_main_v16_apply, reference_gate, reference_branch]
  rfl

/-- The reference's gated sum. -/
theorem reference_total (r : Fin 4096) (s : Fin 1024) :
    val_main_v19 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 r s) = total (branch m c r s) (before m c r s) := by
  have e (g : Fin 3) : idx_main_v17 (ix2 r s) g = ix3 r g s := funext fun x => Fin.ext (by
    match x with
    | ⟨0, _⟩ => rfl
    | ⟨1, _⟩ => rfl
    | ⟨2, _⟩ => rfl)
  rw [val_main_v19_apply, val_main_v17_apply, Fin.sum_univ_three]
  refine (congrArg₂ (· + ·) Ideal.ofBits_zero_f32 (congrArg₂ (· + ·) (congrArg₂ (· + ·) ?_ ?_) ?_)).trans (zero_add _)
  · exact (congrArg _ (e 0)).trans (reference_term m c r 0 s)
  · exact (congrArg _ (e 1)).trans (reference_term m c r 1 s)
  · exact (congrArg _ (e 2)).trans (reference_term m c r 2 s)

/-- The branches' products agree. -/
theorem agree7 : val_main_v18 (F := Ideal) (m ((c : Thread nD τ).loc main_arg0)) (m ((c : Thread nD τ).loc main_arg1)) (m ((c : Thread nD τ).loc main_arg2))
      (m ((c : Thread nD τ).loc main_arg3)) = ((dats m 0 c).arrAt 7 cfg0.N : S3x4096x1024.Idx → EReal) := by
  refine funext fun i => ?_
  rw [(eq_ix3 i : i = ix3 (i 0) (i 1) (i 2))]
  exact (reference_pages m c _ _ _).trans (result7 m c _ _ _).symm

/-- The gated sums agree. -/
theorem agree8 : val_main_v19 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = ((dats m 0 c).arrAt 8 cfg0.N : S4096x1024.Idx → EReal) := by
  refine funext fun i => ?_
  rw [(eq_ix2 i : i = ix2 (i 0) (i 1))]
  exact (reference_total m c _ _).trans (result8 m c _ _).symm

end Reference

instance : Cert.MixIdeal.Facts := Cert.MixIdeal.Gen.facts
instance : Cert.MixRefIdeal.Facts := Cert.MixRefIdeal.Gen.facts

/-- The branches' products and their gated sum agree with the reference's. -/
theorem algebraic : Cert.algebraic_MixIdeal_MixRefIdeal := fun m g m' g' _ hm =>
  ⟨fun c => (dats m 0 c).arrAt 7 cfg0.N, fun c => (dats m 0 c).arrAt 8 cfg0.N, Cert.MixIdeal.Value.run_blocks m g,
    (θ_run Cert.MixRefIdeal.defs _ _).mono (fun r h c => ⟨(h c).1.trans (by
      rw [(hm c).1, (hm c).2.1, (hm c).2.2.1, (hm c).2.2.2.1, Cert.MixRefIdeal.Read.val_main_v18_eq]; exact agree7 m c), (h c).2.1.trans (by
      rw [(hm c).1, (hm c).2.1, (hm c).2.2.1, (hm c).2.2.2.1, (hm c).2.2.2.2, Cert.MixRefIdeal.Read.val_main_v19_eq]; exact agree8 m c), (h c).2.2⟩)
      (Cert.MixRefIdeal.Value.run m' g')⟩

end Cert.Proof.Mix
-- ==== Proof.OutW.lean ====
/- The weight gradient of the mixer output projection: what the blocked product leaves, entry by entry, is the whole product. -/
module

public import proofs.«01_k».proof.Defs
public import proofs.«01_k».proof.Proof.Product
public import proofs.«01_k».proof.Proof.Gen.OutWIdeal.Value
public import proofs.«01_k».proof.Proof.Gen.OutWRefIdeal.Run
public import proofs.«01_k».proof.Proof.Gen.OutWRefIdeal.Read
public import Idealize.ShloMosaic.Lib.ValueLayout
public import Idealize.ShloMosaic.Lib.IdealHost

@[expose] public section

noncomputable section

namespace Cert.Proof.OutW

open Cert.OutWIdeal Cert.OutWIdeal.Gen Cert.OutWIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1024) hz2, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1024) hz2, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz2]
  simp only [View.readAt_eq_ld, h3.read_unread, h4.read_unread, h6.read_unread, View.ld_unit_zero (S := S1024x1024) hz2]

/-- Which block of the first operand a point reads. -/
theorem index0 : ∀ t : Fin cfg0.N, win0_0.index t (0 : Fin 2) = t.val % 4 ∧ win0_0.index t (1 : Fin 2) = t.val / 4 :=
  (by decide +kernel : ∀ t : Fin grid0.N, _)
/-- Which block of the second operand a point reads. -/
theorem index1 : ∀ t : Fin cfg0.N, win0_1.index t (0 : Fin 2) = t.val % 4 ∧ win0_1.index t (1 : Fin 2) = 0 :=
  (by decide +kernel : ∀ t : Fin grid0.N, _)

/-- The first operand. -/
abbrev inputs (c : Dev nD) : S4096x1024.Idx → EReal := m ((c : Thread nD τ).loc main_arg0)
/-- The second operand. -/
abbrev cotangents (c : Dev nD) : S4096x1024.Idx → EReal := m ((c : Thread nD τ).loc main_arg1)

/-- A point's product at an entry: the sum over the point's tokens. -/
theorem part (c : Dev nD) (t : Fin cfg0.N) (a : Fin 1024) (b : Fin 1024) :
    k0_pay1 (F := Ideal) (iblk m c 0 t) (iblk m c 1 t) (ix2 a b)
      = ∑ r : Fin 1024, Product.along (inputs m c) (cotangents m c) (1024 * (t.val / 4) + a.val) b.val (1024 * (t.val % 4) + r.val) := by
  have hN : t.val < 4 := lt_of_lt_of_eq t.isLt (show cfg0.N = 4 from N_0)
  unfold k0_pay1
  show FloatOps.matmul (Product.firstAxes 1024 1024 1024) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1024 + 1 * a.val = 1024 * (t.val / 4) + a.val; omega
  · show V m c main_arg1 (((cfg0.win 1).blk t).view.emb (ix2 r b)) = _
    rw [V_main_arg1]
    refine congrArg _ (funext fun x => Fin.ext ?_)
    match x with
    | ⟨0, _⟩ => show win0_1.index t (0 : Fin 2) * 1024 + 1 * r.val = 1024 * (t.val % 4) + r.val; omega
    | ⟨1, _⟩ => show win0_1.index t (1 : Fin 2) * 1024 + 1 * b.val = b.val; omega

/-- What the last of a block's four points writes, at an entry: the sum over all tokens. -/
theorem block (c : Dev nD) (t : Fin cfg0.N) (h : t.val % 4 = 3) (a : Fin 1024) (b : Fin 1024) :
    (outsAt0 m c t.val t.isLt).1 (ix2 a b)
      = ∑ k : Fin 4096, Product.along (inputs m c) (cotangents m c) (1024 * (t.val / 4) + a.val) b.val k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (a : Fin 1024) (b : Fin 1024) :
    (G2 m c : S1024x1024.Idx → EReal) (ix2 a b) = ∑ k : Fin 4096, Product.along (inputs m c) (cotangents m c) a.val b.val k.val := by
  have ha := a.isLt; have hb := b.isLt
  have hp : pt2Of (ix2 a b) = 4 * (a.val / 1024) + 3 := by
    show 4 * (1 * (a.val / 1024 - 0) + 1 * (b.val / 1024 - 0)) + 3 = _
    omega
  have hlt : pt2Of (ix2 a b) < cfg0.N := by rw [hp, show cfg0.N = 4 from N_0]; omega
  unfold G2
  rw [dif_pos hlt, ← outsAt0_sweep m c _ hlt]
  have hl : loc2Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt2Of (ix2 a b), hlt⟩ (by dsimp only; rw [hp]; omega)]
  dsimp only
  rw [hp, show 1024 * ((4 * (a.val / 1024) + 3) / 4) + a.val % 1024 = a.val by omega]

open Cert.OutWRefIdeal.Read in
/-- The reference's result at an entry: the same sum. -/
theorem reference (c : Dev nD) (a : Fin 1024) (b : Fin 1024) :
    val_main_v4 (F := Ideal) (m ((c : Thread nD τ).loc main_arg0)) (m ((c : Thread nD τ).loc main_arg1)) (ix2 a b)
      = ∑ k : Fin 4096, Product.along (inputs m c) (cotangents m c) a.val b.val k.val := by
  have ha := a.isLt; have hb := b.isLt
  rw [val_main_v4_apply, val_main_v3_apply]
  refine Finset.sum_congr rfl fun k _ => ?_
  have hk := k.isLt
  unfold Product.along
  rw [dif_pos ⟨by omega, by omega, by omega⟩, val_main_v1_apply, mul_comm]
  refine congrArg₂ (· * ·) ?_ ?_
  · refine congrArg (m ((c : Thread nD τ).loc main_arg0)) (funext fun x => Fin.ext ?_)
    match x with
    | ⟨0, _⟩ => rfl
    | ⟨1, _⟩ => rfl
  · refine congrArg (m ((c : Thread nD τ).loc main_arg1)) (funext fun x => Fin.ext ?_)
    match x with
    | ⟨0, _⟩ => rfl
    | ⟨1, _⟩ => rfl

instance : Cert.OutWIdeal.Facts := Cert.OutWIdeal.Gen.facts
instance : Cert.OutWRefIdeal.Facts := Cert.OutWRefIdeal.Gen.facts

/-- The weight gradient of the mixer output projection agrees with the reference's. -/
theorem algebraic : Cert.algebraic_OutWIdeal_OutWRefIdeal := fun m g m' g' _ hm =>
  ⟨fun c => G2 m c, Cert.OutWIdeal.Value.run m g,
    (θ_run Cert.OutWRefIdeal.defs _ _).mono (fun r h c => ⟨(h c).1.trans (by
      rw [(hm c).1, (hm c).2, Cert.OutWRefIdeal.Read.val_main_v4_eq]
      funext i
      rw [(eq_ix2 i : i = ix2 (i 0) (i 1))]
      exact (reference m c _ _).trans (result m c _ _).symm), (h c).2⟩)
      (Cert.OutWRefIdeal.Value.run m' g')⟩

end Cert.Proof.OutW
-- ==== Proof.Norm.lean ====
/- A row's layer norm: what the kernel's reductions, shape casts and broadcasts of a block of rows come to at an entry. -/
module

public import Idealize.ShloMosaic.Lib.ValueLayout
public import Idealize.ShloMosaic.Lib.MatmulPlain
public import Idealize.ShloMosaic.Lib.IdealHost
public import Idealize.ShloMosaic.Lib.Pipeline.Value

@[expose] public section

noncomputable section

namespace Cert.Proof.Norm

open Idealize.ShloMosaic Idealize.ShloMosaic.ValueIdx
open scoped BigOperators

/-- A row's mean. -/
def mean (z : Fin 1024 → EReal) : EReal := Ideal.div (∑ k, z k) (Ideal.ofBits .f32 0x44800000#32)

/-- A row's variance. -/
def variance (z : Fin 1024 → EReal) : EReal :=
  Ideal.div (∑ k, (z k - mean z) * (z k - mean z)) (Ideal.ofBits .f32 0x44800000#32)

/-- A row, normed, scaled and shifted, at an entry. -/
def norm (z : Fin 1024 → EReal) (g b : EReal) (j : Fin 1024) : EReal :=
  (z j - mean z) * Ideal.rsqrt (variance z + Ideal.ofBits .f32 0x3727C5AC#32) * g + b

/-- The shapes of a block of rows, of a column and of the rows' numbers. -/
abbrev Block : Shape := ⟨2, ![512, 1024]⟩
abbrev Col : Shape := ⟨2, ![512, 1]⟩
abbrev Rows : Shape := ⟨1, ![512]⟩
abbrev Line : Shape := ⟨2, ![1, 1024]⟩

variable (z : FVec Ideal Block .f32) (hr : Block.Reduces [1] Rows) (hs : Rows.ShapeCasts Col) (hb : Col.Broadcasts Block)

/-- A block's sum along its rows. -/
theorem sums (a : Fin 512) :
    multiReduction (F := Ideal) .add [1] Rows z 0x00000000#32 hr (.inl rfl) rfl (ix1 a) = ∑ k : Fin 1024, (z (ix2 a k) : EReal) := by
  refine (Ideal.multiReduction_add_single z _ hr _ _ (ix1 a)).trans (Finset.sum_congr rfl fun k _ => congrArg z (funext fun x => Fin.ext ?_))
  match x with
  | ⟨0, _⟩ => rfl
  | ⟨1, _⟩ => rfl

/-- A column read from the rows' numbers. -/
theorem column (v : FVec Ideal Rows .f32) (a : Fin 512) (k : Fin 1) : shapeCast Col v hs (ix2 a k) = v (ix1 a) := by
  have hk := k.isLt
  refine shapeCast_apply v hs (ix2 a k) (ix1 a) ?_
  rw [Shape.rowMajor_val_one, Shape.rowMajor_val_two]
  show a.val = a.val * 1 + k.val
  omega

/-- A column spread over a block. -/
theorem spread (v : FVec Ideal Col .f32) (a : Fin 512) (k : Fin 1024) : broadcastTo Block v hb (ix2 a k) = v (ix2 a (0 : Fin 1)) :=
  broadcastTo_apply v hb (ix2 a k) (ix2 a (0 : Fin 1)) fun x => match x with
    | ⟨0, _⟩ => by show a.val = (if (512 : Nat) = 1 then 0 else a.val); rw [if_neg (by decide)]
    | ⟨1, _⟩ => by show 0 = (if (1 : Nat) = 1 then 0 else k.val); rw [if_pos rfl]

/-- A block less its rows' means. -/
abbrev moved : FVec Ideal Block .f32 :=
  subf z (broadcastTo Block (divf (shapeCast Col (multiReduction (F := Ideal) .add [1] Rows z 0x00000000#32 hr (.inl rfl) rfl) hs)
    (broadcast Col (Scalar.ofBits (F := Ideal) .f32 0x44800000#32))) hb)

theorem moved_apply (a : Fin 512) (k : Fin 1024) : moved z hr hs hb (ix2 a k) = (z (ix2 a k) : EReal) - mean fun k => z (ix2 a k) := by
  refine congrArg (fun e : EReal => (z (ix2 a k) : EReal) - e) ((spread hb _ a k).trans ?_)
  exact congrArg (fun e => Ideal.div e (Ideal.ofBits .f32 0x44800000#32)) ((column hs _ a 0).trans (sums z hr a))

/-- The norm of a block, as the kernel computes it. -/
theorem whole (g b : EReal) (a : Fin 512) (j : Fin 1024) :
    (moved z hr hs hb (ix2 a j) : EReal)
        * broadcastTo Block (rsqrt (addf (divf (shapeCast Col (multiReduction (F := Ideal) .add [1] Rows (mulf (moved z hr hs hb) (moved z hr hs hb)) 0x00000000#32 hr (.inl rfl) rfl) hs)
          (broadcast Col (Scalar.ofBits (F := Ideal) .f32 0x44800000#32))) (broadcast Col (Scalar.ofBits (F := Ideal) .f32 0x3727C5AC#32)))) hb (ix2 a j)
        * g + b = norm (fun k => z (ix2 a k)) g b j := by
  refine congrArg (fun e : EReal => e * g + b) (congrArg₂ (fun p q : EReal => p * q) (moved_apply z hr hs hb a j) ((spread hb _ a j).trans ?_))
  refine congrArg (fun e => Ideal.rsqrt (Ideal.div e (Ideal.ofBits .f32 0x44800000#32) + Ideal.ofBits .f32 0x3727C5AC#32)) ?_
  refine (column hs _ a 0).trans ((sums _ hr a).trans (Finset.sum_congr rfl fun k _ => ?_))
  exact congrArg₂ (fun p q : EReal => p * q) (moved_apply z hr hs hb a k) (moved_apply z hr hs hb a k)

/-- The same with the gain and the shift read from the lines they are stored in. -/
theorem lined (hc : Line.ShapeCasts Line) (hl : Line.Broadcasts Block) (g b : FVec Ideal Line .f32) (a : Fin 512) (j : Fin 1024) :
    (moved z hr hs hb (ix2 a j) : EReal)
        * broadcastTo Block (rsqrt (addf (divf (shapeCast Col (multiReduction (F := Ideal) .add [1] Rows (mulf (moved z hr hs hb) (moved z hr hs hb)) 0x00000000#32 hr (.inl rfl) rfl) hs)
          (broadcast Col (Scalar.ofBits (F := Ideal) .f32 0x44800000#32))) (broadcast Col (Scalar.ofBits (F := Ideal) .f32 0x3727C5AC#32)))) hb (ix2 a j)
        * broadcastTo Block (shapeCast Line g hc) hl (ix2 a j) + broadcastTo Block (shapeCast Line b hc) hl (ix2 a j)
      = norm (fun k => z (ix2 a k)) (g (ix2 (0 : Fin 1) j)) (b (ix2 (0 : Fin 1) j)) j := by
  rw [← whole z hr hs hb, shapeCast_self, shapeCast_self]
  exact congrArg₂ (fun p q : EReal => _ * p + q) (broadcastTo_1b_ab_apply g hl a j) (broadcastTo_1b_ab_apply b hl a j)

/-- The sum of a product and of a scaled residual, at an entry. -/
def summed {n K : ℕ} (y : (⟨2, ![n, K]⟩ : Shape).Idx → EReal) (w : (⟨2, ![K, 1024]⟩ : Shape).Idx → EReal) (x : (⟨2, ![n, 1024]⟩ : Shape).Idx → EReal)
    (a : Fin n) (b : Fin 1024) : EReal :=
  Ideal.ofBits .f32 0x3FC854B1#32 * x (ix2 a b) + ∑ k : Fin K, y (ix2 a k) * w (ix2 k b)

end Cert.Proof.Norm
-- ==== Proof.OutLn.lean ====
/- The product that ends the mixer, with the residual and the layer norm: a point's block is whole rows. -/
module

public import proofs.«01_k».proof.Defs
public import proofs.«01_k».proof.Proof.Norm
public import proofs.«01_k».proof.Proof.Gen.OutLnIdeal.Value
public import proofs.«01_k».proof.Proof.Gen.OutLnRefIdeal.Run
public import proofs.«01_k».proof.Proof.Gen.OutLnRefIdeal.Read

@[expose] public section

noncomputable section

namespace Cert.Proof.OutLn

open Cert.Proof.Norm Cert.OutLnIdeal Cert.OutLnIdeal.Gen Cert.OutLnIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

section Block
variable (x0 : Vec Ideal S512x1024 .bf16) (x1 : Vec Ideal S1024x1024 .bf16) (x2 : Vec Ideal S512x1024 .f32) (x3 x4 : Vec Ideal S1x1024 .f32)

theorem stored (a : Fin 512) (b : Fin 1024) : k0_pay1 (F := Ideal) x0 x1 x2 (ix2 a b) = summed x0 x1 x2 a b := by
  unfold k0_pay1
  show FloatOps.matmul (DotDims.plain 512 1024 1024) none _ _ _ (ix2 a b) + Ideal.ofBits .f32 0x3FC854B1#32 * (x2 (ix2 a b) : EReal) = _
  rw [Ideal.matmul_plain_apply, constant_apply, Ideal.ofBits_zero_f32, zero_add]
  exact add_comm _ _

theorem normed (a : Fin 512) (b : Fin 1024) :
    k0_pay2 (F := Ideal) x0 x1 x2 x3 x4 (ix2 a b) = norm (summed x0 x1 x2 a) (x3 (ix2 (0 : Fin 1) b)) (x4 (ix2 (0 : Fin 1) b)) b := by
  have h := lined (k0_pay1 (F := Ideal) x0 x1 x2) reduces_S512x1024_S512 shapeCasts_S512_S512x1 broadcasts_S512x1_S512x1024
    shapeCasts_S1x1024_S1x1024 broadcasts_S1x1024_S512x1024 x3 x4 a b
  rw [funext (stored x0 x1 x2 a)] at h
  exact h

theorem block5 (a : Fin 512) (b : Fin 1024) : out0_5 (F := Ideal) x0 x1 x2 x3 x4 (ix2 a b) = summed x0 x1 x2 a b := by
  unfold out0_5
  simp only [View.ld_unit_zero (S := S512x1024) hz2, View.ld_unit_zero (S := S1024x1024) hz2]
  exact (congrFun (View.canon_cons_unit_zero (Val := Elt Ideal) (S := S512x1024) hz2 _ _ []) (ix2 a b)).trans (stored x0 x1 x2 a b)

theorem block6 (a : Fin 512) (b : Fin 1024) :
    out0_6 (F := Ideal) x0 x1 x2 x3 x4 (ix2 a b) = norm (summed x0 x1 x2 a) (x3 (ix2 (0 : Fin 1) b)) (x4 (ix2 (0 : Fin 1) b)) b := by
  unfold out0_6
  simp only [View.ld_unit_zero (S := S512x1024) hz2, View.ld_unit_zero (S := S1024x1024) hz2, View.ld_unit_zero (S := S1x1024) hz2]
  exact (congrFun (View.canon_cons_unit_zero (Val := Elt Ideal) (S := S512x1024) hz2 _ _ []) (ix2 a b)).trans (normed x0 x1 x2 x3 x4 a b)
end Block

/-- The product's two operands, the residual, and the norm's gain and shift. -/
abbrev inputs (c : Dev nD) : S4096x1024.Idx → EReal := m ((c : Thread nD τ).loc main_arg0)
abbrev weights (c : Dev nD) : S1024x1024.Idx → EReal := m ((c : Thread nD τ).loc main_arg1)
abbrev resid (c : Dev nD) : S4096x1024.Idx → EReal := m ((c : Thread nD τ).loc main_arg2)
abbrev gain (c : Dev nD) : S1024.Idx → EReal := m ((c : Thread nD τ).loc main_arg3)
abbrev shift (c : Dev nD) : S1024.Idx → EReal := m ((c : Thread nD τ).loc main_arg4)

/-- The sum at an entry. -/
abbrev entry (c : Dev nD) (a : Fin 4096) (b : Fin 1024) : EReal := summed (inputs m c) (weights m c) (resid m c) a b

/-- The norm at an entry. -/
def entryNorm (c : Dev nD) (a : Fin 4096) (b : Fin 1024) : EReal := norm (entry m c a) (gain m c (ix1 b)) (shift m c (ix1 b)) b

/-- Which blocks a point reads and writes. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

/-- The gain and the shift, as the host lays them before the launch. -/
theorem laid3 (c : Dev nD) : V m c main_v0 = broadcastInDim S1x1024 ![1] bcast_S1024_S1x1024_1 (m ((c : Thread nD τ).loc main_arg3)) := by
  show StableHlo.after hostOps0 (fun b => m (c, b)) (Proc.devRef .tc main_v0) = _
  rw [StableHlo.after_cons, StableHlo.after_cons, StableHlo.after_nil, StableHlo.unary_result_ne, StableHlo.unary_result]
  decide
theorem laid4 (c : Dev nD) : V m c main_v1 = broadcastInDim S1x1024 ![1] bcast_S1024_S1x1024_1 (m ((c : Thread nD τ).loc main_arg4)) := by
  show StableHlo.after hostOps0 (fun b => m (c, b)) (Proc.devRef .tc main_v1) = _
  rw [StableHlo.after_cons, StableHlo.after_cons, StableHlo.after_nil, StableHlo.unary_result, StableHlo.unary_result_ne]
  decide

theorem line_apply (x : (⟨S1024, .f32⟩ : BufTy).Contents (Elt Ideal)) (b : Fin 1024) :
    broadcastInDim S1x1024 ![1] bcast_S1024_S1x1024_1 x (ix2 (0 : Fin 1) b) = x (ix1 b) :=
  broadcastInDim_apply _ bcast_S1024_S1x1024_1 x (ix2 (0 : Fin 1) b) (ix1 b) fun a => match a with
    | ⟨0, _⟩ => by show b.val = if (1024 : Nat) = 1 then 0 else b.val; rw [if_neg (by decide)]

section Point
variable (c : Dev nD) (t : Fin cfg0.N) (a : Fin 512) (r : Fin 4096) (hr : r.val = t.val * 512 + a.val)
include hr

/-- A point's block of sums is the rows' sums. -/
theorem at_sum : summed (iblk m c 0 t) (iblk m c 1 t) (iblk m c 2 t) a = entry m c r := by
  obtain ⟨e0, e1⟩ := index0 t
  obtain ⟨f0, f1⟩ := index1 t
  obtain ⟨g0, g1⟩ := index2 t
  funext b
  refine congrArg₂ (fun p q : EReal => Ideal.ofBits .f32 0x3FC854B1#32 * p + q) ?_ (Finset.sum_congr rfl fun k _ => congrArg₂ (fun p q : EReal => p * q) ?_ ?_)
  · show V m c main_arg2 (((cfg0.win 2).blk t).view.emb (ix2 a b)) = _
    rw [V_main_arg2]
    refine congrArg _ (funext fun x => Fin.ext ?_)
    match x with
    | ⟨0, _⟩ => show win0_2.index t (0 : Fin 2) * 512 + 1 * a.val = r.val; omega
    | ⟨1, _⟩ => show win0_2.index t (1 : Fin 2) * 1024 + 1 * b.val = b.val; omega
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 1024 + 1 * k.val = k.val; omega
  · show V m c main_arg1 (((cfg0.win 1).blk t).view.emb (ix2 k b)) = _
    rw [V_main_arg1]
    refine congrArg _ (funext fun x => Fin.ext ?_)
    match x with
    | ⟨0, _⟩ => show win0_1.index t (0 : Fin 2) * 1024 + 1 * k.val = k.val; omega
    | ⟨1, _⟩ => show win0_1.index t (1 : Fin 2) * 1024 + 1 * b.val = b.val; omega
omit hr

theorem at_gain (b : Fin 1024) : iblk m c 3 t (ix2 (0 : Fin 1) b) = gain m c (ix1 b) := by
  obtain ⟨e0, e1⟩ := index3 t
  show V m c main_v0 (((cfg0.win 3).blk t).view.emb (ix2 (0 : Fin 1) b)) = _
  rw [laid3]
  refine Eq.trans (congrArg _ (funext fun x => Fin.ext ?_)) (line_apply _ b)
  match x with
  | ⟨0, _⟩ => show win0_3.index t (0 : Fin 2) * 1 + 1 * 0 = 0; omega
  | ⟨1, _⟩ => show win0_3.index t (1 : Fin 2) * 1024 + 1 * b.val = b.val; omega

theorem at_shift (b : Fin 1024) : iblk m c 4 t (ix2 (0 : Fin 1) b) = shift m c (ix1 b) := by
  obtain ⟨e0, e1⟩ := index4 t
  show V m c main_v1 (((cfg0.win 4).blk t).view.emb (ix2 (0 : Fin 1) b)) = _
  rw [laid4]
  refine Eq.trans (congrArg _ (funext fun x => Fin.ext ?_)) (line_apply _ b)
  match x with
  | ⟨0, _⟩ => show win0_4.index t (0 : Fin 2) * 1 + 1 * 0 = 0; omega
  | ⟨1, _⟩ => show win0_4.index t (1 : Fin 2) * 1024 + 1 * b.val = b.val; omega
end Point

/-- The point whose block holds a row. -/
theorem point (r : Fin 4096) : ∃ (t : Fin cfg0.N) (a : Fin 512), r.val = t.val * 512 + a.val := by
  have hr := r.isLt
  exact ⟨⟨r.val / 512, by rw [show cfg0.N = 8 from N_0]; omega⟩, ⟨r.val % 512, by omega⟩, by show r.val = r.val / 512 * 512 + r.val % 512; omega⟩

set_option maxRecDepth 16384 in
/-- The sums, as the kernel leaves them. -/
theorem result5 (c : Dev nD) (r : Fin 4096) (b : Fin 1024) : ((dats m 0 c).arrAt 5 cfg0.N : S4096x1024.Idx → EReal) (ix2 r b) = entry m c r b := by
  obtain ⟨t, a, ht⟩ := point r
  have h := congrFun ((blocks5 m c t (flush5 t)).trans (flushed5 m c t)) (ix2 a b)
  obtain ⟨e0, e1⟩ := index5 t
  refine Eq.trans (congrArg ((dats m 0 c).arrAt 5 cfg0.N) ?_) (h.trans ((block5 (iblk m c 0 t) (iblk m c 1 t) (iblk m c 2 t) (iblk m c 3 t) (iblk m c 4 t) a b).trans (congrFun (at_sum m c t a r ht) b)))
  refine funext fun x => Fin.ext ?_
  match x with
  | ⟨0, _⟩ => show r.val = win0_5.index t (0 : Fin 2) * 512 + 1 * a.val; omega
  | ⟨1, _⟩ => show b.val = win0_5.index t (1 : Fin 2) * 1024 + 1 * b.val; omega

set_option maxRecDepth 16384 in
/-- The norm, as the kernel leaves it. -/
theorem result6 (c : Dev nD) (r : Fin 4096) (b : Fin 1024) : ((dats m 0 c).arrAt 6 cfg0.N : S4096x1024.Idx → EReal) (ix2 r b) = entryNorm m c r b := by
  obtain ⟨t, a, ht⟩ := point r
  have h := congrFun ((blocks6 m c t (flush6 t)).trans (flushed6 m c t)) (ix2 a b)
  obtain ⟨e0, e1⟩ := index6 t
  refine Eq.trans (congrArg ((dats m 0 c).arrAt 6 cfg0.N) ?_) (h.trans ((block6 (iblk m c 0 t) (iblk m c 1 t) (iblk m c 2 t) (iblk m c 3 t) (iblk m c 4 t) a b).trans ?_))
  · refine funext fun x => Fin.ext ?_
    match x with
    | ⟨0, _⟩ => show r.val = win0_6.index t (0 : Fin 2) * 512 + 1 * a.val; omega
    | ⟨1, _⟩ => show b.val = win0_6.index t (1 : Fin 2) * 1024 + 1 * b.val; omega
  · rw [at_sum m c t a r ht, at_gain, at_shift]
    rfl

section Reference
open Cert.OutLnRefIdeal.Read

variable (x0 : S4096x1024.Idx → EReal) (x1 : S1024x1024.Idx → EReal) (x2 : S4096x1024.Idx → EReal) (x3 x4 : S1024.Idx → EReal)

/-- The reference's sum at an entry. -/
theorem reference5 (a : Fin 4096) (b : Fin 1024) :
    val_main_v5 (F := Ideal) x0 x1 x2 (ix2 a b) = summed x0 x1 x2 a b := by
  rw [val_main_v5_apply, val_main_v1_apply, val_main_v0_apply, val_main_v4_apply]
  refine congrArg (fun e : EReal => Ideal.ofBits .f32 0x3FC854B1#32 * x2 (ix2 a b) + e) (Finset.sum_congr rfl fun k _ => ?_)
  rw [val_main_v2_apply, val_main_v3_apply]
  refine congrArg₂ (fun p q : EReal => p * q) (congrArg x0 (funext fun x => ?_)) (congrArg x1 (funext fun x => ?_))
  · match x with
    | ⟨0, _⟩ => rfl
    | ⟨1, _⟩ => rfl
  · match x with
    | ⟨0, _⟩ => rfl
    | ⟨1, _⟩ => rfl

/-- The reference's mean of a row. -/
theorem mean_row (i : Cert.OutLnRefIdeal.S4096x1.Idx) (a : Fin 4096) (h : (i 0).val = a.val) :
    val_main_v9 (F := Ideal) x0 x1 x2 i = mean fun k => val_main_v5 (F := Ideal) x0 x1 x2 (ix2 a k) := by
  rw [val_main_v9_apply, val_main_v7_apply, val_main_v8_apply, val_main_v6_apply, val_main_cst_0_apply]
  refine congrArg (fun e => Ideal.div e (Ideal.ofBits .f32 0x44800000#32)) ?_
  refine (congrArg (fun e : EReal => e + _) Ideal.ofBits_zero_f32).trans ((zero_add _).trans (Finset.sum_congr rfl fun k _ => congrArg _ (funext fun x => Fin.ext ?_)))
  match x with
  | ⟨0, _⟩ => exact h
  | ⟨1, _⟩ => rfl

/-- The reference's variance of a row. -/
theorem variance_row (i : Cert.OutLnRefIdeal.S4096x1.Idx) (a : Fin 4096) (h : (i 0).val = a.val) :
    val_main_v16 (F := Ideal) x0 x1 x2 i = variance fun k => val_main_v5 (F := Ideal) x0 x1 x2 (ix2 a k) := by
  rw [val_main_v16_apply, val_main_v14_apply, val_main_v15_apply, val_main_v13_apply, val_main_cst_2_apply]
  refine congrArg (fun e => Ideal.div e (Ideal.ofBits .f32 0x44800000#32)) ?_
  refine (congrArg (fun e : EReal => e + _) Ideal.ofBits_zero_f32).trans ((zero_add _).trans (Finset.sum_congr rfl fun k _ => ?_))
  have hi : idx_main_v13 (idx_main_v14 i) k = ix2 a k := funext fun x => Fin.ext (by
    match x with
    | ⟨0, _⟩ => exact h
    | ⟨1, _⟩ => rfl)
  rw [hi, val_main_v12_apply, val_main_v11_apply, val_main_v10_apply, mean_row x0 x1 x2 _ a rfl]
  rfl

/-- The reference's norm at an entry. -/
theorem reference29 (a : Fin 4096) (b : Fin 1024) :
    val_main_v29 (F := Ideal) x0 x1 x2 x3 x4 (ix2 a b)
      = norm (fun k => val_main_v5 (F := Ideal) x0 x1 x2 (ix2 a k)) (x3 (ix1 b)) (x4 (ix1 b)) b := by
  rw [val_main_v29_apply, val_main_v26_apply, val_main_v23_apply, val_main_v18_apply, val_main_v17_apply, mean_row x0 x1 x2 _ a rfl,
    val_main_v22_apply, val_main_v21_apply, val_main_v20_apply, variance_row x0 x1 x2 _ a rfl, val_main_v19_apply,
    val_main_v25_apply, val_main_v24_apply, val_main_v28_apply, val_main_v27_apply]
  have h3 : idx_main_v24 (idx_main_v25 (ix2 a b)) = ix1 b := funext fun x => match x with | ⟨0, _⟩ => rfl
  have h4 : idx_main_v27 (idx_main_v28 (ix2 a b)) = ix1 b := funext fun x => match x with | ⟨0, _⟩ => rfl
  rw [h3, h4]
  rfl
end Reference

open Cert.OutLnRefIdeal.Read in
theorem agree5 (c : Dev nD) : val_main_v5 (F := Ideal) (inputs m c) (weights m c) (resid m c) = (dats m 0 c).arrAt 5 cfg0.N := by
  funext i
  rw [(eq_ix2 i : i = ix2 (i 0) (i 1))]
  exact (reference5 (inputs m c) (weights m c) (resid m c) _ _).trans (result5 m c _ _).symm

open Cert.OutLnRefIdeal.Read in
theorem agree6 (c : Dev nD) : val_main_v29 (F := Ideal) (inputs m c) (weights m c) (resid m c) (gain m c) (shift m c) = (dats m 0 c).arrAt 6 cfg0.N := by
  funext i
  rw [(eq_ix2 i : i = ix2 (i 0) (i 1))]
  refine (reference29 (inputs m c) (weights m c) (resid m c) (gain m c) (shift m c) _ _).trans (Eq.trans ?_ (result6 m c _ _).symm)
  exact congrArg (fun z => norm z _ _ _) (funext fun k => reference5 (inputs m c) (weights m c) (resid m c) _ k)

instance : Cert.OutLnIdeal.Facts := Cert.OutLnIdeal.Gen.facts
instance : Cert.OutLnRefIdeal.Facts := Cert.OutLnRefIdeal.Gen.facts

/-- The sum and its norm agree with the reference's. -/
theorem algebraic : Cert.algebraic_OutLnIdeal_OutLnRefIdeal := fun m g m' g' _ hm =>
  ⟨fun c => (dats m 0 c).arrAt 5 cfg0.N, fun c => (dats m 0 c).arrAt 6 cfg0.N, Cert.OutLnIdeal.Value.run_blocks m g,
    (θ_run Cert.OutLnRefIdeal.defs _ _).mono (fun r h c => ⟨(h c).1.trans (by
      rw [(hm c).1, (hm c).2.1, (hm c).2.2.1, Cert.OutLnRefIdeal.Read.val_main_v5_eq]
      exact agree5 m c), (h c).2.1.trans (by
      rw [(hm c).1, (hm c).2.1, (hm c).2.2.1, (hm c).2.2.2.1, (hm c).2.2.2.2, Cert.OutLnRefIdeal.Read.val_main_v29_eq]
      exact agree6 m c), (h c).2.2⟩)
      (Cert.OutLnRefIdeal.Value.run m' g')⟩

end Cert.Proof.OutLn
-- ==== Proof.FfnOutLn.lean ====
/- The product that ends the feed-forward layer, with the residual and the layer norm: a point's block is whole rows. -/
module

public import proofs.«01_k».proof.Defs
public import proofs.«01_k».proof.Proof.Norm
public import proofs.«01_k».proof.Proof.Gen.FfnOutLnIdeal.Value
public import proofs.«01_k».proof.Proof.Gen.FfnOutLnRefIdeal.Run
public import proofs.«01_k».proof.Proof.Gen.FfnOutLnRefIdeal.Read

@[expose] public section

noncomputable section

namespace Cert.Proof.FfnOutLn

open Cert.Proof.Norm Cert.FfnOutLnIdeal Cert.FfnOutLnIdeal.Gen Cert.FfnOutLnIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

section Block
variable (x0 : Vec Ideal S512x2816 .bf16) (x1 : Vec Ideal S2816x1024 .bf16) (x2 : Vec Ideal S512x1024 .f32) (x3 x4 : Vec Ideal S1x1024 .f32)

theorem stored (a : Fin 512) (b : Fin 1024) : k0_pay1 (F := Ideal) x0 x1 x2 (ix2 a b) = summed x0 x1 x2 a b := by
  unfold k0_pay1
  show FloatOps.matmul (DotDims.plain 512 2816 1024) none _ _ _ (ix2 a b) + Ideal.ofBits .f32 0x3FC854B1#32 * (x2 (ix2 a b) : EReal) = _
  rw [Ideal.matmul_plain_apply, constant_apply, Ideal.ofBits_zero_f32, zero_add]
  exact add_comm _ _

theorem normed (a : Fin 512) (b : Fin 1024) :
    k0_pay2 (F := Ideal) x0 x1 x2 x3 x4 (ix2 a b) = norm (summed x0 x1 x2 a) (x3 (ix2 (0 : Fin 1) b)) (x4 (ix2 (0 : Fin 1) b)) b := by
  have h := lined (k0_pay1 (F := Ideal) x0 x1 x2) reduces_S512x1024_S512 shapeCasts_S512_S512x1 broadcasts_S512x1_S512x1024
    shapeCasts_S1x1024_S1x1024 broadcasts_S1x1024_S512x1024 x3 x4 a b
  rw [funext (stored x0 x1 x2 a)] at h
  exact h

theorem block5 (a : Fin 512) (b : Fin 1024) : out0_5 (F := Ideal) x0 x1 x2 x3 x4 (ix2 a b) = summed x0 x1 x2 a b := by
  unfold out0_5
  simp only [View.ld_unit_zero (S := S512x2816) hz2, View.ld_unit_zero (S := S512x1024) hz2, View.ld_unit_zero (S := S2816x1024) hz2]
  exact (congrFun (View.canon_cons_unit_zero (Val := Elt Ideal) (S := S512x1024) hz2 _ _ []) (ix2 a b)).trans (stored x0 x1 x2 a b)

theorem block6 (a : Fin 512) (b : Fin 1024) :
    out0_6 (F := Ideal) x0 x1 x2 x3 x4 (ix2 a b) = norm (summed x0 x1 x2 a) (x3 (ix2 (0 : Fin 1) b)) (x4 (ix2 (0 : Fin 1) b)) b := by
  unfold out0_6
  simp only [View.ld_unit_zero (S := S512x2816) hz2, View.ld_unit_zero (S := S512x1024) hz2, View.ld_unit_zero (S := S2816x1024) hz2, View.ld_unit_zero (S := S1x1024) hz2]
  exact (congrFun (View.canon_cons_unit_zero (Val := Elt Ideal) (S := S512x1024) hz2 _ _ []) (ix2 a b)).trans (normed x0 x1 x2 x3 x4 a b)
end Block

/-- The product's two operands, the residual, and the norm's gain and shift. -/
abbrev inputs (c : Dev nD) : S4096x2816.Idx → EReal := m ((c : Thread nD τ).loc main_arg0)
abbrev weights (c : Dev nD) : S2816x1024.Idx → EReal := m ((c : Thread nD τ).loc main_arg1)
abbrev resid (c : Dev nD) : S4096x1024.Idx → EReal := m ((c : Thread nD τ).loc main_arg2)
abbrev gain (c : Dev nD) : S1024.Idx → EReal := m ((c : Thread nD τ).loc main_arg3)
abbrev shift (c : Dev nD) : S1024.Idx → EReal := m ((c : Thread nD τ).loc main_arg4)

/-- The sum at an entry. -/
abbrev entry (c : Dev nD) (a : Fin 4096) (b : Fin 1024) : EReal := summed (inputs m c) (weights m c) (resid m c) a b

/-- The norm at an entry. -/
def entryNorm (c : Dev nD) (a : Fin 4096) (b : Fin 1024) : EReal := norm (entry m c a) (gain m c (ix1 b)) (shift m c (ix1 b)) b

/-- Which blocks a point reads and writes. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

/-- The gain and the shift, as the host lays them before the launch. -/
theorem laid3 (c : Dev nD) : V m c main_v0 = broadcastInDim S1x1024 ![1] bcast_S1024_S1x1024_1 (m ((c : Thread nD τ).loc main_arg3)) := by
  show StableHlo.after hostOps0 (fun b => m (c, b)) (Proc.devRef .tc main_v0) = _
  rw [StableHlo.after_cons, StableHlo.after_cons, StableHlo.after_nil, StableHlo.unary_result_ne, StableHlo.unary_result]
  decide
theorem laid4 (c : Dev nD) : V m c main_v1 = broadcastInDim S1x1024 ![1] bcast_S1024_S1x1024_1 (m ((c : Thread nD τ).loc main_arg4)) := by
  show StableHlo.after hostOps0 (fun b => m (c, b)) (Proc.devRef .tc main_v1) = _
  rw [StableHlo.after_cons, StableHlo.after_cons, StableHlo.after_nil, StableHlo.unary_result, StableHlo.unary_result_ne]
  decide

theorem line_apply (x : (⟨S1024, .f32⟩ : BufTy).Contents (Elt Ideal)) (b : Fin 1024) :
    broadcastInDim S1x1024 ![1] bcast_S1024_S1x1024_1 x (ix2 (0 : Fin 1) b) = x (ix1 b) :=
  broadcastInDim_apply _ bcast_S1024_S1x1024_1 x (ix2 (0 : Fin 1) b) (ix1 b) fun a => match a with
    | ⟨0, _⟩ => by show b.val = if (1024 : Nat) = 1 then 0 else b.val; rw [if_neg (by decide)]

section Point
variable (c : Dev nD) (t : Fin cfg0.N) (a : Fin 512) (r : Fin 4096) (hr : r.val = t.val * 512 + a.val)
include hr

/-- A point's block of sums is the rows' sums. -/
theorem at_sum : summed (iblk m c 0 t) (iblk m c 1 t) (iblk m c 2 t) a = entry m c r := by
  obtain ⟨e0, e1⟩ := index0 t
  obtain ⟨f0, f1⟩ := index1 t
  obtain ⟨g0, g1⟩ := index2 t
  funext b
  refine congrArg₂ (fun p q : EReal => Ideal.ofBits .f32 0x3FC854B1#32 * p + q) ?_ (Finset.sum_congr rfl fun k _ => congrArg₂ (fun p q : EReal => p * q) ?_ ?_)
  · show V m c main_arg2 (((cfg0.win 2).blk t).view.emb (ix2 a b)) = _
    rw [V_main_arg2]
    refine congrArg _ (funext fun x => Fin.ext ?_)
    match x with
    | ⟨0, _⟩ => show win0_2.index t (0 : Fin 2) * 512 + 1 * a.val = r.val; omega
    | ⟨1, _⟩ => show win0_2.index t (1 : Fin 2) * 1024 + 1 * b.val = b.val; omega
  · show V m c main_arg0 (((cfg0.win 0).blk t).view.emb (ix2 a k)) = _
    rw [V_main_arg0]
    refine congrArg _ (funext fun x => Fin.ext ?_)
    match x with
    | ⟨0, _⟩ => show win0_0.index t (0 : Fin 2) * 512 + 1 * a.val = r.val; omega
    | ⟨1, _⟩ => show win0_0.index t (1 : Fin 2) * 2816 + 1 * k.val = k.val; omega
  · show V m c main_arg1 (((cfg0.win 1).blk t).view.emb (ix2 k b)) = _
    rw [V_main_arg1]
    refine congrArg _ (funext fun x => Fin.ext ?_)
    match x with
    | ⟨0, _⟩ => show win0_1.index t (0 : Fin 2) * 2816 + 1 * k.val = k.val; omega
    | ⟨1, _⟩ => show win0_1.index t (1 : Fin 2) * 1024 + 1 * b.val = b.val; omega
omit hr

theorem at_gain (b : Fin 1024) : iblk m c 3 t (ix2 (0 : Fin 1) b) = gain m c (ix1 b) := by
  obtain ⟨e0, e1⟩ := index3 t
  show V m c main_v0 (((cfg0.win 3).blk t).view.emb (ix2 (0 : Fin 1) b)) = _
  rw [laid3]
  refine Eq.trans (congrArg _ (funext fun x => Fin.ext ?_)) (line_apply _ b)
  match x with
  | ⟨0, _⟩ => show win0_3.index t (0 : Fin 2) * 1 + 1 * 0 = 0; omega
  | ⟨1, _⟩ => show win0_3.index t (1 : Fin 2) * 1024 + 1 * b.val = b.val; omega

theorem at_shift (b : Fin 1024) : iblk m c 4 t (ix2 (0 : Fin 1) b) = shift m c (ix1 b) := by
  obtain ⟨e0, e1⟩ := index4 t
  show V m c main_v1 (((cfg0.win 4).blk t).view.emb (ix2 (0 : Fin 1) b)) = _
  rw [laid4]
  refine Eq.trans (congrArg _ (funext fun x => Fin.ext ?_)) (line_apply _ b)
  match x with
  | ⟨0, _⟩ => show win0_4.index t (0 : Fin 2) * 1 + 1 * 0 = 0; omega
  | ⟨1, _⟩ => show win0_4.index t (1 : Fin 2) * 1024 + 1 * b.val = b.val; omega
end Point

/-- The point whose block holds a row. -/
theorem point (r : Fin 4096) : ∃ (t : Fin cfg0.N) (a : Fin 512), r.val = t.val * 512 + a.val := by
  have hr := r.isLt
  exact ⟨⟨r.val / 512, by rw [show cfg0.N = 8 from N_0]; omega⟩, ⟨r.val % 512, by omega⟩, by show r.val = r.val / 512 * 512 + r.val % 512; omega⟩

set_option maxRecDepth 16384 in
/-- The sums, as the kernel leaves them. -/
theorem result5 (c : Dev nD) (r : Fin 4096) (b : Fin 1024) : ((dats m 0 c).arrAt 5 cfg0.N : S4096x1024.Idx → EReal) (ix2 r b) = entry m c r b := by
  obtain ⟨t, a, ht⟩ := point r
  have h := congrFun ((blocks5 m c t (flush5 t)).trans (flushed5 m c t)) (ix2 a b)
  obtain ⟨e0, e1⟩ := index5 t
  refine Eq.trans (congrArg ((dats m 0 c).arrAt 5 cfg0.N) ?_) (h.trans ((block5 (iblk m c 0 t) (iblk m c 1 t) (iblk m c 2 t) (iblk m c 3 t) (iblk m c 4 t) a b).trans (congrFun (at_sum m c t a r ht) b)))
  refine funext fun x => Fin.ext ?_
  match x with
  | ⟨0, _⟩ => show r.val = win0_5.index t (0 : Fin 2) * 512 + 1 * a.val; omega
  | ⟨1, _⟩ => show b.val = win0_5.index t (1 : Fin 2) * 1024 + 1 * b.val; omega

set_option maxRecDepth 16384 in
/-- The norm, as the kernel leaves it. -/
theorem result6 (c : Dev nD) (r : Fin 4096) (b : Fin 1024) : ((dats m 0 c).arrAt 6 cfg0.N : S4096x1024.Idx → EReal) (ix2 r b) = entryNorm m c r b := by
  obtain ⟨t, a, ht⟩ := point r
  have h := congrFun ((blocks6 m c t (flush6 t)).trans (flushed6 m c t)) (ix2 a b)
  obtain ⟨e0, e1⟩ := index6 t
  refine Eq.trans (congrArg ((dats m 0 c).arrAt 6 cfg0.N) ?_) (h.trans ((block6 (iblk m c 0 t) (iblk m c 1 t) (iblk m c 2 t) (iblk m c 3 t) (iblk m c 4 t) a b).trans ?_))
  · refine funext fun x => Fin.ext ?_
    match x with
    | ⟨0, _⟩ => show r.val = win0_6.index t (0 : Fin 2) * 512 + 1 * a.val; omega
    | ⟨1, _⟩ => show b.val = win0_6.index t (1 : Fin 2) * 1024 + 1 * b.val; omega
  · rw [at_sum m c t a r ht, at_gain, at_shift]
    rfl

section Reference
open Cert.FfnOutLnRefIdeal.Read

variable (x0 : S4096x2816.Idx → EReal) (x1 : S2816x1024.Idx → EReal) (x2 : S4096x1024.Idx → EReal) (x3 x4 : S1024.Idx → EReal)

/-- The reference's sum at an entry. -/
theorem reference5 (a : Fin 4096) (b : Fin 1024) :
    val_main_v5 (F := Ideal) x0 x1 x2 (ix2 a b) = summed x0 x1 x2 a b := by
  rw [val_main_v5_apply, val_main_v1_apply, val_main_v0_apply, val_main_v4_apply]
  refine congrArg (fun e : EReal => Ideal.ofBits .f32 0x3FC854B1#32 * x2 (ix2 a b) + e) (Finset.sum_congr rfl fun k _ => ?_)
  rw [val_main_v2_apply, val_main_v3_apply]
  refine congrArg₂ (fun p q : EReal => p * q) (congrArg x0 (funext fun x => ?_)) (congrArg x1 (funext fun x => ?_))
  · match x with
    | ⟨0, _⟩ => rfl
    | ⟨1, _⟩ => rfl
  · match x with
    | ⟨0, _⟩ => rfl
    | ⟨1, _⟩ => rfl

/-- The reference's mean of a row. -/
theorem mean_row (i : Cert.FfnOutLnRefIdeal.S4096x1.Idx) (a : Fin 4096) (h : (i 0).val = a.val) :
    val_main_v9 (F := Ideal) x0 x1 x2 i = mean fun k => val_main_v5 (F := Ideal) x0 x1 x2 (ix2 a k) := by
  rw [val_main_v9_apply, val_main_v7_apply, val_main_v8_apply, val_main_v6_apply, val_main_cst_0_apply]
  refine congrArg (fun e => Ideal.div e (Ideal.ofBits .f32 0x44800000#32)) ?_
  refine (congrArg (fun e : EReal => e + _) Ideal.ofBits_zero_f32).trans ((zero_add _).trans (Finset.sum_congr rfl fun k _ => congrArg _ (funext fun x => Fin.ext ?_)))
  match x with
  | ⟨0, _⟩ => exact h
  | ⟨1, _⟩ => rfl

/-- The reference's variance of a row. -/
theorem variance_row (i : Cert.FfnOutLnRefIdeal.S4096x1.Idx) (a : Fin 4096) (h : (i 0).val = a.val) :
    val_main_v16 (F := Ideal) x0 x1 x2 i = variance fun k => val_main_v5 (F := Ideal) x0 x1 x2 (ix2 a k) := by
  rw [val_main_v16_apply, val_main_v14_apply, val_main_v15_apply, val_main_v13_apply, val_main_cst_2_apply]
  refine congrArg (fun e => Ideal.div e (Ideal.ofBits .f32 0x44800000#32)) ?_
  refine (congrArg (fun e : EReal => e + _) Ideal.ofBits_zero_f32).trans ((zero_add _).trans (Finset.sum_congr rfl fun k _ => ?_))
  have hi : idx_main_v13 (idx_main_v14 i) k = ix2 a k := funext fun x => Fin.ext (by
    match x with
    | ⟨0, _⟩ => exact h
    | ⟨1, _⟩ => rfl)
  rw [hi, val_main_v12_apply, val_main_v11_apply, val_main_v10_apply, mean_row x0 x1 x2 _ a rfl]
  rfl

/-- The reference's norm at an entry. -/
theorem reference29 (a : Fin 4096) (b : Fin 1024) :
    val_main_v29 (F := Ideal) x0 x1 x2 x3 x4 (ix2 a b)
      = norm (fun k => val_main_v5 (F := Ideal) x0 x1 x2 (ix2 a k)) (x3 (ix1 b)) (x4 (ix1 b)) b := by
  rw [val_main_v29_apply, val_main_v26_apply, val_main_v23_apply, val_main_v18_apply, val_main_v17_apply, mean_row x0 x1 x2 _ a rfl,
    val_main_v22_apply, val_main_v21_apply, val_main_v20_apply, variance_row x0 x1 x2 _ a rfl, val_main_v19_apply,
    val_main_v25_apply, val_main_v24_apply, val_main_v28_apply, val_main_v27_apply]
  have h3 : idx_main_v24 (idx_main_v25 (ix2 a b)) = ix1 b := funext fun x => match x with | ⟨0, _⟩ => rfl
  have h4 : idx_main_v27 (idx_main_v28 (ix2 a b)) = ix1 b := funext fun x => match x with | ⟨0, _⟩ => rfl
  rw [h3, h4]
  rfl
end Reference

open Cert.FfnOutLnRefIdeal.Read in
theorem agree5 (c : Dev nD) : val_main_v5 (F := Ideal) (inputs m c) (weights m c) (resid m c) = (dats m 0 c).arrAt 5 cfg0.N := by
  funext i
  rw [(eq_ix2 i : i = ix2 (i 0) (i 1))]
  exact (reference5 (inputs m c) (weights m c) (resid m c) _ _).trans (result5 m c _ _).symm

open Cert.FfnOutLnRefIdeal.Read in
theorem agree6 (c : Dev nD) : val_main_v29 (F := Ideal) (inputs m c) (weights m c) (resid m c) (gain m c) (shift m c) = (dats m 0 c).arrAt 6 cfg0.N := by
  funext i
  rw [(eq_ix2 i : i = ix2 (i 0) (i 1))]
  refine (reference29 (inputs m c) (weights m c) (resid m c) (gain m c) (shift m c) _ _).trans (Eq.trans ?_ (result6 m c _ _).symm)
  exact congrArg (fun z => norm z _ _ _) (funext fun k => reference5 (inputs m c) (weights m c) (resid m c) _ k)

instance : Cert.FfnOutLnIdeal.Facts := Cert.FfnOutLnIdeal.Gen.facts
instance : Cert.FfnOutLnRefIdeal.Facts := Cert.FfnOutLnRefIdeal.Gen.facts

/-- The sum and its norm agree with the reference's. -/
theorem algebraic : Cert.algebraic_FfnOutLnIdeal_FfnOutLnRefIdeal := fun m g m' g' _ hm =>
  ⟨fun c => (dats m 0 c).arrAt 5 cfg0.N, fun c => (dats m 0 c).arrAt 6 cfg0.N, Cert.FfnOutLnIdeal.Value.run_blocks m g,
    (θ_run Cert.FfnOutLnRefIdeal.defs _ _).mono (fun r h c => ⟨(h c).1.trans (by
      rw [(hm c).1, (hm c).2.1, (hm c).2.2.1, Cert.FfnOutLnRefIdeal.Read.val_main_v5_eq]
      exact agree5 m c), (h c).2.1.trans (by
      rw [(hm c).1, (hm c).2.1, (hm c).2.2.1, (hm c).2.2.2.1, (hm c).2.2.2.2, Cert.FfnOutLnRefIdeal.Read.val_main_v29_eq]
      exact agree6 m c), (h c).2.2⟩)
      (Cert.FfnOutLnRefIdeal.Value.run m' g')⟩

end Cert.Proof.FfnOutLn
-- ==== Proof.Pages.lean ====
/- Pages of a stack of three arrays, and the product of one page of a stack with the transpose of another's: what the gradients
   of the three branch products share. -/
module

public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Proof.Pages

open Idealize.ShloMosaic Idealize.ShloMosaic.ValueIdx
open scoped BigOperators

/-- A page sliced out of a stack and laid as a matrix holds the stack's entries. -/
theorem page_apply {α : Type} {M N : ℕ} (n : Fin 3) (x : (⟨3, ![3, M, N]⟩ : Shape).Idx → α)
    (h : (⟨3, ![3, M, N]⟩ : Shape).Slices ![n.val, 0, 0] ⟨3, ![1, M, N]⟩)
    (h' : (⟨3, ![1, M, N]⟩ : Shape).ShapeCasts ⟨2, ![M, N]⟩) (a : Fin M) (b : Fin N) :
    shapeCast ⟨2, ![M, N]⟩ (extractStridedSlice ⟨3, ![1, M, N]⟩ ![n.val, 0, 0] x h) h' (ix2 a b) = x (ix3 n a b) :=
  (shapeCast_1ab_ab_apply _ h' a b).trans (extractStridedSlice_apply _ x h _ _ fun y => match y with
    | ⟨0, _⟩ => rfl
    | ⟨1, _⟩ => (Nat.zero_add _).symm
    | ⟨2, _⟩ => (Nat.zero_add _).symm)

/-- The product of page `n` of `d` with the transpose of page `n` of `w`, at an entry. -/
def entry {M K N : ℕ} (n : Fin 3) (d : (⟨3, ![3, M, K]⟩ : Shape).Idx → EReal) (w : (⟨3, ![3, N, K]⟩ : Shape).Idx → EReal)
    (a : Fin M) (b : Fin N) : EReal :=
  ∑ k : Fin K, d (ix3 n a k) * w (ix3 n b k)

/-- The product of one page's block with the transpose of a matrix, at an entry. -/
theorem stored {M K N : ℕ} {φ₁ φ₂ : FTy} (x : FVec Ideal ⟨3, ![1, M, K]⟩ φ₁) (y : FVec Ideal ⟨2, ![N, K]⟩ φ₂)
    (hx : (⟨3, ![1, M, K]⟩ : Shape).ShapeCasts ⟨2, ![M, K]⟩) (hy : (⟨2, ![N, K]⟩ : Shape).ShapeCasts ⟨2, ![N, K]⟩)
    (a : Fin M) (b : Fin N) :
    FloatOps.matmul (DotDims.transposedRhs M K N) none (shapeCast ⟨2, ![M, K]⟩ x hx) (shapeCast ⟨2, ![N, K]⟩ y hy)
        (constant (F := Ideal) ⟨2, ![M, N]⟩ .f32 0x00000000#32) (ix2 a b)
      = ∑ k : Fin K, (x (ix3 (0 : Fin 1) a k) : EReal) * y (ix2 b k) := by
  rw [Ideal.matmul_transposedRhs_apply, constant_apply, Ideal.ofBits_zero_f32, zero_add]
  exact Finset.sum_congr rfl fun k _ => congrArg₂ (· * ·) (shapeCast_1ab_ab_apply x hx a k) (congrFun (shapeCast_self y hy) (ix2 b k))

end Cert.Proof.Pages
-- ==== Proof.BranchX0.lean ====
/- The input gradient of branch product 0: what the kernel leaves, entry by entry, is the product of the cotangent's page with the
   transpose of the weight's page. -/
module

public import proofs.«01_k».proof.Defs
public import proofs.«01_k».proof.Proof.Pages
public import proofs.«01_k».proof.Proof.Gen.BranchX0Ideal.Value
public import proofs.«01_k».proof.Proof.Gen.BranchX0RefIdeal.Run
public import proofs.«01_k».proof.Proof.Gen.BranchX0RefIdeal.Read
public import Idealize.ShloMosaic.Lib.IdealHost

@[expose] public section

noncomputable section

namespace Cert.Proof.BranchX0

open Cert.BranchX0Ideal Cert.BranchX0Ideal.Gen Cert.BranchX0Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- What a point leaves in its block. -/
theorem block (x0 : Vec Ideal S1x512x1024 .bf16) (x1 : Vec Ideal S1024x1024 .bf16) (a : Fin 512) (b : Fin 1024) :
    out0_2 (F := Ideal) x0 x1 (ix2 a b) = ∑ k : Fin 1024, (x0 (ix3 (0 : Fin 1) a k) : EReal) * x1 (ix2 b k) := by
  unfold out0_2
  simp only [View.ld_unit_zero (S := S1x512x1024) hz3, View.ld_unit_zero (S := S1024x1024) hz2]
  exact (congrFun (View.canon_cons_unit_zero (Val := Elt Ideal) (S := S512x1024) hz2 _ _ []) (ix2 a b)).trans
    (Pages.stored x0 x1 shapeCasts_S1x512x1024_S512x1024 shapeCasts_S1024x1024_S1024x1024 a b)

/-- The weight's page, as the host lays it before the launch. -/
theorem laid (c : Dev nD) (a : Fin 1024) (b : Fin 1024) :
    (V m c main_v1 : S1024x1024.Idx → EReal) (ix2 a b) = (m ((c : Thread nD τ).loc main_arg1) : S3x1024x1024.Idx → EReal) (ix3 (0 : Fin 3) a b) := by
  have h : V m c main_v1 = fun i => shapeCast S1024x1024 (extractStridedSlice S1x1024x1024 ![0, 0, 0]
      (m ((c : Thread nD τ).loc main_arg1)) slices_S3x1024x1024_S1x1024x1024_0_0_0) shapeCasts_S1x1024x1024_S1024x1024 i := by
    show StableHlo.after hostOps0 (fun b => m (c, b)) (Proc.devRef .tc main_v1) = _
    rw [StableHlo.after_cons, StableHlo.after_cons, StableHlo.after_nil, StableHlo.reshape_result, StableHlo.unary_result]
    rfl
  rw [h]
  exact Pages.page_apply (0 : Fin 3) _ slices_S3x1024x1024_S1x1024x1024_0_0_0 _ a b

/-- Which blocks a point reads and writes. -/
theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true := (by decide +kernel : ∀ t : Fin grid0.N, win0_2.flush t = true)

/-- The gradient at an entry. -/
abbrev entry (c : Dev nD) (a : Fin 4096) (b : Fin 1024) : EReal :=
  Pages.entry (M := 4096) (K := 1024) (N := 1024) 0 (m ((c : Thread nD τ).loc main_arg0)) (m ((c : Thread nD τ).loc main_arg1)) a b

set_option maxRecDepth 16384 in
/-- The gradient, as the kernel leaves it. -/
theorem result (c : Dev nD) (r : Fin 4096) (s : Fin 1024) :
    ((dats m 0 c).arrAt 2 cfg0.N : S4096x1024.Idx → EReal) (ix2 r s) = entry m c r s := by
  have hr := r.isLt
  obtain ⟨t, ht⟩ : ∃ t : Fin cfg0.N, t.val = r.val / 512 := ⟨⟨r.val / 512, by rw [show cfg0.N = 8 from N_0]; omega⟩, rfl⟩
  obtain ⟨a, ha⟩ : ∃ a : Fin 512, a.val = r.val % 512 := ⟨⟨r.val % 512, by omega⟩, rfl⟩
  have h := congrFun ((blocks2 m c t (flush2 t)).trans (flushed2 m c t)) (ix2 a s)
  obtain ⟨e0, e1, e2⟩ := index0 t
  obtain ⟨f0, f1⟩ := index1 t
  obtain ⟨g0, g1⟩ := index2 t
  refine Eq.trans (congrArg ((dats m 0 c).arrAt 2 cfg0.N) ?_) (h.trans ((block (iblk m c 0 t) (iblk m c 1 t) a s).trans ?_))
  · refine funext fun x => Fin.ext ?_
    match x with
    | ⟨0, _⟩ => show r.val = win0_2.index t (0 : Fin 2) * 512 + 1 * a.val; omega
    | ⟨1, _⟩ => show s.val = win0_2.index t (1 : Fin 2) * 1024 + 1 * s.val; omega
  refine Finset.sum_congr rfl fun k _ => congrArg₂ (· * ·) ?_ ?_
  · show V m c main_arg0 (((cfg0.win 0).blk t).view.emb (ix3 (0 : Fin 1) a k)) = _
    rw [V_main_arg0]
    refine congrArg _ (funext fun x => Fin.ext ?_)
    match x with
    | ⟨0, _⟩ => show win0_0.index t (0 : Fin 3) * 1 + 1 * 0 = 0; omega
    | ⟨1, _⟩ => show win0_0.index t (1 : Fin 3) * 512 + 1 * a.val = r.val; omega
    | ⟨2, _⟩ => show win0_0.index t (2 : Fin 3) * 1024 + 1 * k.val = k.val; omega
  · show V m c main_v1 (((cfg0.win 1).blk t).view.emb (ix2 s k)) = _
    refine Eq.trans (congrArg (V m c main_v1) (funext fun x => Fin.ext ?_)) (laid m c s k)
    match x with
    | ⟨0, _⟩ => show win0_1.index t (0 : Fin 2) * 1024 + 1 * s.val = s.val; omega
    | ⟨1, _⟩ => show win0_1.index t (1 : Fin 2) * 1024 + 1 * k.val = k.val; omega

open Cert.BranchX0RefIdeal.Read in
/-- The reference's gradient at an entry. -/
theorem reference (c : Dev nD) (a : Fin 4096) (b : Fin 1024) :
    val_main_v8 (F := Ideal) (m ((c : Thread nD τ).loc main_arg0)) (m ((c : Thread nD τ).loc main_arg1)) (ix2 a b) = entry m c a b := by
  rw [val_main_v8_apply]
  refine Finset.sum_congr rfl fun k _ => ?_
  rw [val_main_v7_apply, val_main_v3_apply]
  exact congrArg₂ (· * ·)
    ((congrArg (val_main_v6 (F := Ideal) (m ((c : Thread nD τ).loc main_arg0))) (eq_ix2 _)).trans (Pages.page_apply (0 : Fin 3) _ _ _ a k))
    ((congrArg (val_main_v2 (F := Ideal) (m ((c : Thread nD τ).loc main_arg1))) (eq_ix2 _)).trans (Pages.page_apply (0 : Fin 3) _ _ _ b k))

instance : Cert.BranchX0Ideal.Facts := Cert.BranchX0Ideal.Gen.facts
instance : Cert.BranchX0RefIdeal.Facts := Cert.BranchX0RefIdeal.Gen.facts

/-- The gradient agrees with the reference's. -/
theorem algebraic : Cert.algebraic_BranchX0Ideal_BranchX0RefIdeal := fun m g m' g' _ hm =>
  ⟨fun c => (dats m 0 c).arrAt 2 cfg0.N, Cert.BranchX0Ideal.Value.run_blocks m g,
    (θ_run Cert.BranchX0RefIdeal.defs _ _).mono (fun r h c => ⟨(h c).1.trans (by
      rw [(hm c).1, (hm c).2, Cert.BranchX0RefIdeal.Read.val_main_v8_eq]
      funext i
      rw [(eq_ix2 i : i = ix2 (i 0) (i 1))]
      exact (reference m c _ _).trans (result m c _ _).symm), (h c).2⟩)
      (Cert.BranchX0RefIdeal.Value.run m' g')⟩

end Cert.Proof.BranchX0
-- ==== Proof.BranchX1.lean ====
/- The input gradient of branch product 1: what the kernel leaves, entry by entry, is the product of the cotangent's page with the
   transpose of the weight's page. -/
module

public import proofs.«01_k».proof.Defs
public import proofs.«01_k».proof.Proof.Pages
public import proofs.«01_k».proof.Proof.Gen.BranchX1Ideal.Value
public import proofs.«01_k».proof.Proof.Gen.BranchX1RefIdeal.Run
public import proofs.«01_k».proof.Proof.Gen.BranchX1RefIdeal.Read
public import Idealize.ShloMosaic.Lib.IdealHost

@[expose] public section

noncomputable section

namespace Cert.Proof.BranchX1

open Cert.BranchX1Ideal Cert.BranchX1Ideal.Gen Cert.BranchX1Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- What a point leaves in its block. -/
theorem block (x0 : Vec Ideal S1x512x1024 .bf16) (x1 : Vec Ideal S1024x1024 .bf16) (a : Fin 512) (b : Fin 1024) :
    out0_2 (F := Ideal) x0 x1 (ix2 a b) = ∑ k : Fin 1024, (x0 (ix3 (0 : Fin 1) a k) : EReal) * x1 (ix2 b k) := by
  unfold out0_2
  simp only [View.ld_unit_zero (S := S1x512x1024) hz3, View.ld_unit_zero (S := S1024x1024) hz2]
  exact (congrFun (View.canon_cons_unit_zero (Val := Elt Ideal) (S := S512x1024) hz2 _ _ []) (ix2 a b)).trans
    (Pages.stored x0 x1 shapeCasts_S1x512x1024_S512x1024 shapeCasts_S1024x1024_S1024x1024 a b)

/-- The weight's page, as the host lays it before the launch. -/
theorem laid (c : Dev nD) (a : Fin 1024) (b : Fin 1024) :
    (V m c main_v1 : S1024x1024.Idx → EReal) (ix2 a b) = (m ((c : Thread nD τ).loc main_arg1) : S3x1024x1024.Idx → EReal) (ix3 (1 : Fin 3) a b) := by
  have h : V m c main_v1 = fun i => shapeCast S1024x1024 (extractStridedSlice S1x1024x1024 ![1, 0, 0]
      (m ((c : Thread nD τ).loc main_arg1)) slices_S3x1024x1024_S1x1024x1024_1_0_0) shapeCasts_S1x1024x1024_S1024x1024 i := by
    show StableHlo.after hostOps0 (fun b => m (c, b)) (Proc.devRef .tc main_v1) = _
    rw [StableHlo.after_cons, StableHlo.after_cons, StableHlo.after_nil, StableHlo.reshape_result, StableHlo.unary_result]
    rfl
  rw [h]
  exact Pages.page_apply (1 : Fin 3) _ slices_S3x1024x1024_S1x1024x1024_1_0_0 _ a b

/-- Which blocks a point reads and writes. -/
theorem index0 : ∀ t : Fin cfg0.N, win0_0.index t (0 : Fin 3) = 1 ∧ win0_0.index t (1 : Fin 3) = t.val ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true := (by decide +kernel : ∀ t : Fin grid0.N, win0_2.flush t = true)

/-- The gradient at an entry. -/
abbrev entry (c : Dev nD) (a : Fin 4096) (b : Fin 1024) : EReal :=
  Pages.entry (M := 4096) (K := 1024) (N := 1024) 1 (m ((c : Thread nD τ).loc main_arg0)) (m ((c : Thread nD τ).loc main_arg1)) a b

set_option maxRecDepth 16384 in
/-- The gradient, as the kernel leaves it. -/
theorem result (c : Dev nD) (r : Fin 4096) (s : Fin 1024) :
    ((dats m 0 c).arrAt 2 cfg0.N : S4096x1024.Idx → EReal) (ix2 r s) = entry m c r s := by
  have hr := r.isLt
  obtain ⟨t, ht⟩ : ∃ t : Fin cfg0.N, t.val = r.val / 512 := ⟨⟨r.val / 512, by rw [show cfg0.N = 8 from N_0]; omega⟩, rfl⟩
  obtain ⟨a, ha⟩ : ∃ a : Fin 512, a.val = r.val % 512 := ⟨⟨r.val % 512, by omega⟩, rfl⟩
  have h := congrFun ((blocks2 m c t (flush2 t)).trans (flushed2 m c t)) (ix2 a s)
  obtain ⟨e0, e1, e2⟩ := index0 t
  obtain ⟨f0, f1⟩ := index1 t
  obtain ⟨g0, g1⟩ := index2 t
  refine Eq.trans (congrArg ((dats m 0 c).arrAt 2 cfg0.N) ?_) (h.trans ((block (iblk m c 0 t) (iblk m c 1 t) a s).trans ?_))
  · refine funext fun x => Fin.ext ?_
    match x with
    | ⟨0, _⟩ => show r.val = win0_2.index t (0 : Fin 2) * 512 + 1 * a.val; omega
    | ⟨1, _⟩ => show s.val = win0_2.index t (1 : Fin 2) * 1024 + 1 * s.val; omega
  refine Finset.sum_congr rfl fun k _ => congrArg₂ (· * ·) ?_ ?_
  · show V m c main_arg0 (((cfg0.win 0).blk t).view.emb (ix3 (0 : Fin 1) a k)) = _
    rw [V_main_arg0]
    refine congrArg _ (funext fun x => Fin.ext ?_)
    match x with
    | ⟨0, _⟩ => show win0_0.index t (0 : Fin 3) * 1 + 1 * 0 = 1; omega
    | ⟨1, _⟩ => show win0_0.index t (1 : Fin 3) * 512 + 1 * a.val = r.val; omega
    | ⟨2, _⟩ => show win0_0.index t (2 : Fin 3) * 1024 + 1 * k.val = k.val; omega
  · show V m c main_v1 (((cfg0.win 1).blk t).view.emb (ix2 s k)) = _
    refine Eq.trans (congrArg (V m c main_v1) (funext fun x => Fin.ext ?_)) (laid m c s k)
    match x with
    | ⟨0, _⟩ => show win0_1.index t (0 : Fin 2) * 1024 + 1 * s.val = s.val; omega
    | ⟨1, _⟩ => show win0_1.index t (1 : Fin 2) * 1024 + 1 * k.val = k.val; omega

open Cert.BranchX1RefIdeal.Read in
/-- The reference's gradient at an entry. -/
theorem reference (c : Dev nD) (a : Fin 4096) (b : Fin 1024) :
    val_main_v8 (F := Ideal) (m ((c : Thread nD τ).loc main_arg0)) (m ((c : Thread nD τ).loc main_arg1)) (ix2 a b) = entry m c a b := by
  rw [val_main_v8_apply]
  refine Finset.sum_congr rfl fun k _ => ?_
  rw [val_main_v7_apply, val_main_v3_apply]
  exact congrArg₂ (· * ·)
    ((congrArg (val_main_v6 (F := Ideal) (m ((c : Thread nD τ).loc main_arg0))) (eq_ix2 _)).trans (Pages.page_apply (1 : Fin 3) _ _ _ a k))
    ((congrArg (val_main_v2 (F := Ideal) (m ((c : Thread nD τ).loc main_arg1))) (eq_ix2 _)).trans (Pages.page_apply (1 : Fin 3) _ _ _ b k))

instance : Cert.BranchX1Ideal.Facts := Cert.BranchX1Ideal.Gen.facts
instance : Cert.BranchX1RefIdeal.Facts := Cert.BranchX1RefIdeal.Gen.facts

/-- The gradient agrees with the reference's. -/
theorem algebraic : Cert.algebraic_BranchX1Ideal_BranchX1RefIdeal := fun m g m' g' _ hm =>
  ⟨fun c => (dats m 0 c).arrAt 2 cfg0.N, Cert.BranchX1Ideal.Value.run_blocks m g,
    (θ_run Cert.BranchX1RefIdeal.defs _ _).mono (fun r h c => ⟨(h c).1.trans (by
      rw [(hm c).1, (hm c).2, Cert.BranchX1RefIdeal.Read.val_main_v8_eq]
      funext i
      rw [(eq_ix2 i : i = ix2 (i 0) (i 1))]
      exact (reference m c _ _).trans (result m c _ _).symm), (h c).2⟩)
      (Cert.BranchX1RefIdeal.Value.run m' g')⟩

end Cert.Proof.BranchX1
-- ==== Proof.BranchX2.lean ====
/- The input gradient of branch product 2: what the kernel leaves, entry by entry, is the product of the cotangent's page with the
   transpose of the weight's page. -/
module

public import proofs.«01_k».proof.Defs
public import proofs.«01_k».proof.Proof.Pages
public import proofs.«01_k».proof.Proof.Gen.BranchX2Ideal.Value
public import proofs.«01_k».proof.Proof.Gen.BranchX2RefIdeal.Run
public import proofs.«01_k».proof.Proof.Gen.BranchX2RefIdeal.Read
public import Idealize.ShloMosaic.Lib.IdealHost

@[expose] public section

noncomputable section

namespace Cert.Proof.BranchX2

open Cert.BranchX2Ideal Cert.BranchX2Ideal.Gen Cert.BranchX2Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- What a point leaves in its block. -/
theorem block (x0 : Vec Ideal S1x512x1024 .bf16) (x1 : Vec Ideal S1024x1024 .bf16) (a : Fin 512) (b : Fin 1024) :
    out0_2 (F := Ideal) x0 x1 (ix2 a b) = ∑ k : Fin 1024, (x0 (ix3 (0 : Fin 1) a k) : EReal) * x1 (ix2 b k) := by
  unfold out0_2
  simp only [View.ld_unit_zero (S := S1x512x1024) hz3, View.ld_unit_zero (S := S1024x1024) hz2]
  exact (congrFun (View.canon_cons_unit_zero (Val := Elt Ideal) (S := S512x1024) hz2 _ _ []) (ix2 a b)).trans
    (Pages.stored x0 x1 shapeCasts_S1x512x1024_S512x1024 shapeCasts_S1024x1024_S1024x1024 a b)

/-- The weight's page, as the host lays it before the launch. -/
theorem laid (c : Dev nD) (a : Fin 1024) (b : Fin 1024) :
    (V m c main_v1 : S1024x1024.Idx → EReal) (ix2 a b) = (m ((c : Thread nD τ).loc main_arg1) : S3x1024x1024.Idx → EReal) (ix3 (2 : Fin 3) a b) := by
  have h : V m c main_v1 = fun i => shapeCast S1024x1024 (extractStridedSlice S1x1024x1024 ![2, 0, 0]
      (m ((c : Thread nD τ).loc main_arg1)) slices_S3x1024x1024_S1x1024x1024_2_0_0) shapeCasts_S1x1024x1024_S1024x1024 i := by
    show StableHlo.after hostOps0 (fun b => m (c, b)) (Proc.devRef .tc main_v1) = _
    rw [StableHlo.after_cons, StableHlo.after_cons, StableHlo.after_nil, StableHlo.reshape_result, StableHlo.unary_result]
    rfl
  rw [h]
  exact Pages.page_apply (2 : Fin 3) _ slices_S3x1024x1024_S1x1024x1024_2_0_0 _ a b

/-- Which blocks a point reads and writes. -/
theorem index0 : ∀ t : Fin cfg0.N, win0_0.index t (0 : Fin 3) = 2 ∧ win0_0.index t (1 : Fin 3) = t.val ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true := (by decide +kernel : ∀ t : Fin grid0.N, win0_2.flush t = true)

/-- The gradient at an entry. -/
abbrev entry (c : Dev nD) (a : Fin 4096) (b : Fin 1024) : EReal :=
  Pages.entry (M := 4096) (K := 1024) (N := 1024) 2 (m ((c : Thread nD τ).loc main_arg0)) (m ((c : Thread nD τ).loc main_arg1)) a b

set_option maxRecDepth 16384 in
/-- The gradient, as the kernel leaves it. -/
theorem result (c : Dev nD) (r : Fin 4096) (s : Fin 1024) :
    ((dats m 0 c).arrAt 2 cfg0.N : S4096x1024.Idx → EReal) (ix2 r s) = entry m c r s := by
  have hr := r.isLt
  obtain ⟨t, ht⟩ : ∃ t : Fin cfg0.N, t.val = r.val / 512 := ⟨⟨r.val / 512, by rw [show cfg0.N = 8 from N_0]; omega⟩, rfl⟩
  obtain ⟨a, ha⟩ : ∃ a : Fin 512, a.val = r.val % 512 := ⟨⟨r.val % 512, by omega⟩, rfl⟩
  have h := congrFun ((blocks2 m c t (flush2 t)).trans (flushed2 m c t)) (ix2 a s)
  obtain ⟨e0, e1, e2⟩ := index0 t
  obtain ⟨f0, f1⟩ := index1 t
  obtain ⟨g0, g1⟩ := index2 t
  refine Eq.trans (congrArg ((dats m 0 c).arrAt 2 cfg0.N) ?_) (h.trans ((block (iblk m c 0 t) (iblk m c 1 t) a s).trans ?_))
  · refine funext fun x => Fin.ext ?_
    match x with
    | ⟨0, _⟩ => show r.val = win0_2.index t (0 : Fin 2) * 512 + 1 * a.val; omega
    | ⟨1, _⟩ => show s.val = win0_2.index t (1 : Fin 2) * 1024 + 1 * s.val; omega
  refine Finset.sum_congr rfl fun k _ => congrArg₂ (· * ·) ?_ ?_
  · show V m c main_arg0 (((cfg0.win 0).blk t).view.emb (ix3 (0 : Fin 1) a k)) = _
    rw [V_main_arg0]
    refine congrArg _ (funext fun x => Fin.ext ?_)
    match x with
    | ⟨0, _⟩ => show win0_0.index t (0 : Fin 3) * 1 + 1 * 0 = 2; omega
    | ⟨1, _⟩ => show win0_0.index t (1 : Fin 3) * 512 + 1 * a.val = r.val; omega
    | ⟨2, _⟩ => show win0_0.index t (2 : Fin 3) * 1024 + 1 * k.val = k.val; omega
  · show V m c main_v1 (((cfg0.win 1).blk t).view.emb (ix2 s k)) = _
    refine Eq.trans (congrArg (V m c main_v1) (funext fun x => Fin.ext ?_)) (laid m c s k)
    match x with
    | ⟨0, _⟩ => show win0_1.index t (0 : Fin 2) * 1024 + 1 * s.val = s.val; omega
    | ⟨1, _⟩ => show win0_1.index t (1 : Fin 2) * 1024 + 1 * k.val = k.val; omega

open Cert.BranchX2RefIdeal.Read in
/-- The reference's gradient at an entry. -/
theorem reference (c : Dev nD) (a : Fin 4096) (b : Fin 1024) :
    val_main_v8 (F := Ideal) (m ((c : Thread nD τ).loc main_arg0)) (m ((c : Thread nD τ).loc main_arg1)) (ix2 a b) = entry m c a b := by
  rw [val_main_v8_apply]
  refine Finset.sum_congr rfl fun k _ => ?_
  rw [val_main_v7_apply, val_main_v3_apply]
  exact congrArg₂ (· * ·)
    ((congrArg (val_main_v6 (F := Ideal) (m ((c : Thread nD τ).loc main_arg0))) (eq_ix2 _)).trans (Pages.page_apply (2 : Fin 3) _ _ _ a k))
    ((congrArg (val_main_v2 (F := Ideal) (m ((c : Thread nD τ).loc main_arg1))) (eq_ix2 _)).trans (Pages.page_apply (2 : Fin 3) _ _ _ b k))

instance : Cert.BranchX2Ideal.Facts := Cert.BranchX2Ideal.Gen.facts
instance : Cert.BranchX2RefIdeal.Facts := Cert.BranchX2RefIdeal.Gen.facts

/-- The gradient agrees with the reference's. -/
theorem algebraic : Cert.algebraic_BranchX2Ideal_BranchX2RefIdeal := fun m g m' g' _ hm =>
  ⟨fun c => (dats m 0 c).arrAt 2 cfg0.N, Cert.BranchX2Ideal.Value.run_blocks m g,
    (θ_run Cert.BranchX2RefIdeal.defs _ _).mono (fun r h c => ⟨(h c).1.trans (by
      rw [(hm c).1, (hm c).2, Cert.BranchX2RefIdeal.Read.val_main_v8_eq]
      funext i
      rw [(eq_ix2 i : i = ix2 (i 0) (i 1))]
      exact (reference m c _ _).trans (result m c _ _).symm), (h c).2⟩)
      (Cert.BranchX2RefIdeal.Value.run m' g')⟩

end Cert.Proof.BranchX2
-- ==== Proof.BranchW0.lean ====
/- The weight gradient of branch product 0: what the blocked product leaves, entry by entry, is the product of the branch with the
   cotangent's page. -/
module

public import proofs.«01_k».proof.Defs
public import proofs.«01_k».proof.Proof.Product
public import proofs.«01_k».proof.Proof.Pages
public import proofs.«01_k».proof.Proof.Gen.BranchW0Ideal.Value
public import proofs.«01_k».proof.Proof.Gen.BranchW0RefIdeal.Run
public import proofs.«01_k».proof.Proof.Gen.BranchW0RefIdeal.Read
public import Idealize.ShloMosaic.Lib.ValueLayout
public import Idealize.ShloMosaic.Lib.IdealHost

@[expose] public section

noncomputable section

namespace Cert.Proof.BranchW0

open Cert.BranchW0Ideal Cert.BranchW0Ideal.Gen Cert.BranchW0Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1024) hz2, View.ld_unit_zero (S := S1x1024x1024) hz3, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1024) hz2, View.ld_unit_zero (S := S1x1024x1024) hz3, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S1x1024x1024) hz3]

/-- Which block of the first operand a point reads. -/
theorem index0 : ∀ t : Fin cfg0.N, win0_0.index t (0 : Fin 2) = t.val % 4 ∧ win0_0.index t (1 : Fin 2) = t.val / 4 :=
  (by decide +kernel : ∀ t : Fin grid0.N, _)
/-- Which block of the second operand a point reads. -/
theorem index1 : ∀ t : Fin cfg0.N, win0_1.index t (0 : Fin 3) = 0 ∧ win0_1.index t (1 : Fin 3) = t.val % 4 ∧ win0_1.index t (2 : Fin 3) = 0 :=
  (by decide +kernel : ∀ t : Fin grid0.N, _)

/-- The branch. -/
abbrev inputs (c : Dev nD) : S4096x1024.Idx → EReal := m ((c : Thread nD τ).loc main_arg0)
/-- The cotangent's page. -/
abbrev cotangents (c : Dev nD) : S4096x1024.Idx → EReal := fun i => (m ((c : Thread nD τ).loc main_arg1) : S3x4096x1024.Idx → EReal) (ix3 (0 : Fin 3) (i 0) (i 1))

/-- A point's product at an entry: the sum over the point's tokens. -/
theorem part (c : Dev nD) (t : Fin cfg0.N) (a : Fin 1024) (b : Fin 1024) :
    k0_pay1 (F := Ideal) (iblk m c 0 t) (iblk m c 1 t) (ix2 a b)
      = ∑ r : Fin 1024, Product.along (inputs m c) (cotangents m c) (1024 * (t.val / 4) + a.val) b.val (1024 * (t.val % 4) + r.val) := by
  have hN : t.val < 4 := lt_of_lt_of_eq t.isLt (show cfg0.N = 4 from N_0)
  unfold k0_pay1
  show FloatOps.matmul (Product.firstAxes 1024 1024 1024) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1, f2⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1024 + 1 * a.val = 1024 * (t.val / 4) + a.val; omega
  · refine Eq.trans (shapeCast_1ab_ab_apply _ shapeCasts_S1x1024x1024_S1024x1024 r b) ?_
    show V m c main_arg1 (((cfg0.win 1).blk t).view.emb (ix3 (0 : Fin 1) r b)) = _
    rw [V_main_arg1]
    refine congrArg _ (funext fun x => Fin.ext ?_)
    match x with
    | ⟨0, _⟩ => show win0_1.index t (0 : Fin 3) * 1 + 1 * 0 = 0; omega
    | ⟨1, _⟩ => show win0_1.index t (1 : Fin 3) * 1024 + 1 * r.val = 1024 * (t.val % 4) + r.val; omega
    | ⟨2, _⟩ => show win0_1.index t (2 : Fin 3) * 1024 + 1 * b.val = b.val; omega

/-- What the last of a block's four points writes, at an entry: the sum over all tokens. -/
theorem block (c : Dev nD) (t : Fin cfg0.N) (h : t.val % 4 = 3) (a : Fin 1024) (b : Fin 1024) :
    (outsAt0 m c t.val t.isLt).1 (ix2 a b)
      = ∑ k : Fin 4096, Product.along (inputs m c) (cotangents m c) (1024 * (t.val / 4) + a.val) b.val k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (a : Fin 1024) (b : Fin 1024) :
    (G2 m c : S1024x1024.Idx → EReal) (ix2 a b) = ∑ k : Fin 4096, Product.along (inputs m c) (cotangents m c) a.val b.val k.val := by
  have ha := a.isLt; have hb := b.isLt
  have hp : pt2Of (ix2 a b) = 4 * (a.val / 1024) + 3 := by
    show 4 * (1 * (a.val / 1024 - 0) + 1 * (b.val / 1024 - 0)) + 3 = _
    omega
  have hlt : pt2Of (ix2 a b) < cfg0.N := by rw [hp, show cfg0.N = 4 from N_0]; omega
  unfold G2
  rw [dif_pos hlt, ← outsAt0_sweep m c _ hlt]
  have hl : loc2Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt2Of (ix2 a b), hlt⟩ (by dsimp only; rw [hp]; omega)]
  dsimp only
  rw [hp, show 1024 * ((4 * (a.val / 1024) + 3) / 4) + a.val % 1024 = a.val by omega]

open Cert.BranchW0RefIdeal.Read in
/-- The reference's result at an entry: the same sum. -/
theorem reference (c : Dev nD) (a : Fin 1024) (b : Fin 1024) :
    val_main_v7 (F := Ideal) (m ((c : Thread nD τ).loc main_arg0)) (m ((c : Thread nD τ).loc main_arg1)) (ix2 a b)
      = ∑ k : Fin 4096, Product.along (inputs m c) (cotangents m c) a.val b.val k.val := by
  have ha := a.isLt; have hb := b.isLt
  rw [val_main_v7_apply, val_main_v6_apply]
  refine Finset.sum_congr rfl fun k _ => ?_
  have hk := k.isLt
  unfold Product.along
  rw [dif_pos ⟨by omega, by omega, by omega⟩, val_main_v5_apply, val_main_v1_apply, mul_comm]
  refine congrArg₂ (· * ·) ?_ ?_
  · refine congrArg (m ((c : Thread nD τ).loc main_arg0)) (funext fun x => Fin.ext ?_)
    match x with
    | ⟨0, _⟩ => rfl
    | ⟨1, _⟩ => rfl
  · exact (congrArg (val_main_v4 (F := Ideal) (m ((c : Thread nD τ).loc main_arg1))) (eq_ix2 _)).trans (Pages.page_apply (0 : Fin 3) _ _ _ k b)

instance : Cert.BranchW0Ideal.Facts := Cert.BranchW0Ideal.Gen.facts
instance : Cert.BranchW0RefIdeal.Facts := Cert.BranchW0RefIdeal.Gen.facts

/-- The weight gradient of the mixer output projection agrees with the reference's. -/
theorem algebraic : Cert.algebraic_BranchW0Ideal_BranchW0RefIdeal := fun m g m' g' _ hm =>
  ⟨fun c => G2 m c, Cert.BranchW0Ideal.Value.run m g,
    (θ_run Cert.BranchW0RefIdeal.defs _ _).mono (fun r h c => ⟨(h c).1.trans (by
      rw [(hm c).1, (hm c).2, Cert.BranchW0RefIdeal.Read.val_main_v7_eq]
      funext i
      rw [(eq_ix2 i : i = ix2 (i 0) (i 1))]
      exact (reference m c _ _).trans (result m c _ _).symm), (h c).2⟩)
      (Cert.BranchW0RefIdeal.Value.run m' g')⟩

end Cert.Proof.BranchW0
-- ==== Proof.BranchW1.lean ====
/- The weight gradient of branch product 1: what the blocked product leaves, entry by entry, is the product of the branch with the
   cotangent's page. -/
module

public import proofs.«01_k».proof.Defs
public import proofs.«01_k».proof.Proof.Product
public import proofs.«01_k».proof.Proof.Pages
public import proofs.«01_k».proof.Proof.Gen.BranchW1Ideal.Value
public import proofs.«01_k».proof.Proof.Gen.BranchW1RefIdeal.Run
public import proofs.«01_k».proof.Proof.Gen.BranchW1RefIdeal.Read
public import Idealize.ShloMosaic.Lib.ValueLayout
public import Idealize.ShloMosaic.Lib.IdealHost

@[expose] public section

noncomputable section

namespace Cert.Proof.BranchW1

open Cert.BranchW1Ideal Cert.BranchW1Ideal.Gen Cert.BranchW1Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1024) hz2, View.ld_unit_zero (S := S1x1024x1024) hz3, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1024) hz2, View.ld_unit_zero (S := S1x1024x1024) hz3, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S1x1024x1024) hz3]

/-- Which block of the first operand a point reads. -/
theorem index0 : ∀ t : Fin cfg0.N, win0_0.index t (0 : Fin 2) = t.val % 4 ∧ win0_0.index t (1 : Fin 2) = t.val / 4 :=
  (by decide +kernel : ∀ t : Fin grid0.N, _)
/-- Which block of the second operand a point reads. -/
theorem index1 : ∀ t : Fin cfg0.N, win0_1.index t (0 : Fin 3) = 1 ∧ win0_1.index t (1 : Fin 3) = t.val % 4 ∧ win0_1.index t (2 : Fin 3) = 0 :=
  (by decide +kernel : ∀ t : Fin grid0.N, _)

/-- The branch. -/
abbrev inputs (c : Dev nD) : S4096x1024.Idx → EReal := m ((c : Thread nD τ).loc main_arg0)
/-- The cotangent's page. -/
abbrev cotangents (c : Dev nD) : S4096x1024.Idx → EReal := fun i => (m ((c : Thread nD τ).loc main_arg1) : S3x4096x1024.Idx → EReal) (ix3 (1 : Fin 3) (i 0) (i 1))

/-- A point's product at an entry: the sum over the point's tokens. -/
theorem part (c : Dev nD) (t : Fin cfg0.N) (a : Fin 1024) (b : Fin 1024) :
    k0_pay1 (F := Ideal) (iblk m c 0 t) (iblk m c 1 t) (ix2 a b)
      = ∑ r : Fin 1024, Product.along (inputs m c) (cotangents m c) (1024 * (t.val / 4) + a.val) b.val (1024 * (t.val % 4) + r.val) := by
  have hN : t.val < 4 := lt_of_lt_of_eq t.isLt (show cfg0.N = 4 from N_0)
  unfold k0_pay1
  show FloatOps.matmul (Product.firstAxes 1024 1024 1024) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1, f2⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1024 + 1 * a.val = 1024 * (t.val / 4) + a.val; omega
  · refine Eq.trans (shapeCast_1ab_ab_apply _ shapeCasts_S1x1024x1024_S1024x1024 r b) ?_
    show V m c main_arg1 (((cfg0.win 1).blk t).view.emb (ix3 (0 : Fin 1) r b)) = _
    rw [V_main_arg1]
    refine congrArg _ (funext fun x => Fin.ext ?_)
    match x with
    | ⟨0, _⟩ => show win0_1.index t (0 : Fin 3) * 1 + 1 * 0 = 1; omega
    | ⟨1, _⟩ => show win0_1.index t (1 : Fin 3) * 1024 + 1 * r.val = 1024 * (t.val % 4) + r.val; omega
    | ⟨2, _⟩ => show win0_1.index t (2 : Fin 3) * 1024 + 1 * b.val = b.val; omega

/-- What the last of a block's four points writes, at an entry: the sum over all tokens. -/
theorem block (c : Dev nD) (t : Fin cfg0.N) (h : t.val % 4 = 3) (a : Fin 1024) (b : Fin 1024) :
    (outsAt0 m c t.val t.isLt).1 (ix2 a b)
      = ∑ k : Fin 4096, Product.along (inputs m c) (cotangents m c) (1024 * (t.val / 4) + a.val) b.val k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (a : Fin 1024) (b : Fin 1024) :
    (G2 m c : S1024x1024.Idx → EReal) (ix2 a b) = ∑ k : Fin 4096, Product.along (inputs m c) (cotangents m c) a.val b.val k.val := by
  have ha := a.isLt; have hb := b.isLt
  have hp : pt2Of (ix2 a b) = 4 * (a.val / 1024) + 3 := by
    show 4 * (1 * (a.val / 1024 - 0) + 1 * (b.val / 1024 - 0)) + 3 = _
    omega
  have hlt : pt2Of (ix2 a b) < cfg0.N := by rw [hp, show cfg0.N = 4 from N_0]; omega
  unfold G2
  rw [dif_pos hlt, ← outsAt0_sweep m c _ hlt]
  have hl : loc2Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt2Of (ix2 a b), hlt⟩ (by dsimp only; rw [hp]; omega)]
  dsimp only
  rw [hp, show 1024 * ((4 * (a.val / 1024) + 3) / 4) + a.val % 1024 = a.val by omega]

open Cert.BranchW1RefIdeal.Read in
/-- The reference's result at an entry: the same sum. -/
theorem reference (c : Dev nD) (a : Fin 1024) (b : Fin 1024) :
    val_main_v6 (F := Ideal) (m ((c : Thread nD τ).loc main_arg0)) (m ((c : Thread nD τ).loc main_arg1)) (ix2 a b)
      = ∑ k : Fin 4096, Product.along (inputs m c) (cotangents m c) a.val b.val k.val := by
  have ha := a.isLt; have hb := b.isLt
  rw [val_main_v6_apply, val_main_v5_apply]
  refine Finset.sum_congr rfl fun k _ => ?_
  have hk := k.isLt
  unfold Product.along
  rw [dif_pos ⟨by omega, by omega, by omega⟩, val_main_v4_apply, mul_comm]
  refine congrArg₂ (· * ·) ?_ ?_
  · refine congrArg (m ((c : Thread nD τ).loc main_arg0)) (funext fun x => Fin.ext ?_)
    match x with
    | ⟨0, _⟩ => rfl
    | ⟨1, _⟩ => rfl
  · exact (congrArg (val_main_v3 (F := Ideal) (m ((c : Thread nD τ).loc main_arg1))) (eq_ix2 _)).trans (Pages.page_apply (1 : Fin 3) _ _ _ k b)

instance : Cert.BranchW1Ideal.Facts := Cert.BranchW1Ideal.Gen.facts
instance : Cert.BranchW1RefIdeal.Facts := Cert.BranchW1RefIdeal.Gen.facts

/-- The weight gradient of the mixer output projection agrees with the reference's. -/
theorem algebraic : Cert.algebraic_BranchW1Ideal_BranchW1RefIdeal := fun m g m' g' _ hm =>
  ⟨fun c => G2 m c, Cert.BranchW1Ideal.Value.run m g,
    (θ_run Cert.BranchW1RefIdeal.defs _ _).mono (fun r h c => ⟨(h c).1.trans (by
      rw [(hm c).1, (hm c).2, Cert.BranchW1RefIdeal.Read.val_main_v6_eq]
      funext i
      rw [(eq_ix2 i : i = ix2 (i 0) (i 1))]
      exact (reference m c _ _).trans (result m c _ _).symm), (h c).2⟩)
      (Cert.BranchW1RefIdeal.Value.run m' g')⟩

end Cert.Proof.BranchW1
-- ==== Proof.BranchW2.lean ====
/- The weight gradient of branch product 2: what the blocked product leaves, entry by entry, is the product of the branch with the
   cotangent's page. -/
module

public import proofs.«01_k».proof.Defs
public import proofs.«01_k».proof.Proof.Product
public import proofs.«01_k».proof.Proof.Pages
public import proofs.«01_k».proof.Proof.Gen.BranchW2Ideal.Value
public import proofs.«01_k».proof.Proof.Gen.BranchW2RefIdeal.Run
public import proofs.«01_k».proof.Proof.Gen.BranchW2RefIdeal.Read
public import Idealize.ShloMosaic.Lib.ValueLayout
public import Idealize.ShloMosaic.Lib.IdealHost

@[expose] public section

noncomputable section

namespace Cert.Proof.BranchW2

open Cert.BranchW2Ideal Cert.BranchW2Ideal.Gen Cert.BranchW2Ideal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point of a block leaves the point's own product in the accumulator. -/
theorem start (c i a3 h3 a4 h4 a5 h5 a6 h6 hc0 hc1 hc2 x y) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_cons_unit_zero hz2]
  unfold k0_pay2
  simp only [View.readAt_eq_ld, h3.read_unread, h4.read_unread, View.ld_unit_zero (S := S1024x1024) hz2, View.ld_unit_zero (S := S1x1024x1024) hz3, shapeCast_self]

/-- A middle point adds its product to the accumulator. -/
theorem middle (c i a3 h3 a4 h4 a5 h5 a6 h6 hc0 hc1 hc2 x y s) :
    sout0_B_0 (F := Ideal) c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_cons_unit_zero hz2]
  unfold k0_pay3
  simp only [View.readAt_eq_ld, h3.read_unread, h4.read_unread, h6.read_unread, View.ld_unit_zero (S := S1024x1024) hz2, View.ld_unit_zero (S := S1x1024x1024) hz3, shapeCast_self]

/-- The last point writes the accumulator plus its own product. -/
theorem last (c i a3 h3 a4 h4 a5 h5 a6 h6 hc0 hc1 hc2 x y s) :
    out0_C_2 (F := Ideal) c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S1x1024x1024) hz3]

/-- Which block of the first operand a point reads. -/
theorem index0 : ∀ t : Fin cfg0.N, win0_0.index t (0 : Fin 2) = t.val % 4 ∧ win0_0.index t (1 : Fin 2) = t.val / 4 :=
  (by decide +kernel : ∀ t : Fin grid0.N, _)
/-- Which block of the second operand a point reads. -/
theorem index1 : ∀ t : Fin cfg0.N, win0_1.index t (0 : Fin 3) = 2 ∧ win0_1.index t (1 : Fin 3) = t.val % 4 ∧ win0_1.index t (2 : Fin 3) = 0 :=
  (by decide +kernel : ∀ t : Fin grid0.N, _)

/-- The branch. -/
abbrev inputs (c : Dev nD) : S4096x1024.Idx → EReal := m ((c : Thread nD τ).loc main_arg0)
/-- The cotangent's page. -/
abbrev cotangents (c : Dev nD) : S4096x1024.Idx → EReal := fun i => (m ((c : Thread nD τ).loc main_arg1) : S3x4096x1024.Idx → EReal) (ix3 (2 : Fin 3) (i 0) (i 1))

/-- A point's product at an entry: the sum over the point's tokens. -/
theorem part (c : Dev nD) (t : Fin cfg0.N) (a : Fin 1024) (b : Fin 1024) :
    k0_pay1 (F := Ideal) (iblk m c 0 t) (iblk m c 1 t) (ix2 a b)
      = ∑ r : Fin 1024, Product.along (inputs m c) (cotangents m c) (1024 * (t.val / 4) + a.val) b.val (1024 * (t.val % 4) + r.val) := by
  have hN : t.val < 4 := lt_of_lt_of_eq t.isLt (show cfg0.N = 4 from N_0)
  unfold k0_pay1
  show FloatOps.matmul (Product.firstAxes 1024 1024 1024) none _ _ _ (ix2 a b) = _
  rw [Product.firstAxes_apply, constant_apply, Ideal.ofBits_zero_f32, zero_add]
  refine Finset.sum_congr rfl fun r _ => ?_
  have hr := r.isLt; have ha := a.isLt; have hb := b.isLt
  unfold Product.along
  rw [dif_pos ⟨by omega, by omega, by omega⟩]
  obtain ⟨e0, e1⟩ := index0 t
  obtain ⟨f0, f1, f2⟩ := index1 t
  refine congrArg₂ (· * ·) ?_ ?_
  · show iblk m c 0 t (ix2 r a) = _
    show V m c main_arg0 (((cfg0.win 0).blk t).view.emb (ix2 r a)) = _
    rw [V_main_arg0]
    refine congrArg _ (funext fun x => Fin.ext ?_)
    match x with
    | ⟨0, _⟩ => show win0_0.index t (0 : Fin 2) * 1024 + 1 * r.val = 1024 * (t.val % 4) + r.val; omega
    | ⟨1, _⟩ => show win0_0.index t (1 : Fin 2) * 1024 + 1 * a.val = 1024 * (t.val / 4) + a.val; omega
  · refine Eq.trans (shapeCast_1ab_ab_apply _ shapeCasts_S1x1024x1024_S1024x1024 r b) ?_
    show V m c main_arg1 (((cfg0.win 1).blk t).view.emb (ix3 (0 : Fin 1) r b)) = _
    rw [V_main_arg1]
    refine congrArg _ (funext fun x => Fin.ext ?_)
    match x with
    | ⟨0, _⟩ => show win0_1.index t (0 : Fin 3) * 1 + 1 * 0 = 2; omega
    | ⟨1, _⟩ => show win0_1.index t (1 : Fin 3) * 1024 + 1 * r.val = 1024 * (t.val % 4) + r.val; omega
    | ⟨2, _⟩ => show win0_1.index t (2 : Fin 3) * 1024 + 1 * b.val = b.val; omega

/-- What the last of a block's four points writes, at an entry: the sum over all tokens. -/
theorem block (c : Dev nD) (t : Fin cfg0.N) (h : t.val % 4 = 3) (a : Fin 1024) (b : Fin 1024) :
    (outsAt0 m c t.val t.isLt).1 (ix2 a b)
      = ∑ k : Fin 4096, Product.along (inputs m c) (cotangents m c) (1024 * (t.val / 4) + a.val) b.val k.val := by
  have hN := t.isLt
  have t2 : t.val - 1 < cfg0.N := by omega
  have t1 : t.val - 1 - 1 < cfg0.N := by omega
  have t0 : t.val - 1 - 1 - 1 < cfg0.N := by omega
  rw [outsAt0_C m c t (by omega) (by omega) h, last]
  rw [outsAt0_B m c ⟨t.val - 1, t2⟩ (by dsimp only; omega) (by dsimp only; omega) (by dsimp only; omega)]
  dsimp only
  rw [middle, outsAt0_B m c ⟨t.val - 1 - 1, t1⟩ (by dsimp only; omega) (by dsimp only; omega) (by dsimp only; omega)]
  dsimp only
  rw [middle, outsAt0_A m c ⟨t.val - 1 - 1 - 1, t0⟩ (by dsimp only; omega) (by dsimp only; omega) (by dsimp only; omega)]
  dsimp only
  rw [start]
  unfold k0_pay4
  rw [addf_apply, addf_apply, addf_apply, part, part, part, part]
  dsimp only
  rw [← Product.four_parts 1024 (by norm_num)]
  rw [show (t.val - 1 - 1 - 1) % 4 = 0 by omega, show (t.val - 1 - 1) % 4 = 1 by omega, show (t.val - 1) % 4 = 2 by omega, h,
    show (t.val - 1 - 1 - 1) / 4 = t.val / 4 by omega, show (t.val - 1 - 1) / 4 = t.val / 4 by omega, show (t.val - 1) / 4 = t.val / 4 by omega]

/-- The result array at an entry: the sum over all tokens. -/
theorem result (c : Dev nD) (a : Fin 1024) (b : Fin 1024) :
    (G2 m c : S1024x1024.Idx → EReal) (ix2 a b) = ∑ k : Fin 4096, Product.along (inputs m c) (cotangents m c) a.val b.val k.val := by
  have ha := a.isLt; have hb := b.isLt
  have hp : pt2Of (ix2 a b) = 4 * (a.val / 1024) + 3 := by
    show 4 * (1 * (a.val / 1024 - 0) + 1 * (b.val / 1024 - 0)) + 3 = _
    omega
  have hlt : pt2Of (ix2 a b) < cfg0.N := by rw [hp, show cfg0.N = 4 from N_0]; omega
  unfold G2
  rw [dif_pos hlt, ← outsAt0_sweep m c _ hlt]
  have hl : loc2Of (ix2 a b) = ix2 (⟨a.val % 1024, by omega⟩ : Fin 1024) b := funext fun x => Fin.ext (by
    match x with
    | ⟨0, _⟩ => rfl
    | ⟨1, _⟩ => show b.val % 1024 = b.val; omega)
  rw [hl, block m c ⟨pt2Of (ix2 a b), hlt⟩ (by dsimp only; rw [hp]; omega)]
  dsimp only
  rw [hp, show 1024 * ((4 * (a.val / 1024) + 3) / 4) + a.val % 1024 = a.val by omega]

open Cert.BranchW2RefIdeal.Read in
/-- The reference's result at an entry: the same sum. -/
theorem reference (c : Dev nD) (a : Fin 1024) (b : Fin 1024) :
    val_main_v6 (F := Ideal) (m ((c : Thread nD τ).loc main_arg0)) (m ((c : Thread nD τ).loc main_arg1)) (ix2 a b)
      = ∑ k : Fin 4096, Product.along (inputs m c) (cotangents m c) a.val b.val k.val := by
  have ha := a.isLt; have hb := b.isLt
  rw [val_main_v6_apply, val_main_v5_apply]
  refine Finset.sum_congr rfl fun k _ => ?_
  have hk := k.isLt
  unfold Product.along
  rw [dif_pos ⟨by omega, by omega, by omega⟩, val_main_v4_apply, mul_comm]
  refine congrArg₂ (· * ·) ?_ ?_
  · refine congrArg (m ((c : Thread nD τ).loc main_arg0)) (funext fun x => Fin.ext ?_)
    match x with
    | ⟨0, _⟩ => rfl
    | ⟨1, _⟩ => rfl
  · exact (congrArg (val_main_v3 (F := Ideal) (m ((c : Thread nD τ).loc main_arg1))) (eq_ix2 _)).trans (Pages.page_apply (2 : Fin 3) _ _ _ k b)

instance : Cert.BranchW2Ideal.Facts := Cert.BranchW2Ideal.Gen.facts
instance : Cert.BranchW2RefIdeal.Facts := Cert.BranchW2RefIdeal.Gen.facts

/-- The weight gradient of the mixer output projection agrees with the reference's. -/
theorem algebraic : Cert.algebraic_BranchW2Ideal_BranchW2RefIdeal := fun m g m' g' _ hm =>
  ⟨fun c => G2 m c, Cert.BranchW2Ideal.Value.run m g,
    (θ_run Cert.BranchW2RefIdeal.defs _ _).mono (fun r h c => ⟨(h c).1.trans (by
      rw [(hm c).1, (hm c).2, Cert.BranchW2RefIdeal.Read.val_main_v6_eq]
      funext i
      rw [(eq_ix2 i : i = ix2 (i 0) (i 1))]
      exact (reference m c _ _).trans (result m c _ _).symm), (h c).2⟩)
      (Cert.BranchW2RefIdeal.Value.run m' g')⟩

end Cert.Proof.BranchW2
-- ==== Proof.NormGrad.lean ====
/- The gradient of the layer norm by its input, along one row: the form in which it is computed from the normed row, and the form
   the derivative of the norm's own lines takes, are one function wherever the cotangent is finite. -/
module

public import Idealize.ShloMosaic.PureOps.Ideal.Laws
public import proofs.«01_k».proof.Proof.Finite
public import proofs.«01_k».proof.Proof.Norm

@[expose] public section

noncomputable section

namespace Cert.Proof.NormGrad

open Idealize.ShloMosaic Cert.Proof.Norm
open scoped BigOperators

/-- The row's length, the norm's small constant, two and minus one half, as both sides spell them. -/
abbrev len : EReal := Ideal.ofBits .f32 0x44800000#32
abbrev small : EReal := Ideal.ofBits .f32 0x3727C5AC#32
abbrev two : EReal := Ideal.ofBits .f32 0x40000000#32
abbrev half : EReal := Ideal.ofBits .f32 0xBF000000#32

theorem len_eq : len = ((1024 : ℝ) : EReal) := by
  simp [len, Ideal.ofBits, Ideal.ieee]
  rw [← EReal.coe_mul]
  norm_num
theorem two_eq : two = ((2 : ℝ) : EReal) := by
  simp [two, Ideal.ofBits, Ideal.ieee]
  rw [← EReal.coe_mul]
  norm_num
theorem half_eq : half = ((-1 / 2 : ℝ) : EReal) := by
  simp [half, Ideal.ofBits, Ideal.ieee]
  rw [← EReal.coe_mul]
  norm_num
theorem small_pos : ∃ r : ℝ, 0 < r ∧ small = (r : EReal) := by
  refine ⟨_, ?_, rfl⟩
  simp

/-- A row less its mean, the row's scale, and the normed row. -/
def centred (z : Fin 1024 → EReal) (j : Fin 1024) : EReal := z j - mean z
def spread2 (z : Fin 1024 → EReal) : EReal := variance z + small
def scale (z : Fin 1024 → EReal) : EReal := Ideal.rsqrt (spread2 z)
def hat (z : Fin 1024 → EReal) (j : Fin 1024) : EReal := centred z j * scale z

/-- The gradient from the normed row. -/
def back (z u : Fin 1024 → EReal) (j : Fin 1024) : EReal :=
  scale z * ((u j - Ideal.div (∑ k, u k) len) - hat z j * Ideal.div (∑ k, u k * hat z k) len)

/-- The share of the variance's cotangent that falls to one entry. -/
def share (z u : Fin 1024 → EReal) : EReal :=
  Ideal.div ((∑ k, centred z k * u k) * (half * Ideal.div (scale z) (spread2 z))) len

/-- The gradient as the norm's lines are differentiated. -/
def direct (z u : Fin 1024 → EReal) (j : Fin 1024) : EReal :=
  (u j * scale z + share z u * (two * centred z j))
    + Ideal.div ((∑ k, -(u k * scale z)) + ∑ k, -(share z u * (two * centred z k))) len

/-- The summands of a sum that is a real number are real numbers. -/
theorem real_of_add {x y : EReal} {r : ℝ} (h : x + y = r) : (∃ a : ℝ, x = a) ∧ ∃ b : ℝ, y = b := by
  induction x with
  | bot => simp at h
  | top =>
    induction y with
    | bot => simp at h
    | top => simp at h
    | coe b => simp at h
  | coe a =>
    induction y with
    | bot => simp at h
    | top => simp at h
    | coe b => exact ⟨⟨a, rfl⟩, b, rfl⟩

theorem real_of_sum {ι : Type*} (s : Finset ι) (f : ι → EReal) : ∀ r : ℝ, ∑ i ∈ s, f i = r → ∀ i ∈ s, ∃ a : ℝ, f i = a := by
  classical
  induction s using Finset.induction_on with
  | empty => intro _ _ i hi; simp at hi
  | insert a s ha ih =>
    intro r h i hi
    rw [Finset.sum_insert ha] at h
    obtain ⟨h1, b, h2⟩ := real_of_add h
    rcases Finset.mem_insert.mp hi with rfl | hi
    · exact h1
    · exact ih b h2 i hi

theorem real_of_sub {x y : EReal} {r : ℝ} (h : x - y = r) : ∃ b : ℝ, y = b := by
  obtain ⟨_, b, hb⟩ := real_of_add (x := x) (y := -y) h
  exact ⟨-b, by rw [← neg_neg y, hb, EReal.coe_neg]⟩

/-- A row that is not real everywhere has scale zero: its mean is infinite, and so is its variance. -/
theorem scale_infinite (z : Fin 1024 → EReal) (h : ¬ ∀ k, ∃ r : ℝ, z k = r) : spread2 z = ⊤ := by
  have hm : ¬ ∃ r : ℝ, mean z = r := by
    rintro ⟨r, hr⟩
    apply h
    unfold mean at hr
    rw [show Ideal.ofBits .f32 0x44800000#32 = ((1024 : ℝ) : EReal) from len_eq, Ideal.div_coe (by norm_num)] at hr
    intro k
    generalize hs : ∑ k, z k = s at hr
    induction s with
    | bot => rw [EReal.bot_mul_coe_of_pos (by norm_num)] at hr; simp at hr
    | top => rw [EReal.top_mul_coe_of_pos (by norm_num)] at hr; simp at hr
    | coe a => exact real_of_sum _ _ a hs k (Finset.mem_univ k)
  have hc : ∀ k, (z k - mean z) * (z k - mean z) = ⊤ := by
    intro k
    generalize hx : z k - mean z = x
    induction x with
    | bot => exact EReal.bot_mul_bot
    | top => exact EReal.top_mul_top
    | coe a => exact absurd (real_of_sub hx) hm
  have hv : variance z = ⊤ := by
    unfold variance
    rw [show Ideal.ofBits .f32 0x44800000#32 = ((1024 : ℝ) : EReal) from len_eq, Ideal.div_coe (by norm_num), Finset.sum_congr rfl fun k _ => hc k]
    have ht : ∑ _k : Fin 1024, (⊤ : EReal) = ⊤ := by
      rw [Fin.sum_univ_succ]
      exact EReal.top_add_of_ne_bot (ne_of_gt (lt_of_lt_of_le EReal.bot_lt_zero (Finset.sum_nonneg fun _ _ => le_top)))
    rw [ht, EReal.top_mul_coe_of_pos (by norm_num)]
  obtain ⟨e, he, hs⟩ := small_pos
  unfold spread2
  rw [hv, hs, EReal.top_add_coe]

/-- In the reals: `r` is the inverse root of `v`, and the moved row sums to zero. -/
theorem reals (x u : Fin 1024 → ℝ) (r v : ℝ) (hv : r * r * v = 1) (hx : ∑ k, x k = 0) (j : Fin 1024) :
    r * ((u j - (∑ k, u k) * (1 / 1024)) - x j * r * ((∑ k, u k * (x k * r)) * (1 / 1024)))
      = (u j * r + ((∑ k, x k * u k) * (-1 / 2 * (r * (1 / v))) * (1 / 1024)) * (2 * x j))
        + ((∑ k, -(u k * r)) + ∑ k, -(((∑ k, x k * u k) * (-1 / 2 * (r * (1 / v))) * (1 / 1024)) * (2 * x k))) * (1 / 1024) := by
  have hv0 : v ≠ 0 := by rintro rfl; simp at hv
  have h1 : 1 / v = r * r := by field_simp; linarith
  have h2 : ∑ k, u k * (x k * r) = (∑ k, x k * u k) * r := by
    rw [Finset.sum_mul]; exact Finset.sum_congr rfl fun k _ => by ring
  have h3 : ∑ k, -(u k * r) = -((∑ k, u k) * r) := by rw [Finset.sum_neg_distrib, Finset.sum_mul]
  have h4 : ∀ w : ℝ, ∑ k, -(w * (2 * x k)) = 0 := fun w => by
    rw [Finset.sum_neg_distrib, ← Finset.mul_sum, ← Finset.mul_sum, hx]; ring
  rw [h1, h2, h3, h4]
  ring

/-- The two forms agree wherever the cotangent is real. -/
theorem agree (z u : Fin 1024 → EReal) (hu : ∀ k, ∃ r : ℝ, u k = r) (j : Fin 1024) : back z u j = direct z u j := by
  by_cases hz : ∀ k, ∃ r : ℝ, z k = r
  · choose u' hu' using hu
    choose z' hz' using hz
    obtain ⟨e, he, hs⟩ := small_pos
    have hm : mean z = (((∑ k, z' k) * (1 / 1024) : ℝ) : EReal) := by
      unfold mean
      rw [show Ideal.ofBits .f32 0x44800000#32 = ((1024 : ℝ) : EReal) from len_eq, Ideal.div_coe (by norm_num), Finset.sum_congr rfl fun k _ => hz' k,
        Finite.sum_coe, EReal.coe_mul]
    obtain ⟨x, hx⟩ : ∃ x : Fin 1024 → ℝ, x = fun k => z' k - (∑ k, z' k) * (1 / 1024) := ⟨_, rfl⟩
    have hc : ∀ k, centred z k = (x k : EReal) := fun k => by
      unfold centred
      rw [hm, hz', hx, EReal.coe_sub]
    have hx0 : ∑ k, x k = 0 := by
      rw [hx, Finset.sum_sub_distrib, Finset.sum_const, Finset.card_univ, Fintype.card_fin]
      simp
      ring
    obtain ⟨v, hv⟩ : ∃ v : ℝ, v = (∑ k, x k * x k) * (1 / 1024) + e := ⟨_, rfl⟩
    have hvp : 0 < v := by
      rw [hv]
      have : 0 ≤ ∑ k, x k * x k := Finset.sum_nonneg fun k _ => mul_self_nonneg _
      positivity
    have hs2 : spread2 z = (v : EReal) := by
      unfold spread2 variance
      rw [show Ideal.ofBits .f32 0x44800000#32 = ((1024 : ℝ) : EReal) from len_eq, Ideal.div_coe (by norm_num),
        show ∑ k, (z k - mean z) * (z k - mean z) = ∑ k, ((x k * x k : ℝ) : EReal) from
          Finset.sum_congr rfl fun k _ => by rw [EReal.coe_mul, ← hc k]; rfl,
        Finite.sum_coe, hs, hv, EReal.coe_add, EReal.coe_mul]
    obtain ⟨r, hr⟩ : ∃ r : ℝ, r = (Real.sqrt v)⁻¹ := ⟨_, rfl⟩
    have hsc : scale z = (r : EReal) := by
      unfold scale
      rw [hs2, Ideal.rsqrt_coe, if_neg (not_lt.mpr hvp.le), if_neg hvp.ne', hr]
    have hrv : r * r * v = 1 := by
      rw [hr, ← mul_inv, Real.mul_self_sqrt hvp.le, inv_mul_cancel₀ hvp.ne']
    have h := congrArg (fun t : ℝ => (t : EReal)) (reals x u' r v hrv hx0 j)
    unfold back direct share hat
    rw [hs2, hsc, two_eq, half_eq, len_eq]
    simp only [hc, hu', Ideal.div_coe (show (1024 : ℝ) ≠ 0 by norm_num), Ideal.div_coe hvp.ne', ← EReal.coe_mul, ← EReal.coe_sub, ← EReal.coe_add,
      ← EReal.coe_neg, Finite.sum_coe]
    exact h
  · have h := scale_infinite z hz
    have h0 : scale z = 0 := by unfold scale; rw [h, Ideal.rsqrt_top]
    have hw : share z u = 0 := by
      unfold share
      rw [h0, h, show Ideal.div 0 ⊤ = 0 by simp [Ideal.div], len_eq, Ideal.div_coe (by norm_num), mul_zero, mul_zero, zero_mul]
    unfold back direct
    rw [hw, h0, len_eq]
    simp [Ideal.div_coe (show (1024 : ℝ) ≠ 0 by norm_num)]

end Cert.Proof.NormGrad
-- ==== Proof.Rows.lean ====
/- Places of a matrix, sums from zero, and a sum over all rows taken 512 rows at a time. -/
module

public import Idealize.ShloMosaic.PureOps.Ideal.Laws
public import Idealize.ShloMosaic.Lib.IdealHost

@[expose] public section

noncomputable section

namespace Cert.Proof.Rows

open Idealize.ShloMosaic Idealize.ShloMosaic.ValueIdx
open scoped BigOperators

/-- Two places of a matrix, of a row of numbers, that have the same coordinates. -/
theorem place2 {M N : ℕ} (i : (⟨2, ![M, N]⟩ : Shape).Idx) (a : Fin M) (b : Fin N) (h0 : (i 0).val = a.val) (h1 : (i 1).val = b.val) : i = ix2 a b :=
  funext fun x => Fin.ext (match x with
    | ⟨0, _⟩ => h0
    | ⟨1, _⟩ => h1)
theorem place1 {N : ℕ} (i : (⟨1, ![N]⟩ : Shape).Idx) (a : Fin N) (h : (i 0).val = a.val) : i = ix1 a :=
  funext fun x => Fin.ext (match x with | ⟨0, _⟩ => h)

/-- A sum from zero over a row. -/
theorem from_zero {n : ℕ} (f h : Fin n → EReal) (e : ∀ k, f k = h k) : Ideal.ofBits .f32 0x00000000#32 + ∑ k, f k = ∑ k, h k := by
  rw [Ideal.ofBits_zero_f32, zero_add]
  exact Finset.sum_congr rfl fun k _ => e k
/-- A sum from zero over one entry. -/
theorem from_one (f : Fin 1 → EReal) (x : EReal) (e : f 0 = x) : Ideal.ofBits .f32 0x00000000#32 + ∑ k, f k = x := by
  rw [Ideal.ofBits_zero_f32, zero_add, Fin.sum_univ_one, e]

/-- A quantity of the rows, by the row's number. -/
def rows (f : Fin 4096 → EReal) (r : ℕ) : EReal := if h : r < 4096 then f ⟨r, h⟩ else 0

/-- A point's rows. -/
theorem part (f : Fin 4096 → EReal) (n : ℕ) (hn : n < 8) (h : Fin 512 → EReal) (e : ∀ (a : Fin 512) (r : Fin 4096), r.val = n * 512 + a.val → h a = f r) :
    ∑ a, h a = ∑ r ∈ Finset.range 512, rows f (512 * n + r) := by
  rw [Finset.sum_range]
  refine Finset.sum_congr rfl fun a _ => ?_
  have ha := a.isLt
  unfold rows
  rw [dif_pos (by omega)]
  exact e a _ (by show 512 * n + a.val = n * 512 + a.val; omega)

/-- The eight points' rows are all the rows. -/
theorem parts (f : Fin 4096 → EReal) : ∑ r ∈ Finset.range (512 * (7 + 1)), rows f r = ∑ r, f r := by
  rw [Finset.sum_range]
  exact Finset.sum_congr rfl fun r _ => dif_pos r.isLt

/-- A nonnegative real factor goes into a sum. -/
theorem scaled_sum {n : ℕ} (k : EReal) (h0 : 0 ≤ k) (ht : k ≠ ⊤) (f : Fin n → EReal) : (∑ i, f i) * k = ∑ i, f i * k := by
  simp only [mul_comm _ k]
  exact map_sum (⟨⟨fun x => k * x, mul_zero k⟩, fun x y => EReal.left_distrib_of_nonneg_of_ne_top h0 ht x y⟩ : EReal →+ EReal) f Finset.univ

end Cert.Proof.Rows
-- ==== Proof.LnBwdRef.lean ====
/- The gradient of the layer norm as the reference leaves it, entry by entry. -/
module

public import proofs.«01_k».proof.Proof.NormGrad
public import proofs.«01_k».proof.Proof.Rows
public import proofs.«01_k».proof.Proof.Gen.LnBwdRefIdeal.Read
public import Idealize.ShloMosaic.Lib.IdealHost

@[expose] public section

noncomputable section

namespace Cert.Proof.LnBwdRef

open Cert.Proof.Rows Cert.LnBwdRefIdeal Cert.LnBwdRefIdeal.Read Cert.Proof.NormGrad
open Idealize.ShloMosaic Idealize.ShloMosaic.TcCoe Idealize.ShloMosaic.ValueIdx Idealize.SL.Sem
open scoped BigOperators

variable (d z : (⟨S4096x1024, .f32⟩ : BufTy).Contents (Elt Ideal)) (g : (⟨S1024, .f32⟩ : BufTy).Contents (Elt Ideal))
variable (r : Fin 4096)

/-- A row of the norm's input, and the cotangent of its normed row. -/
abbrev row (z : (⟨S4096x1024, .f32⟩ : BufTy).Contents (Elt Ideal)) (r : Fin 4096) : Fin 1024 → EReal := fun k => z (ix2 r k)
abbrev pull (d : (⟨S4096x1024, .f32⟩ : BufTy).Contents (Elt Ideal)) (g : (⟨S1024, .f32⟩ : BufTy).Contents (Elt Ideal)) (r : Fin 4096) :
    Fin 1024 → EReal := fun k => (d (ix2 r k) : EReal) * g (ix1 k)

theorem mean_row : val_main_v4 (F := Ideal) z (ix2 r (0 : Fin 1)) = Norm.mean (row z r) := by
  rw [val_main_v4_apply, val_main_v2_apply, val_main_v1_apply, val_main_v3_apply]
  refine congrArg (fun e => Ideal.div e len) (from_zero _ _ fun k => congrArg z (place2 _ r k rfl rfl))

theorem centred_row (k : Fin 1024) : val_main_v6 (F := Ideal) z (ix2 r k) = centred (row z r) k := by
  rw [val_main_v6_apply, val_main_v5_apply]
  exact congrArg (fun e : EReal => z (ix2 r k) - e) ((congrArg (val_main_v4 (F := Ideal) z) (place2 _ r (0 : Fin 1) rfl rfl)).trans (mean_row z r))

theorem centred_row' (k : Fin 1024) : val_main_v15 (F := Ideal) z (ix2 r k) = centred (row z r) k := by
  rw [val_main_v15_apply, val_main_v14_apply]
  exact congrArg (fun e : EReal => z (ix2 r k) - e) ((congrArg (val_main_v4 (F := Ideal) z) (place2 _ r (0 : Fin 1) rfl rfl)).trans (mean_row z r))

theorem spread_row : val_main_v17 (F := Ideal) z (ix2 r (0 : Fin 1)) = spread2 (row z r) := by
  rw [val_main_v17_apply, val_main_v13_apply, val_main_v11_apply, val_main_v10_apply, val_main_v12_apply, val_main_v16_apply]
  refine congrArg (fun e => Ideal.div e len + small) (from_zero _ _ fun k => ?_)
  rw [place2 (idx_main_v10 (idx_main_v11 (ix2 r (0 : Fin 1))) k) r k rfl rfl, val_main_v7_apply]
  exact congrArg₂ (fun p q : EReal => p * q) (centred_row z r k) (centred_row z r k)

theorem scale_row : val_main_v18 (F := Ideal) z (ix2 r (0 : Fin 1)) = scale (row z r) := by
  rw [val_main_v18_apply]
  exact congrArg Ideal.rsqrt (spread_row z r)

theorem pull_row (k : Fin 1024) : val_main_v38 (F := Ideal) d g (ix2 r k) = pull d g r k := by
  rw [val_main_v38_apply, val_main_v37_apply, val_main_v24_apply]
  exact congrArg₂ (fun p q : EReal => p * q) (congrFun (shapeCast_self d _) (ix2 r k)) (congrArg g (place1 _ k rfl))

theorem scaled_row (k : Fin 1024) : val_main_v44 (F := Ideal) d z g (ix2 r k) = pull d g r k * scale (row z r) := by
  rw [val_main_v44_apply, val_main_v43_apply]
  exact congrArg₂ (fun p q : EReal => p * q) (pull_row d g r k)
    ((congrArg (val_main_v18 (F := Ideal) z) (place2 _ r (0 : Fin 1) rfl rfl)).trans (scale_row z r))

theorem share_row : val_main_v51 (F := Ideal) d z g (ix1 r) = share (row z r) (pull d g r) := by
  rw [val_main_v51_apply]
  refine from_one _ _ ?_
  rw [place2 (idx_main_v51 (ix1 r) 0) r (0 : Fin 1) rfl rfl, val_main_v50_apply, val_main_v45_apply, val_main_v42_apply, val_main_v41_apply,
    val_main_v49_apply, val_main_v21_apply, val_main_v20_apply, val_main_v19_apply]
  refine congrArg (fun e => Ideal.div e len) (congrArg₂ (fun p q : EReal => p * q) (from_zero _ _ fun k => ?_)
    (congrArg (fun e : EReal => half * e) (congrArg₂ Ideal.div (scale_row z r) (spread_row z r))))
  rw [place2 (idx_main_v41 (idx_main_v42 (ix2 r (0 : Fin 1))) k) r k (by show r.val * 1 + 0 = r.val; omega) rfl, val_main_v40_apply]
  exact congrArg₂ (fun p q : EReal => p * q) (centred_row' z r k) (pull_row d g r k)

theorem moved_row (k : Fin 1024) :
    val_main_v53 (F := Ideal) d z g (ix2 r k) = share (row z r) (pull d g r) * (two * centred (row z r) k) := by
  rw [val_main_v53_apply, val_main_v52_apply, val_main_v9_apply, val_main_v8_apply]
  exact congrArg₂ (fun p q : EReal => p * q) ((congrArg (val_main_v51 (F := Ideal) d z g) (place1 _ r rfl)).trans (share_row d z g r))
    (congrArg (fun e : EReal => two * e) (centred_row z r k))

theorem common_row : val_main_v61 (F := Ideal) d z g (ix1 r)
    = Ideal.div ((∑ k, -(pull d g r k * scale (row z r))) + ∑ k, -(share (row z r) (pull d g r) * (two * centred (row z r) k))) len := by
  rw [val_main_v61_apply]
  refine from_one _ _ ?_
  rw [place2 (idx_main_v61 (ix1 r) 0) r (0 : Fin 1) rfl rfl, val_main_v60_apply, val_main_v58_apply, val_main_v48_apply, val_main_v47_apply,
    val_main_v56_apply, val_main_v55_apply, val_main_v59_apply]
  refine congrArg (fun e => Ideal.div e len) (congrArg₂ (fun p q : EReal => p + q) (from_zero _ _ fun k => ?_) (from_zero _ _ fun k => ?_))
  · rw [place2 (idx_main_v47 (idx_main_v48 (ix2 r (0 : Fin 1))) k) r k (by show r.val * 1 + 0 = r.val; omega) rfl, val_main_v46_apply]
    exact congrArg (fun e : EReal => -e) (scaled_row d z g r k)
  · rw [place2 (idx_main_v55 (idx_main_v56 (ix2 r (0 : Fin 1))) k) r k (by show r.val * 1 + 0 = r.val; omega) rfl, val_main_v54_apply]
    exact congrArg (fun e : EReal => -e) (moved_row d z g r k)

/-- The gradient by the norm's input. -/
theorem input_row (k : Fin 1024) : val_main_v63 (F := Ideal) d z g (ix2 r k) = direct (row z r) (pull d g r) k := by
  rw [val_main_v63_apply, val_main_v57_apply, val_main_v62_apply]
  exact congrArg₂ (fun p q : EReal => p + q) (congrArg₂ (fun p q : EReal => p + q) (scaled_row d z g r k) (moved_row d z g r k))
    ((congrArg (val_main_v61 (F := Ideal) d z g) (place1 _ r rfl)).trans (common_row d z g r))

/-- The gradient by the gain. -/
theorem gain (b : Fin 1024) : val_main_v64 (F := Ideal) d z (ix2 (0 : Fin 1) b) = ∑ r : Fin 4096, (d (ix2 r b) : EReal) * hat (row z r) b := by
  rw [val_main_v64_apply, val_main_v39_apply]
  refine from_one _ _ ?_
  rw [val_main_v36_apply, val_main_v35_apply]
  refine from_zero _ _ fun r => ?_
  rw [place2 (idx_main_v35 _ r) r b rfl (by show 0 * 1024 + b.val = b.val; omega), val_main_v34_apply, val_main_v23_apply, val_main_v22_apply]
  refine Eq.trans ?_ (mul_comm _ _)
  exact congrArg₂ (fun p q : EReal => p * q) (congrArg₂ (fun p q : EReal => p * q) (centred_row' z r b)
    ((congrArg (val_main_v18 (F := Ideal) z) (place2 _ r (0 : Fin 1) rfl rfl)).trans (scale_row z r))) (congrFun (shapeCast_self d _) (ix2 r b))

/-- The gradient by the shift. -/
theorem shift (b : Fin 1024) : val_main_v65 (F := Ideal) d (ix2 (0 : Fin 1) b) = ∑ r : Fin 4096, (d (ix2 r b) : EReal) := by
  rw [val_main_v65_apply, val_main_v33_apply]
  refine from_one _ _ ?_
  rw [val_main_v32_apply, val_main_v31_apply]
  exact from_zero _ _ fun r => congrArg d (place2 _ r b rfl (by show 0 * 1024 + b.val = b.val; omega))

end Cert.Proof.LnBwdRef
-- ==== Proof.LnBwd.lean ====
/- The gradient of the layer norm: a point's block is whole rows, and the sums over the rows are carried from point to point. -/
module

public import proofs.«01_k».proof.Defs
public import proofs.«01_k».proof.Proof.Finite
public import proofs.«01_k».proof.Proof.NormGrad
public import proofs.«01_k».proof.Proof.LnBwdRef
public import proofs.«01_k».proof.Proof.Gen.LnBwdIdeal.Value
public import proofs.«01_k».proof.Proof.Gen.LnBwdRefIdeal.Run

@[expose] public section

noncomputable section

namespace Cert.Proof.LnBwd

open Cert.Proof.Rows Cert.Proof.NormGrad Cert.LnBwdIdeal Cert.LnBwdIdeal.Gen Cert.LnBwdIdeal.Value
open Idealize.ShloMosaic Idealize.ShloMosaic.TcCoe Idealize.ShloMosaic.ValueIdx Idealize.SL.Sem
open scoped BigOperators

variable (m : (ℓ : Loc nD τ sig) → Buf (Elt Ideal) ℓ)

theorem hz2 : (![0, 0] : Fin 2 → ℕ) = fun _ => 0 := by decide

section Block
variable (z d : FVec Ideal S512x1024 .f32) (g : FVec Ideal S1x1024 .f32)

theorem block_centred (a : Fin 512) (k : Fin 1024) : k0_pay5 (F := Ideal) z (ix2 a k) = centred (fun k => z (ix2 a k)) k :=
  Norm.moved_apply z reduces_S512x1024_S512 shapeCasts_S512_S512x1 broadcasts_S512x1_S512x1024 a k

theorem block_scale (a : Fin 512) : k0_pay6 (F := Ideal) z (ix2 a (0 : Fin 1)) = scale fun k => z (ix2 a k) := by
  unfold k0_pay6
  refine congrArg (fun e => Ideal.rsqrt (Ideal.div e len + small)) ((Norm.column shapeCasts_S512_S512x1 _ a 0).trans
    ((Norm.sums _ reduces_S512x1024_S512 a).trans (Finset.sum_congr rfl fun k _ => ?_)))
  exact congrArg₂ (fun p q : EReal => p * q) (block_centred z a k) (block_centred z a k)

theorem block_hat (a : Fin 512) (k : Fin 1024) : k0_pay7 (F := Ideal) z (ix2 a k) = hat (fun k => z (ix2 a k)) k := by
  unfold k0_pay7
  exact congrArg₂ (fun p q : EReal => p * q) (block_centred z a k) ((Norm.spread broadcasts_S512x1_S512x1024 _ a k).trans (block_scale z a))

/-- The gradient by the norm's input, at an entry of a block. -/
theorem block_input (a : Fin 512) (j : Fin 1024) :
    k0_pay8 (F := Ideal) z d g (ix2 a j) = back (fun k => z (ix2 a k)) (fun k => (d (ix2 a k) : EReal) * g (ix2 (0 : Fin 1) k)) j := by
  have hu : ∀ k : Fin 1024, mulf d (broadcastTo S512x1024 (shapeCast S1x1024 g shapeCasts_S1x1024_S1x1024) broadcasts_S1x1024_S512x1024) (ix2 a k)
      = (d (ix2 a k) : EReal) * g (ix2 (0 : Fin 1) k) := fun k => by
    rw [shapeCast_self]
    exact congrArg (fun e : EReal => (d (ix2 a k) : EReal) * e) (broadcastTo_1b_ab_apply g broadcasts_S1x1024_S512x1024 a k)
  unfold k0_pay8
  refine congrArg₂ (fun p q : EReal => p * q) ((Norm.spread broadcasts_S512x1_S512x1024 _ a j).trans (block_scale z a))
    (congrArg₂ (fun p q : EReal => p - q) (congrArg₂ (fun p q : EReal => p - q) (hu j) ?_)
      (congrArg₂ (fun p q : EReal => p * q) (block_hat z a j) ?_))
  · refine (Norm.spread broadcasts_S512x1_S512x1024 _ a j).trans (congrArg (fun e => Ideal.div e len) ((Norm.column shapeCasts_S512_S512x1 _ a 0).trans
      ((Norm.sums _ reduces_S512x1024_S512 a).trans (Finset.sum_congr rfl fun k _ => hu k))))
  · refine (Norm.spread broadcasts_S512x1_S512x1024 _ a j).trans (congrArg (fun e => Ideal.div e len) ((Norm.column shapeCasts_S512_S512x1 _ a 0).trans
      ((Norm.sums _ reduces_S512x1024_S512 a).trans (Finset.sum_congr rfl fun k _ => ?_))))
    exact congrArg₂ (fun p q : EReal => p * q) (hu k) (block_hat z a k)

/-- A block's sum over its rows, laid as a line. -/
theorem block_rows (b : Fin 1024) :
    shapeCast S1x1024 (multiReduction (F := Ideal) .add [0] S1024 d 0x00000000#32 reduces_S512x1024_S1024 (.inl rfl) rfl) shapeCasts_S1024_S1x1024
      (ix2 (0 : Fin 1) b) = ∑ a : Fin 512, (d (ix2 a b) : EReal) := by
  refine (shapeCast_apply _ shapeCasts_S1024_S1x1024 (ix2 (0 : Fin 1) b) (ix1 b) ?_).trans
    ((Ideal.multiReduction_add_single d _ reduces_S512x1024_S1024 _ _ (ix1 b)).trans
      (Finset.sum_congr rfl fun a _ => congrArg d (place2 _ a b rfl rfl)))
  rw [Shape.rowMajor_val_one, Shape.rowMajor_val_two]
  show b.val = 0 * 1024 + b.val
  omega

theorem block_gain (b : Fin 1024) :
    k0_pay1 (F := Ideal) (k0_pay9 z d) (ix2 (0 : Fin 1) b) = ∑ a : Fin 512, (d (ix2 a b) : EReal) * hat (fun k => z (ix2 a k)) b := by
  unfold k0_pay1
  refine (block_rows _ b).trans (Finset.sum_congr rfl fun a _ => ?_)
  unfold k0_pay9
  exact congrArg (fun e : EReal => (d (ix2 a b) : EReal) * e) (block_hat z a b)

theorem block_shift (b : Fin 1024) : k0_pay2 (F := Ideal) d (ix2 (0 : Fin 1) b) = ∑ a : Fin 512, (d (ix2 a b) : EReal) := by
  unfold k0_pay2
  exact block_rows d b
end Block

section Cases
variable (c : Dev nD) (i : grid0.Coords)

/-- What the first point leaves in its three windows. -/
theorem first3 (a1 h1 a2 h2 a3 h3 a4 h4 a5 h5 a6 h6 hc0 hc1 x y g) :
    out0_A_3 (F := Ideal) c i a1 h1 a2 h2 a3 h3 a4 h4 a5 h5 a6 h6 hc0 hc1 x y g = k0_pay8 y x g := by
  unfold out0_A_3
  rw [View.read_writes_eq_canon _ _ _ (cover0_A_3 c i a1 h1 a2 h2 a3 h3 a4 h4 a5 h5 a6 h6 hc0 hc1 x y g)]
  unfold kernelRun0_A
  dsimp only
  sl_unfold_words
  rw [View.canon_cons_unit_zero hz2]
  simp only [View.readAt_eq_ld, h1.read_unread, h2.read_unread, h3.read_unread, View.ld_unit_zero (S := S512x1024) hz2, View.ld_unit_zero (S := S1x1024) hz2]

theorem first4 (a1 h1 a2 h2 a3 h3 a4 h4 a5 h5 a6 h6 hc0 hc1 x y g) :
    out0_A_4 (F := Ideal) c i a1 h1 a2 h2 a3 h3 a4 h4 a5 h5 a6 h6 hc0 hc1 x y g = k0_pay1 (k0_pay9 y x) := by
  unfold out0_A_4
  rw [View.read_writes_eq_canon _ _ _ (cover0_A_4 c i a1 h1 a2 h2 a3 h3 a4 h4 a5 h5 a6 h6 hc0 hc1 x y g)]
  unfold kernelRun0_A
  dsimp only
  sl_unfold_words
  rw [View.canon_cons_unit_zero hz2]
  simp only [View.readAt_eq_ld, h1.read_unread, h2.read_unread, h3.read_unread, View.ld_unit_zero (S := S512x1024) hz2, View.ld_unit_zero (S := S1x1024) hz2]

theorem first5 (a1 h1 a2 h2 a3 h3 a4 h4 a5 h5 a6 h6 hc0 hc1 x y g) :
    out0_A_5 (F := Ideal) c i a1 h1 a2 h2 a3 h3 a4 h4 a5 h5 a6 h6 hc0 hc1 x y g = k0_pay2 x := by
  unfold out0_A_5
  rw [View.read_writes_eq_canon _ _ _ (cover0_A_5 c i a1 h1 a2 h2 a3 h3 a4 h4 a5 h5 a6 h6 hc0 hc1 x y g)]
  unfold kernelRun0_A
  dsimp only
  sl_unfold_words
  rw [View.canon_cons_unit_zero hz2]
  simp only [View.readAt_eq_ld, h1.read_unread, h2.read_unread, h3.read_unread, View.ld_unit_zero (S := S512x1024) hz2, View.ld_unit_zero (S := S1x1024) hz2]

/-- What a later point leaves, over the sums it finds. -/
theorem later3 (a1 h1 a2 h2 a3 h3 a4 h4 a5 h5 a6 h6 hc0 hc1 x y g p q) :
    out0_B_3 (F := Ideal) c i a1 h1 a2 h2 a3 h3 a4 h4 a5 h5 a6 h6 hc0 hc1 x y g p q = k0_pay8 y x g := by
  unfold out0_B_3
  rw [View.read_writes_eq_canon _ _ _ (cover0_B_3 c i a1 h1 a2 h2 a3 h3 a4 h4 a5 h5 a6 h6 hc0 hc1 x y g p q)]
  unfold kernelRun0_B
  dsimp only
  sl_unfold_words
  rw [View.canon_cons_unit_zero hz2]
  simp only [View.readAt_eq_ld, h1.read_unread, h2.read_unread, h3.read_unread, View.ld_unit_zero (S := S512x1024) hz2, View.ld_unit_zero (S := S1x1024) hz2]

theorem later4 (a1 h1 a2 h2 a3 h3 a4 h4 a5 h5 a6 h6 hc0 hc1 x y g p q) :
    out0_B_4 (F := Ideal) c i a1 h1 a2 h2 a3 h3 a4 h4 a5 h5 a6 h6 hc0 hc1 x y g p q = k0_pay3 (k0_pay9 y x) p := by
  unfold out0_B_4
  rw [View.read_writes_eq_canon _ _ _ (cover0_B_4 c i a1 h1 a2 h2 a3 h3 a4 h4 a5 h5 a6 h6 hc0 hc1 x y g p q)]
  unfold kernelRun0_B
  dsimp only
  sl_unfold_words
  rw [View.canon_cons_unit_zero hz2]
  simp only [View.readAt_eq_ld, h1.read_unread, h2.read_unread, h3.read_unread, h5.read_unread, View.ld_unit_zero (S := S512x1024) hz2, View.ld_unit_zero (S := S1x1024) hz2]

theorem later5 (a1 h1 a2 h2 a3 h3 a4 h4 a5 h5 a6 h6 hc0 hc1 x y g p q) :
    out0_B_5 (F := Ideal) c i a1 h1 a2 h2 a3 h3 a4 h4 a5 h5 a6 h6 hc0 hc1 x y g p q = k0_pay4 x q := by
  unfold out0_B_5
  rw [View.read_writes_eq_canon _ _ _ (cover0_B_5 c i a1 h1 a2 h2 a3 h3 a4 h4 a5 h5 a6 h6 hc0 hc1 x y g p q)]
  unfold kernelRun0_B
  dsimp only
  sl_unfold_words
  rw [View.canon_cons_unit_zero hz2]
  simp only [View.readAt_eq_ld, h1.read_unread, h2.read_unread, h3.read_unread, h6.read_unread, View.ld_unit_zero (S := S512x1024) hz2, View.ld_unit_zero (S := S1x1024) hz2]
end Cases

/-- The cotangents, the norm's input and its gain. -/
abbrev cotangents (c : Dev nD) : S4096x1024.Idx → EReal := m ((c : Thread nD τ).loc main_arg0)
abbrev inputs (c : Dev nD) : S4096x1024.Idx → EReal := m ((c : Thread nD τ).loc main_arg1)
abbrev gain (c : Dev nD) : S1024.Idx → EReal := m ((c : Thread nD τ).loc main_arg2)

/-- Which blocks a point reads and writes. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)

/-- The gain, as the host lays it before the launch. -/
theorem laid (c : Dev nD) : V m c main_v0 = broadcastInDim S1x1024 ![1] bcast_S1024_S1x1024_1 (m ((c : Thread nD τ).loc main_arg2)) := by
  show StableHlo.after hostOps0 (fun b => m (c, b)) (Proc.devRef .tc main_v0) = _
  rw [StableHlo.after_cons, StableHlo.after_nil, StableHlo.unary_result]

section Point
variable (c : Dev nD) (t : Fin cfg0.N)

theorem at_cotangent (a : Fin 512) (r : Fin 4096) (hr : r.val = t.val * 512 + a.val) (k : Fin 1024) : iblk m c 0 t (ix2 a k) = cotangents m c (ix2 r k) := by
  obtain ⟨e0, e1⟩ := index0 t
  show V m c main_arg0 (((cfg0.win 0).blk t).view.emb (ix2 a k)) = _
  rw [V_main_arg0]
  refine congrArg (m ((c : Thread nD τ).loc main_arg0)) (place2 _ r k ?_ ?_)
  · show win0_0.index t (0 : Fin 2) * 512 + 1 * a.val = r.val; omega
  · show win0_0.index t (1 : Fin 2) * 1024 + 1 * k.val = k.val; omega

theorem at_input (a : Fin 512) (r : Fin 4096) (hr : r.val = t.val * 512 + a.val) (k : Fin 1024) : iblk m c 1 t (ix2 a k) = inputs m c (ix2 r k) := by
  obtain ⟨e0, e1⟩ := index1 t
  show V m c main_arg1 (((cfg0.win 1).blk t).view.emb (ix2 a k)) = _
  rw [V_main_arg1]
  refine congrArg (m ((c : Thread nD τ).loc main_arg1)) (place2 _ r k ?_ ?_)
  · show win0_1.index t (0 : Fin 2) * 512 + 1 * a.val = r.val; omega
  · show win0_1.index t (1 : Fin 2) * 1024 + 1 * k.val = k.val; omega

theorem at_gain (b : Fin 1024) : iblk m c 2 t (ix2 (0 : Fin 1) b) = gain m c (ix1 b) := by
  obtain ⟨e0, e1⟩ := index2 t
  show V m c main_v0 (((cfg0.win 2).blk t).view.emb (ix2 (0 : Fin 1) b)) = _
  rw [laid]
  refine Eq.trans (congrArg _ (place2 _ (0 : Fin 1) b ?_ ?_)) (broadcastInDim_apply _ bcast_S1024_S1x1024_1 _ (ix2 (0 : Fin 1) b) (ix1 b) fun a => match a with
    | ⟨0, _⟩ => by show b.val = if (1024 : Nat) = 1 then 0 else b.val; rw [if_neg (by decide)])
  · show win0_2.index t (0 : Fin 2) * 1 + 1 * 0 = 0; omega
  · show win0_2.index t (1 : Fin 2) * 1024 + 1 * b.val = b.val; omega

/-- A point leaves its block of the gradient by the norm's input. -/
theorem held3 : (outsAt0 m c t.val t.isLt).1 = k0_pay8 (F := Ideal) (iblk m c 1 t) (iblk m c 0 t) (iblk m c 2 t) := by
  have hN : t.val < 8 := lt_of_lt_of_eq t.isLt (show cfg0.N = 8 from N_0)
  by_cases h : t.val = 0
  · rw [outsAt0_A m c t (by omega) (by omega), first3]
  · rw [outsAt0_B m c t (by omega) (by omega), later3]
end Point

/-- The point whose block holds a row. -/
theorem point (r : Fin 4096) : ∃ (t : Fin cfg0.N) (a : Fin 512), r.val = t.val * 512 + a.val := by
  have hr := r.isLt
  exact ⟨⟨r.val / 512, by rw [show cfg0.N = 8 from N_0]; omega⟩, ⟨r.val % 512, by omega⟩, by show r.val = r.val / 512 * 512 + r.val % 512; omega⟩

set_option maxRecDepth 16384 in
/-- The gradient by the norm's input, as the kernel leaves it. -/
theorem result3 (c : Dev nD) (r : Fin 4096) (b : Fin 1024) :
    ((dats m 0 c).arrAt 3 cfg0.N : S4096x1024.Idx → EReal) (ix2 r b)
      = back (LnBwdRef.row (inputs m c) r) (LnBwdRef.pull (cotangents m c) (gain m c) r) b := by
  obtain ⟨t, a, ht⟩ := point r
  have h := congrFun ((blocks3 m c t (flush0_3 t)).trans (flushed3 m c t)) (ix2 a b)
  rw [held3 m c t] at h
  obtain ⟨e0, e1⟩ := index3 t
  refine Eq.trans (congrArg ((dats m 0 c).arrAt 3 cfg0.N) (place2 (((cfg0.win 3).blk t).view.emb (ix2 a b)) r b ?_ ?_).symm) (h.trans
    ((block_input (iblk m c 1 t) (iblk m c 0 t) (iblk m c 2 t) a b).trans (congrArg₂ (fun z u => back z u b) (funext fun k => ?_) (funext fun k => ?_))))
  · show win0_3.index t (0 : Fin 2) * 512 + 1 * a.val = r.val; omega
  · show win0_3.index t (1 : Fin 2) * 1024 + 1 * b.val = b.val; omega
  · exact at_input m c t a r ht k
  · exact congrArg₂ (fun p q : EReal => p * q) (at_cotangent m c t a r ht k) (at_gain m c t k)

/-- The summands of the gradients by the gain and by the shift. -/
abbrev byGain (c : Dev nD) (b : Fin 1024) (r : Fin 4096) : EReal := cotangents m c (ix2 r b) * hat (LnBwdRef.row (inputs m c) r) b
abbrev byShift (c : Dev nD) (b : Fin 1024) (r : Fin 4096) : EReal := cotangents m c (ix2 r b)

section Carried
variable (c : Dev nD) (b : Fin 1024)

theorem part_gain (t : Fin cfg0.N) : k0_pay1 (F := Ideal) (k0_pay9 (iblk m c 1 t) (iblk m c 0 t)) (ix2 (0 : Fin 1) b)
    = ∑ r ∈ Finset.range 512, rows (byGain m c b) (512 * t.val + r) :=
  (block_gain (iblk m c 1 t) (iblk m c 0 t) b).trans (part _ t.val (lt_of_lt_of_eq t.isLt (show cfg0.N = 8 from N_0)) _ fun a r hr =>
    congrArg₂ (fun p q : EReal => p * q) (at_cotangent m c t a r hr b) (congrArg (fun z => hat z b) (funext fun k => at_input m c t a r hr k)))

theorem part_shift (t : Fin cfg0.N) : k0_pay2 (F := Ideal) (iblk m c 0 t) (ix2 (0 : Fin 1) b)
    = ∑ r ∈ Finset.range 512, rows (byShift m c b) (512 * t.val + r) :=
  (block_shift (iblk m c 0 t) b).trans (part _ t.val (lt_of_lt_of_eq t.isLt (show cfg0.N = 8 from N_0)) _ fun a r hr => at_cotangent m c t a r hr b)

/-- After a point the two lines hold the sums over the rows so far. -/
theorem held (n : ℕ) (hn : n < cfg0.N) :
    (outsAt0 m c n hn).2.1 (ix2 (0 : Fin 1) b) = ∑ r ∈ Finset.range (512 * (n + 1)), rows (byGain m c b) r
    ∧ (outsAt0 m c n hn).2.2 (ix2 (0 : Fin 1) b) = ∑ r ∈ Finset.range (512 * (n + 1)), rows (byShift m c b) r := by
  have hN : n < 8 := lt_of_lt_of_eq hn (show cfg0.N = 8 from N_0)
  induction n with
  | zero =>
    rw [outsAt0_A m c ⟨0, hn⟩ rfl (by dsimp only; omega)]
    dsimp only
    rw [first4, first5]
    refine ⟨(part_gain m c b ⟨0, hn⟩).trans (Finset.sum_congr rfl fun r _ => congrArg _ ?_), (part_shift m c b ⟨0, hn⟩).trans (Finset.sum_congr rfl fun r _ => congrArg _ ?_)⟩
    · show 512 * 0 + r = r; omega
    · show 512 * 0 + r = r; omega
  | succ n ih =>
    obtain ⟨i4, i5⟩ := ih (Nat.lt_of_succ_lt hn) (by omega)
    rw [outsAt0_B m c ⟨n + 1, hn⟩ (by dsimp only; omega) (by dsimp only; omega)]
    dsimp only
    rw [later4, later5, show 512 * (n + 1 + 1) = 512 * (n + 1) + 512 by omega, Finset.sum_range_add, Finset.sum_range_add]
    unfold k0_pay3 k0_pay4
    rw [shapeCast_self, shapeCast_self]
    exact ⟨congrArg₂ (fun p q : EReal => p + q) i4 (part_gain m c b ⟨n + 1, hn⟩), congrArg₂ (fun p q : EReal => p + q) i5 (part_shift m c b ⟨n + 1, hn⟩)⟩
end Carried

/-- The last point. -/
def last : Fin cfg0.N := ⟨7, by rw [show cfg0.N = 8 from N_0]; decide⟩

theorem disjoint4 : ∀ t t' : Fin cfg0.N, (cfg0.win 4).flush t = true → (cfg0.win 4).flush t' = true → t ≠ t' →
    Disjoint ((cfg0.win 4).blk t).view.set ((cfg0.win 4).blk t').view.set := fun t t' h h' hne => absurd (Fin.ext (by
  have e := (flush0_4 t).mp h
  have e' := (flush0_4 t').mp h'
  have hN := lt_of_lt_of_eq t.isLt (show cfg0.N = 8 from N_0)
  have hN' := lt_of_lt_of_eq t'.isLt (show cfg0.N = 8 from N_0)
  omega)) hne
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => absurd (Fin.ext (by
  have e := (flush0_5 t).mp h
  have e' := (flush0_5 t').mp h'
  have hN := lt_of_lt_of_eq t.isLt (show cfg0.N = 8 from N_0)
  have hN' := lt_of_lt_of_eq t'.isLt (show cfg0.N = 8 from N_0)
  omega)) hne

set_option maxRecDepth 16384 in
/-- The gradient by the gain, as the kernel leaves it. -/
theorem result4 (c : Dev nD) (b : Fin 1024) : ((dats m 0 c).arrAt 4 cfg0.N : S1x1024.Idx → EReal) (ix2 (0 : Fin 1) b) = ∑ r, byGain m c b r := by
  have h := congrFun (((dats m 0 c).read_blk_arrAt_eq_flushed 4 disjoint4 cfg0.N last last.isLt ((flush0_4 last).mpr rfl)).trans (flushed4 m c last)) (ix2 (0 : Fin 1) b)
  obtain ⟨e0, e1⟩ := index4 last
  refine Eq.trans (congrArg ((dats m 0 c).arrAt 4 cfg0.N) (place2 (((cfg0.win 4).blk last).view.emb (ix2 (0 : Fin 1) b)) (0 : Fin 1) b ?_ ?_).symm) (h.trans
    ((held m c b 7 last.isLt).1.trans (parts _)))
  · show win0_4.index last (0 : Fin 2) * 1 + 1 * 0 = 0; omega
  · show win0_4.index last (1 : Fin 2) * 1024 + 1 * b.val = b.val; omega

set_option maxRecDepth 16384 in
/-- The gradient by the shift, as the kernel leaves it. -/
theorem result5 (c : Dev nD) (b : Fin 1024) : ((dats m 0 c).arrAt 5 cfg0.N : S1x1024.Idx → EReal) (ix2 (0 : Fin 1) b) = ∑ r, byShift m c b r := by
  have h := congrFun (((dats m 0 c).read_blk_arrAt_eq_flushed 5 disjoint5 cfg0.N last last.isLt ((flush0_5 last).mpr rfl)).trans (flushed5 m c last)) (ix2 (0 : Fin 1) b)
  obtain ⟨e0, e1⟩ := index5 last
  refine Eq.trans (congrArg ((dats m 0 c).arrAt 5 cfg0.N) (place2 (((cfg0.win 5).blk last).view.emb (ix2 (0 : Fin 1) b)) (0 : Fin 1) b ?_ ?_).symm) (h.trans
    ((held m c b 7 last.isLt).2.trans (parts _)))
  · show win0_5.index last (0 : Fin 2) * 1 + 1 * 0 = 0; omega
  · show win0_5.index last (1 : Fin 2) * 1024 + 1 * b.val = b.val; omega

instance : Cert.LnBwdIdeal.Facts := Cert.LnBwdIdeal.Gen.facts
instance : Cert.LnBwdRefIdeal.Facts := Cert.LnBwdRefIdeal.Gen.facts
instance : Cert.Pre_finite_ln.Facts := ⟨by decide, by decide⟩

/-- The precondition, entry by entry: the cotangents and the gain are real numbers, and so are their products. -/
theorem reals (h : Cert.Pre_LnBwdIdeal_finite_ln m) (c : Dev nD) (r : Fin 4096) (k : Fin 1024) :
    ∃ x : ℝ, LnBwdRef.pull (cotangents m c) (gain m c) r k = (x : EReal) := by
  obtain ⟨h0, h1⟩ := h c
  obtain ⟨p, hp⟩ := Finite.of_below Finite.top_f32 (congrFun h0 (ix2 r k))
  obtain ⟨q, hq⟩ := Finite.of_below Finite.top_f32 (congrFun h1 (ix1 k))
  exact ⟨p * q, by rw [EReal.coe_mul, ← hp, ← hq]⟩

open Cert.LnBwdRefIdeal.Read

theorem agree3 (h : Cert.Pre_LnBwdIdeal_finite_ln m) (c : Dev nD) :
    val_main_v63 (F := Ideal) (cotangents m c) (inputs m c) (gain m c) = (dats m 0 c).arrAt 3 cfg0.N := by
  funext i
  rw [(eq_ix2 i : i = ix2 (i 0) (i 1))]
  exact (LnBwdRef.input_row (cotangents m c) (inputs m c) (gain m c) _ _).trans ((agree _ _ (reals m h c _) _).symm.trans (result3 m c _ _).symm)

theorem agree4 (c : Dev nD) : val_main_v64 (F := Ideal) (cotangents m c) (inputs m c) = (dats m 0 c).arrAt 4 cfg0.N := by
  funext i
  rw [place2 i (0 : Fin 1) (i 1) (Nat.lt_one_iff.mp (i 0).isLt) rfl]
  exact (LnBwdRef.gain (cotangents m c) (inputs m c) _).trans (result4 m c _).symm

theorem agree5 (c : Dev nD) : val_main_v65 (F := Ideal) (cotangents m c) = (dats m 0 c).arrAt 5 cfg0.N := by
  funext i
  rw [place2 i (0 : Fin 1) (i 1) (Nat.lt_one_iff.mp (i 0).isLt) rfl]
  exact (LnBwdRef.shift (cotangents m c) _).trans (result5 m c _).symm

/-- The gradients by the norm's input, by its gain and by its shift agree with the reference's. -/
theorem algebraic : Cert.algebraic_LnBwdIdeal_LnBwdRefIdeal_pre_finite_ln := fun m g m' g' hp hm =>
  ⟨fun c => (dats m 0 c).arrAt 3 cfg0.N, fun c => (dats m 0 c).arrAt 4 cfg0.N, fun c => (dats m 0 c).arrAt 5 cfg0.N, Cert.LnBwdIdeal.Value.run_blocks m g,
    (θ_run Cert.LnBwdRefIdeal.defs _ _).mono (fun r h c => ⟨(h c).1.trans (by
      rw [val_main_v63_eq, (hm c).1, (hm c).2.1, (hm c).2.2]
      exact agree3 m hp c), (h c).2.1.trans (by
      rw [(hm c).1, (hm c).2.1]
      exact (val_main_v64_eq _ _).trans (agree4 m c)), (h c).2.2.1.trans (by
      rw [(hm c).1]
      exact (val_main_v65_eq _).trans (agree5 m c)), (h c).2.2.2⟩)
      (Cert.LnBwdRefIdeal.Value.run m' g')⟩

end Cert.Proof.LnBwd
-- ==== Proof.LossHead.lean ====
/- The loss head: the cotangent of the last layer, block by block, and the loss by lanes, carried from point to point. -/
module

public import proofs.«01_k».proof.Defs
public import proofs.«01_k».proof.Proof.Rows
public import proofs.«01_k».proof.Proof.NormGrad
public import proofs.«01_k».proof.Proof.Gen.LossHeadIdeal.Value
public import proofs.«01_k».proof.Proof.Gen.LossHeadRefIdeal.Run
public import proofs.«01_k».proof.Proof.Gen.LossHeadRefIdeal.Read

@[expose] public section

noncomputable section

namespace Cert.Proof.LossHead

open Cert.Proof.Rows Cert.Proof.NormGrad Cert.LossHeadIdeal Cert.LossHeadIdeal.Gen Cert.LossHeadIdeal.Value
open Idealize.ShloMosaic Idealize.ShloMosaic.TcCoe Idealize.ShloMosaic.ValueIdx Idealize.SL.Sem
open scoped BigOperators

variable (m : (ℓ : Loc nD τ sig) → Buf (Elt Ideal) ℓ)

/-- The constants: one over the row's length, half of it, one half and one. -/
abbrev tenth : EReal := Ideal.ofBits .f32 0x3A800000#32
abbrev eleventh : EReal := Ideal.ofBits .f32 0x3A000000#32
abbrev middle : EReal := Ideal.ofBits .f32 0x3F000000#32
abbrev unit : EReal := Ideal.ofBits .f32 0x3F800000#32

theorem tenth_eq : tenth = ((1 / 1024 : ℝ) : EReal) := by
  simp [tenth, Ideal.ofBits, Ideal.ieee]
  rw [← EReal.coe_mul]
  norm_num
theorem eleventh_eq : eleventh = ((1 / 2048 : ℝ) : EReal) := by
  simp [eleventh, Ideal.ofBits, Ideal.ieee]
  rw [← EReal.coe_mul]
  norm_num
theorem middle_eq : middle = ((1 / 2 : ℝ) : EReal) := by
  simp [middle, Ideal.ofBits, Ideal.ieee]
  rw [← EReal.coe_mul]
  norm_num
theorem unit_eq : unit = ((1 : ℝ) : EReal) := by
  simp [unit, Ideal.ofBits, Ideal.ieee]
  try rw [← EReal.coe_mul]
  try norm_num

/-- The cotangent of an error `e`, in the two forms. -/
theorem pull_eq (e : EReal) : Ideal.div (middle * unit) len * (two * e) = e * tenth := by
  rw [middle_eq, unit_eq, len_eq, two_eq, tenth_eq, Ideal.div_coe (by norm_num), ← EReal.coe_mul, ← EReal.coe_mul, ← mul_assoc, ← EReal.coe_mul, mul_comm e]
  norm_num

/-- Half of the mean, in the two forms. -/
theorem mean_eq (s : EReal) : middle * Ideal.div s len = s * eleventh := by
  rw [middle_eq, len_eq, eleventh_eq, Ideal.div_coe (by norm_num), mul_comm s, ← mul_assoc, ← EReal.coe_mul, mul_comm s]
  norm_num

theorem hz2 : (![0, 0] : Fin 2 → ℕ) = fun _ => 0 := by decide

/-- The lane's part of a row's squared errors. -/
def square (y t : Fin 1024 → EReal) (k : Fin 1024) : EReal := (y k - t k) * (y k - t k)
def lane (l : Fin 128) (n : Fin 8) : Fin 1024 := ⟨n.val * 128 + l.val, by omega⟩
def strip (y t : Fin 1024 → EReal) (l : Fin 128) : EReal := ∑ n : Fin 8, square y t (lane l n)

section Block
variable (y t : FVec Ideal S512x1024 .f32)

/-- One of the eight strips of a block. -/
theorem piece (x : FVec Ideal S512x1024 .f32) (n : Fin 8) (o : ℕ) (ho : o = n.val * 128) (h : S512x1024.Slices ![0, o] S512x128) (a : Fin 512) (l : Fin 128) :
    extractStridedSlice S512x128 ![0, o] x h (ix2 a l) = x (ix2 a (lane l n)) :=
  extractStridedSlice_apply _ x h _ _ fun z => match z with
    | ⟨0, _⟩ => (Nat.zero_add _).symm
    | ⟨1, _⟩ => by subst ho; rfl

/-- A block's sum over its rows, laid as a line. -/
theorem block_rows (x : FVec Ideal S512x128 .f32) (l : Fin 128) :
    shapeCast S1x128 (multiReduction (F := Ideal) .add [0] S128 x 0x00000000#32 reduces_S512x128_S128 (.inl rfl) rfl) shapeCasts_S128_S1x128
      (ix2 (0 : Fin 1) l) = ∑ a : Fin 512, (x (ix2 a l) : EReal) := by
  refine (shapeCast_apply _ shapeCasts_S128_S1x128 (ix2 (0 : Fin 1) l) (ix1 l) ?_).trans
    ((Ideal.multiReduction_add_single x _ reduces_S512x128_S128 _ _ (ix1 l)).trans
      (Finset.sum_congr rfl fun a _ => congrArg x (place2 _ a l rfl rfl)))
  rw [Shape.rowMajor_val_one, Shape.rowMajor_val_two]
  show l.val = 0 * 128 + l.val
  omega

/-- A block's part of the loss by lanes. -/
theorem block_lane (l : Fin 128) :
    k0_pay3 (F := Ideal) y t (ix2 (0 : Fin 1) l) = ∑ a : Fin 512, strip (fun k => y (ix2 a k)) (fun k => t (ix2 a k)) l * eleventh := by
  unfold k0_pay3
  refine Eq.trans (congrArg (fun e : EReal => e * eleventh) ?_) (scaled_sum eleventh ?_ ?_ _)
  · refine (block_rows _ l).trans (Finset.sum_congr rfl fun a _ => ?_)
    unfold strip
    rw [Fin.sum_univ_eight]
    exact congrArg₂ (fun p q : EReal => p + q) (congrArg₂ (fun p q : EReal => p + q) (congrArg₂ (fun p q : EReal => p + q) (congrArg₂ (fun p q : EReal => p + q)
        (congrArg₂ (fun p q : EReal => p + q) (congrArg₂ (fun p q : EReal => p + q) (congrArg₂ (fun p q : EReal => p + q)
        (piece _ 0 _ rfl _ a l) (piece _ 1 _ rfl _ a l)) (piece _ 2 _ rfl _ a l)) (piece _ 3 _ rfl _ a l)) (piece _ 4 _ rfl _ a l))
        (piece _ 5 _ rfl _ a l)) (piece _ 6 _ rfl _ a l)) (piece _ 7 _ rfl _ a l)
  · rw [eleventh_eq]
    exact EReal.coe_nonneg.mpr (by norm_num)
  · rw [eleventh_eq]
    exact EReal.coe_ne_top _
end Block

section Cases
variable (c : Dev nD) (i : grid0.Coords)

/-- What the first point leaves in its two windows, and what a later point leaves. -/
theorem first2 (a1 h1 a2 h2 a3 h3 a4 h4 hc0 hc1 x y) : out0_A_2 (F := Ideal) c i a1 h1 a2 h2 a3 h3 a4 h4 hc0 hc1 x y = k0_pay2 x y := by
  unfold out0_A_2
  rw [View.read_writes_eq_canon _ _ _ (cover0_A_2 c i a1 h1 a2 h2 a3 h3 a4 h4 hc0 hc1 x y)]
  unfold kernelRun0_A
  dsimp only
  sl_unfold_words
  rw [View.canon_cons_unit_zero hz2]
  simp only [View.readAt_eq_ld, h1.read_unread, h2.read_unread, View.ld_unit_zero (S := S512x1024) hz2, View.ld_unit_zero (S := S1x128) hz2]
theorem first3 (a1 h1 a2 h2 a3 h3 a4 h4 hc0 hc1 x y) : out0_A_3 (F := Ideal) c i a1 h1 a2 h2 a3 h3 a4 h4 hc0 hc1 x y = k0_pay3 x y := by
  unfold out0_A_3
  rw [View.read_writes_eq_canon _ _ _ (cover0_A_3 c i a1 h1 a2 h2 a3 h3 a4 h4 hc0 hc1 x y)]
  unfold kernelRun0_A
  dsimp only
  sl_unfold_words
  rw [View.canon_cons_unit_zero hz2]
  simp only [View.readAt_eq_ld, h1.read_unread, h2.read_unread, View.ld_unit_zero (S := S512x1024) hz2, View.ld_unit_zero (S := S1x128) hz2]
theorem later2 (a1 h1 a2 h2 a3 h3 a4 h4 hc0 hc1 x y p) : out0_B_2 (F := Ideal) c i a1 h1 a2 h2 a3 h3 a4 h4 hc0 hc1 x y p = k0_pay2 x y := by
  unfold out0_B_2
  rw [View.read_writes_eq_canon _ _ _ (cover0_B_2 c i a1 h1 a2 h2 a3 h3 a4 h4 hc0 hc1 x y p)]
  unfold kernelRun0_B
  dsimp only
  sl_unfold_words
  rw [View.canon_cons_unit_zero hz2]
  simp only [View.readAt_eq_ld, h1.read_unread, h2.read_unread, View.ld_unit_zero (S := S512x1024) hz2, View.ld_unit_zero (S := S1x128) hz2]
theorem later3 (a1 h1 a2 h2 a3 h3 a4 h4 hc0 hc1 x y p) : out0_B_3 (F := Ideal) c i a1 h1 a2 h2 a3 h3 a4 h4 hc0 hc1 x y p = k0_pay4 x y p := by
  unfold out0_B_3
  rw [View.read_writes_eq_canon _ _ _ (cover0_B_3 c i a1 h1 a2 h2 a3 h3 a4 h4 hc0 hc1 x y p)]
  unfold kernelRun0_B
  dsimp only
  sl_unfold_words
  rw [View.canon_cons_unit_zero hz2]
  simp only [View.readAt_eq_ld, h1.read_unread, h2.read_unread, h4.read_unread, View.ld_unit_zero (S := S512x1024) hz2, View.ld_unit_zero (S := S1x128) hz2]
end Cases

/-- The last layer's output and its target. -/
abbrev outputs (c : Dev nD) : S4096x1024.Idx → EReal := m ((c : Thread nD τ).loc main_arg0)
abbrev targets (c : Dev nD) : S4096x1024.Idx → EReal := m ((c : Thread nD τ).loc main_arg1)

/-- Which blocks a point reads and writes. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)

section Point
variable (c : Dev nD) (t : Fin cfg0.N)

theorem at_output (a : Fin 512) (r : Fin 4096) (hr : r.val = t.val * 512 + a.val) (k : Fin 1024) : iblk m c 0 t (ix2 a k) = outputs m c (ix2 r k) := by
  obtain ⟨e0, e1⟩ := index0 t
  show V m c main_arg0 (((cfg0.win 0).blk t).view.emb (ix2 a k)) = _
  rw [V_main_arg0]
  refine congrArg (m ((c : Thread nD τ).loc main_arg0)) (place2 _ r k ?_ ?_)
  · show win0_0.index t (0 : Fin 2) * 512 + 1 * a.val = r.val; omega
  · show win0_0.index t (1 : Fin 2) * 1024 + 1 * k.val = k.val; omega

theorem at_target (a : Fin 512) (r : Fin 4096) (hr : r.val = t.val * 512 + a.val) (k : Fin 1024) : iblk m c 1 t (ix2 a k) = targets m c (ix2 r k) := by
  obtain ⟨e0, e1⟩ := index1 t
  show V m c main_arg1 (((cfg0.win 1).blk t).view.emb (ix2 a k)) = _
  rw [V_main_arg1]
  refine congrArg (m ((c : Thread nD τ).loc main_arg1)) (place2 _ r k ?_ ?_)
  · show win0_1.index t (0 : Fin 2) * 512 + 1 * a.val = r.val; omega
  · show win0_1.index t (1 : Fin 2) * 1024 + 1 * k.val = k.val; omega

/-- A point leaves its block of the cotangent. -/
theorem held2 : (outsAt0 m c t.val t.isLt).1 = k0_pay2 (F := Ideal) (iblk m c 0 t) (iblk m c 1 t) := by
  have hN : t.val < 8 := lt_of_lt_of_eq t.isLt (show cfg0.N = 8 from N_0)
  by_cases h : t.val = 0
  · rw [outsAt0_A m c t (by omega) (by omega), first2]
  · rw [outsAt0_B m c t (by omega) (by omega), later2]
end Point

/-- The point whose block holds a row. -/
theorem point (r : Fin 4096) : ∃ (t : Fin cfg0.N) (a : Fin 512), r.val = t.val * 512 + a.val := by
  have hr := r.isLt
  exact ⟨⟨r.val / 512, by rw [show cfg0.N = 8 from N_0]; omega⟩, ⟨r.val % 512, by omega⟩, by show r.val = r.val / 512 * 512 + r.val % 512; omega⟩

set_option maxRecDepth 16384 in
/-- The cotangent of the last layer, as the kernel leaves it. -/
theorem result2 (c : Dev nD) (r : Fin 4096) (b : Fin 1024) :
    ((dats m 0 c).arrAt 2 cfg0.N : S4096x1024.Idx → EReal) (ix2 r b) = (outputs m c (ix2 r b) - targets m c (ix2 r b)) * tenth := by
  obtain ⟨t, a, ht⟩ := point r
  have h := congrFun ((blocks2 m c t (flush0_2 t)).trans (flushed2 m c t)) (ix2 a b)
  rw [held2 m c t] at h
  obtain ⟨e0, e1⟩ := index2 t
  refine Eq.trans (congrArg ((dats m 0 c).arrAt 2 cfg0.N) (place2 (((cfg0.win 2).blk t).view.emb (ix2 a b)) r b ?_ ?_).symm) (h.trans
    (congrArg₂ (fun p q : EReal => (p - q) * tenth) (at_output m c t a r ht b) (at_target m c t a r ht b)))
  · show win0_2.index t (0 : Fin 2) * 512 + 1 * a.val = r.val; omega
  · show win0_2.index t (1 : Fin 2) * 1024 + 1 * b.val = b.val; omega

/-- A row's part of the loss in a lane. -/
abbrev share (c : Dev nD) (l : Fin 128) (r : Fin 4096) : EReal :=
  strip (fun k => outputs m c (ix2 r k)) (fun k => targets m c (ix2 r k)) l * eleventh

section Carried
variable (c : Dev nD) (l : Fin 128)

theorem part_lane (t : Fin cfg0.N) : k0_pay3 (F := Ideal) (iblk m c 0 t) (iblk m c 1 t) (ix2 (0 : Fin 1) l)
    = ∑ r ∈ Finset.range 512, rows (share m c l) (512 * t.val + r) :=
  (block_lane (iblk m c 0 t) (iblk m c 1 t) l).trans (part _ t.val (lt_of_lt_of_eq t.isLt (show cfg0.N = 8 from N_0)) _ fun a r hr =>
    congrArg₂ (fun p q => strip p q l * eleventh) (funext fun k => at_output m c t a r hr k) (funext fun k => at_target m c t a r hr k))

/-- After a point the line holds the sums over the rows so far. -/
theorem held (n : ℕ) (hn : n < cfg0.N) :
    (outsAt0 m c n hn).2 (ix2 (0 : Fin 1) l) = ∑ r ∈ Finset.range (512 * (n + 1)), rows (share m c l) r := by
  have hN : n < 8 := lt_of_lt_of_eq hn (show cfg0.N = 8 from N_0)
  induction n with
  | zero =>
    rw [outsAt0_A m c ⟨0, hn⟩ rfl (by dsimp only; omega)]
    dsimp only
    rw [first3]
    refine (part_lane m c l ⟨0, hn⟩).trans (Finset.sum_congr rfl fun r _ => congrArg _ ?_)
    show 512 * 0 + r = r; omega
  | succ n ih =>
    have i3 := ih (Nat.lt_of_succ_lt hn) (by omega)
    rw [outsAt0_B m c ⟨n + 1, hn⟩ (by dsimp only; omega) (by dsimp only; omega)]
    dsimp only
    rw [later3, show 512 * (n + 1 + 1) = 512 * (n + 1) + 512 by omega, Finset.sum_range_add]
    unfold k0_pay4
    rw [shapeCast_self]
    exact congrArg₂ (fun p q : EReal => p + q) i3 (part_lane m c l ⟨n + 1, hn⟩)
end Carried

/-- The last point. -/
def last : Fin cfg0.N := ⟨7, by rw [show cfg0.N = 8 from N_0]; decide⟩

theorem disjoint3 : ∀ t t' : Fin cfg0.N, (cfg0.win 3).flush t = true → (cfg0.win 3).flush t' = true → t ≠ t' →
    Disjoint ((cfg0.win 3).blk t).view.set ((cfg0.win 3).blk t').view.set := fun t t' h h' hne => absurd (Fin.ext (by
  have e := (flush0_3 t).mp h
  have e' := (flush0_3 t').mp h'
  have hN := lt_of_lt_of_eq t.isLt (show cfg0.N = 8 from N_0)
  have hN' := lt_of_lt_of_eq t'.isLt (show cfg0.N = 8 from N_0)
  omega)) hne

set_option maxRecDepth 16384 in
/-- The loss by lanes, as the kernel leaves it. -/
theorem result3 (c : Dev nD) (l : Fin 128) : ((dats m 0 c).arrAt 3 cfg0.N : S1x128.Idx → EReal) (ix2 (0 : Fin 1) l) = ∑ r, share m c l r := by
  have h := congrFun (((dats m 0 c).read_blk_arrAt_eq_flushed 3 disjoint3 cfg0.N last last.isLt ((flush0_3 last).mpr rfl)).trans (flushed3 m c last)) (ix2 (0 : Fin 1) l)
  obtain ⟨e0, e1⟩ := index3 last
  refine Eq.trans (congrArg ((dats m 0 c).arrAt 3 cfg0.N) (place2 (((cfg0.win 3).blk last).view.emb (ix2 (0 : Fin 1) l)) (0 : Fin 1) l ?_ ?_).symm) (h.trans
    ((held m c l 7 last.isLt).trans (parts _)))
  · show win0_3.index last (0 : Fin 2) * 1 + 1 * 0 = 0; omega
  · show win0_3.index last (1 : Fin 2) * 128 + 1 * l.val = l.val; omega

section Reference
open Cert.LossHeadRefIdeal.Read

variable (y t : (⟨S4096x1024, .f32⟩ : BufTy).Contents (Elt Ideal))

theorem reference_pull (r : Fin 4096) (b : Fin 1024) :
    val_main_v14 (F := Ideal) y t (ix2 r b) = ((y (ix2 r b) : EReal) - t (ix2 r b)) * tenth := by
  rw [val_main_v14_apply, val_main_v13_apply, val_main_v12_apply, val_main_v10_apply, val_main_v9_apply, val_main_v11_apply, val_main_v3_apply,
    val_main_v2_apply, val_main_v0_apply]
  exact pull_eq _

theorem reference_lane (l : Fin 128) : val_main_v24 (F := Ideal) y t (ix2 (0 : Fin 1) l)
    = (∑ r : Fin 4096, strip (fun k => y (ix2 r k)) (fun k => t (ix2 r k)) l) * eleventh := by
  rw [val_main_v24_apply, val_main_v23_apply, val_main_v22_apply, val_main_v21_apply, val_main_v20_apply, val_main_v19_apply]
  refine Eq.trans (congrArg (fun s => middle * Ideal.div s len) (from_zero _ _ fun r => ?_)) (mean_eq _)
  rw [val_main_v18_apply]
  refine from_zero _ _ fun n => ?_
  have hr := r.isLt
  have hn := n.isLt
  have hl := l.isLt
  rw [val_main_v17_apply, place2 (Cert.LossHeadRefIdeal.Read.idx_main_v17 _) r (lane l n)
    (by show ((r.val * 8 + n.val) * 128 + l.val) / 1024 = r.val; omega) (by show ((r.val * 8 + n.val) * 128 + l.val) % 1024 = n.val * 128 + l.val; omega),
    val_main_v16_apply, val_main_v15_apply]
  rfl
end Reference

instance : Cert.LossHeadIdeal.Facts := Cert.LossHeadIdeal.Gen.facts
instance : Cert.LossHeadRefIdeal.Facts := Cert.LossHeadRefIdeal.Gen.facts

open Cert.LossHeadRefIdeal.Read

theorem agree2 (c : Dev nD) : val_main_v14 (F := Ideal) (outputs m c) (targets m c) = (dats m 0 c).arrAt 2 cfg0.N := by
  funext i
  rw [(eq_ix2 i : i = ix2 (i 0) (i 1))]
  exact (reference_pull (outputs m c) (targets m c) _ _).trans (result2 m c _ _).symm

theorem agree3 (c : Dev nD) : val_main_v24 (F := Ideal) (outputs m c) (targets m c) = (dats m 0 c).arrAt 3 cfg0.N := by
  funext i
  rw [place2 i (0 : Fin 1) (i 1) (Nat.lt_one_iff.mp (i 0).isLt) rfl]
  refine (reference_lane (outputs m c) (targets m c) _).trans ((scaled_sum eleventh ?_ ?_ _).trans (result3 m c _).symm)
  · rw [eleventh_eq]
    exact EReal.coe_nonneg.mpr (by norm_num)
  · rw [eleventh_eq]
    exact EReal.coe_ne_top _

/-- The cotangent of the last layer and the loss by lanes agree with the reference's. -/
theorem algebraic : Cert.algebraic_LossHeadIdeal_LossHeadRefIdeal := fun m g m' g' _ hm =>
  ⟨fun c => (dats m 0 c).arrAt 2 cfg0.N, fun c => (dats m 0 c).arrAt 3 cfg0.N, Cert.LossHeadIdeal.Value.run_blocks m g,
    (θ_run Cert.LossHeadRefIdeal.defs _ _).mono (fun r h c => ⟨(h c).1.trans (by
      rw [(hm c).1, (hm c).2]
      exact (val_main_v14_eq _ _).trans (agree2 m c)), (h c).2.1.trans (by
      rw [(hm c).1, (hm c).2]
      exact (val_main_v24_eq _ _).trans (agree3 m c)), (h c).2.2⟩)
      (Cert.LossHeadRefIdeal.Value.run m' g')⟩

end Cert.Proof.LossHead
-- ==== Proof.Adam.lean ====
/- The optimiser's update of a weight: entry by entry the two sides are one formula, in the update and in the two moments. -/
module

public import proofs.«01_k».proof.Defs
public import proofs.«01_k».proof.Proof.Gen.AdamFfnInIdeal.Value
public import proofs.«01_k».proof.Proof.Gen.AdamFfnInRefIdeal.Run
public import proofs.«01_k».proof.Proof.Gen.AdamFfnOutIdeal.Value
public import proofs.«01_k».proof.Proof.Gen.AdamFfnOutRefIdeal.Run
public import proofs.«01_k».proof.Proof.Gen.AdamBranchIdeal.Value
public import proofs.«01_k».proof.Proof.Gen.AdamBranchRefIdeal.Run
public import proofs.«01_k».proof.Proof.Gen.AdamOutIdeal.Value
public import proofs.«01_k».proof.Proof.Gen.AdamOutRefIdeal.Run
public import proofs.«01_k».proof.Proof.Gen.AdamVectorsIdeal.Value
public import proofs.«01_k».proof.Proof.Gen.AdamVectorsRefIdeal.Run
public import proofs.«01_k».proof.Proof.Gen.AdamConvIdeal.Value
public import proofs.«01_k».proof.Proof.Gen.AdamConvRefIdeal.Run
public import proofs.«01_k».proof.Proof.Gen.AdamGatesIdeal.Value
public import proofs.«01_k».proof.Proof.Gen.AdamGatesRefIdeal.Run
public import proofs.«01_k».proof.Proof.Gen.AdamSinksIdeal.Value
public import proofs.«01_k».proof.Proof.Gen.AdamSinksRefIdeal.Run

@[expose] public section

noncomputable section

open Idealize.ShloMosaic Idealize.ShloMosaic.TcCoe Idealize.SL.Sem

namespace Cert.Proof.AdamFfnIn

instance : Cert.AdamFfnInIdeal.Facts := Cert.AdamFfnInIdeal.Gen.facts
instance : Cert.AdamFfnInRefIdeal.Facts := Cert.AdamFfnInRefIdeal.Gen.facts

theorem algebraic : Cert.algebraic_AdamFfnInIdeal_AdamFfnInRefIdeal := fun m g m' g' _ hm =>
  ⟨fun _ => _, fun _ => _, fun _ => _, Cert.AdamFfnInIdeal.Value.run m g,
    (θ_run Cert.AdamFfnInRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamFfnInRefIdeal.Value.run m' g')⟩

end Cert.Proof.AdamFfnIn

namespace Cert.Proof.AdamFfnOut

instance : Cert.AdamFfnOutIdeal.Facts := Cert.AdamFfnOutIdeal.Gen.facts
instance : Cert.AdamFfnOutRefIdeal.Facts := Cert.AdamFfnOutRefIdeal.Gen.facts

theorem algebraic : Cert.algebraic_AdamFfnOutIdeal_AdamFfnOutRefIdeal := fun m g m' g' _ hm =>
  ⟨fun _ => _, fun _ => _, fun _ => _, Cert.AdamFfnOutIdeal.Value.run m g,
    (θ_run Cert.AdamFfnOutRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamFfnOutRefIdeal.Value.run m' g')⟩

end Cert.Proof.AdamFfnOut

namespace Cert.Proof.AdamBranch

instance : Cert.AdamBranchIdeal.Facts := Cert.AdamBranchIdeal.Gen.facts
instance : Cert.AdamBranchRefIdeal.Facts := Cert.AdamBranchRefIdeal.Gen.facts

theorem algebraic : Cert.algebraic_AdamBranchIdeal_AdamBranchRefIdeal := fun m g m' g' _ hm =>
  ⟨fun _ => _, fun _ => _, fun _ => _, Cert.AdamBranchIdeal.Value.run m g,
    (θ_run Cert.AdamBranchRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamBranchRefIdeal.Value.run m' g')⟩

end Cert.Proof.AdamBranch

namespace Cert.Proof.AdamOut

instance : Cert.AdamOutIdeal.Facts := Cert.AdamOutIdeal.Gen.facts
instance : Cert.AdamOutRefIdeal.Facts := Cert.AdamOutRefIdeal.Gen.facts

theorem algebraic : Cert.algebraic_AdamOutIdeal_AdamOutRefIdeal := fun m g m' g' _ hm =>
  ⟨fun _ => _, fun _ => _, fun _ => _, Cert.AdamOutIdeal.Value.run m g,
    (θ_run Cert.AdamOutRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamOutRefIdeal.Value.run m' g')⟩

end Cert.Proof.AdamOut

namespace Cert.Proof.AdamVectors

instance : Cert.AdamVectorsIdeal.Facts := Cert.AdamVectorsIdeal.Gen.facts
instance : Cert.AdamVectorsRefIdeal.Facts := Cert.AdamVectorsRefIdeal.Gen.facts

theorem algebraic : Cert.algebraic_AdamVectorsIdeal_AdamVectorsRefIdeal := fun m g m' g' _ hm =>
  ⟨fun _ => _, fun _ => _, fun _ => _, Cert.AdamVectorsIdeal.Value.run m g,
    (θ_run Cert.AdamVectorsRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamVectorsRefIdeal.Value.run m' g')⟩

end Cert.Proof.AdamVectors

namespace Cert.Proof.AdamConv

instance : Cert.AdamConvIdeal.Facts := Cert.AdamConvIdeal.Gen.facts
instance : Cert.AdamConvRefIdeal.Facts := Cert.AdamConvRefIdeal.Gen.facts

theorem algebraic : Cert.algebraic_AdamConvIdeal_AdamConvRefIdeal := fun m g m' g' _ hm =>
  ⟨fun _ => _, fun _ => _, fun _ => _, Cert.AdamConvIdeal.Value.run m g,
    (θ_run Cert.AdamConvRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamConvRefIdeal.Value.run m' g')⟩

end Cert.Proof.AdamConv

namespace Cert.Proof.AdamGates

instance : Cert.AdamGatesIdeal.Facts := Cert.AdamGatesIdeal.Gen.facts
instance : Cert.AdamGatesRefIdeal.Facts := Cert.AdamGatesRefIdeal.Gen.facts

theorem algebraic : Cert.algebraic_AdamGatesIdeal_AdamGatesRefIdeal := fun m g m' g' _ hm =>
  ⟨fun _ => _, fun _ => _, fun _ => _, Cert.AdamGatesIdeal.Value.run m g,
    (θ_run Cert.AdamGatesRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamGatesRefIdeal.Value.run m' g')⟩

end Cert.Proof.AdamGates

namespace Cert.Proof.AdamSinks

instance : Cert.AdamSinksIdeal.Facts := Cert.AdamSinksIdeal.Gen.facts
instance : Cert.AdamSinksRefIdeal.Facts := Cert.AdamSinksRefIdeal.Gen.facts

theorem algebraic : Cert.algebraic_AdamSinksIdeal_AdamSinksRefIdeal := fun m g m' g' _ hm =>
  ⟨fun _ => _, fun _ => _, fun _ => _, Cert.AdamSinksIdeal.Value.run m g,
    (θ_run Cert.AdamSinksRefIdeal.defs _ _).mono (fun r h c => ⟨(h c).1.trans (by
      rw [(hm c).1, (hm c).2.1, (hm c).2.2.1, (hm c).2.2.2]; rfl), (h c).2.1.trans (by rw [(hm c).2.1, (hm c).2.2.1]; rfl),
      (h c).2.2.1.trans (by rw [(hm c).2.1, (hm c).2.2.2]; rfl), (h c).2.2.2⟩)
      (Cert.AdamSinksRefIdeal.Value.run m' g')⟩

end Cert.Proof.AdamSinks
-- ==== Proof.Sums.lean ====
/- The sums of a gradient's parts, from the devices of a pair and from the chips: entry by entry the two sides are one sum. -/
module

public import proofs.«01_k».proof.Defs
public import proofs.«01_k».proof.Proof.Gen.ChipSumInIdeal.Value
public import proofs.«01_k».proof.Proof.Gen.ChipSumInRefIdeal.Run
public import proofs.«01_k».proof.Proof.Gen.ChipSumBranchIdeal.Value
public import proofs.«01_k».proof.Proof.Gen.ChipSumBranchRefIdeal.Run
public import proofs.«01_k».proof.Proof.Gen.ChipSumOutIdeal.Value
public import proofs.«01_k».proof.Proof.Gen.ChipSumOutRefIdeal.Run
public import proofs.«01_k».proof.Proof.Gen.ChipSumFfnInIdeal.Value
public import proofs.«01_k».proof.Proof.Gen.ChipSumFfnInRefIdeal.Run
public import proofs.«01_k».proof.Proof.Gen.ChipSumFfnOutIdeal.Value
public import proofs.«01_k».proof.Proof.Gen.ChipSumFfnOutRefIdeal.Run
public import proofs.«01_k».proof.Proof.Gen.SmallPairSumIdeal.Value
public import proofs.«01_k».proof.Proof.Gen.SmallPairSumRefIdeal.Run
public import proofs.«01_k».proof.Proof.Gen.SmallChipSumIdeal.Value
public import proofs.«01_k».proof.Proof.Gen.SmallChipSumRefIdeal.Run

@[expose] public section

noncomputable section

open Idealize.ShloMosaic Idealize.ShloMosaic.TcCoe Idealize.SL.Sem

namespace Cert.Proof.ChipSumIn

instance : Cert.ChipSumInIdeal.Facts := Cert.ChipSumInIdeal.Gen.facts
instance : Cert.ChipSumInRefIdeal.Facts := Cert.ChipSumInRefIdeal.Gen.facts

theorem algebraic : Cert.algebraic_ChipSumInIdeal_ChipSumInRefIdeal := fun m g m' g' _ hm =>
  ⟨fun _ => _, Cert.ChipSumInIdeal.Value.run m g,
    (θ_run Cert.ChipSumInRefIdeal.defs _ _).mono (fun r h c => ⟨(h c).1.trans (by rw [(hm c).1, (hm c).2.1, (hm c).2.2.1, (hm c).2.2.2]; rfl), (h c).2⟩)
      (Cert.ChipSumInRefIdeal.Value.run m' g')⟩

end Cert.Proof.ChipSumIn

namespace Cert.Proof.ChipSumBranch

instance : Cert.ChipSumBranchIdeal.Facts := Cert.ChipSumBranchIdeal.Gen.facts
instance : Cert.ChipSumBranchRefIdeal.Facts := Cert.ChipSumBranchRefIdeal.Gen.facts

theorem algebraic : Cert.algebraic_ChipSumBranchIdeal_ChipSumBranchRefIdeal := fun m g m' g' _ hm =>
  ⟨fun _ => _, Cert.ChipSumBranchIdeal.Value.run m g,
    (θ_run Cert.ChipSumBranchRefIdeal.defs _ _).mono (fun r h c => ⟨(h c).1.trans (by rw [(hm c).1, (hm c).2.1, (hm c).2.2.1, (hm c).2.2.2]; rfl), (h c).2⟩)
      (Cert.ChipSumBranchRefIdeal.Value.run m' g')⟩

end Cert.Proof.ChipSumBranch

namespace Cert.Proof.ChipSumOut

instance : Cert.ChipSumOutIdeal.Facts := Cert.ChipSumOutIdeal.Gen.facts
instance : Cert.ChipSumOutRefIdeal.Facts := Cert.ChipSumOutRefIdeal.Gen.facts

theorem algebraic : Cert.algebraic_ChipSumOutIdeal_ChipSumOutRefIdeal := fun m g m' g' _ hm =>
  ⟨fun _ => _, Cert.ChipSumOutIdeal.Value.run m g,
    (θ_run Cert.ChipSumOutRefIdeal.defs _ _).mono (fun r h c => ⟨(h c).1.trans (by rw [(hm c).1, (hm c).2.1, (hm c).2.2.1, (hm c).2.2.2]; rfl), (h c).2⟩)
      (Cert.ChipSumOutRefIdeal.Value.run m' g')⟩

end Cert.Proof.ChipSumOut

namespace Cert.Proof.ChipSumFfnIn

instance : Cert.ChipSumFfnInIdeal.Facts := Cert.ChipSumFfnInIdeal.Gen.facts
instance : Cert.ChipSumFfnInRefIdeal.Facts := Cert.ChipSumFfnInRefIdeal.Gen.facts

theorem algebraic : Cert.algebraic_ChipSumFfnInIdeal_ChipSumFfnInRefIdeal := fun m g m' g' _ hm =>
  ⟨fun _ => _, Cert.ChipSumFfnInIdeal.Value.run m g,
    (θ_run Cert.ChipSumFfnInRefIdeal.defs _ _).mono (fun r h c => ⟨(h c).1.trans (by rw [(hm c).1, (hm c).2.1, (hm c).2.2.1, (hm c).2.2.2]; rfl), (h c).2⟩)
      (Cert.ChipSumFfnInRefIdeal.Value.run m' g')⟩

end Cert.Proof.ChipSumFfnIn

namespace Cert.Proof.ChipSumFfnOut

instance : Cert.ChipSumFfnOutIdeal.Facts := Cert.ChipSumFfnOutIdeal.Gen.facts
instance : Cert.ChipSumFfnOutRefIdeal.Facts := Cert.ChipSumFfnOutRefIdeal.Gen.facts

theorem algebraic : Cert.algebraic_ChipSumFfnOutIdeal_ChipSumFfnOutRefIdeal := fun m g m' g' _ hm =>
  ⟨fun _ => _, Cert.ChipSumFfnOutIdeal.Value.run m g,
    (θ_run Cert.ChipSumFfnOutRefIdeal.defs _ _).mono (fun r h c => ⟨(h c).1.trans (by rw [(hm c).1, (hm c).2.1, (hm c).2.2.1, (hm c).2.2.2]; rfl), (h c).2⟩)
      (Cert.ChipSumFfnOutRefIdeal.Value.run m' g')⟩

end Cert.Proof.ChipSumFfnOut

namespace Cert.Proof.SmallPairSum

instance : Cert.SmallPairSumIdeal.Facts := Cert.SmallPairSumIdeal.Gen.facts
instance : Cert.SmallPairSumRefIdeal.Facts := Cert.SmallPairSumRefIdeal.Gen.facts

theorem algebraic : Cert.algebraic_SmallPairSumIdeal_SmallPairSumRefIdeal := fun m g m' g' _ hm =>
  ⟨fun _ => _, Cert.SmallPairSumIdeal.Value.run m g,
    (θ_run Cert.SmallPairSumRefIdeal.defs _ _).mono (fun r h c => ⟨(h c).1.trans (by rw [(hm c).1, (hm c).2]; rfl), (h c).2⟩)
      (Cert.SmallPairSumRefIdeal.Value.run m' g')⟩

end Cert.Proof.SmallPairSum

namespace Cert.Proof.SmallChipSum

instance : Cert.SmallChipSumIdeal.Facts := Cert.SmallChipSumIdeal.Gen.facts
instance : Cert.SmallChipSumRefIdeal.Facts := Cert.SmallChipSumRefIdeal.Gen.facts

theorem algebraic : Cert.algebraic_SmallChipSumIdeal_SmallChipSumRefIdeal := fun m g m' g' _ hm =>
  ⟨fun _ => _, Cert.SmallChipSumIdeal.Value.run m g,
    (θ_run Cert.SmallChipSumRefIdeal.defs _ _).mono (fun r h c => ⟨(h c).1.trans (by rw [(hm c).1, (hm c).2.1, (hm c).2.2.1, (hm c).2.2.2]; rfl), (h c).2⟩)
      (Cert.SmallChipSumRefIdeal.Value.run m' g')⟩

end Cert.Proof.SmallChipSum
-- ==== Proof.lean ====
/- The certificate's claim, assembled. -/
module

public import proofs.«01_k».proof.Defs
public import proofs.«01_k».proof.Proof.Gen.ReferenceIdeal
public import proofs.«01_k».proof.Proof.Gen.ReferenceIdeal.Run
public import proofs.«01_k».proof.Proof.Frames
public import proofs.«01_k».proof.Proof.Gen.FfnGate.Frame
public import proofs.«01_k».proof.Proof.Gen.FfnGateIdeal.Frame
public import proofs.«01_k».proof.Proof.FfnGate
public import proofs.«01_k».proof.Proof.Gen.Branch.Frame
public import proofs.«01_k».proof.Proof.Gen.BranchIdeal.Frame
public import proofs.«01_k».proof.Proof.Branch
public import proofs.«01_k».proof.Proof.Gen.FfnInX.Frame
public import proofs.«01_k».proof.Proof.Gen.FfnInXIdeal.Frame
public import proofs.«01_k».proof.Proof.FfnInX
public import proofs.«01_k».proof.Proof.Gen.FfnInW.Frame
public import proofs.«01_k».proof.Proof.Gen.FfnInWIdeal.Frame
public import proofs.«01_k».proof.Proof.FfnInW
public import proofs.«01_k».proof.Proof.Gen.ProjX.Frame
public import proofs.«01_k».proof.Proof.Gen.ProjXIdeal.Frame
public import proofs.«01_k».proof.Proof.ProjX
public import proofs.«01_k».proof.Proof.Gen.ProjW.Frame
public import proofs.«01_k».proof.Proof.Gen.ProjWIdeal.Frame
public import proofs.«01_k».proof.Proof.ProjW
public import proofs.«01_k».proof.Proof.Gen.FfnOutW.Frame
public import proofs.«01_k».proof.Proof.Gen.FfnOutWIdeal.Frame
public import proofs.«01_k».proof.Proof.FfnOutW
public import proofs.«01_k».proof.Proof.Gen.Proj.Frame
public import proofs.«01_k».proof.Proof.Gen.ProjIdeal.Frame
public import proofs.«01_k».proof.Proof.Proj
public import proofs.«01_k».proof.Proof.Gen.FfnIn.Frame
public import proofs.«01_k».proof.Proof.Gen.FfnInIdeal.Frame
public import proofs.«01_k».proof.Proof.FfnIn
public import proofs.«01_k».proof.Proof.Gen.Mix.Frame
public import proofs.«01_k».proof.Proof.Gen.MixIdeal.Frame
public import proofs.«01_k».proof.Proof.Mix
public import proofs.«01_k».proof.Proof.Gen.OutW.Frame
public import proofs.«01_k».proof.Proof.Gen.OutWIdeal.Frame
public import proofs.«01_k».proof.Proof.OutW
public import proofs.«01_k».proof.Proof.Gen.OutLn.Frame
public import proofs.«01_k».proof.Proof.Gen.OutLnIdeal.Frame
public import proofs.«01_k».proof.Proof.OutLn
public import proofs.«01_k».proof.Proof.Gen.FfnOutLn.Frame
public import proofs.«01_k».proof.Proof.Gen.FfnOutLnIdeal.Frame
public import proofs.«01_k».proof.Proof.FfnOutLn
public import proofs.«01_k».proof.Proof.Gen.BranchX0.Frame
public import proofs.«01_k».proof.Proof.Gen.BranchX0Ideal.Frame
public import proofs.«01_k».proof.Proof.BranchX0
public import proofs.«01_k».proof.Proof.Gen.BranchX1.Frame
public import proofs.«01_k».proof.Proof.Gen.BranchX1Ideal.Frame
public import proofs.«01_k».proof.Proof.BranchX1
public import proofs.«01_k».proof.Proof.Gen.BranchX2.Frame
public import proofs.«01_k».proof.Proof.Gen.BranchX2Ideal.Frame
public import proofs.«01_k».proof.Proof.BranchX2
public import proofs.«01_k».proof.Proof.Gen.BranchW0.Frame
public import proofs.«01_k».proof.Proof.Gen.BranchW0Ideal.Frame
public import proofs.«01_k».proof.Proof.BranchW0
public import proofs.«01_k».proof.Proof.Gen.BranchW1.Frame
public import proofs.«01_k».proof.Proof.Gen.BranchW1Ideal.Frame
public import proofs.«01_k».proof.Proof.BranchW1
public import proofs.«01_k».proof.Proof.Gen.BranchW2.Frame
public import proofs.«01_k».proof.Proof.Gen.BranchW2Ideal.Frame
public import proofs.«01_k».proof.Proof.BranchW2
public import proofs.«01_k».proof.Proof.Gen.LnBwd.Frame
public import proofs.«01_k».proof.Proof.Gen.LnBwdIdeal.Frame
public import proofs.«01_k».proof.Proof.LnBwd
public import proofs.«01_k».proof.Proof.Gen.LossHead.Frame
public import proofs.«01_k».proof.Proof.Gen.LossHeadIdeal.Frame
public import proofs.«01_k».proof.Proof.LossHead
public import proofs.«01_k».proof.Proof.Gen.AdamFfnIn.Frame
public import proofs.«01_k».proof.Proof.Gen.AdamFfnInIdeal.Frame
public import proofs.«01_k».proof.Proof.Gen.AdamFfnOut.Frame
public import proofs.«01_k».proof.Proof.Gen.AdamFfnOutIdeal.Frame
public import proofs.«01_k».proof.Proof.Gen.AdamBranch.Frame
public import proofs.«01_k».proof.Proof.Gen.AdamBranchIdeal.Frame
public import proofs.«01_k».proof.Proof.Gen.AdamOut.Frame
public import proofs.«01_k».proof.Proof.Gen.AdamOutIdeal.Frame
public import proofs.«01_k».proof.Proof.Gen.AdamVectors.Frame
public import proofs.«01_k».proof.Proof.Gen.AdamVectorsIdeal.Frame
public import proofs.«01_k».proof.Proof.Gen.AdamConv.Frame
public import proofs.«01_k».proof.Proof.Gen.AdamConvIdeal.Frame
public import proofs.«01_k».proof.Proof.Gen.AdamGates.Frame
public import proofs.«01_k».proof.Proof.Gen.AdamGatesIdeal.Frame
public import proofs.«01_k».proof.Proof.Gen.AdamSinks.Frame
public import proofs.«01_k».proof.Proof.Gen.AdamSinksIdeal.Frame
public import proofs.«01_k».proof.Proof.Gen.ChipSumIn.Frame
public import proofs.«01_k».proof.Proof.Gen.ChipSumInIdeal.Frame
public import proofs.«01_k».proof.Proof.Gen.ChipSumBranch.Frame
public import proofs.«01_k».proof.Proof.Gen.ChipSumBranchIdeal.Frame
public import proofs.«01_k».proof.Proof.Gen.ChipSumOut.Frame
public import proofs.«01_k».proof.Proof.Gen.ChipSumOutIdeal.Frame
public import proofs.«01_k».proof.Proof.Gen.ChipSumFfnIn.Frame
public import proofs.«01_k».proof.Proof.Gen.ChipSumFfnInIdeal.Frame
public import proofs.«01_k».proof.Proof.Gen.ChipSumFfnOut.Frame
public import proofs.«01_k».proof.Proof.Gen.ChipSumFfnOutIdeal.Frame
public import proofs.«01_k».proof.Proof.Gen.SmallPairSum.Frame
public import proofs.«01_k».proof.Proof.Gen.SmallPairSumIdeal.Frame
public import proofs.«01_k».proof.Proof.Gen.SmallChipSum.Frame
public import proofs.«01_k».proof.Proof.Gen.SmallChipSumIdeal.Frame
public import proofs.«01_k».proof.Proof.Adam
public import proofs.«01_k».proof.Proof.Sums

@[expose] public section

noncomputable section

namespace Cert.Proof

open Idealize.ShloMosaic
open Idealize.SL.Sem

instance : Cert.ReferenceIdeal.Facts := Cert.ReferenceIdeal.Gen.facts

/-- The reference's run ends, leaves its arguments as they were, and declares no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The one kind of rewrite the idealized kernel carries: the mask constant read as minus infinity. -/
theorem preserves : Cert.preserves_Kernel_KernelIdeal :=
  IdealRules.named_const.statement Cert.KernelIdeal.κ "mask" .f32 0xF149F2CA#32 ⊥ rfl

instance : Cert.FfnGate.Facts := Cert.FfnGate.Gen.facts

/-- The frame of the reference of `FfnGate`. -/
theorem frame_FfnGateRef : Cert.quiescent_FfnGateRefIdeal := fun m ρ _ =>
  (θ_run Cert.FfnGateRefIdeal.defs _ _).mono
    (fun r h => ⟨fun c => (h c).2, Idealize.ShloMosaic.sem_eq_zero_of_no_sems (by decide) r.2⟩)
    (Cert.FfnGateRefIdeal.Value.run (F := Ideal) m ρ)

instance : Cert.Branch.Facts := Cert.Branch.Gen.facts

/-- The frame of the reference of `Branch`. -/
theorem frame_BranchRef : Cert.quiescent_BranchRefIdeal := fun m ρ _ =>
  (θ_run Cert.BranchRefIdeal.defs _ _).mono
    (fun r h => ⟨fun c => (h c).2.2.2.2, Idealize.ShloMosaic.sem_eq_zero_of_no_sems (by decide) r.2⟩)
    (Cert.BranchRefIdeal.Value.run (F := Ideal) m ρ)

instance : Cert.FfnInX.Facts := Cert.FfnInX.Gen.facts

/-- The frame of the reference of `FfnInX`. -/
theorem frame_FfnInXRef : Cert.quiescent_FfnInXRefIdeal := fun m ρ _ =>
  (θ_run Cert.FfnInXRefIdeal.defs _ _).mono
    (fun r h => ⟨fun c => (h c).2, Idealize.ShloMosaic.sem_eq_zero_of_no_sems (by decide) r.2⟩)
    (Cert.FfnInXRefIdeal.Value.run (F := Ideal) m ρ)

instance : Cert.FfnInW.Facts := Cert.FfnInW.Gen.facts

/-- The frame of the reference of `FfnInW`. -/
theorem frame_FfnInWRef : Cert.quiescent_FfnInWRefIdeal := fun m ρ _ =>
  (θ_run Cert.FfnInWRefIdeal.defs _ _).mono
    (fun r h => ⟨fun c => (h c).2, Idealize.ShloMosaic.sem_eq_zero_of_no_sems (by decide) r.2⟩)
    (Cert.FfnInWRefIdeal.Value.run (F := Ideal) m ρ)

instance : Cert.ProjX.Facts := Cert.ProjX.Gen.facts

/-- The frame of the reference of `ProjX`. -/
theorem frame_ProjXRef : Cert.quiescent_ProjXRefIdeal := fun m ρ _ =>
  (θ_run Cert.ProjXRefIdeal.defs _ _).mono
    (fun r h => ⟨fun c => (h c).2, Idealize.ShloMosaic.sem_eq_zero_of_no_sems (by decide) r.2⟩)
    (Cert.ProjXRefIdeal.Value.run (F := Ideal) m ρ)

instance : Cert.ProjW.Facts := Cert.ProjW.Gen.facts

/-- The frame of the reference of `ProjW`. -/
theorem frame_ProjWRef : Cert.quiescent_ProjWRefIdeal := fun m ρ _ =>
  (θ_run Cert.ProjWRefIdeal.defs _ _).mono
    (fun r h => ⟨fun c => (h c).2, Idealize.ShloMosaic.sem_eq_zero_of_no_sems (by decide) r.2⟩)
    (Cert.ProjWRefIdeal.Value.run (F := Ideal) m ρ)

instance : Cert.FfnOutW.Facts := Cert.FfnOutW.Gen.facts

/-- The frame of the reference of `FfnOutW`. -/
theorem frame_FfnOutWRef : Cert.quiescent_FfnOutWRefIdeal := fun m ρ _ =>
  (θ_run Cert.FfnOutWRefIdeal.defs _ _).mono
    (fun r h => ⟨fun c => (h c).2, Idealize.ShloMosaic.sem_eq_zero_of_no_sems (by decide) r.2⟩)
    (Cert.FfnOutWRefIdeal.Value.run (F := Ideal) m ρ)

instance : Cert.Proj.Facts := Cert.Proj.Gen.facts

/-- The frame of the reference of `Proj`. -/
theorem frame_ProjRef : Cert.quiescent_ProjRefIdeal := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

instance : Cert.FfnIn.Facts := Cert.FfnIn.Gen.facts

/-- The frame of the reference of `FfnIn`. -/
theorem frame_FfnInRef : Cert.quiescent_FfnInRefIdeal := fun m ρ _ =>
  (θ_run Cert.FfnInRefIdeal.defs _ _).mono
    (fun r h => ⟨fun c => (h c).2.2.2, Idealize.ShloMosaic.sem_eq_zero_of_no_sems (by decide) r.2⟩)
    (Cert.FfnInRefIdeal.Value.run (F := Ideal) m ρ)

instance : Cert.Mix.Facts := Cert.Mix.Gen.facts

/-- The frame of the reference of `Mix`. -/
theorem frame_MixRef : Cert.quiescent_MixRefIdeal := fun m ρ _ =>
  (θ_run Cert.MixRefIdeal.defs _ _).mono
    (fun r h => ⟨fun c => (h c).2.2, Idealize.ShloMosaic.sem_eq_zero_of_no_sems (by decide) r.2⟩)
    (Cert.MixRefIdeal.Value.run (F := Ideal) m ρ)

instance : Cert.OutW.Facts := Cert.OutW.Gen.facts

/-- The frame of the reference of `OutW`. -/
theorem frame_OutWRef : Cert.quiescent_OutWRefIdeal := fun m ρ _ =>
  (θ_run Cert.OutWRefIdeal.defs _ _).mono
    (fun r h => ⟨fun c => (h c).2, Idealize.ShloMosaic.sem_eq_zero_of_no_sems (by decide) r.2⟩)
    (Cert.OutWRefIdeal.Value.run (F := Ideal) m ρ)

instance : Cert.OutLn.Facts := Cert.OutLn.Gen.facts

/-- The frame of the reference of `OutLn`. -/
theorem frame_OutLnRef : Cert.quiescent_OutLnRefIdeal := fun m ρ _ =>
  (θ_run Cert.OutLnRefIdeal.defs _ _).mono
    (fun r h => ⟨fun c => (h c).2.2, Idealize.ShloMosaic.sem_eq_zero_of_no_sems (by decide) r.2⟩)
    (Cert.OutLnRefIdeal.Value.run (F := Ideal) m ρ)

instance : Cert.FfnOutLn.Facts := Cert.FfnOutLn.Gen.facts

/-- The frame of the reference of `FfnOutLn`. -/
theorem frame_FfnOutLnRef : Cert.quiescent_FfnOutLnRefIdeal := fun m ρ _ =>
  (θ_run Cert.FfnOutLnRefIdeal.defs _ _).mono
    (fun r h => ⟨fun c => (h c).2.2, Idealize.ShloMosaic.sem_eq_zero_of_no_sems (by decide) r.2⟩)
    (Cert.FfnOutLnRefIdeal.Value.run (F := Ideal) m ρ)

instance : Cert.BranchX0.Facts := Cert.BranchX0.Gen.facts

/-- The frame of the reference of `BranchX0`. -/
theorem frame_BranchX0Ref : Cert.quiescent_BranchX0RefIdeal := fun m ρ _ =>
  (θ_run Cert.BranchX0RefIdeal.defs _ _).mono
    (fun r h => ⟨fun c => (h c).2, Idealize.ShloMosaic.sem_eq_zero_of_no_sems (by decide) r.2⟩)
    (Cert.BranchX0RefIdeal.Value.run (F := Ideal) m ρ)

instance : Cert.BranchX1.Facts := Cert.BranchX1.Gen.facts

/-- The frame of the reference of `BranchX1`. -/
theorem frame_BranchX1Ref : Cert.quiescent_BranchX1RefIdeal := fun m ρ _ =>
  (θ_run Cert.BranchX1RefIdeal.defs _ _).mono
    (fun r h => ⟨fun c => (h c).2, Idealize.ShloMosaic.sem_eq_zero_of_no_sems (by decide) r.2⟩)
    (Cert.BranchX1RefIdeal.Value.run (F := Ideal) m ρ)

instance : Cert.BranchX2.Facts := Cert.BranchX2.Gen.facts

/-- The frame of the reference of `BranchX2`. -/
theorem frame_BranchX2Ref : Cert.quiescent_BranchX2RefIdeal := fun m ρ _ =>
  (θ_run Cert.BranchX2RefIdeal.defs _ _).mono
    (fun r h => ⟨fun c => (h c).2, Idealize.ShloMosaic.sem_eq_zero_of_no_sems (by decide) r.2⟩)
    (Cert.BranchX2RefIdeal.Value.run (F := Ideal) m ρ)

instance : Cert.BranchW0.Facts := Cert.BranchW0.Gen.facts

/-- The frame of the reference of `BranchW0`. -/
theorem frame_BranchW0Ref : Cert.quiescent_BranchW0RefIdeal := fun m ρ _ =>
  (θ_run Cert.BranchW0RefIdeal.defs _ _).mono
    (fun r h => ⟨fun c => (h c).2, Idealize.ShloMosaic.sem_eq_zero_of_no_sems (by decide) r.2⟩)
    (Cert.BranchW0RefIdeal.Value.run (F := Ideal) m ρ)

instance : Cert.BranchW1.Facts := Cert.BranchW1.Gen.facts

/-- The frame of the reference of `BranchW1`. -/
theorem frame_BranchW1Ref : Cert.quiescent_BranchW1RefIdeal := fun m ρ _ =>
  (θ_run Cert.BranchW1RefIdeal.defs _ _).mono
    (fun r h => ⟨fun c => (h c).2, Idealize.ShloMosaic.sem_eq_zero_of_no_sems (by decide) r.2⟩)
    (Cert.BranchW1RefIdeal.Value.run (F := Ideal) m ρ)

instance : Cert.BranchW2.Facts := Cert.BranchW2.Gen.facts

/-- The frame of the reference of `BranchW2`. -/
theorem frame_BranchW2Ref : Cert.quiescent_BranchW2RefIdeal := fun m ρ _ =>
  (θ_run Cert.BranchW2RefIdeal.defs _ _).mono
    (fun r h => ⟨fun c => (h c).2, Idealize.ShloMosaic.sem_eq_zero_of_no_sems (by decide) r.2⟩)
    (Cert.BranchW2RefIdeal.Value.run (F := Ideal) m ρ)

instance : Cert.LnBwd.Facts := Cert.LnBwd.Gen.facts

/-- The frame of the reference of `LnBwd`. -/
theorem frame_LnBwdRef : Cert.quiescent_LnBwdRefIdeal := fun m ρ _ =>
  (θ_run Cert.LnBwdRefIdeal.defs _ _).mono
    (fun r h => ⟨fun c => (h c).2.2.2, Idealize.ShloMosaic.sem_eq_zero_of_no_sems (by decide) r.2⟩)
    (Cert.LnBwdRefIdeal.Value.run (F := Ideal) m ρ)

instance : Cert.LossHead.Facts := Cert.LossHead.Gen.facts

/-- The frame of the reference of `LossHead`. -/
theorem frame_LossHeadRef : Cert.quiescent_LossHeadRefIdeal := fun m ρ _ =>
  (θ_run Cert.LossHeadRefIdeal.defs _ _).mono
    (fun r h => ⟨fun c => (h c).2.2, Idealize.ShloMosaic.sem_eq_zero_of_no_sems (by decide) r.2⟩)
    (Cert.LossHeadRefIdeal.Value.run (F := Ideal) m ρ)

instance : Cert.AdamFfnIn.Facts := Cert.AdamFfnIn.Gen.facts

/-- The frame of the reference of `AdamFfnIn`. -/
theorem frame_AdamFfnInRef : Cert.quiescent_AdamFfnInRefIdeal := fun m ρ _ =>
  (θ_run Cert.AdamFfnInRefIdeal.defs _ _).mono
    (fun r h => ⟨fun c => (h c).2.2.2, Idealize.ShloMosaic.sem_eq_zero_of_no_sems (by decide) r.2⟩)
    (Cert.AdamFfnInRefIdeal.Value.run (F := Ideal) m ρ)

instance : Cert.AdamFfnOut.Facts := Cert.AdamFfnOut.Gen.facts

/-- The frame of the reference of `AdamFfnOut`. -/
theorem frame_AdamFfnOutRef : Cert.quiescent_AdamFfnOutRefIdeal := fun m ρ _ =>
  (θ_run Cert.AdamFfnOutRefIdeal.defs _ _).mono
    (fun r h => ⟨fun c => (h c).2.2.2, Idealize.ShloMosaic.sem_eq_zero_of_no_sems (by decide) r.2⟩)
    (Cert.AdamFfnOutRefIdeal.Value.run (F := Ideal) m ρ)

instance : Cert.AdamBranch.Facts := Cert.AdamBranch.Gen.facts

/-- The frame of the reference of `AdamBranch`. -/
theorem frame_AdamBranchRef : Cert.quiescent_AdamBranchRefIdeal := fun m ρ _ =>
  (θ_run Cert.AdamBranchRefIdeal.defs _ _).mono
    (fun r h => ⟨fun c => (h c).2.2.2, Idealize.ShloMosaic.sem_eq_zero_of_no_sems (by decide) r.2⟩)
    (Cert.AdamBranchRefIdeal.Value.run (F := Ideal) m ρ)

instance : Cert.AdamOut.Facts := Cert.AdamOut.Gen.facts

/-- The frame of the reference of `AdamOut`. -/
theorem frame_AdamOutRef : Cert.quiescent_AdamOutRefIdeal := fun m ρ _ =>
  (θ_run Cert.AdamOutRefIdeal.defs _ _).mono
    (fun r h => ⟨fun c => (h c).2.2.2, Idealize.ShloMosaic.sem_eq_zero_of_no_sems (by decide) r.2⟩)
    (Cert.AdamOutRefIdeal.Value.run (F := Ideal) m ρ)

instance : Cert.AdamVectors.Facts := Cert.AdamVectors.Gen.facts

/-- The frame of the reference of `AdamVectors`. -/
theorem frame_AdamVectorsRef : Cert.quiescent_AdamVectorsRefIdeal := fun m ρ _ =>
  (θ_run Cert.AdamVectorsRefIdeal.defs _ _).mono
    (fun r h => ⟨fun c => (h c).2.2.2, Idealize.ShloMosaic.sem_eq_zero_of_no_sems (by decide) r.2⟩)
    (Cert.AdamVectorsRefIdeal.Value.run (F := Ideal) m ρ)

instance : Cert.AdamConv.Facts := Cert.AdamConv.Gen.facts

/-- The frame of the reference of `AdamConv`. -/
theorem frame_AdamConvRef : Cert.quiescent_AdamConvRefIdeal := fun m ρ _ =>
  (θ_run Cert.AdamConvRefIdeal.defs _ _).mono
    (fun r h => ⟨fun c => (h c).2.2.2, Idealize.ShloMosaic.sem_eq_zero_of_no_sems (by decide) r.2⟩)
    (Cert.AdamConvRefIdeal.Value.run (F := Ideal) m ρ)

instance : Cert.AdamGates.Facts := Cert.AdamGates.Gen.facts

/-- The frame of the reference of `AdamGates`. -/
theorem frame_AdamGatesRef : Cert.quiescent_AdamGatesRefIdeal := fun m ρ _ =>
  (θ_run Cert.AdamGatesRefIdeal.defs _ _).mono
    (fun r h => ⟨fun c => (h c).2.2.2, Idealize.ShloMosaic.sem_eq_zero_of_no_sems (by decide) r.2⟩)
    (Cert.AdamGatesRefIdeal.Value.run (F := Ideal) m ρ)

instance : Cert.AdamSinks.Facts := Cert.AdamSinks.Gen.facts

/-- The frame of the reference of `AdamSinks`. -/
theorem frame_AdamSinksRef : Cert.quiescent_AdamSinksRefIdeal := fun m ρ _ =>
  (θ_run Cert.AdamSinksRefIdeal.defs _ _).mono
    (fun r h => ⟨fun c => (h c).2.2.2, Idealize.ShloMosaic.sem_eq_zero_of_no_sems (by decide) r.2⟩)
    (Cert.AdamSinksRefIdeal.Value.run (F := Ideal) m ρ)

instance : Cert.ChipSumIn.Facts := Cert.ChipSumIn.Gen.facts

/-- The frame of the reference of `ChipSumIn`. -/
theorem frame_ChipSumInRef : Cert.quiescent_ChipSumInRefIdeal := fun m ρ _ =>
  (θ_run Cert.ChipSumInRefIdeal.defs _ _).mono
    (fun r h => ⟨fun c => (h c).2, Idealize.ShloMosaic.sem_eq_zero_of_no_sems (by decide) r.2⟩)
    (Cert.ChipSumInRefIdeal.Value.run (F := Ideal) m ρ)

instance : Cert.ChipSumBranch.Facts := Cert.ChipSumBranch.Gen.facts

/-- The frame of the reference of `ChipSumBranch`. -/
theorem frame_ChipSumBranchRef : Cert.quiescent_ChipSumBranchRefIdeal := fun m ρ _ =>
  (θ_run Cert.ChipSumBranchRefIdeal.defs _ _).mono
    (fun r h => ⟨fun c => (h c).2, Idealize.ShloMosaic.sem_eq_zero_of_no_sems (by decide) r.2⟩)
    (Cert.ChipSumBranchRefIdeal.Value.run (F := Ideal) m ρ)

instance : Cert.ChipSumOut.Facts := Cert.ChipSumOut.Gen.facts

/-- The frame of the reference of `ChipSumOut`. -/
theorem frame_ChipSumOutRef : Cert.quiescent_ChipSumOutRefIdeal := fun m ρ _ =>
  (θ_run Cert.ChipSumOutRefIdeal.defs _ _).mono
    (fun r h => ⟨fun c => (h c).2, Idealize.ShloMosaic.sem_eq_zero_of_no_sems (by decide) r.2⟩)
    (Cert.ChipSumOutRefIdeal.Value.run (F := Ideal) m ρ)

instance : Cert.ChipSumFfnIn.Facts := Cert.ChipSumFfnIn.Gen.facts

/-- The frame of the reference of `ChipSumFfnIn`. -/
theorem frame_ChipSumFfnInRef : Cert.quiescent_ChipSumFfnInRefIdeal := fun m ρ _ =>
  (θ_run Cert.ChipSumFfnInRefIdeal.defs _ _).mono
    (fun r h => ⟨fun c => (h c).2, Idealize.ShloMosaic.sem_eq_zero_of_no_sems (by decide) r.2⟩)
    (Cert.ChipSumFfnInRefIdeal.Value.run (F := Ideal) m ρ)

instance : Cert.ChipSumFfnOut.Facts := Cert.ChipSumFfnOut.Gen.facts

/-- The frame of the reference of `ChipSumFfnOut`. -/
theorem frame_ChipSumFfnOutRef : Cert.quiescent_ChipSumFfnOutRefIdeal := fun m ρ _ =>
  (θ_run Cert.ChipSumFfnOutRefIdeal.defs _ _).mono
    (fun r h => ⟨fun c => (h c).2, Idealize.ShloMosaic.sem_eq_zero_of_no_sems (by decide) r.2⟩)
    (Cert.ChipSumFfnOutRefIdeal.Value.run (F := Ideal) m ρ)

instance : Cert.SmallPairSum.Facts := Cert.SmallPairSum.Gen.facts

/-- The frame of the reference of `SmallPairSum`. -/
theorem frame_SmallPairSumRef : Cert.quiescent_SmallPairSumRefIdeal := fun m ρ _ =>
  (θ_run Cert.SmallPairSumRefIdeal.defs _ _).mono
    (fun r h => ⟨fun c => (h c).2, Idealize.ShloMosaic.sem_eq_zero_of_no_sems (by decide) r.2⟩)
    (Cert.SmallPairSumRefIdeal.Value.run (F := Ideal) m ρ)

instance : Cert.SmallChipSum.Facts := Cert.SmallChipSum.Gen.facts

/-- The frame of the reference of `SmallChipSum`. -/
theorem frame_SmallChipSumRef : Cert.quiescent_SmallChipSumRefIdeal := fun m ρ _ =>
  (θ_run Cert.SmallChipSumRefIdeal.defs _ _).mono
    (fun r h => ⟨fun c => (h c).2, Idealize.ShloMosaic.sem_eq_zero_of_no_sems (by decide) r.2⟩)
    (Cert.SmallChipSumRefIdeal.Value.run (F := Ideal) m ρ)

theorem claim : Cert.Claim :=
  ⟨Cert.Kernel.Gen.facts, Cert.KernelIdeal.Gen.facts, Cert.ReferenceIdeal.Gen.facts,
    Cert.FfnGate.Gen.facts, Cert.FfnGateIdeal.Gen.facts, Cert.FfnGateRefIdeal.Gen.facts,
    Cert.Branch.Gen.facts, Cert.BranchIdeal.Gen.facts, Cert.BranchRefIdeal.Gen.facts,
    Cert.FfnInX.Gen.facts, Cert.FfnInXIdeal.Gen.facts, Cert.FfnInXRefIdeal.Gen.facts,
    Cert.FfnInW.Gen.facts, Cert.FfnInWIdeal.Gen.facts, Cert.FfnInWRefIdeal.Gen.facts,
    Cert.ProjX.Gen.facts, Cert.ProjXIdeal.Gen.facts, Cert.ProjXRefIdeal.Gen.facts,
    Cert.ProjW.Gen.facts, Cert.ProjWIdeal.Gen.facts, Cert.ProjWRefIdeal.Gen.facts,
    Cert.FfnOutW.Gen.facts, Cert.FfnOutWIdeal.Gen.facts, Cert.FfnOutWRefIdeal.Gen.facts,
    Cert.Proj.Gen.facts, Cert.ProjIdeal.Gen.facts, Cert.ProjRefIdeal.Gen.facts,
    Cert.FfnIn.Gen.facts, Cert.FfnInIdeal.Gen.facts, Cert.FfnInRefIdeal.Gen.facts,
    Cert.Mix.Gen.facts, Cert.MixIdeal.Gen.facts, Cert.MixRefIdeal.Gen.facts,
    Cert.OutW.Gen.facts, Cert.OutWIdeal.Gen.facts, Cert.OutWRefIdeal.Gen.facts,
    Cert.OutLn.Gen.facts, Cert.OutLnIdeal.Gen.facts, Cert.OutLnRefIdeal.Gen.facts,
    Cert.FfnOutLn.Gen.facts, Cert.FfnOutLnIdeal.Gen.facts, Cert.FfnOutLnRefIdeal.Gen.facts,
    Cert.BranchX0.Gen.facts, Cert.BranchX0Ideal.Gen.facts, Cert.BranchX0RefIdeal.Gen.facts,
    Cert.BranchX1.Gen.facts, Cert.BranchX1Ideal.Gen.facts, Cert.BranchX1RefIdeal.Gen.facts,
    Cert.BranchX2.Gen.facts, Cert.BranchX2Ideal.Gen.facts, Cert.BranchX2RefIdeal.Gen.facts,
    Cert.BranchW0.Gen.facts, Cert.BranchW0Ideal.Gen.facts, Cert.BranchW0RefIdeal.Gen.facts,
    Cert.BranchW1.Gen.facts, Cert.BranchW1Ideal.Gen.facts, Cert.BranchW1RefIdeal.Gen.facts,
    Cert.BranchW2.Gen.facts, Cert.BranchW2Ideal.Gen.facts, Cert.BranchW2RefIdeal.Gen.facts,
    Cert.LnBwd.Gen.facts, Cert.LnBwdIdeal.Gen.facts, Cert.LnBwdRefIdeal.Gen.facts,
    Cert.LossHead.Gen.facts, Cert.LossHeadIdeal.Gen.facts, Cert.LossHeadRefIdeal.Gen.facts,
    Cert.AdamFfnIn.Gen.facts, Cert.AdamFfnInIdeal.Gen.facts, Cert.AdamFfnInRefIdeal.Gen.facts,
    Cert.AdamFfnOut.Gen.facts, Cert.AdamFfnOutIdeal.Gen.facts, Cert.AdamFfnOutRefIdeal.Gen.facts,
    Cert.AdamBranch.Gen.facts, Cert.AdamBranchIdeal.Gen.facts, Cert.AdamBranchRefIdeal.Gen.facts,
    Cert.AdamOut.Gen.facts, Cert.AdamOutIdeal.Gen.facts, Cert.AdamOutRefIdeal.Gen.facts,
    Cert.AdamVectors.Gen.facts, Cert.AdamVectorsIdeal.Gen.facts, Cert.AdamVectorsRefIdeal.Gen.facts,
    Cert.AdamConv.Gen.facts, Cert.AdamConvIdeal.Gen.facts, Cert.AdamConvRefIdeal.Gen.facts,
    Cert.AdamGates.Gen.facts, Cert.AdamGatesIdeal.Gen.facts, Cert.AdamGatesRefIdeal.Gen.facts,
    Cert.AdamSinks.Gen.facts, Cert.AdamSinksIdeal.Gen.facts, Cert.AdamSinksRefIdeal.Gen.facts,
    Cert.ChipSumIn.Gen.facts, Cert.ChipSumInIdeal.Gen.facts, Cert.ChipSumInRefIdeal.Gen.facts,
    Cert.ChipSumBranch.Gen.facts, Cert.ChipSumBranchIdeal.Gen.facts, Cert.ChipSumBranchRefIdeal.Gen.facts,
    Cert.ChipSumOut.Gen.facts, Cert.ChipSumOutIdeal.Gen.facts, Cert.ChipSumOutRefIdeal.Gen.facts,
    Cert.ChipSumFfnIn.Gen.facts, Cert.ChipSumFfnInIdeal.Gen.facts, Cert.ChipSumFfnInRefIdeal.Gen.facts,
    Cert.ChipSumFfnOut.Gen.facts, Cert.ChipSumFfnOutIdeal.Gen.facts, Cert.ChipSumFfnOutRefIdeal.Gen.facts,
    Cert.SmallPairSum.Gen.facts, Cert.SmallPairSumIdeal.Gen.facts, Cert.SmallPairSumRefIdeal.Gen.facts,
    Cert.SmallChipSum.Gen.facts, Cert.SmallChipSumIdeal.Gen.facts, Cert.SmallChipSumRefIdeal.Gen.facts,
    inferInstance, inferInstance,
    frame_kernel, frame_ideal, frame_reference,
    fun m ρ _ => Cert.FfnGate.Gen.frame m ρ, fun m ρ _ => Cert.FfnGateIdeal.Gen.frame m ρ, fun m ρ _ => Cert.FfnGateIdeal.Gen.frame m ρ, frame_FfnGateRef, fun m ρ _ => frame_FfnGateRef m ρ trivial,
    fun m ρ _ => Cert.Branch.Gen.frame m ρ, fun m ρ _ => Cert.BranchIdeal.Gen.frame m ρ, frame_BranchRef,
    fun m ρ _ => Cert.FfnInX.Gen.frame m ρ, fun m ρ _ => Cert.FfnInXIdeal.Gen.frame m ρ, frame_FfnInXRef,
    fun m ρ _ => Cert.FfnInW.Gen.frame m ρ, fun m ρ _ => Cert.FfnInWIdeal.Gen.frame m ρ, frame_FfnInWRef,
    fun m ρ _ => Cert.ProjX.Gen.frame m ρ, fun m ρ _ => Cert.ProjXIdeal.Gen.frame m ρ, frame_ProjXRef,
    fun m ρ _ => Cert.ProjW.Gen.frame m ρ, fun m ρ _ => Cert.ProjWIdeal.Gen.frame m ρ, frame_ProjWRef,
    fun m ρ _ => Cert.FfnOutW.Gen.frame m ρ, fun m ρ _ => Cert.FfnOutWIdeal.Gen.frame m ρ, frame_FfnOutWRef,
    fun m ρ _ => Cert.Proj.Gen.frame m ρ, fun m ρ _ => Cert.ProjIdeal.Gen.frame m ρ, frame_ProjRef,
    fun m ρ _ => Cert.FfnIn.Gen.frame m ρ, fun m ρ _ => Cert.FfnInIdeal.Gen.frame m ρ, frame_FfnInRef,
    fun m ρ _ => Cert.Mix.Gen.frame m ρ, fun m ρ _ => Cert.MixIdeal.Gen.frame m ρ, frame_MixRef,
    fun m ρ _ => Cert.OutW.Gen.frame m ρ, fun m ρ _ => Cert.OutWIdeal.Gen.frame m ρ, frame_OutWRef,
    fun m ρ _ => Cert.OutLn.Gen.frame m ρ, fun m ρ _ => Cert.OutLnIdeal.Gen.frame m ρ, frame_OutLnRef,
    fun m ρ _ => Cert.FfnOutLn.Gen.frame m ρ, fun m ρ _ => Cert.FfnOutLnIdeal.Gen.frame m ρ, frame_FfnOutLnRef,
    fun m ρ _ => Cert.BranchX0.Gen.frame m ρ, fun m ρ _ => Cert.BranchX0Ideal.Gen.frame m ρ, frame_BranchX0Ref,
    fun m ρ _ => Cert.BranchX1.Gen.frame m ρ, fun m ρ _ => Cert.BranchX1Ideal.Gen.frame m ρ, frame_BranchX1Ref,
    fun m ρ _ => Cert.BranchX2.Gen.frame m ρ, fun m ρ _ => Cert.BranchX2Ideal.Gen.frame m ρ, frame_BranchX2Ref,
    fun m ρ _ => Cert.BranchW0.Gen.frame m ρ, fun m ρ _ => Cert.BranchW0Ideal.Gen.frame m ρ, frame_BranchW0Ref,
    fun m ρ _ => Cert.BranchW1.Gen.frame m ρ, fun m ρ _ => Cert.BranchW1Ideal.Gen.frame m ρ, frame_BranchW1Ref,
    fun m ρ _ => Cert.BranchW2.Gen.frame m ρ, fun m ρ _ => Cert.BranchW2Ideal.Gen.frame m ρ, frame_BranchW2Ref,
    fun m ρ _ => Cert.LnBwd.Gen.frame m ρ, fun m ρ _ => Cert.LnBwdIdeal.Gen.frame m ρ, fun m ρ _ => Cert.LnBwdIdeal.Gen.frame m ρ, frame_LnBwdRef, fun m ρ _ => frame_LnBwdRef m ρ trivial,
    fun m ρ _ => Cert.LossHead.Gen.frame m ρ, fun m ρ _ => Cert.LossHeadIdeal.Gen.frame m ρ, frame_LossHeadRef,
    fun m ρ _ => Cert.AdamFfnIn.Gen.frame m ρ, fun m ρ _ => Cert.AdamFfnInIdeal.Gen.frame m ρ, frame_AdamFfnInRef,
    fun m ρ _ => Cert.AdamFfnOut.Gen.frame m ρ, fun m ρ _ => Cert.AdamFfnOutIdeal.Gen.frame m ρ, frame_AdamFfnOutRef,
    fun m ρ _ => Cert.AdamBranch.Gen.frame m ρ, fun m ρ _ => Cert.AdamBranchIdeal.Gen.frame m ρ, frame_AdamBranchRef,
    fun m ρ _ => Cert.AdamOut.Gen.frame m ρ, fun m ρ _ => Cert.AdamOutIdeal.Gen.frame m ρ, frame_AdamOutRef,
    fun m ρ _ => Cert.AdamVectors.Gen.frame m ρ, fun m ρ _ => Cert.AdamVectorsIdeal.Gen.frame m ρ, frame_AdamVectorsRef,
    fun m ρ _ => Cert.AdamConv.Gen.frame m ρ, fun m ρ _ => Cert.AdamConvIdeal.Gen.frame m ρ, frame_AdamConvRef,
    fun m ρ _ => Cert.AdamGates.Gen.frame m ρ, fun m ρ _ => Cert.AdamGatesIdeal.Gen.frame m ρ, frame_AdamGatesRef,
    fun m ρ _ => Cert.AdamSinks.Gen.frame m ρ, fun m ρ _ => Cert.AdamSinksIdeal.Gen.frame m ρ, frame_AdamSinksRef,
    fun m ρ _ => Cert.ChipSumIn.Gen.frame m ρ, fun m ρ _ => Cert.ChipSumInIdeal.Gen.frame m ρ, frame_ChipSumInRef,
    fun m ρ _ => Cert.ChipSumBranch.Gen.frame m ρ, fun m ρ _ => Cert.ChipSumBranchIdeal.Gen.frame m ρ, frame_ChipSumBranchRef,
    fun m ρ _ => Cert.ChipSumOut.Gen.frame m ρ, fun m ρ _ => Cert.ChipSumOutIdeal.Gen.frame m ρ, frame_ChipSumOutRef,
    fun m ρ _ => Cert.ChipSumFfnIn.Gen.frame m ρ, fun m ρ _ => Cert.ChipSumFfnInIdeal.Gen.frame m ρ, frame_ChipSumFfnInRef,
    fun m ρ _ => Cert.ChipSumFfnOut.Gen.frame m ρ, fun m ρ _ => Cert.ChipSumFfnOutIdeal.Gen.frame m ρ, frame_ChipSumFfnOutRef,
    fun m ρ _ => Cert.SmallPairSum.Gen.frame m ρ, fun m ρ _ => Cert.SmallPairSumIdeal.Gen.frame m ρ, frame_SmallPairSumRef,
    fun m ρ _ => Cert.SmallChipSum.Gen.frame m ρ, fun m ρ _ => Cert.SmallChipSumIdeal.Gen.frame m ρ, frame_SmallChipSumRef,
    preserves,
    trivial, FfnGate.algebraic,
    trivial, Branch.algebraic,
    trivial, FfnInX.algebraic,
    trivial, FfnInW.algebraic,
    trivial, ProjX.algebraic,
    trivial, ProjW.algebraic,
    trivial, FfnOutW.algebraic,
    trivial, Proj.algebraic,
    trivial, FfnIn.algebraic,
    trivial, Mix.algebraic,
    trivial, OutW.algebraic,
    trivial, OutLn.algebraic,
    trivial, FfnOutLn.algebraic,
    trivial, BranchX0.algebraic,
    trivial, BranchX1.algebraic,
    trivial, BranchX2.algebraic,
    trivial, BranchW0.algebraic,
    trivial, BranchW1.algebraic,
    trivial, BranchW2.algebraic,
    trivial, LnBwd.algebraic,
    trivial, LossHead.algebraic,
    trivial, AdamFfnIn.algebraic,
    trivial, AdamFfnOut.algebraic,
    trivial, AdamBranch.algebraic,
    trivial, AdamOut.algebraic,
    trivial, AdamVectors.algebraic,
    trivial, AdamConv.algebraic,
    trivial, AdamGates.algebraic,
    trivial, AdamSinks.algebraic,
    trivial, ChipSumIn.algebraic,
    trivial, ChipSumBranch.algebraic,
    trivial, ChipSumOut.algebraic,
    trivial, ChipSumFfnIn.algebraic,
    trivial, ChipSumFfnOut.algebraic,
    trivial, SmallPairSum.algebraic,
    trivial, SmallChipSum.algebraic⟩

end Cert.Proof
